-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v9_0)) (v1 : (c : Dev Cert.Kernel20Ideal.nD) → Buf (Elt Ideal) ((c.tc : Thread Cert.Kernel20Ideal.nD Cert.Kernel20Ideal.τ).loc Cert.Kernel20Ideal.main_v9_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v9_0) = v0 c
          ∧ r.2.mem ((c.tc : Thread Cert.Kernel20Ideal.nD Cert.Kernel20Ideal.τ).loc Cert.Kernel20Ideal.main_v9_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v42) = v0 c
          ∧ r.2.mem ((c.tc : Thread Cert.Reference20Ideal.nD Cert.Reference20Ideal.τ).loc Cert.Reference20Ideal.main_v45) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts) (hPre_finite6 : Cert.Pre_finite6.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S4096x1536 : Shape := ⟨2, ![4096, 1536]⟩
abbrev S4096x2048 : Shape := ⟨2, ![4096, 2048]⟩
abbrev S4096x64 : Shape := ⟨2, ![4096, 64]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x64 : S_.BroadcastsInDim S4096x64 (![] : Fin 0 → Fin S4096x64.rank)
  reducesTo_S4096x64_S_d0_1 : S4096x64.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1536 .f32) (main_arg1 : FVec F S4096x2048 .f32) (main_arg2 : FVec F S4096x64 .f32) (main_arg3 : FVec F S4096x1024 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite2.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x5632 .f32) (main_arg1 : FVec F S4096x5632 .f32) (main_arg2 : FVec F S5632x2048 .f32) (main_arg3 : FVec F S4096x2048 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x5632 .f32 := Host.absf main_arg1
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_c_1 : IVec S_ 1 := constantI S_ 1 1#1
  let main_v7 : IVec S_ 1 := (fun x v => Host.reduce IntOp.andi x v reducesTo_S4096x5632_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_finite20.lean ====
abbrev S4096x1536 : Shape := ⟨2, ![4096, 1536]⟩
abbrev S4096x2048 : Shape := ⟨2, ![4096, 2048]⟩
abbrev S4096x64 : Shape := ⟨2, ![4096, 64]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4096x1536 .f32) (main_arg1 : FVec F S4096x2048 .f32) (main_arg2 : FVec F S4096x64 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  main_v13
-- ==== Pre_finite6.lean ====
abbrev S4096x2048 : Shape := ⟨2, ![4096, 2048]⟩
abbrev S4x2048x1408 : Shape := ⟨3, ![4, 2048, 1408]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x1408 : S_.BroadcastsInDim S4x2048x1408 (![] : Fin 0 → Fin S4x2048x1408.rank)
  reducesTo_S4x2048x1408_S_d0_1_2 : S4x2048x1408.ReducesTo [0, 1, 2] S_

variable [Facts]

def fn {F : FTy → Type} [FloatOps F] (main_arg0 : FVec F S4096x2048 .f32) (main_arg1 : FVec F S4x2048x1408 .f32) (main_arg2 : FVec F S4x2048x1408 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4x2048x1408 .f32 := Host.absf main_arg1
  let main_cst_0 : FVec F S_ .f32 := constant S_ .f32 0x7F800000#32
  let main_v5 : FVec F S4x2048x1408 .f32 := broadcastInDim S4x2048x1408 ![] bcast_S_S4x2048x1408 main_cst_0
  let main_v6 : IVec S4x2048x1408 1 := cmpf .olt main_v4 main_v5
  let main_c_1 : IVec S_ 1 := constantI S_ 1 1#1
  let main_v7 : IVec S_ 1 := (fun x v => Host.reduce IntOp.andi x v reducesTo_S4x2048x1408_S_d0_1_2 h_S_) main_v6 main_c_1
  let main_v8 : IVec S_ 1 := andi main_v3 main_v7
  let main_v9 : FVec F S4x2048x1408 .f32 := Host.absf main_arg2
  let main_cst_2 : FVec F S_ .f32 := constant S_ .f32 0x7F800000#32
  let main_v10 : FVec F S4x2048x1408 .f32 := broadcastInDim S4x2048x1408 ![] bcast_S_S4x2048x1408 main_cst_2
  let main_v11 : IVec S4x2048x1408 1 := cmpf .olt main_v9 main_v10
  let main_c_3 : IVec S_ 1 := constantI S_ 1 1#1
  let main_v12 : IVec S_ 1 := (fun x v => Host.reduce IntOp.andi x v reducesTo_S4x2048x1408_S_d0_1_2 h_S_) main_v11 main_c_3
  let main_v13 : IVec S_ 1 := andi main_v8 main_v12
  main_v13
-- ==== Kernel.lean ====
abbrev S4096x1536 : Shape := ⟨2, ![4096, 1536]⟩
abbrev S4096x2048 : Shape := ⟨2, ![4096, 2048]⟩
abbrev S4096x64 : Shape := ⟨2, ![4096, 64]⟩
abbrev S4096x1024 : Shape := ⟨2, ![4096, 1024]⟩
abbrev S10 : Shape := ⟨1, ![10]⟩
abbrev S_ : Shape := ⟨0, ![]⟩
abbrev S4096x8x192 : Shape := ⟨3, ![4096, 8, 192]⟩
abbrev S4096x8x256 : Shape := ⟨3, ![4096, 8, 256]⟩
abbrev S4096x8x128 : Shape := ⟨3, ![4096, 8, 128]⟩
abbrev S8x4096x4096 : Shape := ⟨3, ![8, 4096, 4096]⟩
abbrev S4096x8x64 : Shape := ⟨3, ![4096, 8, 64]⟩
abbrev S4096x4096x8 : Shape := ⟨3, ![4096, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x1 : Shape := ⟨3, ![4096, 8, 1]⟩
abbrev S4096x8 : Shape := ⟨2, ![4096, 8]⟩
abbrev S4096x128 : Shape := ⟨2, ![4096, 128]⟩
abbrev S1024x256 : Shape := ⟨2, ![1024, 256]⟩
abbrev S1 : Shape := ⟨1, ![1]⟩
abbrev S1024x128 : Shape := ⟨2, ![1024, 128]⟩
abbrev S4096x256 : Shape := ⟨2, ![4096, 256]⟩
abbrev S512x256 : Shape := ⟨2, ![512, 256]⟩
abbrev S512x128 : Shape := ⟨2, ![512, 128]⟩
abbrev S512x1024 : Shape := ⟨2, ![512, 1024]⟩
abbrev S512x1 : Shape := ⟨2, ![512, 1]⟩

abbrev nBuf : Space → Nat
  | .hbm => 68
  | .vmem => 22
  | .smem => 2
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x64, .f32⟩
  | .hbm, ⟨3, _⟩ => ⟨S4096x1024, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S4096x8x192, .f32⟩
  | .hbm, ⟨8, _⟩ => ⟨S4096x8x256, .f32⟩
  | .hbm, ⟨9, _⟩ => ⟨S4096x8x128, .f32⟩
  | .hbm, ⟨10, _⟩ => ⟨S4096x8x128, .f32⟩
  | .hbm, ⟨11, _⟩ => ⟨S4096x8x128, .f32⟩
  | .hbm, ⟨12, _⟩ => ⟨S4096x8x128, .f32⟩
  | .hbm, ⟨13, _⟩ => ⟨S8x4096x4096, .f32⟩
  | .hbm, ⟨14, _⟩ => ⟨S4096x8x64, .f32⟩
  | .hbm, ⟨15, _⟩ => ⟨S4096x4096x8, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x128x4096, .f32⟩
  | .hbm, ⟨42, _⟩ => ⟨S4096x8x128, .f32⟩
  | .hbm, ⟨43, _⟩ => ⟨S8x4096x1, .f32⟩
  | .hbm, ⟨44, _⟩ => ⟨S8x4096x1, .f32⟩
  | .hbm, ⟨45, _⟩ => ⟨S4096x8x1, .f32⟩
  | .hbm, ⟨46, _⟩ => ⟨S4096x8x128, .f32⟩
  | .hbm, ⟨47, _⟩ => ⟨S4096x1024, .f32⟩
  | .hbm, ⟨48, _⟩ => ⟨S4096x8x128, .f32⟩
  | .hbm, ⟨49, _⟩ => ⟨S_, .f32⟩
  | .hbm, ⟨50, _⟩ => ⟨S4096x8, .f32⟩
  | .hbm, ⟨51, _⟩ => ⟨S4096x8x1, .f32⟩
  | .hbm, ⟨52, _⟩ => ⟨S4096x8x128, .f32⟩
  | .hbm, ⟨53, _⟩ => ⟨S4096x1024, .f32⟩
  | .hbm, ⟨54, _⟩ => ⟨S_, .i32⟩
  | .hbm, ⟨55, _⟩ => ⟨S_, .f32⟩
  | .hbm, ⟨56, _⟩ => ⟨S4096x8x256, .f32⟩
  | .hbm, ⟨57, _⟩ => ⟨S4096x2048, .f32⟩
  | .hbm, ⟨58, _⟩ => ⟨S4096x2048, .bf16⟩
  | .hbm, ⟨59, _⟩ => ⟨S_, .i32⟩
  | .hbm, ⟨60, _⟩ => ⟨S_, .f32⟩
  | .hbm, ⟨61, _⟩ => ⟨S4096x128, .f32⟩
  | .hbm, ⟨62, _⟩ => ⟨S4096x128, .bf16⟩
  | .hbm, ⟨63, _⟩ => ⟨S4096x2048, .bf16⟩
  | .hbm, ⟨64, _⟩ => ⟨S4096x1024, .bf16⟩
  | .hbm, ⟨65, _⟩ => ⟨S4096x2048, .bf16⟩
  | .hbm, ⟨66, _⟩ => ⟨S4096x1024, .f32⟩
  | .hbm, ⟨67, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x256, .bf16⟩
  | .local _ .vmem, ⟨15, _⟩ => ⟨S1024x256, .bf16⟩
  | .local _ .vmem, ⟨16, _⟩ => ⟨S1024x128, .f32⟩
  | .local _ .vmem, ⟨17, _⟩ => ⟨S1024x128, .f32⟩
  | .local _ .vmem, ⟨18, _⟩ => ⟨S4096x256, .f32⟩
  | .local _ .vmem, ⟨19, _⟩ => ⟨S4096x256, .f32⟩
  | .local _ .vmem, ⟨20, _⟩ => ⟨S1024x256, .f32⟩
  | .local _ .vmem, ⟨21, _⟩ => ⟨S1024x128, .f32⟩
  | .local _ .smem, ⟨0, _⟩ => ⟨S10, .i32⟩
  | .local _ .smem, ⟨1, _⟩ => ⟨S10, .i32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_call1_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_call2_v0 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev main_v49_2 : Ref sig .tc := ⟨.hbm, 67, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v74 : BitVec 32 := Scalar.muli v1 c1024_i32
  let c0_i32_38 : BitVec 32 := 0#32
  let v75 : BitVec 32 := Scalar.addi v74 c0_i32_38
  v75
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) (c0_i32_38 : BitVec 32) : Fin 2 → Nat :=
  let c1024_i32 : BitVec 32 := 1024#32
  let v74 : BitVec 32 := Scalar.muli v1 c1024_i32
  let v75 : BitVec 32 := Scalar.addi v74 c0_i32_38
  let v76 : BitVec 32 := v75
  let v77 : Index := Scalar.indexCast v76
  let c0_39 : Index := 0#32
  ![v77.toNat, 0]
def k0_mult2 (v1 : BitVec 32) : BitVec 32 :=
  let c1024_i32_52 : BitVec 32 := 1024#32
  let v96 : BitVec 32 := Scalar.muli v1 c1024_i32_52
  let c512_i32 : BitVec 32 := 512#32
  let v97 : BitVec 32 := Scalar.addi v96 c512_i32
  v97
def k0_mult3 (v1 : BitVec 32) : BitVec 32 :=
  let c1024_i32 : BitVec 32 := 1024#32
  let v88 : BitVec 32 := Scalar.muli v1 c1024_i32
  let c0_i32_41 : BitVec 32 := 0#32
  let v89 : BitVec 32 := Scalar.addi v88 c0_i32_41
  v89
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off3 (v1 : BitVec 32) (c0_i32_41 : BitVec 32) : Fin 2 → Nat :=
  let c1024_i32 : BitVec 32 := 1024#32
  let v88 : BitVec 32 := Scalar.muli v1 c1024_i32
  let v89 : BitVec 32 := Scalar.addi v88 c0_i32_41
  let v90 : BitVec 32 := v89
  let v91 : Index := Scalar.indexCast v90
  let c0_42 : Index := 0#32
  ![v91.toNat, 0]
def k0_mult4 (v1 : BitVec 32) : BitVec 32 :=
  let c1024_i32_55 : BitVec 32 := 1024#32
  let v110 : BitVec 32 := Scalar.muli v1 c1024_i32_55
  let c512_i32_56 : BitVec 32 := 512#32
  let v111 : BitVec 32 := Scalar.addi v110 c512_i32_56
  v111

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ (r : Fin 2), ∀ a, (k0_off2 v1 (BitVec.ofNat 32 (512 * r.val))) a + S512x256.size a ≤ S4096x256.size a) ∧
  (∀ (k0_h3 : k0_cond3 v1 v3 = 1#1), 512 ∣ (k0_mult2 v1).toNat) ∧
  (∀ (k0_h4 : k0_cond4 v1 v3 = 1#1), 512 ∣ (k0_mult3 v1).toNat) ∧
  (∀ (k0_h4 : k0_cond4 v1 v3 = 1#1), ∀ (r : Fin 2), ∀ a, (k0_off3 v1 (BitVec.ofNat 32 (512 * r.val))) a + S512x256.size a ≤ S4096x256.size a) ∧
  (∀ (k0_h4 : k0_cond4 v1 v3 = 1#1), 512 ∣ (k0_mult4 v1).toNat)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ (r : Fin 2), ∀ a, (k0_off2 v1 (BitVec.ofNat 32 (512 * r.val))) a + S512x256.size a ≤ S4096x256.size a := fun v1 v3 k0_hw1 k0_h3 r => k0_hw1.2.1 k0_h3 r
theorem k0_mult2_dvd : ∀ (v1 : BitVec 32) (v3 : BitVec 32) (k0_hw1 : k0_chk1 v1 v3), ∀ (k0_h3 : k0_cond3 v1 v3 = 1#1), 512 ∣ (k0_mult2 v1).toNat := fun v1 v3 k0_hw1 k0_h3 => k0_hw1.2.2.1 k0_h3
theorem k0_mult3_dvd : ∀ (v1 : BitVec 32) (v3 : BitVec 32) (k0_hw1 : k0_chk1 v1 v3), ∀ (k0_h4 : k0_cond4 v1 v3 = 1#1), 512 ∣ (k0_mult3 v1).toNat := fun v1 v3 k0_hw1 k0_h4 => k0_hw1.2.2.2.1 k0_h4
theorem k0_off3_inb : ∀ (v1 : BitVec 32) (v3 : BitVec 32) (k0_hw1 : k0_chk1 v1 v3), ∀ (k0_h4 : k0_cond4 v1 v3 = 1#1), ∀ (r : Fin 2), ∀ a, (k0_off3 v1 (BitVec.ofNat 32 (512 * r.val))) a + S512x256.size a ≤ S4096x256.size a := fun v1 v3 k0_hw1 k0_h4 r => k0_hw1.2.2.2.2.1 k0_h4 r
theorem k0_mult4_dvd : ∀ (v1 : BitVec 32) (v3 : BitVec 32) (k0_hw1 : k0_chk1 v1 v3), ∀ (k0_h4 : k0_cond4 v1 v3 = 1#1), 512 ∣ (k0_mult4 v1).toNat := fun v1 v3 k0_hw1 k0_h4 => k0_hw1.2.2.2.2.2 k0_h4

def k0_cond5 (v1 : BitVec 32) : BitVec 1 :=
  let c3_i32 : BitVec 32 := 3#32
  let v16 : BitVec 1 := Scalar.cmpi .eq v1 c3_i32
  let v17 : BitVec 32 := Scalar.extui v16
  let c0_i32_4 : BitVec 32 := 0#32
  let v18 : BitVec 1 := Scalar.cmpi .ne v17 c0_i32_4
  v18

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c2_i32 : BitVec 32 := 2#32
  let v2 : BitVec 32 := Scalar.muli c2_i32 arg0
  let c0_i32 : BitVec 32 := 0#32
  ![v1.toNat, v2.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c2_i32 : BitVec 32 := 2#32
  let v2 : BitVec 32 := Scalar.muli c2_i32 arg0
  let c1_i32 : BitVec 32 := 1#32
  let v3 : BitVec 32 := Scalar.addi v2 c1_i32
  let c0_i32 : BitVec 32 := 0#32
  ![v1.toNat, v3.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x1536 : Shape := ⟨2, ![4096, 1536]⟩
abbrev S4096x2048 : Shape := ⟨2, ![4096, 2048]⟩
abbrev S4096x64 : Shape := ⟨2, ![4096, 64]⟩
abbrev S4096x1024 : Shape := ⟨2, ![4096, 1024]⟩
abbrev S_ : Shape := ⟨0, ![]⟩
abbrev S4096x8x192 : Shape := ⟨3, ![4096, 8, 192]⟩
abbrev S4096x1x64 : Shape := ⟨3, ![4096, 1, 64]⟩
abbrev S4096x8x64 : Shape := ⟨3, ![4096, 8, 64]⟩
abbrev S4096x8x256 : Shape := ⟨3, ![4096, 8, 256]⟩
abbrev S4096x8x128 : Shape := ⟨3, ![4096, 8, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x64 : Shape := ⟨3, ![8, 4096, 64]⟩
abbrev S8x4096x128 : Shape := ⟨3, ![8, 4096, 128]⟩

abbrev nBuf : Space → Nat
  | .hbm => 122
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x64, .f32⟩
  | .hbm, ⟨3, _⟩ => ⟨S4096x1024, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S4096x8x192, .f32⟩
  | .hbm, ⟨8, _⟩ => ⟨S4096x1x64, .f32⟩
  | .hbm, ⟨9, _⟩ => ⟨S4096x8x64, .f32⟩
  | .hbm, ⟨10, _⟩ => ⟨S4096x8x256, .f32⟩
  | .hbm, ⟨11, _⟩ => ⟨S4096x8x128, .f32⟩
  | .hbm, ⟨12, _⟩ => ⟨S4096x8x128, .f32⟩
  | .hbm, ⟨13, _⟩ => ⟨S4096x8x128, .f32⟩
  | .hbm, ⟨14, _⟩ => ⟨S8x4096x4096, .f32⟩
  | .hbm, ⟨15, _⟩ => ⟨S4096x8x64, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S8x4096x4096, .i1⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .i1⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .i1⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S_, .f32⟩
  | .hbm, ⟨54, _⟩ => ⟨S8x4096, .f32⟩
  | .hbm, ⟨55, _⟩ => ⟨S8x4096, .f32⟩
  | .hbm, ⟨56, _⟩ => ⟨S8x4096, .f32⟩
  | .hbm, ⟨57, _⟩ => ⟨S8x4096x1, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x128x4096, .f32⟩
  | .hbm, ⟨71, _⟩ => ⟨S4096x8x128, .f32⟩
  | .hbm, ⟨72, _⟩ => ⟨S4096x8x128, .f32⟩
  | .hbm, ⟨73, _⟩ => ⟨S8x128x4096, .f32⟩
  | .hbm, ⟨74, _⟩ => ⟨S8x4096x4096, .f32⟩
  | .hbm, ⟨75, _⟩ => ⟨S8x128x4096, .f32⟩
  | .hbm, ⟨76, _⟩ => ⟨S4096x8x128, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x1, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S8x4096x64, .f32⟩
  | .hbm, ⟨95, _⟩ => ⟨S4096x8x64, .f32⟩
  | .hbm, ⟨96, _⟩ => ⟨S8x4096x64, .f32⟩
  | .hbm, ⟨97, _⟩ => ⟨S4096x8x64, .f32⟩
  | .hbm, ⟨98, _⟩ => ⟨S_, .f32⟩
  | .hbm, ⟨99, _⟩ => ⟨S4096x8x192, .f32⟩
  | .hbm, ⟨100, _⟩ => ⟨S8x4096x128, .f32⟩
  | .hbm, ⟨101, _⟩ => ⟨S4096x8x128, .f32⟩
  | .hbm, ⟨102, _⟩ => ⟨S8x4096x128, .f32⟩
  | .hbm, ⟨103, _⟩ => ⟨S4096x8x128, .f32⟩
  | .hbm, ⟨104, _⟩ => ⟨S_, .f32⟩
  | .hbm, ⟨105, _⟩ => ⟨S4096x8x192, .f32⟩
  | .hbm, ⟨106, _⟩ => ⟨S4096x8x192, .f32⟩
  | .hbm, ⟨107, _⟩ => ⟨S_, .f32⟩
  | .hbm, ⟨108, _⟩ => ⟨S4096x8x256, .f32⟩
  | .hbm, ⟨109, _⟩ => ⟨S_, .f32⟩
  | .hbm, ⟨110, _⟩ => ⟨S4096x8x256, .f32⟩
  | .hbm, ⟨111, _⟩ => ⟨S4096x8x256, .f32⟩
  | .hbm, ⟨112, _⟩ => ⟨S_, .i32⟩
  | .hbm, ⟨113, _⟩ => ⟨S_, .f32⟩
  | .hbm, ⟨114, _⟩ => ⟨S4096x8x128, .f32⟩
  | .hbm, ⟨115, _⟩ => ⟨S4096x1024, .f32⟩
  | .hbm, ⟨116, _⟩ => ⟨S_, .i32⟩
  | .hbm, ⟨117, _⟩ => ⟨S_, .f32⟩
  | .hbm, ⟨118, _⟩ => ⟨S4096x8x256, .f32⟩
  | .hbm, ⟨119, _⟩ => ⟨S4096x2048, .f32⟩
  | .hbm, ⟨120, _⟩ => ⟨S4096x2048, .f32⟩
  | .hbm, ⟨121, _⟩ => ⟨S4096x2048, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_v20_1 : Ref sig .tc := ⟨.hbm, 27, rfl⟩
abbrev main_call0_v2 : Ref sig .tc := ⟨.hbm, 28, rfl⟩
abbrev main_v20_0 : Ref sig .tc := ⟨.hbm, 29, rfl⟩
abbrev main_call0_cst : Ref sig .tc := ⟨.hbm, 30, rfl⟩
abbrev main_v20_2 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_cst : Ref sig .tc := ⟨.hbm, 91, rfl⟩
abbrev main_call1_v0 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_c : Ref sig .tc := ⟨.hbm, 112, rfl⟩
abbrev main_call2_v0 : Ref sig .tc := ⟨.hbm, 113, rfl⟩
abbrev main_v83 : Ref sig .tc := ⟨.hbm, 114, rfl⟩
abbrev main_v84 : Ref sig .tc := ⟨.hbm, 115, rfl⟩
abbrev main_c_17 : Ref sig .tc := ⟨.hbm, 116, rfl⟩
abbrev main_call3_v0 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== Kernel2.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 40
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S5632x2048, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S_, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x2048, .bf16⟩
  | .hbm, ⟨35, _⟩ => ⟨S5632x2048, .bf16⟩
  | .hbm, ⟨36, _⟩ => ⟨S4096x5632, .bf16⟩
  | .hbm, ⟨37, _⟩ => ⟨S4096x5632, .bf16⟩
  | .hbm, ⟨38, _⟩ => ⟨S4096x5632, .bf16⟩
  | .hbm, ⟨39, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_v1_2 : Ref sig .tc := ⟨.hbm, 20, rfl⟩
abbrev main_call1_cst_1 : Ref sig .tc := ⟨.hbm, 21, rfl⟩
abbrev main_call1_v6 : Ref sig .tc := ⟨.hbm, 22, rfl⟩
abbrev main_call1_v7 : Ref sig .tc := ⟨.hbm, 23, rfl⟩
abbrev main_v1_1 : Ref sig .tc := ⟨.hbm, 24, rfl⟩
abbrev main_v1_0 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10_0 : Ref sig .tc := ⟨.hbm, 38, rfl⟩
abbrev main_v10_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S5632x2048, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x2048, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .bf16⟩
  | .hbm, ⟨27, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x2048 : Shape := ⟨2, ![4096, 2048]⟩
abbrev S4096x5632 : Shape := ⟨2, ![4096, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x2048, .bf16⟩
  | .hbm, ⟨3, _⟩ => ⟨S4096x5632, .bf16⟩
  | .hbm, ⟨4, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x5632 : Shape := ⟨2, ![4096, 5632]⟩
abbrev S_ : Shape := ⟨0, ![]⟩
abbrev S4x2048x1408 : Shape := ⟨3, ![4, 2048, 1408]⟩
abbrev S4096x4x1408 : Shape := ⟨3, ![4096, 4, 1408]⟩
abbrev S4x1408x2048 : Shape := ⟨3, ![4, 1408, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S_, .f32⟩
  | .hbm, ⟨3, _⟩ => ⟨S4x2048x1408, .f32⟩
  | .hbm, ⟨4, _⟩ => ⟨S4096x4x1408, .f32⟩
  | .hbm, ⟨5, _⟩ => ⟨S4096x5632, .f32⟩
  | .hbm, ⟨6, _⟩ => ⟨S4096x4x1408, .f32⟩
  | .hbm, ⟨7, _⟩ => ⟨S4x1408x2048, .f32⟩
  | .hbm, ⟨8, _⟩ => ⟨S4x2048x1408, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4x2048x1408 : Shape := ⟨3, ![4, 2048, 1408]⟩
abbrev S4096x5632 : Shape := ⟨2, ![4096, 5632]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4096x5632, .f32⟩
  | .hbm, ⟨3, _⟩ => ⟨S4096x5632, .f32⟩
  | .hbm, ⟨4, _⟩ => ⟨S4x2048x1408, .bf16⟩
  | .hbm, ⟨5, _⟩ => ⟨S4x2048x1408, .bf16⟩
  | .hbm, ⟨6, _⟩ => ⟨S4096x5632, .bf16⟩
  | .hbm, ⟨7, _⟩ => ⟨S4096x5632, .bf16⟩
  | .hbm, ⟨8, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S4x2048x1408 : Shape := ⟨3, ![4, 2048, 1408]⟩
abbrev S4096x5632 : Shape := ⟨2, ![4096, 5632]⟩
abbrev S_ : Shape := ⟨0, ![]⟩
abbrev S4096x2048 : Shape := ⟨2, ![4096, 2048]⟩
abbrev S4096x4x1408 : Shape := ⟨3, ![4096, 4, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S4x2048x1408, .f32⟩
  | .hbm, ⟨2, _⟩ => ⟨S4096x5632, .f32⟩
  | .hbm, ⟨3, _⟩ => ⟨S4096x5632, .f32⟩
  | .hbm, ⟨4, _⟩ => ⟨S_, .f32⟩
  | .hbm, ⟨5, _⟩ => ⟨S4096x2048, .f32⟩
  | .hbm, ⟨6, _⟩ => ⟨S4096x4x1408, .f32⟩
  | .hbm, ⟨7, _⟩ => ⟨S4096x5632, .f32⟩
  | .hbm, ⟨8, _⟩ => ⟨S4096x4x1408, .f32⟩
  | .hbm, ⟨9, _⟩ => ⟨S4096x5632, .f32⟩
  | .hbm, ⟨10, _⟩ => ⟨S4096x4x1408, .f32⟩
  | .hbm, ⟨11, _⟩ => ⟨S4096x2048, .f32⟩
  | .hbm, ⟨12, _⟩ => ⟨S4096x4x1408, .f32⟩
  | .hbm, ⟨13, _⟩ => ⟨S4096x2048, .f32⟩
  | .hbm, ⟨14, _⟩ => ⟨S4096x2048, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S4096x2048 : Shape := ⟨2, ![4096, 2048]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4x2048x1408, .f32⟩
  | .hbm, ⟨2, _⟩ => ⟨S4x2048x1408, .f32⟩
  | .hbm, ⟨3, _⟩ => ⟨S4096x2048, .bf16⟩
  | .hbm, ⟨4, _⟩ => ⟨S4x2048x1408, .bf16⟩
  | .hbm, ⟨5, _⟩ => ⟨S4x2048x1408, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x2048 : Shape := ⟨2, ![4096, 2048]⟩
abbrev S4x2048x1408 : Shape := ⟨3, ![4, 2048, 1408]⟩
abbrev S4096x4x1408 : Shape := ⟨3, ![4096, 4, 1408]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x1408, .f32⟩
  | .hbm, ⟨2, _⟩ => ⟨S4x2048x1408, .f32⟩
  | .hbm, ⟨3, _⟩ => ⟨S4096x4x1408, .f32⟩
  | .hbm, ⟨4, _⟩ => ⟨S4096x5632, .f32⟩
  | .hbm, ⟨5, _⟩ => ⟨S4096x4x1408, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x5632, .bf16⟩
  | .hbm, ⟨31, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S5632x2048, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S4096x2048 : Shape := ⟨2, ![4096, 2048]⟩
abbrev S3840x2048 : Shape := ⟨2, ![3840, 2048]⟩
abbrev S4096x3840 : Shape := ⟨2, ![4096, 3840]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S3840x2048, .f32⟩
  | .hbm, ⟨2, _⟩ => ⟨S4096x2048, .bf16⟩
  | .hbm, ⟨3, _⟩ => ⟨S3840x2048, .bf16⟩
  | .hbm, ⟨4, _⟩ => ⟨S4096x3840, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S3840x2048 : Shape := ⟨2, ![3840, 2048]⟩
abbrev S2048x3840 : Shape := ⟨2, ![2048, 3840]⟩
abbrev S4096x3840 : Shape := ⟨2, ![4096, 3840]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3840x2048, .f32⟩
  | .hbm, ⟨2, _⟩ => ⟨S2048x3840, .f32⟩
  | .hbm, ⟨3, _⟩ => ⟨S4096x3840, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S3840x2048 : Shape := ⟨2, ![3840, 2048]⟩
abbrev S4096x3840 : Shape := ⟨2, ![4096, 3840]⟩
abbrev S4096x2048 : Shape := ⟨2, ![4096, 2048]⟩
abbrev S1024x1920 : Shape := ⟨2, ![1024, 1920]⟩
abbrev S1920x1024 : Shape := ⟨2, ![1920, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S3840x2048, .f32⟩
  | .hbm, ⟨1, _⟩ => ⟨S4096x3840, .f32⟩
  | .hbm, ⟨2, _⟩ => ⟨S4096x3840, .bf16⟩
  | .hbm, ⟨3, _⟩ => ⟨S3840x2048, .bf16⟩
  | .hbm, ⟨4, _⟩ => ⟨S4096x2048, .f32⟩
  | .local _ .vmem, ⟨0, _⟩ => ⟨S1024x1920, .bf16⟩
  | .local _ .vmem, ⟨1, _⟩ => ⟨S1024x1920, .bf16⟩
  | .local _ .vmem, ⟨2, _⟩ => ⟨S1920x1024, .bf16⟩
  | .local _ .vmem, ⟨3, _⟩ => ⟨S1920x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3840x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1920x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S3840x2048 : Shape := ⟨2, ![3840, 2048]⟩
abbrev S4096x3840 : Shape := ⟨2, ![4096, 3840]⟩
abbrev S_ : Shape := ⟨0, ![]⟩
abbrev S4096x2048 : Shape := ⟨2, ![4096, 2048]⟩
abbrev S2048x3840 : Shape := ⟨2, ![2048, 3840]⟩

abbrev nBuf : Space → Nat
  | .hbm => 7
  | .vmem => 0
  | .smem => 0
  | _ => 0

abbrev bufTy : (tb : Table) → Fin (tcTables nBuf tb) → BufTy
  | .hbm, ⟨0, _⟩ => ⟨S3840x2048, .f32⟩
  | .hbm, ⟨1, _⟩ => ⟨S4096x3840, .f32⟩
  | .hbm, ⟨2, _⟩ => ⟨S_, .f32⟩
  | .hbm, ⟨3, _⟩ => ⟨S4096x2048, .f32⟩
  | .hbm, ⟨4, _⟩ => ⟨S2048x3840, .f32⟩
  | .hbm, ⟨5, _⟩ => ⟨S4096x3840, .f32⟩
  | .hbm, ⟨6, _⟩ => ⟨S4096x2048, .f32⟩
  | _, _ => ⟨S3840x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x2048 : Shape := ⟨2, ![4096, 2048]⟩
abbrev S4096x3840 : Shape := ⟨2, ![4096, 3840]⟩
abbrev S3840x2048 : Shape := ⟨2, ![3840, 2048]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x3840, .f32⟩
  | .hbm, ⟨2, _⟩ => ⟨S4096x3840, .bf16⟩
  | .hbm, ⟨3, _⟩ => ⟨S4096x2048, .bf16⟩
  | .hbm, ⟨4, _⟩ => ⟨S3840x2048, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x3840 : Shape := ⟨2, ![4096, 3840]⟩
abbrev S_ : Shape := ⟨0, ![]⟩
abbrev S3840x2048 : Shape := ⟨2, ![3840, 2048]⟩
abbrev S2048x3840 : Shape := ⟨2, ![2048, 3840]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3840, .f32⟩
  | .hbm, ⟨2, _⟩ => ⟨S_, .f32⟩
  | .hbm, ⟨3, _⟩ => ⟨S3840x2048, .f32⟩
  | .hbm, ⟨4, _⟩ => ⟨S2048x3840, .f32⟩
  | .hbm, ⟨5, _⟩ => ⟨S4096x3840, .f32⟩
  | .hbm, ⟨6, _⟩ => ⟨S3840x2048, .f32⟩
  | .hbm, ⟨7, _⟩ => ⟨S2048x3840, .f32⟩
  | .hbm, ⟨8, _⟩ => ⟨S3840x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x512, .bf16⟩
  | .hbm, ⟨3, _⟩ => ⟨S512x2048, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S4096x512 : Shape := ⟨2, ![4096, 512]⟩
abbrev S4x512x512 : Shape := ⟨3, ![4, 512, 512]⟩
abbrev S4096x2048 : Shape := ⟨2, ![4096, 2048]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4x512x512, .f32⟩
  | .hbm, ⟨2, _⟩ => ⟨S4096x512, .bf16⟩
  | .hbm, ⟨3, _⟩ => ⟨S4x512x512, .bf16⟩
  | .hbm, ⟨4, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x512 : Shape := ⟨2, ![4096, 512]⟩
abbrev S4x512x512 : Shape := ⟨3, ![4, 512, 512]⟩
abbrev S4096x4x512 : Shape := ⟨3, ![4096, 4, 512]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4x512x512, .f32⟩
  | .hbm, ⟨2, _⟩ => ⟨S4096x4x512, .f32⟩
  | .hbm, ⟨3, _⟩ => ⟨S4096x2048, .f32⟩
  | .hbm, ⟨4, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S512x2048 : Shape := ⟨2, ![512, 2048]⟩
abbrev S4096x2048 : Shape := ⟨2, ![4096, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S4096x2048, .f32⟩
  | .hbm, ⟨2, _⟩ => ⟨S4096x2048, .bf16⟩
  | .hbm, ⟨3, _⟩ => ⟨S512x2048, .bf16⟩
  | .hbm, ⟨4, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S512x2048 : Shape := ⟨2, ![512, 2048]⟩
abbrev S4096x2048 : Shape := ⟨2, ![4096, 2048]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S4096x2048, .f32⟩
  | .hbm, ⟨2, _⟩ => ⟨S_, .f32⟩
  | .hbm, ⟨3, _⟩ => ⟨S4096x512, .f32⟩
  | .hbm, ⟨4, _⟩ => ⟨S4096x2048, .f32⟩
  | .hbm, ⟨5, _⟩ => ⟨S4096x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4x512x512 : Shape := ⟨3, ![4, 512, 512]⟩
abbrev S4096x2048 : Shape := ⟨2, ![4096, 2048]⟩
abbrev S4096x512 : Shape := ⟨2, ![4096, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x512x512, .f32⟩
  | .hbm, ⟨1, _⟩ => ⟨S4096x2048, .f32⟩
  | .hbm, ⟨2, _⟩ => ⟨S4096x2048, .bf16⟩
  | .hbm, ⟨3, _⟩ => ⟨S4x512x512, .bf16⟩
  | .hbm, ⟨4, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4x512x512 : Shape := ⟨3, ![4, 512, 512]⟩
abbrev S4096x2048 : Shape := ⟨2, ![4096, 2048]⟩
abbrev S_ : Shape := ⟨0, ![]⟩
abbrev S4096x512 : Shape := ⟨2, ![4096, 512]⟩
abbrev S4096x4x512 : Shape := ⟨3, ![4096, 4, 512]⟩

abbrev nBuf : Space → Nat
  | .hbm => 8
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4096x2048, .f32⟩
  | .hbm, ⟨2, _⟩ => ⟨S_, .f32⟩
  | .hbm, ⟨3, _⟩ => ⟨S4096x512, .f32⟩
  | .hbm, ⟨4, _⟩ => ⟨S4096x4x512, .f32⟩
  | .hbm, ⟨5, _⟩ => ⟨S4096x2048, .f32⟩
  | .hbm, ⟨6, _⟩ => ⟨S4096x4x512, .f32⟩
  | .hbm, ⟨7, _⟩ => ⟨S4096x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .bf16⟩
  | .hbm, ⟨3, _⟩ => ⟨S4096x2048, .bf16⟩
  | .hbm, ⟨4, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x512 : Shape := ⟨2, ![4096, 512]⟩
abbrev S4096x2048 : Shape := ⟨2, ![4096, 2048]⟩
abbrev S4x512x512 : Shape := ⟨3, ![4, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .bf16⟩
  | .hbm, ⟨3, _⟩ => ⟨S4096x2048, .bf16⟩
  | .hbm, ⟨4, _⟩ => ⟨S4x512x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x512 : Shape := ⟨2, ![4096, 512]⟩
abbrev S4096x2048 : Shape := ⟨2, ![4096, 2048]⟩
abbrev S_ : Shape := ⟨0, ![]⟩
abbrev S4x512x512 : Shape := ⟨3, ![4, 512, 512]⟩
abbrev S4096x4x512 : Shape := ⟨3, ![4096, 4, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S4x512x512, .f32⟩
  | .hbm, ⟨4, _⟩ => ⟨S4096x4x512, .f32⟩
  | .hbm, ⟨5, _⟩ => ⟨S4096x2048, .f32⟩
  | .hbm, ⟨6, _⟩ => ⟨S4096x4x512, .f32⟩
  | .hbm, ⟨7, _⟩ => ⟨S4x512x512, .f32⟩
  | .hbm, ⟨8, _⟩ => ⟨S4x512x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S4096x1536 : Shape := ⟨2, ![4096, 1536]⟩
abbrev S4096x2048 : Shape := ⟨2, ![4096, 2048]⟩
abbrev S4096x64 : Shape := ⟨2, ![4096, 64]⟩
abbrev S10 : Shape := ⟨1, ![10]⟩
abbrev S_ : Shape := ⟨0, ![]⟩
abbrev S4096x8x192 : Shape := ⟨3, ![4096, 8, 192]⟩
abbrev S4096x8x256 : Shape := ⟨3, ![4096, 8, 256]⟩
abbrev S4096x128 : Shape := ⟨2, ![4096, 128]⟩
abbrev S4096x1024 : Shape := ⟨2, ![4096, 1024]⟩
abbrev S1024x512 : Shape := ⟨2, ![1024, 512]⟩
abbrev S1 : Shape := ⟨1, ![1]⟩
abbrev S1024x128 : Shape := ⟨2, ![1024, 128]⟩
abbrev S1024x256 : Shape := ⟨2, ![1024, 256]⟩
abbrev S2x1024x1 : Shape := ⟨3, ![2, 1024, 1]⟩
abbrev S2x1024x128 : Shape := ⟨3, ![2, 1024, 128]⟩
abbrev S1024x1024 : Shape := ⟨2, ![1024, 1024]⟩
abbrev S1x1024x1 : Shape := ⟨3, ![1, 1024, 1]⟩
abbrev S1024x1 : Shape := ⟨2, ![1024, 1]⟩
abbrev S1024 : Shape := ⟨1, ![1024]⟩
abbrev S1x1024x128 : Shape := ⟨3, ![1, 1024, 128]⟩

abbrev nBuf : Space → Nat
  | .hbm => 19
  | .vmem => 13
  | .smem => 2
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x64, .f32⟩
  | .hbm, ⟨3, _⟩ => ⟨S_, .f32⟩
  | .hbm, ⟨4, _⟩ => ⟨S4096x1536, .f32⟩
  | .hbm, ⟨5, _⟩ => ⟨S4096x1536, .f32⟩
  | .hbm, ⟨6, _⟩ => ⟨S4096x8x192, .f32⟩
  | .hbm, ⟨7, _⟩ => ⟨S_, .i32⟩
  | .hbm, ⟨8, _⟩ => ⟨S_, .f32⟩
  | .hbm, ⟨9, _⟩ => ⟨S4096x8x256, .f32⟩
  | .hbm, ⟨10, _⟩ => ⟨S4096x2048, .f32⟩
  | .hbm, ⟨11, _⟩ => ⟨S4096x2048, .bf16⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x128, .bf16⟩
  | .hbm, ⟨16, _⟩ => ⟨S4096x2048, .bf16⟩
  | .hbm, ⟨17, _⟩ => ⟨S4096x1024, .f32⟩
  | .hbm, ⟨18, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x128, .bf16⟩
  | .local _ .vmem, ⟨5, _⟩ => ⟨S1024x128, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S2x1024x1, .f32⟩
  | .local _ .vmem, ⟨11, _⟩ => ⟨S2x1024x1, .f32⟩
  | .local _ .vmem, ⟨12, _⟩ => ⟨S2x1024x128, .f32⟩
  | .local _ .smem, ⟨0, _⟩ => ⟨S10, .i32⟩
  | .local _ .smem, ⟨1, _⟩ => ⟨S10, .i32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference20Ideal.lean ====
abbrev S4096x1536 : Shape := ⟨2, ![4096, 1536]⟩
abbrev S4096x2048 : Shape := ⟨2, ![4096, 2048]⟩
abbrev S4096x64 : Shape := ⟨2, ![4096, 64]⟩
abbrev S_ : Shape := ⟨0, ![]⟩
abbrev S4096x8x192 : Shape := ⟨3, ![4096, 8, 192]⟩
abbrev S4096x8x256 : Shape := ⟨3, ![4096, 8, 256]⟩
abbrev S4096x8x128 : Shape := ⟨3, ![4096, 8, 128]⟩
abbrev S8x4096x4096 : Shape := ⟨3, ![8, 4096, 4096]⟩
abbrev S4096x8x64 : Shape := ⟨3, ![4096, 8, 64]⟩
abbrev S4096x4096x8 : Shape := ⟨3, ![4096, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩
abbrev S4096x8x1 : Shape := ⟨3, ![4096, 8, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x2048, .f32⟩
  | .hbm, ⟨2, _⟩ => ⟨S4096x64, .f32⟩
  | .hbm, ⟨3, _⟩ => ⟨S_, .f32⟩
  | .hbm, ⟨4, _⟩ => ⟨S4096x1536, .f32⟩
  | .hbm, ⟨5, _⟩ => ⟨S4096x1536, .f32⟩
  | .hbm, ⟨6, _⟩ => ⟨S4096x8x192, .f32⟩
  | .hbm, ⟨7, _⟩ => ⟨S4096x8x256, .f32⟩
  | .hbm, ⟨8, _⟩ => ⟨S4096x8x128, .f32⟩
  | .hbm, ⟨9, _⟩ => ⟨S4096x8x128, .f32⟩
  | .hbm, ⟨10, _⟩ => ⟨S4096x8x128, .f32⟩
  | .hbm, ⟨11, _⟩ => ⟨S8x4096x4096, .f32⟩
  | .hbm, ⟨12, _⟩ => ⟨S4096x8x64, .f32⟩
  | .hbm, ⟨13, _⟩ => ⟨S4096x4096x8, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x128x4096, .f32⟩
  | .hbm, ⟨43, _⟩ => ⟨S4096x8x128, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S4096x1024, .f32⟩
  | .hbm, ⟨56, _⟩ => ⟨S4096x8x1, .f32⟩
  | .hbm, ⟨57, _⟩ => ⟨S4096x8x128, .f32⟩
  | .hbm, ⟨58, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Proof.Sched.lean ====
/- The order in which the gradient kernel visits its tiles.

   The grid is 8 heads by 10 steps. Two small tables say, step by step, which 1024-row block of queries and which
   1024-row block of keys is used: the ten pairs with query block >= key block, grouped by key block, the query block
   rising within a group. This module states the tables as closed terms, decides the launch's condition on them, and
   gives the words read at each step. -/
module

public import proofs.«01_k».proof.Proof.Gen.KernelIdeal.Launch
public import Idealize.ShloMosaic.Lib.Tactic

@[expose] public section

set_option maxRecDepth 16384

noncomputable section

namespace Cert.FlashBwd

open Idealize.ShloMosaic Idealize.ShloMosaic.TcCoe Idealize.ShloMosaic.Tactic Cert.KernelIdeal Cert.KernelIdeal.Gen

variable {F : FTy → Type} [FloatOps F]

/-- The two tables as the host writes them. -/
def tabs : pre0.Contents (Elt F) := fun
  | 0 => fun i => lit0 (S10.rowMajor i)
  | 1 => fun i => lit1 (S10.rowMajor i)

/-- The query block of step `s` of a head. -/
abbrev qOf (s : ℕ) : ℕ := if s < 4 then s else if s < 7 then s - 3 else if s < 9 then s - 5 else 3
/-- The key block of step `s` of a head. -/
abbrev kOf (s : ℕ) : ℕ := if s < 4 then 0 else if s < 7 then 1 else if s < 9 then 2 else 3

/-- The word of the query table at a grid point. -/
def qW (i : grid0.Coords) : BitVec 32 := (tabs (F := F)).at 0 (Rect.unit (s := S10) (k0_off1 i) S1.size (Facts₀.k0_off1_inb i)) numel1_S1
/-- The word of the key table at a grid point. -/
def kW (i : grid0.Coords) : BitVec 32 := (tabs (F := F)).at 1 (Rect.unit (s := S10) (k0_off1 i) S1.size (Facts₀.k0_off1_inb i)) numel1_S1

theorem tabs_ok : ok0 (F := F) tabs := of_decide_eq_true (by sl_kernel_rfl)

/-- The tables with the launch's condition on them. -/
def adm : (p : Fin 1) → (pcfgs (F := F) p).Adm := fun _ => ⟨tabs, tabs_ok⟩

theorem qW_eq : ∀ t : Fin grid0.N, qW (F := F) (grid0.coords t) = BitVec.ofNat 32 (qOf (t.val % 10)) := of_decide_eq_true (by sl_kernel_rfl)
theorem kW_eq : ∀ t : Fin grid0.N, kW (F := F) (grid0.coords t) = BitVec.ofNat 32 (kOf (t.val % 10)) := of_decide_eq_true (by sl_kernel_rfl)

end Cert.FlashBwd

end
-- ==== Proof.Step.lean ====
/- What one step of the gradient kernel does to its three running sums, as plain functions of the tiles it reads.

   A step works on one 1024-row query tile against one 1024-row key tile, in two halves of 512 query rows. `C` is the
   step strictly below the diagonal, `M` the one on the diagonal (masked). -/
module

public import proofs.«01_k».proof.Proof.Sched
public import proofs.«01_k».proof.Proof.Gen.KernelIdeal.Skeleton
public import Idealize.ShloMosaic.Lib.Pipeline.FrameBody
public import Idealize.ShloMosaic.Lib.Pipeline.ValueKit.Basic
public import Idealize.ShloMosaic.Lib.Pipeline.ValueKit.Acc
public import Idealize.ShloMosaic.Lib.VecWindow
public import Idealize.ShloMosaic.Lib.WritesUnit

@[expose] public section

set_option maxRecDepth 16384

noncomputable section

namespace Cert.FlashBwd

open Idealize.ShloMosaic Idealize.ShloMosaic.TcCoe Cert.KernelIdeal Cert.KernelIdeal.Gen

variable {F : FTy → Type} [FloatOps F]

/-- The first and the second 512 rows of a tile. -/
def qTop (x : Vec F S1024x256 .bf16) : Vec F S512x256 .bf16 := View.ld x (Rect.unit (s := S1024x256) ![0, 0] S512x256.size inb_S1024x256_S512x256_0_0)
def qBot (x : Vec F S1024x256 .bf16) : Vec F S512x256 .bf16 := View.ld x (Rect.unit (s := S1024x256) ![512, 0] S512x256.size inb_S1024x256_S512x256_512_0)
def gTop (x : Vec F S1024x128 .bf16) : Vec F S512x128 .bf16 := View.ld x (Rect.unit (s := S1024x128) ![0, 0] S512x128.size inb_S1024x128_S512x128_0_0)
def gBot (x : Vec F S1024x128 .bf16) : Vec F S512x128 .bf16 := View.ld x (Rect.unit (s := S1024x128) ![512, 0] S512x128.size inb_S1024x128_S512x128_512_0)
/-- The first column's two halves: a row statistic is kept broadcast over the lanes and read from lane 0. -/
def cTop (x : Vec F S1024x128 .f32) : Vec F S512x1 .f32 := View.ld x (Rect.unit (s := S1024x128) ![0, 0] S512x1.size inb_S1024x128_S512x1_0_0)
def cBot (x : Vec F S1024x128 .f32) : Vec F S512x1 .f32 := View.ld x (Rect.unit (s := S1024x128) ![512, 0] S512x1.size inb_S1024x128_S512x1_512_0)

theorem rows_inb {o : ℕ} (h : o + 512 ≤ 4096) : ∀ a : Fin 2, (![o, 0] : Fin 2 → ℕ) a + S512x256.size a ≤ S4096x256.size a :=
  Fin.forall_fin_two.mpr ⟨h, by show (0 : ℕ) + 256 ≤ 256; decide⟩

/-- 512 rows of the head's query gradient, read from row `o` on, and put back there. -/
def rowsGet (o : ℕ) (h : o + 512 ≤ 4096) (d : Vec F S4096x256 .f32) : Vec F S512x256 .f32 :=
  View.ld d (Rect.unit (s := S4096x256) ![o, 0] S512x256.size (rows_inb h))
def rowsPut (o : ℕ) (w : Vec F S512x256 .f32) (d : Vec F S4096x256 .f32) : Vec F S4096x256 .f32 := fun y =>
  if h : o ≤ (y (0 : Fin 2)).val ∧ (y (0 : Fin 2)).val < o + 512 then
    w (Rect.unitLocal (s := S4096x256) (off := ![o, 0]) (size := S512x256.size) y (Rect.unit_rows_mem y rfl rfl h))
  else d y

theorem readAt_rows (v : View sig .tc .vmem S4096x256 .f32) (f : v.ty.Contents (Elt F)) {off : Fin 2 → ℕ} {o : ℕ}
    (hoff : off = ![o, 0]) (h : o + 512 ≤ 4096) (inb : ∀ a, off a + S512x256.size a ≤ S4096x256.size a) :
    v.readAt (Elt F) (Rect.unit (s := S4096x256) off S512x256.size inb).toLoadRect f = rowsGet o h (v.read (Elt F) f) := by
  subst hoff; rfl

theorem read_rows (v : View sig .tc .vmem S4096x256 .f32) (f : v.ty.Contents (Elt F)) {off : Fin 2 → ℕ} {o : ℕ}
    (hoff : off = ![o, 0]) (inb : ∀ a, off a + S512x256.size a ≤ S4096x256.size a)
    (w : Vec F S512x256 .f32) (L : List (View.Piece (Elt F) S4096x256 .f32)) :
    v.read (Elt F) (v.writes (Elt F) f (⟨Rect.unit (s := S4096x256) off S512x256.size inb, w⟩ :: L))
      = rowsPut o w (v.read (Elt F) (v.writes (Elt F) f L)) := by
  funext y
  rw [View.read_writes_cons_rows (d := S4096x256.size) (W := 512) (o := o) v f inb w L y hoff rfl rfl]
  rfl

theorem read_nil (v : View sig .tc .vmem S4096x256 .f32) (f : v.ty.Contents (Elt F)) :
    v.read (Elt F) (v.writes (Elt F) f []) = v.read (Elt F) f := rfl

/-- The row a query block's half starts at. -/
theorem off2_0 : ∀ qi : Fin 4, k0_off2 (BitVec.ofNat 32 qi.val) 0#32 = ![1024 * qi.val, 0] := of_decide_eq_true (by sl_kernel_rfl)
theorem off2_1 : ∀ qi : Fin 4, k0_off2 (BitVec.ofNat 32 qi.val) 512#32 = ![1024 * qi.val + 512, 0] := of_decide_eq_true (by sl_kernel_rfl)
theorem off3_0 : ∀ qi : Fin 4, k0_off3 (BitVec.ofNat 32 qi.val) 0#32 = ![1024 * qi.val, 0] := of_decide_eq_true (by sl_kernel_rfl)
theorem off3_1 : ∀ qi : Fin 4, k0_off3 (BitVec.ofNat 32 qi.val) 512#32 = ![1024 * qi.val + 512, 0] := of_decide_eq_true (by sl_kernel_rfl)
theorem top_le (qi : Fin 4) : 1024 * qi.val + 512 ≤ 4096 := by omega
theorem bot_le (qi : Fin 4) : 1024 * qi.val + 512 + 512 ≤ 4096 := by omega

section
variable (x4 : Vec F S1024x256 .bf16) (x5 x6 x7 x8 : Vec F S1024x128 .bf16) (x9 x10 : Vec F S1024x128 .f32)

/-- The score gradient's two halves below the diagonal, -/
def dsC0 : FVec F S512x1024 .bf16 := k0_pay21 x5 x6 x7 (qTop x4) (gTop x8) (cTop x9) (cTop x10)
def dsC1 : FVec F S512x1024 .bf16 := k0_pay23 (k0_pay18 x7 (gBot x8)) (k0_pay22 x5 x6 (qBot x4) (cBot x9)) (cBot x10)
/-- and on it. -/
def dsM0 : FVec F S512x1024 .bf16 := k0_pay39 (k0_pay36 x5 x6 (qTop x4) (cTop x9)) (k0_pay38 x7 (gTop x8) (cTop x10))
def dsM1 : FVec F S512x1024 .bf16 := k0_pay42 (k0_pay34 x5 x6 (qBot x4)) (k0_pay35 x7 (gBot x8)) (cBot x9) (cBot x10)

/-- The value gradient's running sum after a step, -/
def dvC (d : Vec F S1024x128 .f32) : Vec F S1024x128 .f32 :=
  k0_pay27 (k0_pay17 (gBot x8)) (k0_pay22 x5 x6 (qBot x4) (cBot x9)) (k0_pay24 (k0_pay16 (gTop x8)) (k0_pay20 x5 x6 (qTop x4) (cTop x9)) d)
def dvM (d : Vec F S1024x128 .f32) : Vec F S1024x128 .f32 :=
  k0_pay7 (k0_pay33 (gBot x8)) (k0_pay41 (k0_pay34 x5 x6 (qBot x4)) (cBot x9)) (k0_pay43 (k0_pay32 (gTop x8)) (k0_pay37 x5 x6 (qTop x4) (cTop x9)) d)
/-- the key gradient's, -/
def dkC (d : Vec F S1024x256 .f32) : Vec F S1024x256 .f32 :=
  k0_pay4 (k0_pay15 (qBot x4)) (dsC1 x4 x5 x6 x7 x8 x9 x10) (k0_pay25 (k0_pay14 (qTop x4)) (dsC0 x4 x5 x6 x7 x8 x9 x10) d)
def dkM (d : Vec F S1024x256 .f32) : Vec F S1024x256 .f32 :=
  k0_pay8 (k0_pay31 (qBot x4)) (dsM1 x4 x5 x6 x7 x8 x9 x10)
    (k0_pay44 (k0_pay30 (qTop x4)) (k0_pay36 x5 x6 (qTop x4) (cTop x9)) (k0_pay38 x7 (gTop x8) (cTop x10)) d)
/-- and the query gradient's, at the rows of query block `qi`. -/
def dqC (qi : Fin 4) (d : Vec F S4096x256 .f32) : Vec F S4096x256 .f32 :=
  rowsPut (1024 * qi.val + 512)
    (k0_pay5 (k0_pay12 x5 x6) (dsC1 x4 x5 x6 x7 x8 x9 x10) (rowsGet (1024 * qi.val + 512) (bot_le qi)
      (rowsPut (1024 * qi.val) (k0_pay26 (k0_pay12 x5 x6) (dsC0 x4 x5 x6 x7 x8 x9 x10) (rowsGet (1024 * qi.val) (top_le qi) d)) d)))
    (rowsPut (1024 * qi.val) (k0_pay26 (k0_pay12 x5 x6) (dsC0 x4 x5 x6 x7 x8 x9 x10) (rowsGet (1024 * qi.val) (top_le qi) d)) d)
def dqM (qi : Fin 4) (d : Vec F S4096x256 .f32) : Vec F S4096x256 .f32 :=
  rowsPut (1024 * qi.val + 512)
    (k0_pay9 (k0_pay28 x5 x6) (dsM1 x4 x5 x6 x7 x8 x9 x10) (rowsGet (1024 * qi.val + 512) (bot_le qi)
      (rowsPut (1024 * qi.val) (k0_pay6 (k0_pay28 x5 x6) (dsM0 x4 x5 x6 x7 x8 x9 x10) (k0_pay45 (rowsGet (1024 * qi.val) (top_le qi) d))) d)))
    (rowsPut (1024 * qi.val) (k0_pay6 (k0_pay28 x5 x6) (dsM0 x4 x5 x6 x7 x8 x9 x10) (k0_pay45 (rowsGet (1024 * qi.val) (top_le qi) d))) d)
end

end Cert.FlashBwd

end
-- ==== Proof.Data.lean ====
/- What the gradient kernel's launch holds, point by point.

   The region runs the tile step at 80 grid points: 8 heads of 10 steps. Through a head the query gradient of all its
   4096 rows stays in its output buffer, and the key and value gradients of the key block in hand are summed in two
   scratch buffers, to be written out at the step that meets the last query block. `st n` is those three after `n`
   steps, by recursion over the steps' tile functions; `dats` states it to the library's launch theorem. -/
module

public import proofs.«01_k».proof.Proof.Step
public import proofs.«01_k».proof.Proof.Sched
public import Idealize.ShloMosaic.Lib.Claim

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The launch at the tables the host writes. -/
abbrev cfgA : Cfg sig Λ₀ := cfg0 (F := F) (adm 0)

/-- The host's operations before the launch, stretch by stretch. -/
abbrev hostStretches : List (List (HloOp τ sig (Elt F))) :=
  [hostOps0, hostOps0_1, hostOps0_2, hostOps0_3, hostOps0_4, hostOps0_5, hostOps0_6]

/-- What the buffers hold when the launch begins. -/
def V (c : Dev nD) (b : Ref sig .tc) : Buf (Elt F) ((c : Thread nD τ).loc b) :=
  StableHlo.after (hostStretches (F := F)).flatten (fun b => m (c, b)) b

/-- Window `w`'s block at point `t`, read off its array as the launch finds it. -/
def iblk (c : Dev nD) (w : Fin 10) (t : Fin grid0.N) : ((cfgA (F := F).win w).xblock (grid0.coords t)).Idx → Elt F (spec0 w).elt :=
  ((cfgA (F := F).win w).blk t).view.read (Elt F) (V m c (Pipeline.arrRef spec0 w))

/-- The query block of step `s`, as an index below 4. -/
def qF (s : ℕ) : Fin 4 := ⟨qOf s % 4, Nat.mod_lt _ (by decide)⟩

/-- The three running results: query gradient of the head, key gradient and value gradient of the key block. -/
abbrev St (F : FTy → Type) [FloatOps F] : Type := Vec F S4096x256 .f32 × Vec F S1024x256 .f32 × Vec F S1024x128 .f32

/-- One step, on the diagonal (`M`, masked; the key block is new, so its two sums begin at zero) or below it (`C`). -/
def stepSt (c : Dev nD) (t : Fin grid0.N) (s : St F) : St F :=
  if qOf (t.val % 10) = kOf (t.val % 10) then
    (dqM (iblk m c 0 t) (iblk m c 1 t) (iblk m c 2 t) (iblk m c 3 t) (iblk m c 4 t) (iblk m c 5 t) (iblk m c 6 t) (qF (t.val % 10))
        (if t.val % 10 = 0 then k0_pay1 (F := F) else s.1),
      dkM (iblk m c 0 t) (iblk m c 1 t) (iblk m c 2 t) (iblk m c 3 t) (iblk m c 4 t) (iblk m c 5 t) (iblk m c 6 t) (k0_pay2 (F := F)),
      dvM (iblk m c 0 t) (iblk m c 1 t) (iblk m c 2 t) (iblk m c 4 t) (iblk m c 5 t) (k0_pay3 (F := F)))
  else
    (dqC (iblk m c 0 t) (iblk m c 1 t) (iblk m c 2 t) (iblk m c 3 t) (iblk m c 4 t) (iblk m c 5 t) (iblk m c 6 t) (qF (t.val % 10)) s.1,
      dkC (iblk m c 0 t) (iblk m c 1 t) (iblk m c 2 t) (iblk m c 3 t) (iblk m c 4 t) (iblk m c 5 t) (iblk m c 6 t) s.2.1,
      dvC (iblk m c 0 t) (iblk m c 1 t) (iblk m c 2 t) (iblk m c 4 t) (iblk m c 5 t) s.2.2)

/-- The three running results after `n` steps. -/
def st (c : Dev nD) : ℕ → St F
  | 0 => (k0_pay1 (F := F), k0_pay2 (F := F), k0_pay3 (F := F))
  | n + 1 => if h : n < grid0.N then stepSt m c ⟨n, h⟩ (st c n) else st c n

theorem st_succ (c : Dev nD) (t : Fin grid0.N) : st m c (t.val + 1) = stepSt m c t (st m c t.val) := dif_pos t.isLt

/-! ## The invariant -/

/-- The tables, held to read. -/
def Tabs (c : Dev nD) : sProp 𝕄 :=
  iprop(((Memref.whole main_c).view.loc (c : Thread nD τ) ↦{fullShare.right} (tabs (F := F) 0))
    ∗ ((Memref.whole main_c_0).view.loc (c : Thread nD τ) ↦{fullShare.right} (tabs (F := F) 1)))

/-- The two scratch buffers before step `n`. -/
def Scr (c : Dev nD) : ℕ → sProp 𝕄
  | 0 => iprop((∃ d, owns (c : Thread nD τ) (Memref.whole cc0_scratch0) fullShare d) ∗ (∃ d, owns (c : Thread nD τ) (Memref.whole cc0_scratch1) fullShare d))
  | n + 1 => iprop(owns (c : Thread nD τ) (Memref.whole cc0_scratch0) fullShare (st m c (n + 1)).2.1
      ∗ owns (c : Thread nD τ) (Memref.whole cc0_scratch1) fullShare (st m c (n + 1)).2.2)

/-- The invariant before step `n`. -/
def Inv (c : Dev nD) (n : ℕ) : sProp 𝕄 := iprop(Scr m c n ∗ (∃ r, prngReg c r) ∗ Tabs c)

theorem Scr_any (c : Dev nD) (n : ℕ) : Scr m c n ⊢
    iprop((∃ d, owns (c : Thread nD τ) (Memref.whole cc0_scratch0) fullShare d) ∗ (∃ d, owns (c : Thread nD τ) (Memref.whole cc0_scratch1) fullShare d)) := by
  cases n with
  | zero => exact .rfl
  | succ n =>
    unfold Scr
    iintro ⟨H0, H1⟩
    isplitl [H0]; · iexists _; iexact H0
    iexists _; iexact H1

theorem Scr_pos (c : Dev nD) (n : ℕ) (hn : n ≠ 0) : Scr m c n =
    iprop(owns (c : Thread nD τ) (Memref.whole cc0_scratch0) fullShare (st m c n).2.1
      ∗ owns (c : Thread nD τ) (Memref.whole cc0_scratch1) fullShare (st m c n).2.2) := by
  cases n with
  | zero => exact absurd rfl hn
  | succ n => rfl

/-! ## The launch's data -/

/-- What the launch holds on core `c`: the arrays as it finds them; each input's buffer at its block; the outputs'
    at the running results. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay10 (st m c (t.val + 1)).2.1 (st m c (t.val + 1)).2.2
    | ⟨8, _⟩ => k0_pay11 (st m c (t.val + 1)).2.1
    | ⟨9, _⟩ => (st m c (t.val + 1)).1
  Φ t := Inv m c t.val
  q w := if (spec0 w).isOut then fullShare else Pipeline.shareOf spec0 w
  owed _ := 0

theorem A_eq (c : Dev nD) (w : Fin 10) : (dats m 0 c).A w = V m c (Pipeline.arrRef spec0 w) := by
  dsimp only [dats]

theorem after_0 (c : Dev nD) (t : Fin grid0.N) : (dats m 0 c).after 0 t = iblk m c 0 t := by dsimp only [dats]; rfl
theorem after_1 (c : Dev nD) (t : Fin grid0.N) : (dats m 0 c).after 1 t = iblk m c 1 t := by dsimp only [dats]; rfl
theorem after_2 (c : Dev nD) (t : Fin grid0.N) : (dats m 0 c).after 2 t = iblk m c 2 t := by dsimp only [dats]; rfl
theorem after_3 (c : Dev nD) (t : Fin grid0.N) : (dats m 0 c).after 3 t = iblk m c 3 t := by dsimp only [dats]; rfl
theorem after_4 (c : Dev nD) (t : Fin grid0.N) : (dats m 0 c).after 4 t = iblk m c 4 t := by dsimp only [dats]; rfl
theorem after_5 (c : Dev nD) (t : Fin grid0.N) : (dats m 0 c).after 5 t = iblk m c 5 t := by dsimp only [dats]; rfl
theorem after_6 (c : Dev nD) (t : Fin grid0.N) : (dats m 0 c).after 6 t = iblk m c 6 t := by dsimp only [dats]; rfl
theorem after_7 (c : Dev nD) (t : Fin grid0.N) : (dats m 0 c).after 7 t = k0_pay10 (st m c (t.val + 1)).2.1 (st m c (t.val + 1)).2.2 := by dsimp only [dats]; rfl
theorem after_8 (c : Dev nD) (t : Fin grid0.N) : (dats m 0 c).after 8 t = k0_pay11 (st m c (t.val + 1)).2.1 := by dsimp only [dats]; rfl
theorem after_9 (c : Dev nD) (t : Fin grid0.N) : (dats m 0 c).after 9 t = (st m c (t.val + 1)).1 := by dsimp only [dats]; rfl

/-! An input's current buffer holds its block at every point. -/

theorem before_0 (c : Dev nD) (t : Fin grid0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin grid0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin grid0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin grid0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin grid0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin grid0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin grid0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## When the outputs are touched -/

theorem idle_7 : ∀ t : Fin grid0.N, cfgA (F := F).idle 7 (grid0.coords t) = (qOf (t.val % 10) != 3) := of_decide_eq_true (by sl_kernel_rfl)
theorem idle_8 : ∀ t : Fin grid0.N, cfgA (F := F).idle 8 (grid0.coords t) = (qOf (t.val % 10) != 3) := of_decide_eq_true (by sl_kernel_rfl)
theorem idle_9 : ∀ t : Fin grid0.N, cfgA (F := F).idle 9 (grid0.coords t) = false := of_decide_eq_true (by sl_kernel_rfl)
theorem flush_7 : ∀ t : Fin grid0.N, (cfgA (F := F).win 7).flush t = (qOf (t.val % 10) == 3) := of_decide_eq_true (by sl_kernel_rfl)
theorem flush_8 : ∀ t : Fin grid0.N, (cfgA (F := F).win 8).flush t = (qOf (t.val % 10) == 3) := of_decide_eq_true (by sl_kernel_rfl)
theorem flush_9 : ∀ t : Fin grid0.N, (cfgA (F := F).win 9).flush t = (t.val % 10 == 9) := of_decide_eq_true (by sl_kernel_rfl)

/-- The query gradient's buffer holds what the step before left, inside a head. -/
theorem before_9 (c : Dev nD) (t : Fin grid0.N) (ht : t.val % 10 ≠ 0) (d) : (dats m 0 c).before 9 t d = (st m c t.val).1 := by
  have h0 : t.val ≠ 0 := fun h => ht (by rw [h])
  rw [(dats m 0 c).before_of_pos 9 t h0 ((cfgA (F := F).win 9).fetch_out rfl t), flush_9, if_neg (by
    simp only [beq_iff_eq]; omega)]
  unfold Dat.left
  rw [idle_9]
  dsimp only
  unfold Dat.kept
  rw [after_9]
  have e : t.val - 1 + 1 = t.val := by omega
  dsimp only
  rw [e]
  rfl

/-! ## The tests of a step -/

theorem cond1_iff : ∀ t : Fin grid0.N, k0_cond1 (grid0.coords t) = 1#1 ↔ t.val % 10 = 0 := of_decide_eq_true (by sl_kernel_rfl)
theorem eq_iff : ∀ t : Fin grid0.N, Scalar.cmpi .ne (Scalar.extui (Scalar.cmpi .eq (qW (F := F) (grid0.coords t)) (kW (F := F) (grid0.coords t))) : BitVec 32) 0#32 = 1#1
    ↔ qOf (t.val % 10) = kOf (t.val % 10) := of_decide_eq_true (by sl_kernel_rfl)
theorem cond3_iff : ∀ t : Fin grid0.N, k0_cond3 (qW (F := F) (grid0.coords t)) (kW (F := F) (grid0.coords t)) = 1#1
    ↔ qOf (t.val % 10) ≠ kOf (t.val % 10) := of_decide_eq_true (by sl_kernel_rfl)
theorem cond4_iff : ∀ t : Fin grid0.N, k0_cond4 (qW (F := F) (grid0.coords t)) (kW (F := F) (grid0.coords t)) = 1#1
    ↔ qOf (t.val % 10) = kOf (t.val % 10) := of_decide_eq_true (by sl_kernel_rfl)
theorem cond5_iff : ∀ t : Fin grid0.N, k0_cond5 (qW (F := F) (grid0.coords t)) = 1#1 ↔ qOf (t.val % 10) = 3 := of_decide_eq_true (by sl_kernel_rfl)
theorem chk : ∀ t : Fin grid0.N, k0_chk1 (qW (F := F) (grid0.coords t)) (kW (F := F) (grid0.coords t)) := of_decide_eq_true (by sl_kernel_rfl)

theorem qW_qF (t : Fin grid0.N) : qW (F := F) (grid0.coords t) = BitVec.ofNat 32 (qF (t.val % 10)).val := by
  rw [qW_eq]
  have : qOf (t.val % 10) % 4 = qOf (t.val % 10) := Nat.mod_eq_of_lt (by unfold qOf; split_ifs <;> omega)
  exact congrArg (BitVec.ofNat 32) this.symm

end Cert.FlashBwd

end
-- ==== Proof.RunA.lean ====
/- One whole step of the gradient kernel, case A. -/
module

public import proofs.«01_k».proof.Proof.Sched
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The head's running query gradient after it is cleared. -/
theorem zeroed (c : Dev nD) (m : Memref sig .tc .vmem S4096x256 .f32) (f : Buf (Elt F) (m.view.loc (c : Thread nD τ))) :
    ((m.view.loc (c : Thread nD τ)) ↦[m.view.set]{fullShare} m.view.writes (Elt F) f [⟨Rect.unit (s := S4096x256) ![0, 0] S4096x256.size inb_S4096x256_S4096x256_0_0, k0_pay1 (F := F)⟩] : sProp 𝕄)
      ⊢ owns (c : Thread nD τ) m fullShare (k0_pay1 (F := F)) := by
  unfold owns
  iintro H
  iexists (m.view.writes (Elt F) f [⟨Rect.unit (s := S4096x256) ![0, 0] S4096x256.size inb_S4096x256_S4096x256_0_0, k0_pay1 (F := F)⟩])
  isplitr
  · ipureintro
    exact View.read_writes_full (s := S4096x256) m.view f (off := ![0, 0]) inb_S4096x256_S4096x256_0_0 (k0_pay1 (F := F)) []
  iexact H

set_option maxHeartbeats 4800000 in
/-- The head's first step: query block 0 against key block 0. All three accumulators are zeroed, then the masked update. -/
noncomputable def runA (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) :
    Σ' (L13 : List (View.Piece (Elt F) S4096x256 .f32)) (L14 : List (View.Piece (Elt F) S1024x256 .f32)),
      { L15 : List (View.Piece (Elt F) S1024x128 .f32) // ∀ (E : Set ℕ) (K : PUnit → sProp 𝕄),
          iprop(((Memref.whole main_c).view.loc (c : Thread nD τ) ↦{fullShare.right} b0)
            ∗ ((Memref.whole main_c_0).view.loc (c : Thread nD τ) ↦{fullShare.right} b1)
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (∃ d, owns (c : Thread nD τ) arg13 fullShare d)
            ∗ (∃ d, owns (c : Thread nD τ) arg14 fullShare d)
            ∗ (∃ d, owns (c : Thread nD τ) arg15 fullShare d)
            ∗ (iprop(((Memref.whole main_c).view.loc (c : Thread nD τ) ↦{fullShare.right} b0)
              ∗ ((Memref.whole main_c_0).view.loc (c : Thread nD τ) ↦{fullShare.right} b1)
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} arg13.view.writes (Elt F) (harg13.unread (k0_pay1 (F := F))) L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)) -∗ K ⟨⟩))
          ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_flash_bwd_eq_skeleton]; unfold cc0_flash_bwd_skel
    simp only [k0_part3_eq_skeleton, k0_part4_eq_skeleton]
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    unfold smemLoad
    simp only [smemLoadElt_bind]
    named_smem HT0 w2 hw2
    simp only [Prog.bind_ret, smemLoadElt_bind]
    named_smem HT1 w3 hw3
    simp only [Prog.bind_ret]
    (set_option sl_exec.stopBefore "k0_cond3" in
      sl_exec (disch := first | sl_exact hc1 | sl_exact heq | sl_exact hc3 | sl_exact hc4 | sl_exact hc5 | sl_exact hchk))
    ihave H13 := (zeroed c arg13 f13) $$ H13
    unfold owns
    icases H13 with ⟨%f13', %hf13, H13⟩
    obtain rfl := harg13.eq_unread hf13
    sl_exec (disch := first | sl_exact hc1 | sl_exact heq | sl_exact hc3 | sl_exact hc4 | sl_exact hc5 | sl_exact hchk)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexists f14; iexact H14
    iexists f15; iexact H15

end Cert.FlashBwd

end
-- ==== Proof.StepA.lean ====
/- Case A of the gradient kernel's step, its results as the plain functions of `Step`. -/
module

public import proofs.«01_k».proof.Proof.Step
public import proofs.«01_k».proof.Proof.RunA

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
theorem dq_A (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32)
    (qi : Fin 4) (hw : w2 = BitVec.ofNat 32 qi.val) :
    arg13.view.read (Elt F) (arg13.view.writes (Elt F) (harg13.unread (k0_pay1 (F := F))) (runA (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12).1) = dqM x4 x5 x6 x7 x8 x9 x10 qi (k0_pay1 (F := F)) := by
  subst hw
  dsimp only [runA, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.v76, runA.sl.v98, runA.sl.v104, runA.sl.v114, runA.sl.v82, runA.sl.v88, runA.sl.v89, runA.sl.H13_1, runA.sl.H14_2, runA.sl.H15_2]
  rw [read_rows _ _ (off3_1 qi), read_rows _ _ (off3_0 qi), read_nil, readAt_rows _ _ (off3_1 qi) (bot_le qi), read_rows _ _ (off3_0 qi), read_nil]
  simp (disch := decide) only [readAt_rows _ _ (off3_0 qi) (top_le qi), Memref.IsWhole.read_unread, View.readAt_eq_ld, View.ld_unit_lit]
  rfl

set_option maxHeartbeats 1600000 in
theorem dk_A (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32)
    (qi : Fin 4) (hw : w2 = BitVec.ofNat 32 qi.val) :
    ∀ f, arg14.view.read (Elt F) (arg14.view.writes (Elt F) f (runA (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12).2.1) = dkM x4 x5 x6 x7 x8 x9 x10 (k0_pay2 (F := F)) := by
  intro f
  dsimp only [runA, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.v76, runA.sl.v98, runA.sl.v104, runA.sl.v114, runA.sl.v82, runA.sl.v88, runA.sl.v89, runA.sl.H13_1, runA.sl.H14_2, runA.sl.H15_2]
  refine (View.read_writes_full (s := S1024x256) arg14.view f _ _ _).trans ?_
  simp (disch := decide) only [View.readCov_cons_unit_lit', View.readCov_unit_lit', Memref.IsWhole.read_unread, View.readAt_eq_ld, View.ld_unit_lit]
  rfl

set_option maxHeartbeats 1600000 in
theorem dv_A (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32)
    (qi : Fin 4) (hw : w2 = BitVec.ofNat 32 qi.val) :
    ∀ f, arg15.view.read (Elt F) (arg15.view.writes (Elt F) f (runA (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12).2.2.1) = dvM x4 x5 x6 x8 x9 (k0_pay3 (F := F)) := by
  intro f
  dsimp only [runA, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.v76, runA.sl.v98, runA.sl.v104, runA.sl.v114, runA.sl.v82, runA.sl.v88, runA.sl.v89, runA.sl.H13_1, runA.sl.H14_2, runA.sl.H15_2]
  refine (View.read_writes_full (s := S1024x128) arg15.view f _ _ _).trans ?_
  simp (disch := decide) only [View.readCov_cons_unit_lit', View.readCov_unit_lit', Memref.IsWhole.read_unread, View.readAt_eq_ld, View.ld_unit_lit]
  rfl

set_option maxHeartbeats 1600000 in
/-- The head's first step: query block 0 against key block 0. All three accumulators are zeroed, then the masked update. -/
theorem stepA (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32)
    (qi : Fin 4) (hw : w2 = BitVec.ofNat 32 qi.val) (E : Set ℕ) (K : PUnit → sProp 𝕄) :
    iprop(((Memref.whole main_c).view.loc (c : Thread nD τ) ↦{fullShare.right} b0)
      ∗ ((Memref.whole main_c_0).view.loc (c : Thread nD τ) ↦{fullShare.right} b1)
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ (∃ d, owns (c : Thread nD τ) arg13 fullShare d)
      ∗ (∃ d, owns (c : Thread nD τ) arg14 fullShare d)
      ∗ (∃ d, owns (c : Thread nD τ) arg15 fullShare d)
      ∗ (iprop(((Memref.whole main_c).view.loc (c : Thread nD τ) ↦{fullShare.right} b0)
        ∗ ((Memref.whole main_c_0).view.loc (c : Thread nD τ) ↦{fullShare.right} b1)
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare (dqM x4 x5 x6 x7 x8 x9 x10 qi (k0_pay1 (F := F)))
        ∗ owns (c : Thread nD τ) arg14 fullShare (dkM x4 x5 x6 x7 x8 x9 x10 (k0_pay2 (F := F)))
        ∗ owns (c : Thread nD τ) arg15 fullShare (dvM x4 x5 x6 x8 x9 (k0_pay3 (F := F)))) -∗ K ⟨⟩))
      ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K := by
  iintro ⟨HT0, HT1, H4, H5, H6, H7, H8, H9, H10, H11, H12, H13, H14, H15, Hk⟩
  iapply (runA (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12).2.2.2 E K
  isplitl [HT0]; · iexact HT0
  isplitl [HT1]; · iexact HT1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨HT0, HT1, H4, H5, H6, H7, H8, H9, H10, H11, H12, H13, ⟨%f14, H14⟩, ⟨%f15, H15⟩⟩
  iapply Hk
  isplitl [HT0]
  · iexact HT0
  isplitl [HT1]
  · iexact HT1
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · unfold owns; iexists _; isplitr; · ipureintro; exact dq_A c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 qi hw
    iexact H13
  isplitl [H14]
  · unfold owns; iexists _; isplitr; · ipureintro; exact dk_A c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 qi hw f14
    iexact H14
  unfold owns; iexists _; isplitr; · ipureintro; exact dv_A c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 qi hw f15
  iexact H15

end Cert.FlashBwd

end
-- ==== Proof.RunB.lean ====
/- One whole step of the gradient kernel, case B. -/
module

public import proofs.«01_k».proof.Proof.Sched
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4800000 in
/-- A diagonal step that is neither the head's first nor its last: the key accumulators are zeroed, then the masked update. -/
noncomputable def runB (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32) :
    Σ' (L13 : List (View.Piece (Elt F) S4096x256 .f32)) (L14 : List (View.Piece (Elt F) S1024x256 .f32)),
      { L15 : List (View.Piece (Elt F) S1024x128 .f32) // ∀ (E : Set ℕ) (K : PUnit → sProp 𝕄),
          iprop(((Memref.whole main_c).view.loc (c : Thread nD τ) ↦{fullShare.right} b0)
            ∗ ((Memref.whole main_c_0).view.loc (c : Thread nD τ) ↦{fullShare.right} b1)
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ (∃ d, owns (c : Thread nD τ) arg14 fullShare d)
            ∗ (∃ d, owns (c : Thread nD τ) arg15 fullShare d)
            ∗ (iprop(((Memref.whole main_c).view.loc (c : Thread nD τ) ↦{fullShare.right} b0)
              ∗ ((Memref.whole main_c_0).view.loc (c : Thread nD τ) ↦{fullShare.right} b1)
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} arg13.view.writes (Elt F) (harg13.unread x13) L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)) -∗ K ⟨⟩))
          ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_flash_bwd_eq_skeleton]; unfold cc0_flash_bwd_skel
    simp only [k0_part3_eq_skeleton, k0_part4_eq_skeleton]
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    unfold smemLoad
    simp only [smemLoadElt_bind]
    named_smem HT0 w2 hw2
    simp only [Prog.bind_ret, smemLoadElt_bind]
    named_smem HT1 w3 hw3
    simp only [Prog.bind_ret]
    sl_exec (disch := first | sl_exact hc1 | sl_exact heq | sl_exact hc3 | sl_exact hc4 | sl_exact hc5 | sl_exact hchk)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexists f14; iexact H14
    iexists f15; iexact H15

end Cert.FlashBwd

end
-- ==== Proof.StepB.lean ====
/- Case B of the gradient kernel's step, its results as the plain functions of `Step`. -/
module

public import proofs.«01_k».proof.Proof.Step
public import proofs.«01_k».proof.Proof.RunB

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
theorem dq_B (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32)
    (qi : Fin 4) (hw : w2 = BitVec.ofNat 32 qi.val) :
    arg13.view.read (Elt F) (arg13.view.writes (Elt F) (harg13.unread x13) (runB (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13).1) = dqM x4 x5 x6 x7 x8 x9 x10 qi x13 := by
  subst hw
  dsimp only [runB, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.v76, runB.sl.v98, runB.sl.v104, runB.sl.v114, runB.sl.v82, runB.sl.v88, runB.sl.v89, runB.sl.H13_1, runB.sl.H14_1, runB.sl.H15_1, runB.sl.H14_2, runB.sl.H15_2]
  rw [read_rows _ _ (off3_1 qi), read_rows _ _ (off3_0 qi), read_nil, readAt_rows _ _ (off3_1 qi) (bot_le qi), read_rows _ _ (off3_0 qi), read_nil]
  simp (disch := decide) only [readAt_rows _ _ (off3_0 qi) (top_le qi), Memref.IsWhole.read_unread, View.readAt_eq_ld, View.ld_unit_lit]
  rfl

set_option maxHeartbeats 1600000 in
theorem dk_B (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32)
    (qi : Fin 4) (hw : w2 = BitVec.ofNat 32 qi.val) :
    ∀ f, arg14.view.read (Elt F) (arg14.view.writes (Elt F) f (runB (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13).2.1) = dkM x4 x5 x6 x7 x8 x9 x10 (k0_pay2 (F := F)) := by
  intro f
  dsimp only [runB, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.v76, runB.sl.v98, runB.sl.v104, runB.sl.v114, runB.sl.v82, runB.sl.v88, runB.sl.v89, runB.sl.H13_1, runB.sl.H14_1, runB.sl.H15_1, runB.sl.H14_2, runB.sl.H15_2]
  refine (View.read_writes_full (s := S1024x256) arg14.view f _ _ _).trans ?_
  simp (disch := decide) only [View.readCov_cons_unit_lit', View.readCov_unit_lit', Memref.IsWhole.read_unread, View.readAt_eq_ld, View.ld_unit_lit]
  rfl

set_option maxHeartbeats 1600000 in
theorem dv_B (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32)
    (qi : Fin 4) (hw : w2 = BitVec.ofNat 32 qi.val) :
    ∀ f, arg15.view.read (Elt F) (arg15.view.writes (Elt F) f (runB (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13).2.2.1) = dvM x4 x5 x6 x8 x9 (k0_pay3 (F := F)) := by
  intro f
  dsimp only [runB, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.v76, runB.sl.v98, runB.sl.v104, runB.sl.v114, runB.sl.v82, runB.sl.v88, runB.sl.v89, runB.sl.H13_1, runB.sl.H14_1, runB.sl.H15_1, runB.sl.H14_2, runB.sl.H15_2]
  refine (View.read_writes_full (s := S1024x128) arg15.view f _ _ _).trans ?_
  simp (disch := decide) only [View.readCov_cons_unit_lit', View.readCov_unit_lit', Memref.IsWhole.read_unread, View.readAt_eq_ld, View.ld_unit_lit]
  rfl

set_option maxHeartbeats 1600000 in
/-- A diagonal step that is neither the head's first nor its last: the key accumulators are zeroed, then the masked update. -/
theorem stepB (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32)
    (qi : Fin 4) (hw : w2 = BitVec.ofNat 32 qi.val) (E : Set ℕ) (K : PUnit → sProp 𝕄) :
    iprop(((Memref.whole main_c).view.loc (c : Thread nD τ) ↦{fullShare.right} b0)
      ∗ ((Memref.whole main_c_0).view.loc (c : Thread nD τ) ↦{fullShare.right} b1)
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ (∃ d, owns (c : Thread nD τ) arg14 fullShare d)
      ∗ (∃ d, owns (c : Thread nD τ) arg15 fullShare d)
      ∗ (iprop(((Memref.whole main_c).view.loc (c : Thread nD τ) ↦{fullShare.right} b0)
        ∗ ((Memref.whole main_c_0).view.loc (c : Thread nD τ) ↦{fullShare.right} b1)
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare (dqM x4 x5 x6 x7 x8 x9 x10 qi x13)
        ∗ owns (c : Thread nD τ) arg14 fullShare (dkM x4 x5 x6 x7 x8 x9 x10 (k0_pay2 (F := F)))
        ∗ owns (c : Thread nD τ) arg15 fullShare (dvM x4 x5 x6 x8 x9 (k0_pay3 (F := F)))) -∗ K ⟨⟩))
      ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K := by
  iintro ⟨HT0, HT1, H4, H5, H6, H7, H8, H9, H10, H11, H12, H13, H14, H15, Hk⟩
  iapply (runB (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13).2.2.2 E K
  isplitl [HT0]; · iexact HT0
  isplitl [HT1]; · iexact HT1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨HT0, HT1, H4, H5, H6, H7, H8, H9, H10, H11, H12, H13, ⟨%f14, H14⟩, ⟨%f15, H15⟩⟩
  iapply Hk
  isplitl [HT0]
  · iexact HT0
  isplitl [HT1]
  · iexact HT1
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · unfold owns; iexists _; isplitr; · ipureintro; exact dq_B c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 qi hw
    iexact H13
  isplitl [H14]
  · unfold owns; iexists _; isplitr; · ipureintro; exact dk_B c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 qi hw f14
    iexact H14
  unfold owns; iexists _; isplitr; · ipureintro; exact dv_B c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 qi hw f15
  iexact H15

end Cert.FlashBwd

end
-- ==== Proof.RunC.lean ====
/- One whole step of the gradient kernel, case C. -/
module

public import proofs.«01_k».proof.Proof.Sched
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4800000 in
/-- A step below the diagonal that does not close a key block: the unmasked update. -/
noncomputable def runC (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32) (x14 : Vec F S1024x256 .f32) (x15 : Vec F S1024x128 .f32) :
    Σ' (L13 : List (View.Piece (Elt F) S4096x256 .f32)) (L14 : List (View.Piece (Elt F) S1024x256 .f32)),
      { L15 : List (View.Piece (Elt F) S1024x128 .f32) // ∀ (E : Set ℕ) (K : PUnit → sProp 𝕄),
          iprop(((Memref.whole main_c).view.loc (c : Thread nD τ) ↦{fullShare.right} b0)
            ∗ ((Memref.whole main_c_0).view.loc (c : Thread nD τ) ↦{fullShare.right} b1)
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare x14
            ∗ owns (c : Thread nD τ) arg15 fullShare x15
            ∗ (iprop(((Memref.whole main_c).view.loc (c : Thread nD τ) ↦{fullShare.right} b0)
              ∗ ((Memref.whole main_c_0).view.loc (c : Thread nD τ) ↦{fullShare.right} b1)
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} arg13.view.writes (Elt F) (harg13.unread x13) L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)) -∗ K ⟨⟩))
          ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_flash_bwd_eq_skeleton]; unfold cc0_flash_bwd_skel
    simp only [k0_part1_eq_skeleton, k0_part2_eq_skeleton]
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    unfold smemLoad
    simp only [smemLoadElt_bind]
    named_smem HT0 w2 hw2
    simp only [Prog.bind_ret, smemLoadElt_bind]
    named_smem HT1 w3 hw3
    simp only [Prog.bind_ret]
    sl_exec (disch := first | sl_exact hc1 | sl_exact heq | sl_exact hc3 | sl_exact hc4 | sl_exact hc5 | sl_exact hchk)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexists _; iexact H14
    iexists _; iexact H15

end Cert.FlashBwd

end
-- ==== Proof.StepC.lean ====
/- Case C of the gradient kernel's step, its results as the plain functions of `Step`. -/
module

public import proofs.«01_k».proof.Proof.Step
public import proofs.«01_k».proof.Proof.RunC

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
theorem dq_C (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32) (x14 : Vec F S1024x256 .f32) (x15 : Vec F S1024x128 .f32)
    (qi : Fin 4) (hw : w2 = BitVec.ofNat 32 qi.val) :
    arg13.view.read (Elt F) (arg13.view.writes (Elt F) (harg13.unread x13) (runC (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 x14 x15).1) = dqC x4 x5 x6 x7 x8 x9 x10 qi x13 := by
  subst hw
  dsimp only [runC, runC.sl.r, runC.sl.r_1, runC.sl.r_2, runC.sl.r_3, runC.sl.r_4, runC.sl.r_5, runC.sl.r_6, runC.sl.r_7, runC.sl.r_8, runC.sl.r_9, runC.sl.r_10, runC.sl.v90, runC.sl.v100, runC.sl.v84, runC.sl.H13_1, runC.sl.H14_1, runC.sl.H15_1]
  rw [read_rows _ _ (off2_1 qi), read_rows _ _ (off2_0 qi), read_nil, readAt_rows _ _ (off2_1 qi) (bot_le qi), read_rows _ _ (off2_0 qi), read_nil]
  simp (disch := decide) only [readAt_rows _ _ (off2_0 qi) (top_le qi), Memref.IsWhole.read_unread, View.readAt_eq_ld, View.ld_unit_lit]
  rfl

set_option maxHeartbeats 1600000 in
theorem dk_C (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32) (x14 : Vec F S1024x256 .f32) (x15 : Vec F S1024x128 .f32)
    (qi : Fin 4) (hw : w2 = BitVec.ofNat 32 qi.val) :
    ∀ f, arg14.view.read (Elt F) (arg14.view.writes (Elt F) f (runC (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 x14 x15).2.1) = dkC x4 x5 x6 x7 x8 x9 x10 x14 := by
  intro f
  dsimp only [runC, runC.sl.r, runC.sl.r_1, runC.sl.r_2, runC.sl.r_3, runC.sl.r_4, runC.sl.r_5, runC.sl.r_6, runC.sl.r_7, runC.sl.r_8, runC.sl.r_9, runC.sl.r_10, runC.sl.v90, runC.sl.v100, runC.sl.v84, runC.sl.H13_1, runC.sl.H14_1, runC.sl.H15_1]
  refine (View.read_writes_full (s := S1024x256) arg14.view f _ _ _).trans ?_
  simp (disch := decide) only [View.readCov_cons_unit_lit', View.readCov_unit_lit', Memref.IsWhole.read_unread, View.readAt_eq_ld, View.ld_unit_lit]
  rfl

set_option maxHeartbeats 1600000 in
theorem dv_C (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32) (x14 : Vec F S1024x256 .f32) (x15 : Vec F S1024x128 .f32)
    (qi : Fin 4) (hw : w2 = BitVec.ofNat 32 qi.val) :
    ∀ f, arg15.view.read (Elt F) (arg15.view.writes (Elt F) f (runC (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 x14 x15).2.2.1) = dvC x4 x5 x6 x8 x9 x15 := by
  intro f
  dsimp only [runC, runC.sl.r, runC.sl.r_1, runC.sl.r_2, runC.sl.r_3, runC.sl.r_4, runC.sl.r_5, runC.sl.r_6, runC.sl.r_7, runC.sl.r_8, runC.sl.r_9, runC.sl.r_10, runC.sl.v90, runC.sl.v100, runC.sl.v84, runC.sl.H13_1, runC.sl.H14_1, runC.sl.H15_1]
  refine (View.read_writes_full (s := S1024x128) arg15.view f _ _ _).trans ?_
  simp (disch := decide) only [View.readCov_cons_unit_lit', View.readCov_unit_lit', Memref.IsWhole.read_unread, View.readAt_eq_ld, View.ld_unit_lit]
  rfl

set_option maxHeartbeats 1600000 in
/-- A step below the diagonal that does not close a key block: the unmasked update. -/
theorem stepC (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : ¬k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x11 : Vec F S1024x256 .bf16) (x12 : Vec F S1024x128 .f32) (x13 : Vec F S4096x256 .f32) (x14 : Vec F S1024x256 .f32) (x15 : Vec F S1024x128 .f32)
    (qi : Fin 4) (hw : w2 = BitVec.ofNat 32 qi.val) (E : Set ℕ) (K : PUnit → sProp 𝕄) :
    iprop(((Memref.whole main_c).view.loc (c : Thread nD τ) ↦{fullShare.right} b0)
      ∗ ((Memref.whole main_c_0).view.loc (c : Thread nD τ) ↦{fullShare.right} b1)
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ (iprop(((Memref.whole main_c).view.loc (c : Thread nD τ) ↦{fullShare.right} b0)
        ∗ ((Memref.whole main_c_0).view.loc (c : Thread nD τ) ↦{fullShare.right} b1)
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare (dqC x4 x5 x6 x7 x8 x9 x10 qi x13)
        ∗ owns (c : Thread nD τ) arg14 fullShare (dkC x4 x5 x6 x7 x8 x9 x10 x14)
        ∗ owns (c : Thread nD τ) arg15 fullShare (dvC x4 x5 x6 x8 x9 x15)) -∗ K ⟨⟩))
      ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K := by
  iintro ⟨HT0, HT1, H4, H5, H6, H7, H8, H9, H10, H11, H12, H13, H14, H15, Hk⟩
  iapply (runC (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 x14 x15).2.2.2 E K
  isplitl [HT0]; · iexact HT0
  isplitl [HT1]; · iexact HT1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨HT0, HT1, H4, H5, H6, H7, H8, H9, H10, H11, H12, H13, ⟨%f14, H14⟩, ⟨%f15, H15⟩⟩
  iapply Hk
  isplitl [HT0]
  · iexact HT0
  isplitl [HT1]
  · iexact HT1
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · unfold owns; iexists _; isplitr; · ipureintro; exact dq_C c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 x14 x15 qi hw
    iexact H13
  isplitl [H14]
  · unfold owns; iexists _; isplitr; · ipureintro; exact dk_C c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 x14 x15 qi hw f14
    iexact H14
  unfold owns; iexists _; isplitr; · ipureintro; exact dv_C c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x11 x12 x13 x14 x15 qi hw f15
  iexact H15

end Cert.FlashBwd

end
-- ==== Proof.RunD.lean ====
/- One whole step of the gradient kernel, case D. -/
module

public import proofs.«01_k».proof.Proof.Sched
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4800000 in
/-- A step below the diagonal that closes a key block: the unmasked update, then the key results are written out. -/
noncomputable def runD (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32) (x14 : Vec F S1024x256 .f32) (x15 : Vec F S1024x128 .f32) :
    Σ' (L13 : List (View.Piece (Elt F) S4096x256 .f32)) (L14 : List (View.Piece (Elt F) S1024x256 .f32)) (L15 : List (View.Piece (Elt F) S1024x128 .f32)) (L11 : List (View.Piece (Elt F) S1024x256 .bf16)),
      { L12 : List (View.Piece (Elt F) S1024x128 .f32) // ∀ (E : Set ℕ) (K : PUnit → sProp 𝕄),
          iprop(((Memref.whole main_c).view.loc (c : Thread nD τ) ↦{fullShare.right} b0)
            ∗ ((Memref.whole main_c_0).view.loc (c : Thread nD τ) ↦{fullShare.right} b1)
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg11 fullShare d)
            ∗ (∃ d, owns (c : Thread nD τ) arg12 fullShare d)
            ∗ owns (c : Thread nD τ) arg13 fullShare x13
            ∗ owns (c : Thread nD τ) arg14 fullShare x14
            ∗ owns (c : Thread nD τ) arg15 fullShare x15
            ∗ (iprop(((Memref.whole main_c).view.loc (c : Thread nD τ) ↦{fullShare.right} b0)
              ∗ ((Memref.whole main_c_0).view.loc (c : Thread nD τ) ↦{fullShare.right} b1)
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (∃ f, arg11.view.loc (c : Thread nD τ) ↦[arg11.view.set]{fullShare} arg11.view.writes (Elt F) f L11)
              ∗ (∃ f, arg12.view.loc (c : Thread nD τ) ↦[arg12.view.set]{fullShare} arg12.view.writes (Elt F) f L12)
              ∗ (arg13.view.loc (c : Thread nD τ) ↦[arg13.view.set]{fullShare} arg13.view.writes (Elt F) (harg13.unread x13) L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)) -∗ K ⟨⟩))
          ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_flash_bwd_eq_skeleton]; unfold cc0_flash_bwd_skel
    simp only [k0_part1_eq_skeleton, k0_part2_eq_skeleton]
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    obtain rfl := harg14.eq_unread hf14
    obtain rfl := harg15.eq_unread hf15
    unfold smemLoad
    simp only [smemLoadElt_bind]
    named_smem HT0 w2 hw2
    simp only [Prog.bind_ret, smemLoadElt_bind]
    named_smem HT1 w3 hw3
    simp only [Prog.bind_ret]
    sl_exec (disch := first | sl_exact hc1 | sl_exact heq | sl_exact hc3 | sl_exact hc4 | sl_exact hc5 | sl_exact hchk)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexists f12; iexact H12
    isplitl [H13]
    · iexact H13
    isplitl [H14]
    · iexists _; iexact H14
    iexists _; iexact H15

end Cert.FlashBwd

end
-- ==== Proof.StepD.lean ====
/- Case D of the gradient kernel's step, its results as the plain functions of `Step`. -/
module

public import proofs.«01_k».proof.Proof.Step
public import proofs.«01_k».proof.Proof.RunD

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
theorem dq_D (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32) (x14 : Vec F S1024x256 .f32) (x15 : Vec F S1024x128 .f32)
    (qi : Fin 4) (hw : w2 = BitVec.ofNat 32 qi.val) :
    arg13.view.read (Elt F) (arg13.view.writes (Elt F) (harg13.unread x13) (runD (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15).1) = dqC x4 x5 x6 x7 x8 x9 x10 qi x13 := by
  subst hw
  dsimp only [runD, runD.sl.r, runD.sl.r_1, runD.sl.r_2, runD.sl.r_3, runD.sl.r_4, runD.sl.r_5, runD.sl.r_6, runD.sl.r_7, runD.sl.r_8, runD.sl.r_9, runD.sl.r_10, runD.sl.v90, runD.sl.v100, runD.sl.v84, runD.sl.v19, runD.sl.v21, runD.sl.H13_1, runD.sl.H14_1, runD.sl.H15_1, runD.sl.H14_2, runD.sl.H15_2]
  rw [read_rows _ _ (off2_1 qi), read_rows _ _ (off2_0 qi), read_nil, readAt_rows _ _ (off2_1 qi) (bot_le qi), read_rows _ _ (off2_0 qi), read_nil]
  simp (disch := decide) only [readAt_rows _ _ (off2_0 qi) (top_le qi), Memref.IsWhole.read_unread, View.readAt_eq_ld, View.ld_unit_lit]
  rfl

set_option maxHeartbeats 1600000 in
theorem dk_D (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32) (x14 : Vec F S1024x256 .f32) (x15 : Vec F S1024x128 .f32)
    (qi : Fin 4) (hw : w2 = BitVec.ofNat 32 qi.val) :
    ∀ f, arg14.view.read (Elt F) (arg14.view.writes (Elt F) f (runD (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15).2.1) = dkC x4 x5 x6 x7 x8 x9 x10 x14 := by
  intro f
  dsimp only [runD, runD.sl.r, runD.sl.r_1, runD.sl.r_2, runD.sl.r_3, runD.sl.r_4, runD.sl.r_5, runD.sl.r_6, runD.sl.r_7, runD.sl.r_8, runD.sl.r_9, runD.sl.r_10, runD.sl.v90, runD.sl.v100, runD.sl.v84, runD.sl.v19, runD.sl.v21, runD.sl.H13_1, runD.sl.H14_1, runD.sl.H15_1, runD.sl.H14_2, runD.sl.H15_2]
  refine (View.read_writes_full (s := S1024x256) arg14.view f _ _ _).trans ?_
  simp (disch := decide) only [View.readCov_cons_unit_lit', View.readCov_unit_lit', Memref.IsWhole.read_unread, View.readAt_eq_ld, View.ld_unit_lit]
  rfl

set_option maxHeartbeats 1600000 in
theorem dv_D (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32) (x14 : Vec F S1024x256 .f32) (x15 : Vec F S1024x128 .f32)
    (qi : Fin 4) (hw : w2 = BitVec.ofNat 32 qi.val) :
    ∀ f, arg15.view.read (Elt F) (arg15.view.writes (Elt F) f (runD (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15).2.2.1) = dvC x4 x5 x6 x8 x9 x15 := by
  intro f
  dsimp only [runD, runD.sl.r, runD.sl.r_1, runD.sl.r_2, runD.sl.r_3, runD.sl.r_4, runD.sl.r_5, runD.sl.r_6, runD.sl.r_7, runD.sl.r_8, runD.sl.r_9, runD.sl.r_10, runD.sl.v90, runD.sl.v100, runD.sl.v84, runD.sl.v19, runD.sl.v21, runD.sl.H13_1, runD.sl.H14_1, runD.sl.H15_1, runD.sl.H14_2, runD.sl.H15_2]
  refine (View.read_writes_full (s := S1024x128) arg15.view f _ _ _).trans ?_
  simp (disch := decide) only [View.readCov_cons_unit_lit', View.readCov_unit_lit', Memref.IsWhole.read_unread, View.readAt_eq_ld, View.ld_unit_lit]
  rfl

set_option maxHeartbeats 1600000 in
theorem okv_D (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32) (x14 : Vec F S1024x256 .f32) (x15 : Vec F S1024x128 .f32)
    (qi : Fin 4) (hw : w2 = BitVec.ofNat 32 qi.val) :
    ∀ f, arg11.view.read (Elt F) (arg11.view.writes (Elt F) f (runD (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15).2.2.2.1) = k0_pay10 (dkC x4 x5 x6 x7 x8 x9 x10 x14) (dvC x4 x5 x6 x8 x9 x15) := by
  intro f
  dsimp only [runD, runD.sl.r, runD.sl.r_1, runD.sl.r_2, runD.sl.r_3, runD.sl.r_4, runD.sl.r_5, runD.sl.r_6, runD.sl.r_7, runD.sl.r_8, runD.sl.r_9, runD.sl.r_10, runD.sl.v90, runD.sl.v100, runD.sl.v84, runD.sl.v19, runD.sl.v21, runD.sl.H13_1, runD.sl.H14_1, runD.sl.H15_1, runD.sl.H14_2, runD.sl.H15_2]
  refine (View.read_writes_full (s := S1024x256) arg11.view f _ _ _).trans ?_
  simp (disch := decide) only [View.readCov_cons_unit_lit', View.readCov_unit_lit', Memref.IsWhole.read_unread, View.readAt_eq_ld, View.ld_unit_lit]
  rfl

set_option maxHeartbeats 1600000 in
theorem okr_D (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32) (x14 : Vec F S1024x256 .f32) (x15 : Vec F S1024x128 .f32)
    (qi : Fin 4) (hw : w2 = BitVec.ofNat 32 qi.val) :
    ∀ f, arg12.view.read (Elt F) (arg12.view.writes (Elt F) f (runD (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15).2.2.2.2.1) = k0_pay11 (dkC x4 x5 x6 x7 x8 x9 x10 x14) := by
  intro f
  dsimp only [runD, runD.sl.r, runD.sl.r_1, runD.sl.r_2, runD.sl.r_3, runD.sl.r_4, runD.sl.r_5, runD.sl.r_6, runD.sl.r_7, runD.sl.r_8, runD.sl.r_9, runD.sl.r_10, runD.sl.v90, runD.sl.v100, runD.sl.v84, runD.sl.v19, runD.sl.v21, runD.sl.H13_1, runD.sl.H14_1, runD.sl.H15_1, runD.sl.H14_2, runD.sl.H15_2]
  refine (View.read_writes_full (s := S1024x128) arg12.view f _ _ _).trans ?_
  simp (disch := decide) only [View.readCov_cons_unit_lit', View.readCov_unit_lit', Memref.IsWhole.read_unread, View.readAt_eq_ld, View.ld_unit_lit]
  rfl

set_option maxHeartbeats 1600000 in
/-- A step below the diagonal that closes a key block: the unmasked update, then the key results are written out. -/
theorem stepD (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : ¬Scalar.cmpi .ne (Scalar.extui (Scalar.cmpi .eq w2 w3) : BitVec 32) 0#32 = 1#1) (hc3 : k0_cond3 w2 w3 = 1#1) (hc4 : ¬k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32) (x14 : Vec F S1024x256 .f32) (x15 : Vec F S1024x128 .f32)
    (qi : Fin 4) (hw : w2 = BitVec.ofNat 32 qi.val) (E : Set ℕ) (K : PUnit → sProp 𝕄) :
    iprop(((Memref.whole main_c).view.loc (c : Thread nD τ) ↦{fullShare.right} b0)
      ∗ ((Memref.whole main_c_0).view.loc (c : Thread nD τ) ↦{fullShare.right} b1)
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ (∃ d, owns (c : Thread nD τ) arg11 fullShare d)
      ∗ (∃ d, owns (c : Thread nD τ) arg12 fullShare d)
      ∗ owns (c : Thread nD τ) arg13 fullShare x13
      ∗ owns (c : Thread nD τ) arg14 fullShare x14
      ∗ owns (c : Thread nD τ) arg15 fullShare x15
      ∗ (iprop(((Memref.whole main_c).view.loc (c : Thread nD τ) ↦{fullShare.right} b0)
        ∗ ((Memref.whole main_c_0).view.loc (c : Thread nD τ) ↦{fullShare.right} b1)
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare (k0_pay10 (dkC x4 x5 x6 x7 x8 x9 x10 x14) (dvC x4 x5 x6 x8 x9 x15))
        ∗ owns (c : Thread nD τ) arg12 fullShare (k0_pay11 (dkC x4 x5 x6 x7 x8 x9 x10 x14))
        ∗ owns (c : Thread nD τ) arg13 fullShare (dqC x4 x5 x6 x7 x8 x9 x10 qi x13)
        ∗ owns (c : Thread nD τ) arg14 fullShare (dkC x4 x5 x6 x7 x8 x9 x10 x14)
        ∗ owns (c : Thread nD τ) arg15 fullShare (dvC x4 x5 x6 x8 x9 x15)) -∗ K ⟨⟩))
      ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K := by
  iintro ⟨HT0, HT1, H4, H5, H6, H7, H8, H9, H10, H11, H12, H13, H14, H15, Hk⟩
  iapply (runD (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15).2.2.2.2.2 E K
  isplitl [HT0]; · iexact HT0
  isplitl [HT1]; · iexact HT1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨HT0, HT1, H4, H5, H6, H7, H8, H9, H10, ⟨%f11, H11⟩, ⟨%f12, H12⟩, H13, ⟨%f14, H14⟩, ⟨%f15, H15⟩⟩
  iapply Hk
  isplitl [HT0]
  · iexact HT0
  isplitl [HT1]
  · iexact HT1
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · unfold owns; iexists _; isplitr; · ipureintro; exact okv_D c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15 qi hw f11
    iexact H11
  isplitl [H12]
  · unfold owns; iexists _; isplitr; · ipureintro; exact okr_D c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15 qi hw f12
    iexact H12
  isplitl [H13]
  · unfold owns; iexists _; isplitr; · ipureintro; exact dq_D c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15 qi hw
    iexact H13
  isplitl [H14]
  · unfold owns; iexists _; isplitr; · ipureintro; exact dk_D c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15 qi hw f14
    iexact H14
  unfold owns; iexists _; isplitr; · ipureintro; exact dv_D c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 x14 x15 qi hw f15
  iexact H15

end Cert.FlashBwd

end
-- ==== Proof.RunE.lean ====
/- One whole step of the gradient kernel, case E. -/
module

public import proofs.«01_k».proof.Proof.Sched
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4800000 in
/-- The head's last step, on the diagonal: zeroed key accumulators, the masked update, and the key results written out. -/
noncomputable def runE (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32) :
    Σ' (L13 : List (View.Piece (Elt F) S4096x256 .f32)) (L14 : List (View.Piece (Elt F) S1024x256 .f32)) (L15 : List (View.Piece (Elt F) S1024x128 .f32)) (L11 : List (View.Piece (Elt F) S1024x256 .bf16)),
      { L12 : List (View.Piece (Elt F) S1024x128 .f32) // ∀ (E : Set ℕ) (K : PUnit → sProp 𝕄),
          iprop(((Memref.whole main_c).view.loc (c : Thread nD τ) ↦{fullShare.right} b0)
            ∗ ((Memref.whole main_c_0).view.loc (c : Thread nD τ) ↦{fullShare.right} b1)
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg11 fullShare d)
            ∗ (∃ d, owns (c : Thread nD τ) arg12 fullShare d)
            ∗ owns (c : Thread nD τ) arg13 fullShare x13
            ∗ (∃ d, owns (c : Thread nD τ) arg14 fullShare d)
            ∗ (∃ d, owns (c : Thread nD τ) arg15 fullShare d)
            ∗ (iprop(((Memref.whole main_c).view.loc (c : Thread nD τ) ↦{fullShare.right} b0)
              ∗ ((Memref.whole main_c_0).view.loc (c : Thread nD τ) ↦{fullShare.right} b1)
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ (∃ f, arg11.view.loc (c : Thread nD τ) ↦[arg11.view.set]{fullShare} arg11.view.writes (Elt F) f L11)
              ∗ (∃ f, arg12.view.loc (c : Thread nD τ) ↦[arg12.view.set]{fullShare} arg12.view.writes (Elt F) f L12)
              ∗ (arg13.view.loc (c : Thread nD τ) ↦[arg13.view.set]{fullShare} arg13.view.writes (Elt F) (harg13.unread x13) L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)) -∗ K ⟨⟩))
          ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_flash_bwd_eq_skeleton]; unfold cc0_flash_bwd_skel
    simp only [k0_part3_eq_skeleton, k0_part4_eq_skeleton]
    unfold owns
    iintro ⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%d15, %f15, -, H15⟩, Hk⟩
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg13.eq_unread hf13
    unfold smemLoad
    simp only [smemLoadElt_bind]
    named_smem HT0 w2 hw2
    simp only [Prog.bind_ret, smemLoadElt_bind]
    named_smem HT1 w3 hw3
    simp only [Prog.bind_ret]
    sl_exec (disch := first | sl_exact hc1 | sl_exact heq | sl_exact hc3 | sl_exact hc4 | sl_exact hc5 | sl_exact hchk)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexists f12; iexact H12
    isplitl [H13]
    · iexact H13
    isplitl [H14]
    · iexists f14; iexact H14
    iexists f15; iexact H15

end Cert.FlashBwd

end
-- ==== Proof.StepE.lean ====
/- Case E of the gradient kernel's step, its results as the plain functions of `Step`. -/
module

public import proofs.«01_k».proof.Proof.Step
public import proofs.«01_k».proof.Proof.RunE

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
theorem dq_E (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32)
    (qi : Fin 4) (hw : w2 = BitVec.ofNat 32 qi.val) :
    arg13.view.read (Elt F) (arg13.view.writes (Elt F) (harg13.unread x13) (runE (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13).1) = dqM x4 x5 x6 x7 x8 x9 x10 qi x13 := by
  subst hw
  dsimp only [runE, runE.sl.r, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.v76, runE.sl.v98, runE.sl.v104, runE.sl.v114, runE.sl.v19, runE.sl.v21, runE.sl.v82, runE.sl.v88, runE.sl.v89, runE.sl.H13_1, runE.sl.H14_1, runE.sl.H15_1, runE.sl.H14_2, runE.sl.H15_2, runE.sl.H14_3, runE.sl.H15_3]
  rw [read_rows _ _ (off3_1 qi), read_rows _ _ (off3_0 qi), read_nil, readAt_rows _ _ (off3_1 qi) (bot_le qi), read_rows _ _ (off3_0 qi), read_nil]
  simp (disch := decide) only [readAt_rows _ _ (off3_0 qi) (top_le qi), Memref.IsWhole.read_unread, View.readAt_eq_ld, View.ld_unit_lit]
  rfl

set_option maxHeartbeats 1600000 in
theorem dk_E (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32)
    (qi : Fin 4) (hw : w2 = BitVec.ofNat 32 qi.val) :
    ∀ f, arg14.view.read (Elt F) (arg14.view.writes (Elt F) f (runE (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13).2.1) = dkM x4 x5 x6 x7 x8 x9 x10 (k0_pay2 (F := F)) := by
  intro f
  dsimp only [runE, runE.sl.r, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.v76, runE.sl.v98, runE.sl.v104, runE.sl.v114, runE.sl.v19, runE.sl.v21, runE.sl.v82, runE.sl.v88, runE.sl.v89, runE.sl.H13_1, runE.sl.H14_1, runE.sl.H15_1, runE.sl.H14_2, runE.sl.H15_2, runE.sl.H14_3, runE.sl.H15_3]
  refine (View.read_writes_full (s := S1024x256) arg14.view f _ _ _).trans ?_
  simp (disch := decide) only [View.readCov_cons_unit_lit', View.readCov_unit_lit', Memref.IsWhole.read_unread, View.readAt_eq_ld, View.ld_unit_lit]
  rfl

set_option maxHeartbeats 1600000 in
theorem dv_E (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32)
    (qi : Fin 4) (hw : w2 = BitVec.ofNat 32 qi.val) :
    ∀ f, arg15.view.read (Elt F) (arg15.view.writes (Elt F) f (runE (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13).2.2.1) = dvM x4 x5 x6 x8 x9 (k0_pay3 (F := F)) := by
  intro f
  dsimp only [runE, runE.sl.r, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.v76, runE.sl.v98, runE.sl.v104, runE.sl.v114, runE.sl.v19, runE.sl.v21, runE.sl.v82, runE.sl.v88, runE.sl.v89, runE.sl.H13_1, runE.sl.H14_1, runE.sl.H15_1, runE.sl.H14_2, runE.sl.H15_2, runE.sl.H14_3, runE.sl.H15_3]
  refine (View.read_writes_full (s := S1024x128) arg15.view f _ _ _).trans ?_
  simp (disch := decide) only [View.readCov_cons_unit_lit', View.readCov_unit_lit', Memref.IsWhole.read_unread, View.readAt_eq_ld, View.ld_unit_lit]
  rfl

set_option maxHeartbeats 1600000 in
theorem okv_E (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32)
    (qi : Fin 4) (hw : w2 = BitVec.ofNat 32 qi.val) :
    ∀ f, arg11.view.read (Elt F) (arg11.view.writes (Elt F) f (runE (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13).2.2.2.1) = k0_pay10 (dkM x4 x5 x6 x7 x8 x9 x10 (k0_pay2 (F := F))) (dvM x4 x5 x6 x8 x9 (k0_pay3 (F := F))) := by
  intro f
  dsimp only [runE, runE.sl.r, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.v76, runE.sl.v98, runE.sl.v104, runE.sl.v114, runE.sl.v19, runE.sl.v21, runE.sl.v82, runE.sl.v88, runE.sl.v89, runE.sl.H13_1, runE.sl.H14_1, runE.sl.H15_1, runE.sl.H14_2, runE.sl.H15_2, runE.sl.H14_3, runE.sl.H15_3]
  refine (View.read_writes_full (s := S1024x256) arg11.view f _ _ _).trans ?_
  simp (disch := decide) only [View.readCov_cons_unit_lit', View.readCov_unit_lit', Memref.IsWhole.read_unread, View.readAt_eq_ld, View.ld_unit_lit]
  rfl

set_option maxHeartbeats 1600000 in
theorem okr_E (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32)
    (qi : Fin 4) (hw : w2 = BitVec.ofNat 32 qi.val) :
    ∀ f, arg12.view.read (Elt F) (arg12.view.writes (Elt F) f (runE (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13).2.2.2.2.1) = k0_pay11 (dkM x4 x5 x6 x7 x8 x9 x10 (k0_pay2 (F := F))) := by
  intro f
  dsimp only [runE, runE.sl.r, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.v76, runE.sl.v98, runE.sl.v104, runE.sl.v114, runE.sl.v19, runE.sl.v21, runE.sl.v82, runE.sl.v88, runE.sl.v89, runE.sl.H13_1, runE.sl.H14_1, runE.sl.H15_1, runE.sl.H14_2, runE.sl.H15_2, runE.sl.H14_3, runE.sl.H15_3]
  refine (View.read_writes_full (s := S1024x128) arg12.view f _ _ _).trans ?_
  simp (disch := decide) only [View.readCov_cons_unit_lit', View.readCov_unit_lit', Memref.IsWhole.read_unread, View.readAt_eq_ld, View.ld_unit_lit]
  rfl

set_option maxHeartbeats 1600000 in
/-- The head's last step, on the diagonal: zeroed key accumulators, the masked update, and the key results written out. -/
theorem stepE (c : Dev nD) (i : grid0.Coords) (arg4 : Memref sig .tc .vmem S1024x256 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S4096x256 .f32) (harg13 : arg13.IsWhole) (arg14 : Memref sig .tc .vmem S1024x256 .f32) (harg14 : arg14.IsWhole) (arg15 : Memref sig .tc .vmem S1024x128 .f32) (harg15 : arg15.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (hc1 : ¬k0_cond1 i = 1#1) (heq : Scalar.cmpi .ne (Scalar.extui (Scalar.cmpi .eq w2 w3) : BitVec 32) 0#32 = 1#1) (hc3 : ¬k0_cond3 w2 w3 = 1#1) (hc4 : k0_cond4 w2 w3 = 1#1) (hc5 : k0_cond5 w2 = 1#1) (hchk : k0_chk1 w2 w3)
    (x4 : Vec F S1024x256 .bf16) (x5 : Vec F S1024x128 .bf16) (x6 : Vec F S1024x128 .bf16) (x7 : Vec F S1024x128 .bf16) (x8 : Vec F S1024x128 .bf16) (x9 : Vec F S1024x128 .f32) (x10 : Vec F S1024x128 .f32) (x13 : Vec F S4096x256 .f32)
    (qi : Fin 4) (hw : w2 = BitVec.ofNat 32 qi.val) (E : Set ℕ) (K : PUnit → sProp 𝕄) :
    iprop(((Memref.whole main_c).view.loc (c : Thread nD τ) ↦{fullShare.right} b0)
      ∗ ((Memref.whole main_c_0).view.loc (c : Thread nD τ) ↦{fullShare.right} b1)
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ (∃ d, owns (c : Thread nD τ) arg11 fullShare d)
      ∗ (∃ d, owns (c : Thread nD τ) arg12 fullShare d)
      ∗ owns (c : Thread nD τ) arg13 fullShare x13
      ∗ (∃ d, owns (c : Thread nD τ) arg14 fullShare d)
      ∗ (∃ d, owns (c : Thread nD τ) arg15 fullShare d)
      ∗ (iprop(((Memref.whole main_c).view.loc (c : Thread nD τ) ↦{fullShare.right} b0)
        ∗ ((Memref.whole main_c_0).view.loc (c : Thread nD τ) ↦{fullShare.right} b1)
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare (k0_pay10 (dkM x4 x5 x6 x7 x8 x9 x10 (k0_pay2 (F := F))) (dvM x4 x5 x6 x8 x9 (k0_pay3 (F := F))))
        ∗ owns (c : Thread nD τ) arg12 fullShare (k0_pay11 (dkM x4 x5 x6 x7 x8 x9 x10 (k0_pay2 (F := F))))
        ∗ owns (c : Thread nD τ) arg13 fullShare (dqM x4 x5 x6 x7 x8 x9 x10 qi x13)
        ∗ owns (c : Thread nD τ) arg14 fullShare (dkM x4 x5 x6 x7 x8 x9 x10 (k0_pay2 (F := F)))
        ∗ owns (c : Thread nD τ) arg15 fullShare (dvM x4 x5 x6 x8 x9 (k0_pay3 (F := F)))) -∗ K ⟨⟩))
      ⊢ wp frame (wpE (defs₀ (F := F)) Variants.none c none) E (cc0_flash_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15) K := by
  iintro ⟨HT0, HT1, H4, H5, H6, H7, H8, H9, H10, H11, H12, H13, H14, H15, Hk⟩
  iapply (runE (F := F) c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13).2.2.2.2.2 E K
  isplitl [HT0]; · iexact HT0
  isplitl [HT1]; · iexact HT1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨HT0, HT1, H4, H5, H6, H7, H8, H9, H10, ⟨%f11, H11⟩, ⟨%f12, H12⟩, H13, ⟨%f14, H14⟩, ⟨%f15, H15⟩⟩
  iapply Hk
  isplitl [HT0]
  · iexact HT0
  isplitl [HT1]
  · iexact HT1
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · unfold owns; iexists _; isplitr; · ipureintro; exact okv_E c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 qi hw f11
    iexact H11
  isplitl [H12]
  · unfold owns; iexists _; isplitr; · ipureintro; exact okr_E c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 qi hw f12
    iexact H12
  isplitl [H13]
  · unfold owns; iexists _; isplitr; · ipureintro; exact dq_E c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 qi hw
    iexact H13
  isplitl [H14]
  · unfold owns; iexists _; isplitr; · ipureintro; exact dk_E c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 qi hw f14
    iexact H14
  unfold owns; iexists _; isplitr; · ipureintro; exact dv_E c i arg4 harg4 arg5 harg5 arg6 harg6 arg7 harg7 arg8 harg8 arg9 harg9 arg10 harg10 arg11 harg11 arg12 harg12 arg13 harg13 arg14 harg14 arg15 harg15 b0 b1 w2 w3 hw2 hw3 hc1 heq hc3 hc4 hc5 hchk x4 x5 x6 x7 x8 x9 x10 x13 qi hw f15
  iexact H15

end Cert.FlashBwd

end
-- ==== Proof.Body.lean ====
/- The gradient kernel's launch: the body at every grid point, and the run.

   A point is in one of five cases, by its step of the head: the head's first step; another step on the diagonal; a step
   below the diagonal; the same two at the last query block, where the key block's sums are written out. -/
module

public import proofs.«01_k».proof.Proof.Data
public import proofs.«01_k».proof.Proof.StepA
public import proofs.«01_k».proof.Proof.StepB
public import proofs.«01_k».proof.Proof.StepC
public import proofs.«01_k».proof.Proof.StepD
public import proofs.«01_k».proof.Proof.StepE

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current buffer at point `t`. -/
abbrev ms0 (t : Fin grid0.N) : Memref sig .tc .vmem S1024x256 .bf16 := spec0_0.stage (cfgA (F := F).slots t 0)
abbrev hs0 (t : Fin grid0.N) : (ms0 (F := F) t).IsWhole := hstage0_0 ((cfgA (F := F).slots t 0).cast nbuf0_0)
abbrev ms1 (t : Fin grid0.N) : Memref sig .tc .vmem S1024x128 .bf16 := spec0_1.stage (cfgA (F := F).slots t 1)
abbrev hs1 (t : Fin grid0.N) : (ms1 (F := F) t).IsWhole := hstage0_1 ((cfgA (F := F).slots t 1).cast nbuf0_1)
abbrev ms2 (t : Fin grid0.N) : Memref sig .tc .vmem S1024x128 .bf16 := spec0_2.stage (cfgA (F := F).slots t 2)
abbrev hs2 (t : Fin grid0.N) : (ms2 (F := F) t).IsWhole := hstage0_2 ((cfgA (F := F).slots t 2).cast nbuf0_2)
abbrev ms3 (t : Fin grid0.N) : Memref sig .tc .vmem S1024x128 .bf16 := spec0_3.stage (cfgA (F := F).slots t 3)
abbrev hs3 (t : Fin grid0.N) : (ms3 (F := F) t).IsWhole := hstage0_3 ((cfgA (F := F).slots t 3).cast nbuf0_3)
abbrev ms4 (t : Fin grid0.N) : Memref sig .tc .vmem S1024x128 .bf16 := spec0_4.stage (cfgA (F := F).slots t 4)
abbrev hs4 (t : Fin grid0.N) : (ms4 (F := F) t).IsWhole := hstage0_4 ((cfgA (F := F).slots t 4).cast nbuf0_4)
abbrev ms5 (t : Fin grid0.N) : Memref sig .tc .vmem S1024x128 .f32 := spec0_5.stage (cfgA (F := F).slots t 5)
abbrev hs5 (t : Fin grid0.N) : (ms5 (F := F) t).IsWhole := hstage0_5 ((cfgA (F := F).slots t 5).cast nbuf0_5)
abbrev ms6 (t : Fin grid0.N) : Memref sig .tc .vmem S1024x128 .f32 := spec0_6.stage (cfgA (F := F).slots t 6)
abbrev hs6 (t : Fin grid0.N) : (ms6 (F := F) t).IsWhole := hstage0_6 ((cfgA (F := F).slots t 6).cast nbuf0_6)
abbrev ms7 (t : Fin grid0.N) : Memref sig .tc .vmem S1024x256 .bf16 := spec0_7.stage (cfgA (F := F).slots t 7)
abbrev hs7 (t : Fin grid0.N) : (ms7 (F := F) t).IsWhole := hstage0_7 ((cfgA (F := F).slots t 7).cast nbuf0_7)
abbrev ms8 (t : Fin grid0.N) : Memref sig .tc .vmem S1024x128 .f32 := spec0_8.stage (cfgA (F := F).slots t 8)
abbrev hs8 (t : Fin grid0.N) : (ms8 (F := F) t).IsWhole := hstage0_8 ((cfgA (F := F).slots t 8).cast nbuf0_8)
abbrev ms9 (t : Fin grid0.N) : Memref sig .tc .vmem S4096x256 .f32 := spec0_9.stage (cfgA (F := F).slots t 9)
abbrev hs9 (t : Fin grid0.N) : (ms9 (F := F) t).IsWhole := hstage0_9 ((cfgA (F := F).slots t 9).cast nbuf0_9)

/-- The body at point `t`. -/
def bodyAt (t : Fin grid0.N) : Prog (TpuEff nD τ sig (Elt F) Λ₀ .tc) PUnit :=
  cc0_flash_bwd (grid0.coords t) (Memref.whole main_c) (Memref.isWhole_whole _) (Memref.whole main_c_0) (Memref.isWhole_whole _) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (ms9 (F := F) t) (hs9 (F := F) t) (Memref.whole cc0_scratch0) (Memref.isWhole_whole _) (Memref.whole cc0_scratch1) (Memref.isWhole_whole _)

/-- What the body is called with at point `t`, -/
def bodyPre (c : Dev nD) (t : Fin grid0.N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d))
    ∗ (∃ d, owns (c : Thread nD τ) (ms5 (F := F) t) fullShare ((dats m 0 c).before 5 t d))
    ∗ (∃ d, owns (c : Thread nD τ) (ms6 (F := F) t) fullShare ((dats m 0 c).before 6 t d))
    ∗ (∃ d, owns (c : Thread nD τ) (ms7 (F := F) t) fullShare ((dats m 0 c).before 7 t d))
    ∗ (∃ d, owns (c : Thread nD τ) (ms8 (F := F) t) fullShare ((dats m 0 c).before 8 t d))
    ∗ (∃ d, owns (c : Thread nD τ) (ms9 (F := F) t) fullShare ((dats m 0 c).before 9 t d)))

/-- and what it returns. -/
def bodyPost (c : Dev nD) (t : Fin grid0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin grid0.N) : (dats m 0 c).leavesExact 0 t = owns (c : Thread nD τ) (ms0 (F := F) t) fullShare (iblk m c 0 t) := by
  unfold Dat.leavesExact; rw [show cfgA (F := F).idle 0 (grid0.coords t) = false from rfl, after_0]; rfl
theorem leaves_1 (c : Dev nD) (t : Fin grid0.N) : (dats m 0 c).leavesExact 1 t = owns (c : Thread nD τ) (ms1 (F := F) t) fullShare (iblk m c 1 t) := by
  unfold Dat.leavesExact; rw [show cfgA (F := F).idle 1 (grid0.coords t) = false from rfl, after_1]; rfl
theorem leaves_2 (c : Dev nD) (t : Fin grid0.N) : (dats m 0 c).leavesExact 2 t = owns (c : Thread nD τ) (ms2 (F := F) t) fullShare (iblk m c 2 t) := by
  unfold Dat.leavesExact; rw [show cfgA (F := F).idle 2 (grid0.coords t) = false from rfl, after_2]; rfl
theorem leaves_3 (c : Dev nD) (t : Fin grid0.N) : (dats m 0 c).leavesExact 3 t = owns (c : Thread nD τ) (ms3 (F := F) t) fullShare (iblk m c 3 t) := by
  unfold Dat.leavesExact; rw [show cfgA (F := F).idle 3 (grid0.coords t) = false from rfl, after_3]; rfl
theorem leaves_4 (c : Dev nD) (t : Fin grid0.N) : (dats m 0 c).leavesExact 4 t = owns (c : Thread nD τ) (ms4 (F := F) t) fullShare (iblk m c 4 t) := by
  unfold Dat.leavesExact; rw [show cfgA (F := F).idle 4 (grid0.coords t) = false from rfl, after_4]; rfl
theorem leaves_5 (c : Dev nD) (t : Fin grid0.N) : (dats m 0 c).leavesExact 5 t = owns (c : Thread nD τ) (ms5 (F := F) t) fullShare (iblk m c 5 t) := by
  unfold Dat.leavesExact; rw [show cfgA (F := F).idle 5 (grid0.coords t) = false from rfl, after_5]; rfl
theorem leaves_6 (c : Dev nD) (t : Fin grid0.N) : (dats m 0 c).leavesExact 6 t = owns (c : Thread nD τ) (ms6 (F := F) t) fullShare (iblk m c 6 t) := by
  unfold Dat.leavesExact; rw [show cfgA (F := F).idle 6 (grid0.coords t) = false from rfl, after_6]; rfl
theorem leaves_7_live (c : Dev nD) (t : Fin grid0.N) (h : qOf (t.val % 10) = 3) :
    (dats m 0 c).leavesExact 7 t = owns (c : Thread nD τ) (ms7 (F := F) t) fullShare (k0_pay10 (st m c (t.val + 1)).2.1 (st m c (t.val + 1)).2.2) := by
  unfold Dat.leavesExact; rw [idle_7, after_7, h]; rfl
theorem leaves_7_idle (c : Dev nD) (t : Fin grid0.N) (h : qOf (t.val % 10) ≠ 3) :
    (dats m 0 c).leavesExact 7 t = iprop(∃ d, owns (c : Thread nD τ) (ms7 (F := F) t) fullShare ((dats m 0 c).before 7 t d)) := by
  unfold Dat.leavesExact; rw [idle_7, flush_7, bne_iff_ne.mpr h, beq_eq_false_iff_ne.mpr h]; rfl
theorem leaves_8_live (c : Dev nD) (t : Fin grid0.N) (h : qOf (t.val % 10) = 3) :
    (dats m 0 c).leavesExact 8 t = owns (c : Thread nD τ) (ms8 (F := F) t) fullShare (k0_pay11 (st m c (t.val + 1)).2.1) := by
  unfold Dat.leavesExact; rw [idle_8, after_8, h]; rfl
theorem leaves_8_idle (c : Dev nD) (t : Fin grid0.N) (h : qOf (t.val % 10) ≠ 3) :
    (dats m 0 c).leavesExact 8 t = iprop(∃ d, owns (c : Thread nD τ) (ms8 (F := F) t) fullShare ((dats m 0 c).before 8 t d)) := by
  unfold Dat.leavesExact; rw [idle_8, flush_8, bne_iff_ne.mpr h, beq_eq_false_iff_ne.mpr h]; rfl
theorem leaves_9 (c : Dev nD) (t : Fin grid0.N) : (dats m 0 c).leavesExact 9 t = owns (c : Thread nD τ) (ms9 (F := F) t) fullShare (st m c (t.val + 1)).1 := by
  unfold Dat.leavesExact; rw [idle_9, after_9]; rfl

theorem Phi_castSucc (c : Dev nD) (t : Fin grid0.N) : (dats m 0 c).Φ t.castSucc = Inv m c t.val := by
  dsimp only [dats]; rfl
theorem Phi_succ (c : Dev nD) (t : Fin grid0.N) : (dats m 0 c).Φ t.succ =
    iprop(iprop(owns (c : Thread nD τ) (Memref.whole cc0_scratch0) fullShare (st m c (t.val + 1)).2.1
      ∗ owns (c : Thread nD τ) (Memref.whole cc0_scratch1) fullShare (st m c (t.val + 1)).2.2) ∗ (∃ r, prngReg c r) ∗ Tabs c) := by
  dsimp only [dats]; rfl

set_option maxHeartbeats 1600000 in
theorem sound_A (c : Dev nD) (t : Fin grid0.N) (h0 : t.val % 10 = 0) (hd : qOf (t.val % 10) = kOf (t.val % 10)) (hl : qOf (t.val % 10) ≠ 3) :
    bodyPre m c t ⊢ wp frame (wpE (defs₀ (F := F)) Variants.none c none) Set.univ (bodyAt t) (fun _ => bodyPost m c t) := by
  have est : st m c (t.val + 1) = _ := (st_succ m c t).trans (if_pos hd)
  rw [if_pos h0] at est
  unfold bodyPre bodyPost bodyAt
  rw [Phi_castSucc, Phi_succ, leaves_0, leaves_1, leaves_2, leaves_3, leaves_4, leaves_5, leaves_6, leaves_7_idle m c t hl, leaves_8_idle m c t hl, leaves_9, est]
  simp only [before_0, before_1, before_2, before_3, before_4, before_5, before_6]
  rw [show (dats m 0 c).owesAt () t.succ = (dats m 0 c).owesAt () t.castSucc from rfl]
  unfold Inv Tabs
  iintro ⟨⟨HS, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HS := (Scr_any m c t.val) $$ HS
  icases HS with ⟨HS0, HS1⟩
  iapply (stepA (F := F) c (grid0.coords t) _ _ _ _ _ _ _ _ _ _ _ _ _ _ _ _ _ _ _ _ _ _ _ _ (tabs (F := F) 0) (tabs (F := F) 1) (qW (F := F) (grid0.coords t)) (kW (F := F) (grid0.coords t)) rfl rfl
    ((cond1_iff t).mpr h0) ((eq_iff t).mpr hd) (fun h => (cond3_iff t).mp h hd) ((cond4_iff t).mpr hd) (fun h => hl ((cond5_iff t).mp h)) (chk t)
    (iblk m c 0 t) (iblk m c 1 t) (iblk m c 2 t) (iblk m c 3 t) (iblk m c 4 t) (iblk m c 5 t) (iblk m c 6 t) ((dats m 0 c).before 7 t d7) ((dats m 0 c).before 8 t d8) (qF (t.val % 10)) (qW_qF t) Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨HT0, HT1, H0, H1, H2, H3, H4, H5, H6, H7, H8, H9, HS0, HS1⟩
  isplitl [HS0 HS1 Hg HT0 HT1]
  · isplitl [HS0 HS1]
    · isplitl [HS0]; · iexact HS0
      iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexact H9

set_option maxHeartbeats 1600000 in
theorem sound_B (c : Dev nD) (t : Fin grid0.N) (h0 : t.val % 10 ≠ 0) (hd : qOf (t.val % 10) = kOf (t.val % 10)) (hl : qOf (t.val % 10) ≠ 3) :
    bodyPre m c t ⊢ wp frame (wpE (defs₀ (F := F)) Variants.none c none) Set.univ (bodyAt t) (fun _ => bodyPost m c t) := by
  have est : st m c (t.val + 1) = _ := (st_succ m c t).trans (if_pos hd)
  rw [if_neg h0] at est
  unfold bodyPre bodyPost bodyAt
  rw [Phi_castSucc, Phi_succ, leaves_0, leaves_1, leaves_2, leaves_3, leaves_4, leaves_5, leaves_6, leaves_7_idle m c t hl, leaves_8_idle m c t hl, leaves_9, est]
  simp only [before_0, before_1, before_2, before_3, before_4, before_5, before_6, before_9 m c t h0]
  rw [show (dats m 0 c).owesAt () t.succ = (dats m 0 c).owesAt () t.castSucc from rfl]
  unfold Inv Tabs
  iintro ⟨⟨HS, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HS := (Scr_any m c t.val) $$ HS
  icases HS with ⟨HS0, HS1⟩
  iapply (stepB (F := F) c (grid0.coords t) _ _ _ _ _ _ _ _ _ _ _ _ _ _ _ _ _ _ _ _ _ _ _ _ (tabs (F := F) 0) (tabs (F := F) 1) (qW (F := F) (grid0.coords t)) (kW (F := F) (grid0.coords t)) rfl rfl
    (fun h => h0 ((cond1_iff t).mp h)) ((eq_iff t).mpr hd) (fun h => (cond3_iff t).mp h hd) ((cond4_iff t).mpr hd) (fun h => hl ((cond5_iff t).mp h)) (chk t)
    (iblk m c 0 t) (iblk m c 1 t) (iblk m c 2 t) (iblk m c 3 t) (iblk m c 4 t) (iblk m c 5 t) (iblk m c 6 t) ((dats m 0 c).before 7 t d7) ((dats m 0 c).before 8 t d8) (st m c t.val).1 (qF (t.val % 10)) (qW_qF t) Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨HT0, HT1, H0, H1, H2, H3, H4, H5, H6, H7, H8, H9, HS0, HS1⟩
  isplitl [HS0 HS1 Hg HT0 HT1]
  · isplitl [HS0 HS1]
    · isplitl [HS0]; · iexact HS0
      iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexact H9

set_option maxHeartbeats 1600000 in
theorem sound_C (c : Dev nD) (t : Fin grid0.N) (h0 : t.val % 10 ≠ 0) (hd : qOf (t.val % 10) ≠ kOf (t.val % 10)) (hl : qOf (t.val % 10) ≠ 3) :
    bodyPre m c t ⊢ wp frame (wpE (defs₀ (F := F)) Variants.none c none) Set.univ (bodyAt t) (fun _ => bodyPost m c t) := by
  have est : st m c (t.val + 1) = _ := (st_succ m c t).trans (if_neg hd)
  unfold bodyPre bodyPost bodyAt
  rw [Phi_castSucc, Phi_succ, leaves_0, leaves_1, leaves_2, leaves_3, leaves_4, leaves_5, leaves_6, leaves_7_idle m c t hl, leaves_8_idle m c t hl, leaves_9, est]
  simp only [before_0, before_1, before_2, before_3, before_4, before_5, before_6, before_9 m c t h0]
  rw [show (dats m 0 c).owesAt () t.succ = (dats m 0 c).owesAt () t.castSucc from rfl]
  unfold Inv Tabs
  rw [Scr_pos m c t.val (fun h => h0 (by rw [h]))]
  iintro ⟨⟨⟨HS0, HS1⟩, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepC (F := F) c (grid0.coords t) _ _ _ _ _ _ _ _ _ _ _ _ _ _ _ _ _ _ _ _ _ _ _ _ (tabs (F := F) 0) (tabs (F := F) 1) (qW (F := F) (grid0.coords t)) (kW (F := F) (grid0.coords t)) rfl rfl
    (fun h => h0 ((cond1_iff t).mp h)) (fun h => hd ((eq_iff t).mp h)) ((cond3_iff t).mpr hd) (fun h => hd ((cond4_iff t).mp h)) (fun h => hl ((cond5_iff t).mp h)) (chk t)
    (iblk m c 0 t) (iblk m c 1 t) (iblk m c 2 t) (iblk m c 3 t) (iblk m c 4 t) (iblk m c 5 t) (iblk m c 6 t) ((dats m 0 c).before 7 t d7) ((dats m 0 c).before 8 t d8) (st m c t.val).1 (st m c t.val).2.1 (st m c t.val).2.2 (qF (t.val % 10)) (qW_qF t) Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨HT0, HT1, H0, H1, H2, H3, H4, H5, H6, H7, H8, H9, HS0, HS1⟩
  isplitl [HS0 HS1 Hg HT0 HT1]
  · isplitl [HS0 HS1]
    · isplitl [HS0]; · iexact HS0
      iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iexact H9

set_option maxHeartbeats 1600000 in
theorem sound_D (c : Dev nD) (t : Fin grid0.N) (h0 : t.val % 10 ≠ 0) (hd : qOf (t.val % 10) ≠ kOf (t.val % 10)) (hl : qOf (t.val % 10) = 3) :
    bodyPre m c t ⊢ wp frame (wpE (defs₀ (F := F)) Variants.none c none) Set.univ (bodyAt t) (fun _ => bodyPost m c t) := by
  have est : st m c (t.val + 1) = _ := (st_succ m c t).trans (if_neg hd)
  unfold bodyPre bodyPost bodyAt
  rw [Phi_castSucc, Phi_succ, leaves_0, leaves_1, leaves_2, leaves_3, leaves_4, leaves_5, leaves_6, leaves_7_live m c t hl, leaves_8_live m c t hl, leaves_9, est]
  simp only [before_0, before_1, before_2, before_3, before_4, before_5, before_6, before_9 m c t h0]
  rw [show (dats m 0 c).owesAt () t.succ = (dats m 0 c).owesAt () t.castSucc from rfl]
  unfold Inv Tabs
  rw [Scr_pos m c t.val (fun h => h0 (by rw [h]))]
  iintro ⟨⟨⟨HS0, HS1⟩, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (stepD (F := F) c (grid0.coords t) _ _ _ _ _ _ _ _ _ _ _ _ _ _ _ _ _ _ _ _ _ _ _ _ (tabs (F := F) 0) (tabs (F := F) 1) (qW (F := F) (grid0.coords t)) (kW (F := F) (grid0.coords t)) rfl rfl
    (fun h => h0 ((cond1_iff t).mp h)) (fun h => hd ((eq_iff t).mp h)) ((cond3_iff t).mpr hd) (fun h => hd ((cond4_iff t).mp h)) ((cond5_iff t).mpr hl) (chk t)
    (iblk m c 0 t) (iblk m c 1 t) (iblk m c 2 t) (iblk m c 3 t) (iblk m c 4 t) (iblk m c 5 t) (iblk m c 6 t) (st m c t.val).1 (st m c t.val).2.1 (st m c t.val).2.2 (qF (t.val % 10)) (qW_qF t) Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  isplitl [HS1]; · iexact HS1
  iintro ⟨HT0, HT1, H0, H1, H2, H3, H4, H5, H6, H7, H8, H9, HS0, HS1⟩
  isplitl [HS0 HS1 Hg HT0 HT1]
  · isplitl [HS0 HS1]
    · isplitl [HS0]; · iexact HS0
      iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
theorem sound_E (c : Dev nD) (t : Fin grid0.N) (h0 : t.val % 10 ≠ 0) (hd : qOf (t.val % 10) = kOf (t.val % 10)) (hl : qOf (t.val % 10) = 3) :
    bodyPre m c t ⊢ wp frame (wpE (defs₀ (F := F)) Variants.none c none) Set.univ (bodyAt t) (fun _ => bodyPost m c t) := by
  have est : st m c (t.val + 1) = _ := (st_succ m c t).trans (if_pos hd)
  rw [if_neg h0] at est
  unfold bodyPre bodyPost bodyAt
  rw [Phi_castSucc, Phi_succ, leaves_0, leaves_1, leaves_2, leaves_3, leaves_4, leaves_5, leaves_6, leaves_7_live m c t hl, leaves_8_live m c t hl, leaves_9, est]
  simp only [before_0, before_1, before_2, before_3, before_4, before_5, before_6, before_9 m c t h0]
  rw [show (dats m 0 c).owesAt () t.succ = (dats m 0 c).owesAt () t.castSucc from rfl]
  unfold Inv Tabs
  iintro ⟨⟨HS, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HS := (Scr_any m c t.val) $$ HS
  icases HS with ⟨HS0, HS1⟩
  iapply (stepE (F := F) c (grid0.coords t) _ _ _ _ _ _ _ _ _ _ _ _ _ _ _ _ _ _ _ _ _ _ _ _ (tabs (F := F) 0) (tabs (F := F) 1) (qW (F := F) (grid0.coords t)) (kW (F := F) (grid0.coords t)) rfl rfl
    (fun h => h0 ((cond1_iff t).mp h)) ((eq_iff t).mpr hd) (fun h => (cond3_iff t).mp h hd) ((cond4_iff t).mpr hd) ((cond5_iff t).mpr hl) (chk t)
    (iblk m c 0 t) (iblk m c 1 t) (iblk m c 2 t) (iblk m c 3 t) (iblk m c 4 t) (iblk m c 5 t) (iblk m c 6 t) (st m c t.val).1 (qF (t.val % 10)) (qW_qF t) Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  isplitl [HS1]; · iexact HS1
  iintro ⟨HT0, HT1, H0, H1, H2, H3, H4, H5, H6, H7, H8, H9, HS0, HS1⟩
  isplitl [HS0 HS1 Hg HT0 HT1]
  · isplitl [HS0 HS1]
    · isplitl [HS0]; · iexact HS0
      iexact HS1
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin grid0.N) :
    bodyPre m c t ⊢ wp frame (wpE (defs₀ (F := F)) Variants.none c none) Set.univ (bodyAt t) (fun _ => bodyPost m c t) := by
  by_cases h0 : t.val % 10 = 0
  · exact sound_A m c t h0 (by rw [h0]; decide) (by rw [h0]; decide)
  · by_cases hd : qOf (t.val % 10) = kOf (t.val % 10)
    · by_cases hl : qOf (t.val % 10) = 3
      · exact sound_E m c t h0 hd hl
      · exact sound_B m c t h0 hd hl
    · by_cases hl : qOf (t.val % 10) = 3
      · exact sound_D m c t h0 hd hl
      · exact sound_C m c t h0 hd hl

/-- The body table's row at a point is the body there. -/
theorem defs₀_row (t : Fin grid0.N) :
    defs₀ (F := F) .tc (cfgA (F := F)).body ((cfgA (F := F)).bodyArgs t ((cfgA (F := F)).slots t)) = bodyAt t := by
  unfold defs₀; rw [Defs.onTc_tc]; rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.FlashBwd

end
-- ==== Proof.Frame.lean ====
/- The gradient kernel's run: from any memory every weakly fair execution of the program ends, with the four arguments
   as they were, the three results at what the launch's data names, and every semaphore counter at zero. -/
module

public import proofs.«01_k».proof.Proof.Body

@[expose] public section

set_option maxRecDepth 16384

noncomputable section

namespace Cert.FlashBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program up to the launch: the host's operations. -/
theorem hmain : Pipeline.HMainP (Ix := Unit) (Name := ℕ) (U := UR sig nD τ) (Lvl := ℕ) (pcfgs (F := F)) 0 defs₀ Variants.none m (main (F := F)) (V m) :=
  Pipeline.hmainP_prefixes (pcfgs (F := F)) 0 defs₀ Variants.none m main (hostStretches (F := F))
    ⟨hostOps0_sub, hostOps0_1_sub, hostOps0_2_sub, hostOps0_3_sub, hostOps0_4_sub, hostOps0_5_sub, hostOps0_6_sub⟩
    (by refine ⟨?_, ?_, ?_, ?_, ?_, ?_, ?_⟩ <;> simp only [List.Forall] <;> trivial) (fun c => main_chain c)

/-- The tables reach the launch as the host writes them. -/
theorem V_tabs (c : Dev nD) (k : Fin 2) : V m c (pre0.ref k) = tabs (F := F) k := by
  fin_cases k
  · unfold V
    rfl
  · unfold V
    rfl

theorem hin (c : Dev nD) : iprop(Pipeline.ΦA spec0 c ∗ Pipeline.ΦT pre0 (tabs (F := F)) c) ⊢ (dats m 0 c).Φ 0 := by
  rw [show (dats m 0 c).Φ 0 = Inv m c 0 from by dsimp only [dats]; rfl]
  unfold Inv Tabs Scr Pipeline.ΦA
  rw [scopedRest0_eq]
  have hT : (Pipeline.ΦT pre0 (tabs (F := F)) c : sProp 𝕄) = iprop(((Memref.whole main_c).view.loc (c : Thread nD τ) ↦{fullShare.right} (tabs (F := F) 0))
    ∗ ((Memref.whole main_c_0).view.loc (c : Thread nD τ) ↦{fullShare.right} (tabs (F := F) 1))) := by
    unfold Pipeline.ΦT Pipeline.prefHeld
    rw [show (Finset.univ : Finset (Fin 2)) = insert 0 {1} from by decide, bigSep_insert (by decide), bigSep_singleton]; rfl
  rw [hT]
  simp only [owns_whole]
  iintro ⟨⟨⟨H0, H1⟩, Hg⟩, HT0, HT1⟩
  isplitl [H0 H1]
  · isplitl [H0]; · iexact H0
    iexact H1
  isplitl [Hg]; · iexact Hg
  isplitl [HT0]; · iexact HT0
  iexact HT1

theorem hout (c : Dev nD) : (dats m 0 c).Φ (Fin.last (cfgA (F := F)).N) ⊢ Pipeline.ΦA spec0 c := by
  rw [show (dats m 0 c).Φ (Fin.last (cfgA (F := F)).N) = Inv m c grid0.N from by dsimp only [dats]; rfl]
  unfold Inv Pipeline.ΦA
  rw [scopedRest0_eq]
  iintro ⟨HS, Hg, -⟩
  isplitl [HS]
  · ihave HS := (Scr_any m c grid0.N) $$ HS
    simp only [owns_whole]
    iexact HS
  iexact Hg

set_option backward.isDefEq.respectTransparency.types false in
theorem run_main : θ_run defs (onTc (τ := τ) (main (F := F))) (s₀ m ρ)
    (fun r => Pipeline.FramePost (Pipeline.pin (pcfgs (F := F)) adm) (dats m) 0 (V m) r ∧ r.2.sem = fun _ => 0) :=
  Pipeline.θ_run_frameP_track_shared (Q' := _) (pcfgs (F := F)) adm (dats m) (0 : Fin 1) launch₀0 defs₀ Variants.none m ρ main
    (hbody := fun c => (body_obligation m c).loose)
    (hq := fun c w hw => by dsimp only [dats]; exact if_neg (by rw [hw]; decide))
    (howed := fun _ _ => rfl) (V := V m) (hmain := hmain m) (hA := A_eq m) (hpf := V_tabs m) (hin := hin m) (hout := hout m)

theorem V_main_arg0 (c : Dev nD) : V m c main_arg0 = m ((c : Thread nD τ).loc main_arg0) := by unfold V; rfl
theorem V_main_arg1 (c : Dev nD) : V m c main_arg1 = m ((c : Thread nD τ).loc main_arg1) := by unfold V; rfl
theorem V_main_arg2 (c : Dev nD) : V m c main_arg2 = m ((c : Thread nD τ).loc main_arg2) := by unfold V; rfl
theorem V_main_arg3 (c : Dev nD) : V m c main_arg3 = m ((c : Thread nD τ).loc main_arg3) := by unfold V; rfl

/-- After the run the arguments are as they were. -/
theorem post_args {r : PUnit × MemSt nD τ sig (Elt F)} (h : Pipeline.FramePost (Pipeline.pin (pcfgs (F := F)) adm) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (show main_arg0 ∈ Pipeline.restRefs sig spec0 from by decide)).trans (V_main_arg0 m c),
    ((h c).2 main_arg1 (show main_arg1 ∈ Pipeline.restRefs sig spec0 from by decide)).trans (V_main_arg1 m c),
    ((h c).2 main_arg2 (show main_arg2 ∈ Pipeline.restRefs sig spec0 from by decide)).trans (V_main_arg2 m c),
    ((h c).2 main_arg3 (show main_arg3 ∈ Pipeline.restRefs sig spec0 from by decide)).trans (V_main_arg3 m c)⟩

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => post_args m h.1 c, h.2⟩) (run_main m ρ)

end Cert.FlashBwd

end
-- ==== Proof.Same.lean ====
/- The printed kernel and its ideal form are one program: the rewriting changed nothing. So a run of the one, over any
   float values, is a run of the other. The pieces are compared one at a time: the body, the table of bodies, the
   stretches of host operations, and then the whole. -/
module

public import proofs.«01_k».proof.Proof.Frame
public import proofs.«01_k».proof.Proof.Gen.Kernel.Launch

@[expose] public section

namespace Cert.FlashBwd

open Idealize.ShloMosaic Idealize.ShloMosaic.TcCoe Idealize.SL.Sem

variable {F : FTy → Type} [FloatOps F]

theorem same_body : Cert.Kernel.cc0_flash_bwd (F := F) = Cert.KernelIdeal.cc0_flash_bwd (F := F) := rfl

set_option maxHeartbeats 4000000 in
theorem same_bodies : (Cert.Kernel.defs₀ : Defs _ _ _ (Elt F) _) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀)) (funext fun l => ?_)
  match l with
  | 0 =>
    refine funext fun a => ?_
    show Cert.Kernel.cc0_flash_bwd (F := F) _ _ _ _ _ _ _ _ _ _ _ _ _ _ _ _ _ _ _ _ _ _ _ _ _ _ _ _ _ = _
    rfl

set_option maxHeartbeats 1000000 in
theorem defs_eq_pipeline : Cert.Kernel.defs (F := F) = Pipeline.defs (Cert.KernelIdeal.pcfgs (F := F)) Cert.Kernel.defs₀ := rfl

set_option maxHeartbeats 1000000 in
theorem same_defs : Cert.Kernel.defs (F := F) = Cert.KernelIdeal.defs (F := F) :=
  defs_eq_pipeline.trans (congrArg (Pipeline.defs (Cert.KernelIdeal.pcfgs (F := F))) same_bodies)

theorem same_host : (Cert.Kernel.Gen.hostOps0 : List (HloOp _ _ (Elt F))) = Cert.KernelIdeal.Gen.hostOps0 (F := F) := rfl
theorem same_host_1 : (Cert.Kernel.Gen.hostOps0_1 : List (HloOp _ _ (Elt F))) = Cert.KernelIdeal.Gen.hostOps0_1 (F := F) := rfl
theorem same_host_2 : (Cert.Kernel.Gen.hostOps0_2 : List (HloOp _ _ (Elt F))) = Cert.KernelIdeal.Gen.hostOps0_2 (F := F) := rfl
theorem same_host_3 : (Cert.Kernel.Gen.hostOps0_3 : List (HloOp _ _ (Elt F))) = Cert.KernelIdeal.Gen.hostOps0_3 (F := F) := rfl
theorem same_host_4 : (Cert.Kernel.Gen.hostOps0_4 : List (HloOp _ _ (Elt F))) = Cert.KernelIdeal.Gen.hostOps0_4 (F := F) := rfl
theorem same_host_5 : (Cert.Kernel.Gen.hostOps0_5 : List (HloOp _ _ (Elt F))) = Cert.KernelIdeal.Gen.hostOps0_5 (F := F) := rfl
theorem same_host_6 : (Cert.Kernel.Gen.hostOps0_6 : List (HloOp _ _ (Elt F))) = Cert.KernelIdeal.Gen.hostOps0_6 (F := F) := rfl

/-- The programs of the ideal kernel's machine. -/
abbrev IdealProg (F : FTy → Type) [FloatOps F] :=
  Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit

theorem chain_congr (a0 a1 a2 a3 a4 a5 a6 b0 b1 b2 b3 b4 b5 b6 : List (HloOp Cert.KernelIdeal.τ Cert.KernelIdeal.sig (Elt F))) (x : IdealProg F)
    (h0 : a0 = b0) (h1 : a1 = b1) (h2 : a2 = b2) (h3 : a3 = b3) (h4 : a4 = b4) (h5 : a5 = b5) (h6 : a6 = b6) :
    (Pipeline.chain [StableHlo.seq a0, StableHlo.seq a1, StableHlo.seq a2, StableHlo.seq a3, StableHlo.seq a4, StableHlo.seq a5, StableHlo.seq a6, x] : IdealProg F)
      = Pipeline.chain [StableHlo.seq b0, StableHlo.seq b1, StableHlo.seq b2, StableHlo.seq b3, StableHlo.seq b4, StableHlo.seq b5, StableHlo.seq b6, x] := by
  subst_vars; rfl

set_option maxHeartbeats 1000000 in
theorem same_main (c : Dev Cert.KernelIdeal.nD) : Cert.Kernel.main (F := F) c = Cert.KernelIdeal.main (F := F) c := by
  refine (Cert.Kernel.Gen.main_chain c).trans (Eq.trans ?_ (Cert.KernelIdeal.Gen.main_chain c).symm)
  exact chain_congr _ _ _ _ _ _ _ _ _ _ _ _ _ _ _ same_host same_host_1 same_host_2 same_host_3 same_host_4 same_host_5 same_host_6

/-- A statement about the ideal kernel's runs holds of any program equal to it. -/
theorem θ_run_of_same (D : Defs Cert.KernelIdeal.nD Cert.KernelIdeal.τ Cert.KernelIdeal.sig (Elt F) (Pipeline.Sig Cert.KernelIdeal.Λ₀ (Fin 1) fun p => (Cert.KernelIdeal.pcfgs (F := F) p).Adm))
    (M : Dev Cert.KernelIdeal.nD → IdealProg F) (hD : D = Cert.KernelIdeal.defs (F := F)) (hM : ∀ c, M c = Cert.KernelIdeal.main (F := F) c) (s Q)
    (h : θ_run (Cert.KernelIdeal.defs (F := F)) (onTc (τ := Cert.KernelIdeal.τ) (Cert.KernelIdeal.main (F := F))) s Q) :
    θ_run D (onTc (τ := Cert.KernelIdeal.τ) M) s Q := by
  subst hD
  rw [show M = Cert.KernelIdeal.main (F := F) from funext hM]
  exact h

set_option maxHeartbeats 1000000 in
/-- The printed kernel ends with its arguments as they were and every counter at zero, as its ideal form does. -/
theorem frame_printed (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  θ_run_of_same (Cert.Kernel.defs (F := F)) (Cert.Kernel.main (F := F)) same_defs same_main _ _ (frame (F := F) m ρ)

end Cert.FlashBwd
-- ==== Proof.Spec.lean ====
/- The mathematics of one layer's attention gradient, over the reals: causal scores, their softmax, and the gradients of
   the queries, keys and values, with the few facts both programs' readings end in. -/
module

public import Idealize.ShloMosaic.PureOps.Ideal
public import Idealize.ShloMosaic.Lib.Pointwise
public import Idealize.ShloMosaic.Lib.WordCmp

@[expose] public section

noncomputable section

namespace Cert.FlashBwd

open Idealize.ShloMosaic

theorem select_sge {α : Type} (a b : α) (r k : ℕ) (hr : r < 2 ^ 31) (hk : k < 2 ^ 31) :
    Scalar.select (IntOp.cmpi .sge (BitVec.ofNat 32 r) (BitVec.ofNat 32 k)) a b = if k ≤ r then a else b := by
  rw [WordCmp.cmpi_sge_ofNat (w := 32) hr hk]
  by_cases h : k ≤ r
  · rw [if_pos h]; simp [Scalar.select, h]
  · rw [if_neg h]; simp [Scalar.select, h]

theorem addi_ofNat (a b : ℕ) : IntOp.addi (BitVec.ofNat 32 a) (BitVec.ofNat 32 b) = BitVec.ofNat 32 (a + b) := by
  unfold IntOp.addi; exact (BitVec.ofNat_add ..).symm

theorem negInf : Ideal.ofBits FTy.f32 4286578688#32 = (⊥ : EReal) := by
  simp [Ideal.ofBits, Ideal.ieee]

theorem select_sle {α : Type} (a b : α) (k r : ℕ) (hk : k < 2 ^ 31) (hr : r < 2 ^ 31) :
    Scalar.select (IntOp.cmpi .sle (BitVec.ofNat 32 k) (BitVec.ofNat 32 r)) a b = if k ≤ r then a else b := select_sge a b r k hr hk

theorem sitofp_zero : (FloatOps.sitofp FTy.f32 0#32 : Ideal .f32) = (0 : EReal) := by
  simp [FloatOps.sitofp]

/-- The maximum over the last axis of a box, as a fold. -/
theorem reduce_max_last {n0 n1 n2 : ℕ} (v : FVec Ideal ⟨3, ![n0, n1, n2]⟩ .f32) (c : FVec Ideal ⟨0, ![]⟩ .f32)
    (h : (⟨3, ![n0, n1, n2]⟩ : Shape).ReducesTo [2] ⟨2, ![n0, n1]⟩) (hu : 0 < (⟨0, ![]⟩ : Shape).numel) (a : Fin n0) (b : Fin n1) :
    Host.reduce FloatOps.maximumf v c h hu (ix2 a b) = Finset.univ.fold max (c (Shape.Idx.first hu)) fun k => v (ix3 a b k) := by
  pointwise

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_div (x y : ℝ) (hy : y ≠ 0) : Ideal.div (x : EReal) (y : EReal) = ((x / y : ℝ) : EReal) := by
  rw [Ideal.div_coe hy, ← EReal.coe_mul, mul_one_div]

/-- The maximum of finitely many entries, none `+∞` and one finite, is a real number. -/
theorem fold_real {n : ℕ} (f : Fin n → EReal) (k : Fin n) (hk : f k ≠ ⊥) (ht : ∀ j, f j ≠ ⊤) :
    Finset.univ.fold max ⊥ f = (((Finset.univ.fold max ⊥ f).toReal : ℝ) : EReal) := by
  refine (EReal.coe_toReal ?_ ?_).symm
  · refine ne_of_lt ((Finset.fold_max_lt _).2 ⟨bot_lt_top, fun j _ => lt_top_iff_ne_top.2 (ht j)⟩)
  · refine ne_of_gt (lt_of_lt_of_le (bot_lt_iff_ne_bot.2 hk) ((Finset.le_fold_max _).2 (Or.inr ⟨k, Finset.mem_univ k, le_refl _⟩)))

section
variable (Q : Fin 4096 → Fin 8 → Fin 192 → ℝ) (K : Fin 4096 → Fin 8 → Fin 256 → ℝ) (R : Fin 4096 → Fin 64 → ℝ)
  (C : Fin 4096 → Fin 8 → Fin 128 → ℝ)

/-- The score of query `q` and key `k`: the part without position and the rotated part. -/
def sR (h : Fin 8) (q k : Fin 4096) : ℝ :=
  ∑ x : Fin 128, Q q h ⟨x.val, by omega⟩ * K k h ⟨x.val, by omega⟩ + ∑ x : Fin 64, Q q h ⟨128 + x.val, by omega⟩ * R k x
/-- Under the causal mask. -/
def msk (h : Fin 8) (q k : Fin 4096) : EReal := if k.val ≤ q.val then (sR Q K R h q k : EReal) else ⊥
/-- The row's maximum, -/
def MR (h : Fin 8) (q : Fin 4096) : ℝ := (Finset.univ.fold max ⊥ fun k => msk Q K R h q k).toReal
/-- the exponentials, -/
def eR (h : Fin 8) (q k : Fin 4096) : ℝ := if k.val ≤ q.val then Real.exp (sR Q K R h q k - MR Q K R h q) else 0
/-- their sum, -/
def LR (h : Fin 8) (q : Fin 4096) : ℝ := ∑ k, eR Q K R h q k
/-- and the softmax weight. -/
def wR (h : Fin 8) (q k : Fin 4096) : ℝ := eR Q K R h q k / LR Q K R h q
/-- The gradient of the weight, -/
def dpR (h : Fin 8) (q k : Fin 4096) : ℝ := ∑ d : Fin 128, C q h d * K k h ⟨128 + d.val, by omega⟩
/-- its average over the row, -/
def avgR (h : Fin 8) (q : Fin 4096) : ℝ := ∑ k, dpR K C h q k * wR Q K R h q k
/-- and the gradient of the score. -/
def dsR (h : Fin 8) (q k : Fin 4096) : ℝ := wR Q K R h q k * (dpR K C h q k - avgR Q K R C h q)

/-- A head's query padded to 256 lanes, and its key. -/
def Q2 (q : Fin 4096) (h : Fin 8) (d : Fin 256) : ℝ := if hd : d.val < 192 then Q q h ⟨d.val, hd⟩ else 0
def R2 (k : Fin 4096) (l : Fin 128) : ℝ := if hl : l.val < 64 then R k ⟨l.val, hl⟩ else 0
def K2 (k : Fin 4096) (h : Fin 8) (d : Fin 256) : ℝ := if d.val < 128 then K k h d else R2 R k ⟨d.val - 128, by omega⟩

/-- The gradients: of the padded keys, -/
def dkR (h : Fin 8) (k : Fin 4096) (d : Fin 256) : ℝ := ∑ q, dsR Q K R C h q k * Q2 Q q h d
/-- of the values, -/
def dvR (h : Fin 8) (k : Fin 4096) (d : Fin 128) : ℝ := ∑ q, wR Q K R h q k * C q h d
/-- and of the padded queries. -/
def dqR (h : Fin 8) (q : Fin 4096) (d : Fin 256) : ℝ := ∑ k, dsR Q K R C h q k * K2 K R k h d

theorem fold_msk (h : Fin 8) (q : Fin 4096) : (Finset.univ.fold max ⊥ fun k => msk Q K R h q k) = (MR Q K R h q : EReal) :=
  fold_real _ q (by unfold msk; rw [if_pos (le_refl _)]; exact EReal.coe_ne_bot _)
    (fun j => by unfold msk; split; exacts [EReal.coe_ne_top _, bot_ne_top])

theorem exp_msk (h : Fin 8) (q k : Fin 4096) : Ideal.exp (msk Q K R h q k - (MR Q K R h q : EReal)) = (eR Q K R h q k : EReal) := by
  unfold msk eR
  by_cases hk : k.val ≤ q.val
  · rw [if_pos hk, if_pos hk, ← EReal.coe_sub, Ideal.exp_coe]
  · rw [if_neg hk, if_neg hk, EReal.bot_sub, Ideal.exp_bot]; rfl

theorem eR_nonneg (h : Fin 8) (q k : Fin 4096) : 0 ≤ eR Q K R h q k := by
  unfold eR; split; exacts [(Real.exp_pos _).le, le_refl _]

theorem LR_pos (h : Fin 8) (q : Fin 4096) : 0 < LR Q K R h q :=
  Finset.sum_pos' (fun k _ => eR_nonneg Q K R h q k) ⟨q, Finset.mem_univ q, by unfold eR; rw [if_pos (le_refl _)]; exact Real.exp_pos _⟩

/-- The exponential against the saved row log-sum is the softmax weight. -/
theorem exp_lse (h : Fin 8) (q k : Fin 4096) :
    Ideal.exp (msk Q K R h q k - ((MR Q K R h q + Real.log (LR Q K R h q) : ℝ) : EReal)) = (wR Q K R h q k : EReal) := by
  unfold msk wR eR
  by_cases hk : k.val ≤ q.val
  · rw [if_pos hk, if_pos hk, ← EReal.coe_sub, Ideal.exp_coe, ← sub_sub, Real.exp_sub, Real.exp_log (LR_pos Q K R h q)]
  · rw [if_neg hk, if_neg hk, EReal.bot_sub, Ideal.exp_bot, zero_div]; rfl

theorem wR_upper (h : Fin 8) (q k : Fin 4096) (hk : q.val < k.val) : wR Q K R h q k = 0 := by
  unfold wR eR; rw [if_neg (by omega), zero_div]
theorem dsR_upper (h : Fin 8) (q k : Fin 4096) (hk : q.val < k.val) : dsR Q K R C h q k = 0 := by
  unfold dsR; rw [wR_upper Q K R h q k hk, zero_mul]
end

end Cert.FlashBwd

end
-- ==== Proof.Host.lean ====
/- What the host prepares for the gradient kernel: the padded queries and rotated keys, the rows' log-sums and the products
   of output and cotangent, each read at an entry and met with the mathematics. -/
module

public import proofs.«01_k».proof.Proof.Spec
public import proofs.«01_k».proof.Proof.Data
public import Idealize.ShloMosaic.Lib.Pointwise
public import Idealize.ShloMosaic.Lib.StableHlo.Run

@[expose] public section

set_option maxRecDepth 16384

noncomputable section

namespace Cert.FlashBwd

open Idealize.ShloMosaic Idealize.ShloMosaic.TcCoe Cert.KernelIdeal Cert.KernelIdeal.Gen

def hQ (a0 : FVec Ideal S4096x1536 .f32) : FVec Ideal S4096x8x192 .f32 :=
  shapeCast _ (mulf a0 (broadcastInDim S4096x1536 ![] bcast_S_S4096x1536 (constant S_ .f32 0x3D93CD3A#32))) shapeCasts_S4096x1536_S4096x8x192
def hKV (a1 : FVec Ideal S4096x2048 .f32) : FVec Ideal S4096x8x256 .f32 := shapeCast _ a1 shapeCasts_S4096x2048_S4096x8x256
def hG (a3 : FVec Ideal S4096x1024 .f32) : FVec Ideal S4096x8x128 .f32 := shapeCast _ a3 shapeCasts_S4096x1024_S4096x8x128
def hV (kv : FVec Ideal S4096x8x256 .f32) : FVec Ideal S4096x8x128 .f32 := extractStridedSlice S4096x8x128 ![0, 0, 128] kv slices_S4096x8x256_S4096x8x128_0_0_128
/-- The masked scores, -/
def hS (q : FVec Ideal S4096x8x192 .f32) (kv : FVec Ideal S4096x8x256 .f32) (a2 : FVec Ideal S4096x64 .f32) : FVec Ideal S8x4096x4096 .f32 :=
  select (broadcastInDim S8x4096x4096 ![1, 2] bcast_S4096x4096_S8x4096x4096_1_2 (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
    (addf (Host.dotGeneral dot_S4096x8x128_S4096x8x128_S8x4096x4096_2_2_0_0_1_1 none
        (extractStridedSlice S4096x8x128 ![0, 0, 0] q slices_S4096x8x192_S4096x8x128_0_0_0) (extractStridedSlice S4096x8x128 ![0, 0, 0] kv slices_S4096x8x256_S4096x8x128_0_0_0))
      (transpose S8x4096x4096 [2, 1, 0] (Host.dotGeneral dot_S4096x64_S4096x8x64_S4096x4096x8_1_2_0_01_n_n none a2
        (extractStridedSlice S4096x8x64 ![0, 0, 128] q slices_S4096x8x192_S4096x8x64_0_0_128)) transposes_S4096x4096x8_S8x4096x4096_2_1_0))
    (broadcastInDim S8x4096x4096 ![] bcast_S_S8x4096x4096 (id (constant S_ .f32 0xFF800000#32)))
/-- each row's maximum, -/
def hMx (s : FVec Ideal S8x4096x4096 .f32) : FVec Ideal S8x4096 .f32 :=
  Host.reduce FloatOps.maximumf s (constant S_ .f32 0xFF800000#32) reducesTo_S8x4096x4096_S8x4096_d2 h_S_
def hMb (mx : FVec Ideal S8x4096 .f32) : FVec Ideal S8x4096x1 .f32 := broadcastInDim S8x4096x1 ![0, 1] bcast_S8x4096_S8x4096x1_0_1 mx
/-- the exponentials, -/
def hE (s : FVec Ideal S8x4096x4096 .f32) (mb : FVec Ideal S8x4096x1 .f32) : FVec Ideal S8x4096x4096 .f32 :=
  Host.exp (subf s (broadcastInDim S8x4096x4096 ![0, 1, 2] bcast_S8x4096x1_S8x4096x4096_0_1_2 mb))
/-- their row sums, -/
def hL (e : FVec Ideal S8x4096x4096 .f32) : FVec Ideal S8x4096x1 .f32 :=
  broadcastInDim S8x4096x1 ![0, 1] bcast_S8x4096_S8x4096x1_0_1 (Host.reduceAdd e (constant S_ .f32 0x00000000#32) reducesTo_S8x4096x4096_S8x4096_d2 h_S_)
/-- the weights, -/
def hW (e : FVec Ideal S8x4096x4096 .f32) (l : FVec Ideal S8x4096x1 .f32) : FVec Ideal S8x4096x4096 .f32 :=
  Host.divf e (broadcastInDim S8x4096x4096 ![0, 1, 2] bcast_S8x4096x1_S8x4096x4096_0_1_2 l)
/-- the rows' log-sums, as the kernel takes them, -/
def hLse (mb l : FVec Ideal S8x4096x1 .f32) : FVec Ideal S4096x1024 .f32 :=
  shapeCast _ (broadcastInDim S4096x8x128 ![0, 1, 2] bcast_S4096x8x1_S4096x8x128_0_1_2
    (transpose S4096x8x1 [1, 0, 2] (addf mb (Host.log l)) transposes_S8x4096x1_S4096x8x1_1_0_2)) shapeCasts_S4096x8x128_S4096x1024
/-- and the products of output and cotangent. -/
def hDelta (g : FVec Ideal S4096x8x128 .f32) (kv : FVec Ideal S4096x8x256 .f32) (w : FVec Ideal S8x4096x4096 .f32) : FVec Ideal S4096x1024 .f32 :=
  shapeCast _ (broadcastInDim S4096x8x128 ![0, 1, 2] bcast_S4096x8x1_S4096x8x128_0_1_2 (broadcastInDim S4096x8x1 ![0, 1] bcast_S4096x8_S4096x8x1_0_1
    (Host.reduceAdd (mulf g (transpose S4096x8x128 [2, 0, 1] (Host.dotGeneral dot_S4096x8x128_S8x4096x4096_S8x128x4096_0_2_2_1_1_0 none (hV kv) w) transposes_S8x128x4096_S4096x8x128_2_0_1))
      (constant S_ .f32 0x00000000#32) reducesTo_S4096x8x128_S4096x8_d2 h_S_))) shapeCasts_S4096x8x128_S4096x1024
def hQ2 (q : FVec Ideal S4096x8x192 .f32) : FVec Ideal S4096x2048 .bf16 :=
  truncf .bf16 (shapeCast _ (pad S4096x8x256 ![0, 0, 0] ![0, 0, 64] ![0, 0, 0] q (sitofp .f32 (constantI S_ 32 0#32)) pads_S4096x8x192_S4096x8x256_000_000_0640 h_S_) shapeCasts_S4096x8x256_S4096x2048) bitsLt_bf16_f32
def hKr2 (a2 : FVec Ideal S4096x64 .f32) : FVec Ideal S4096x128 .bf16 :=
  truncf .bf16 (pad S4096x128 ![0, 0] ![0, 64] ![0, 0] a2 (sitofp .f32 (constantI S_ 32 0#32)) pads_S4096x64_S4096x128_000_0640 h_S_) bitsLt_bf16_f32

section
variable (m : (ℓ : Loc nD τ sig) → Buf (Elt Ideal) ℓ) (c : Dev nD)
abbrev A0 : FVec Ideal S4096x1536 .f32 := m ((c : Thread nD τ).loc main_arg0)
abbrev A1 : FVec Ideal S4096x2048 .f32 := m ((c : Thread nD τ).loc main_arg1)
abbrev A2 : FVec Ideal S4096x64 .f32 := m ((c : Thread nD τ).loc main_arg2)
abbrev A3 : FVec Ideal S4096x1024 .f32 := m ((c : Thread nD τ).loc main_arg3)
def cS : FVec Ideal S8x4096x4096 .f32 := hS (hQ (A0 m c)) (hKV (A1 m c)) (A2 m c)
def cMb : FVec Ideal S8x4096x1 .f32 := hMb (hMx (cS m c))
def cE : FVec Ideal S8x4096x4096 .f32 := hE (cS m c) (cMb m c)

theorem V_q2 : V m c main_v44 = hQ2 (hQ (A0 m c)) := by unfold V; rfl
theorem V_kr2 : V m c main_v46 = hKr2 (A2 m c) := by unfold V; rfl
theorem V_kv : V m c main_v47 = (truncf .bf16 (A1 m c) bitsLt_bf16_f32 : FVec Ideal S4096x2048 .bf16) := by unfold V; rfl
theorem V_do : V m c main_v48 = (truncf .bf16 (A3 m c) bitsLt_bf16_f32 : FVec Ideal S4096x1024 .bf16) := by unfold V; rfl
theorem V_lse : V m c main_v36 = hLse (cMb m c) (hL (cE m c)) := by
  unfold V
  simp only [List.flatten_cons, List.flatten_nil, List.cons_append, List.nil_append, StableHlo.TRef.binary, StableHlo.TRef.nullary, StableHlo.TRef.ternary, StableHlo.TRef.unary,
    StableHlo.TRef.toBuf, StableHlo.TRef.ofBuf, cast_eq]
  after_results_simp
  rfl
theorem V_delta : V m c main_v41 = hDelta (hG (A3 m c)) (hKV (A1 m c)) (hW (cE m c) (hL (cE m c))) := by
  unfold V
  simp only [List.flatten_cons, List.flatten_nil, List.cons_append, List.nil_append, StableHlo.TRef.binary, StableHlo.TRef.nullary, StableHlo.TRef.ternary, StableHlo.TRef.unary,
    StableHlo.TRef.toBuf, StableHlo.TRef.ofBuf, cast_eq]
  after_results_simp
  rfl
end

section
variable (a0 : FVec Ideal S4096x1536 .f32) (a1 : FVec Ideal S4096x2048 .f32) (a2 : FVec Ideal S4096x64 .f32) (a3 : FVec Ideal S4096x1024 .f32)
  (q : FVec Ideal S4096x8x192 .f32) (kv : FVec Ideal S4096x8x256 .f32) (g : FVec Ideal S4096x8x128 .f32)
  (s e w : FVec Ideal S8x4096x4096 .f32) (l mb : FVec Ideal S8x4096x1 .f32) (mx : FVec Ideal S8x4096 .f32)
  (Q : Fin 4096 → Fin 8 → Fin 192 → ℝ) (K : Fin 4096 → Fin 8 → Fin 256 → ℝ) (R : Fin 4096 → Fin 64 → ℝ)
  (C : Fin 4096 → Fin 8 → Fin 128 → ℝ)

theorem hQ_at (i : Fin 4096) (h : Fin 8) (x : Fin 192) : hQ a0 (ix3 i h x) = a0 (ix2 i (⟨h.val * 192 + x.val, by omega⟩ : Fin 1536)) * Ideal.ofBits .f32 0x3D93CD3A#32 := by
  pointwise [hQ]
theorem hKV_at (i : Fin 4096) (h : Fin 8) (x : Fin 256) : hKV a1 (ix3 i h x) = a1 (ix2 i (⟨h.val * 256 + x.val, by omega⟩ : Fin 2048)) := by
  pointwise [hKV]
theorem hG_at (i : Fin 4096) (h : Fin 8) (x : Fin 128) : hG a3 (ix3 i h x) = a3 (ix2 i (⟨h.val * 128 + x.val, by omega⟩ : Fin 1024)) := by
  pointwise [hG]

theorem hS_at (hq : ∀ i h x, q (ix3 i h x) = (Q i h x : EReal)) (hkv : ∀ i h x, kv (ix3 i h x) = (K i h x : EReal))
    (hkr : ∀ i x, a2 (ix2 i x) = (R i x : EReal)) (h : Fin 8) (i k : Fin 4096) : hS q kv a2 (ix3 h i k) = msk Q K R h i k := by
  pointwise [hS]
  rw [select_sle _ _ _ _ (by omega) (by omega)]
  unfold msk sR
  simp only [hq, hkv, hkr, mul_comm ((R _ _ : ℝ) : EReal), ← EReal.coe_mul, coe_sum, ← EReal.coe_add]
  exact if_congr Iff.rfl rfl negInf

theorem hMx_at (hs : ∀ h i k, s (ix3 h i k) = msk Q K R h i k) (h : Fin 8) (i : Fin 4096) : hMx s (ix2 h i) = (MR Q K R h i : EReal) := by
  unfold hMx
  rw [reduce_max_last, show (constant S_ .f32 4286578688#32 : FVec Ideal S_ .f32) (Shape.Idx.first h_S_) = (⊥ : EReal) from negInf, ← fold_msk]
  exact congrArg (fun f => Finset.univ.fold max ⊥ f) (funext fun k => hs h i k)

theorem hMb_at (hm : ∀ h i, mx (ix2 h i) = (MR Q K R h i : EReal)) (h : Fin 8) (i : Fin 4096) (z : Fin 1) : hMb mx (ix3 h i z) = (MR Q K R h i : EReal) := by
  pointwise [hMb]
  exact hm h i

theorem hE_at (hs : ∀ h i k, s (ix3 h i k) = msk Q K R h i k) (hm : ∀ h i z, mb (ix3 h i z) = (MR Q K R h i : EReal)) (h : Fin 8) (i k : Fin 4096) :
    hE s mb (ix3 h i k) = (eR Q K R h i k : EReal) := by
  pointwise [hE]
  rw [hs, hm, exp_msk]

theorem hL_at (he : ∀ h i k, e (ix3 h i k) = (eR Q K R h i k : EReal)) (h : Fin 8) (i : Fin 4096) (z : Fin 1) : hL e (ix3 h i z) = (LR Q K R h i : EReal) := by
  pointwise [hL]
  simp only [he, coe_sum]; rfl

theorem hW_at (he : ∀ h i k, e (ix3 h i k) = (eR Q K R h i k : EReal)) (hl : ∀ h i z, l (ix3 h i z) = (LR Q K R h i : EReal)) (h : Fin 8) (i k : Fin 4096) :
    hW e l (ix3 h i k) = (wR Q K R h i k : EReal) := by
  pointwise [hW]
  rw [he, hl, coe_div _ _ (LR_pos Q K R h i).ne']; rfl

theorem hLse_at (hm : ∀ h i z, mb (ix3 h i z) = (MR Q K R h i : EReal)) (hl : ∀ h i z, l (ix3 h i z) = (LR Q K R h i : EReal)) (i : Fin 4096) (h : Fin 8) (x : Fin 128) :
    hLse mb l (ix2 i (⟨h.val * 128 + x.val, by omega⟩ : Fin 1024)) = ((MR Q K R h i + Real.log (LR Q K R h i) : ℝ) : EReal) := by
  pointwise [hLse]
  rw [hm, hl, Ideal.log_coe, if_neg (not_le.2 (LR_pos Q K R h i)), EReal.coe_add]

theorem hDelta_at (hg : ∀ i h x, g (ix3 i h x) = (C i h x : EReal)) (hkv : ∀ i h x, kv (ix3 i h x) = (K i h x : EReal))
    (hw : ∀ h i k, w (ix3 h i k) = (wR Q K R h i k : EReal)) (i : Fin 4096) (h : Fin 8) (x : Fin 128) :
    hDelta g kv w (ix2 i (⟨h.val * 128 + x.val, by omega⟩ : Fin 1024)) = (avgR Q K R C h i : EReal) := by
  pointwise [hDelta, hV]
  simp only [hg, hkv, hw, ← EReal.coe_mul, coe_sum]
  refine congrArg _ ?_
  unfold avgR dpR
  simp only [Finset.mul_sum, Finset.sum_mul]
  rw [Finset.sum_comm]
  exact Finset.sum_congr rfl fun k _ => Finset.sum_congr rfl fun d _ => by ring

theorem hQ2_at (hq : ∀ i h x, q (ix3 i h x) = (Q i h x : EReal)) (i : Fin 4096) (h : Fin 8) (d : Fin 256) :
    hQ2 q (ix2 i (⟨h.val * 256 + d.val, by omega⟩ : Fin 2048)) = (Q2 Q i h d : EReal) := by
  pointwise [hQ2]
  rw [sitofp_zero]
  unfold Q2
  by_cases hd : d.val < 192
  · rw [dif_pos hd, dif_pos hd]; exact hq i h _
  · rw [dif_neg hd, dif_neg hd]; rfl

theorem hKr2_at (hkr : ∀ i x, a2 (ix2 i x) = (R i x : EReal)) (i : Fin 4096) (l : Fin 128) : hKr2 a2 (ix2 i l) = (R2 R i l : EReal) := by
  pointwise [hKr2]
  rw [sitofp_zero]
  unfold R2
  by_cases hd : l.val < 64
  · rw [dif_pos hd, dif_pos hd]; exact hkr i _
  · rw [dif_neg hd, dif_neg hd]; rfl
end

end Cert.FlashBwd

end
-- ==== Proof.Tile.lean ====
/- One step of the gradient kernel at an entry, over the reals with infinities: the tile's scores, their gradient, and
   what the step adds to the three running sums. The two halves of the query tile come together here. -/
module

public import proofs.«01_k».proof.Proof.Step
public import proofs.«01_k».proof.Proof.Spec
public import Idealize.ShloMosaic.Lib.Pointwise

@[expose] public section

set_option maxRecDepth 16384

noncomputable section

namespace Cert.FlashBwd

open Idealize.ShloMosaic Idealize.ShloMosaic.TcCoe Cert.KernelIdeal Cert.KernelIdeal.Gen

/-- The 1024-row index of row `r` of the first half, and of the second. -/
abbrev lo (r : Fin 512) : Fin 1024 := ⟨r.val, by omega⟩
abbrev hi (r : Fin 512) : Fin 1024 := ⟨512 + r.val, by omega⟩

theorem sum_halves (f : Fin 1024 → EReal) : ∑ r, f r = ∑ r, f (lo r) + ∑ r, f (hi r) := Fin.sum_univ_two_halves 512 512 rfl f

theorem rowsPut_at (o : ℕ) (w : FVec Ideal S512x256 .f32) (d : FVec Ideal S4096x256 .f32) (y : Fin 4096) (j : Fin 256) :
    rowsPut (F := Ideal) o w d (ix2 y j) = if h : o ≤ y.val ∧ y.val < o + 512 then w (ix2 (⟨y.val - o, by omega⟩ : Fin 512) j) else d (ix2 y j) := by
  unfold rowsPut
  by_cases h : o ≤ y.val ∧ y.val < o + 512
  · rw [dif_pos h]
    refine (dif_pos h).trans (congrArg w ?_)
    funext a
    refine Fin.ext ?_
    match a with
    | ⟨0, _⟩ => exact Rect.unitLocal_val ..
    | ⟨1, _⟩ => exact (Rect.unitLocal_val ..).trans (Nat.sub_zero _)
  · rw [dif_neg h]
    exact dif_neg h

theorem rowsGet_at (o : ℕ) (ho : o + 512 ≤ 4096) (d : FVec Ideal S4096x256 .f32) (r : Fin 512) (j : Fin 256) :
    rowsGet (F := Ideal) o ho d (ix2 r j) = d (ix2 (⟨o + r.val, by omega⟩ : Fin 4096) j) := by
  pointwise [rowsGet]

section
variable (x4 : FVec Ideal S1024x256 .bf16) (x5 x6 x7 x8 : FVec Ideal S1024x128 .bf16) (x9 x10 : FVec Ideal S1024x128 .f32)

/-- The tile's score of query row `r` and key row `k`, -/
def scoreT (r k : Fin 1024) : EReal :=
  ∑ x : Fin 128, x4 (ix2 r (⟨x.val, by omega⟩ : Fin 256)) * x5 (ix2 k x) + ∑ x : Fin 128, x4 (ix2 r (⟨128 + x.val, by omega⟩ : Fin 256)) * x6 (ix2 k x)
/-- its weight: the exponential against the row's log-sum, zero above the diagonal where the tile is masked, -/
def pT (diag : Bool) (r k : Fin 1024) : EReal :=
  Ideal.exp ((if diag = true → k.val ≤ r.val then scoreT x4 x5 x6 r k else ⊥) - x9 (ix2 r (0 : Fin 128)))
/-- and the gradient of the score. -/
def dsT (diag : Bool) (r k : Fin 1024) : EReal :=
  pT x4 x5 x6 x9 diag r k * (∑ x : Fin 128, x8 (ix2 r x) * x7 (ix2 k x) - x10 (ix2 r (0 : Fin 128)))
/-- The key tile's entry: the keys without position in the first 128 columns, those with position after. -/
def kcat (k : Fin 1024) (j : Fin 256) : EReal :=
  if h : j.val < 128 then x5 (ix2 k (⟨j.val, h⟩ : Fin 128)) else x6 (ix2 k (⟨j.val - 128, by omega⟩ : Fin 128))

theorem dsC0_at (r : Fin 512) (k : Fin 1024) : dsC0 (F := Ideal) x4 x5 x6 x7 x8 x9 x10 (ix2 r k) = dsT x4 x5 x6 x7 x8 x9 x10 false (lo r) k := by
  pointwise [dsC0, qTop, gTop, cTop, k0_pay21, k0_pay19, k0_pay16, k0_pay13, k0_pay14, k0_pay12]
  unfold dsT pT
  rw [if_pos (by simp)]
  rfl
theorem dsC1_at (r : Fin 512) (k : Fin 1024) : dsC1 (F := Ideal) x4 x5 x6 x7 x8 x9 x10 (ix2 r k) = dsT x4 x5 x6 x7 x8 x9 x10 false (hi r) k := by
  pointwise [dsC1, qBot, gBot, cBot, k0_pay23, k0_pay18, k0_pay22, k0_pay17, k0_pay13, k0_pay15, k0_pay12]
  unfold dsT pT
  rw [if_pos (by simp)]
  rfl
theorem pC0_at (r : Fin 512) (k : Fin 1024) : k0_pay20 (F := Ideal) x5 x6 (qTop x4) (cTop x9) (ix2 r k) = pT x4 x5 x6 x9 false (lo r) k := by
  pointwise [qTop, cTop, k0_pay20, k0_pay19, k0_pay14, k0_pay12]
  unfold pT
  rw [if_pos (by simp)]
  rfl
theorem pC1_at (r : Fin 512) (k : Fin 1024) : k0_pay22 (F := Ideal) x5 x6 (qBot x4) (cBot x9) (ix2 r k) = pT x4 x5 x6 x9 false (hi r) k := by
  pointwise [qBot, cBot, k0_pay22, k0_pay15, k0_pay12]
  unfold pT
  rw [if_pos (by simp)]
  rfl
theorem pM0_at (r : Fin 512) (k : Fin 1024) : k0_pay36 (F := Ideal) x5 x6 (qTop x4) (cTop x9) (ix2 r k) = pT x4 x5 x6 x9 true (lo r) k := by
  pointwise [qTop, cTop, k0_pay36, k0_pay30, k0_pay28]
  unfold pT
  rw [addi_ofNat, select_sge _ _ _ _ (by omega) (by omega), negInf]
  simp only [true_implies, Nat.add_zero]
  rfl
theorem pM1_at (r : Fin 512) (k : Fin 1024) : k0_pay40 (F := Ideal) (k0_pay34 x5 x6 (qBot x4)) (cBot x9) (ix2 r k) = pT x4 x5 x6 x9 true (hi r) k := by
  pointwise [qBot, cBot, k0_pay34, k0_pay40, k0_pay31, k0_pay28]
  unfold pT
  rw [addi_ofNat, select_sge _ _ _ _ (by omega) (by omega), negInf, Nat.add_comm r.val 512]
  simp only [true_implies]
  rfl
theorem dsM0_at (r : Fin 512) (k : Fin 1024) : k0_pay39 (F := Ideal) (k0_pay36 x5 x6 (qTop x4) (cTop x9)) (k0_pay38 x7 (gTop x8) (cTop x10)) (ix2 r k)
    = dsT x4 x5 x6 x7 x8 x9 x10 true (lo r) k := by
  have h (e1 e2 : FVec Ideal S512x1024 .f32) : k0_pay39 (F := Ideal) e1 e2 (ix2 r k) = e1 (ix2 r k) * e2 (ix2 r k) := by pointwise [k0_pay39]
  rw [h, pM0_at]
  pointwise [k0_pay38, gTop, cTop, k0_pay32, k0_pay29]
  rfl
theorem dsM1_at (r : Fin 512) (k : Fin 1024) : dsM1 (F := Ideal) x4 x5 x6 x7 x8 x9 x10 (ix2 r k) = dsT x4 x5 x6 x7 x8 x9 x10 true (hi r) k := by
  have h (a b : FVec Ideal S512x1024 .f32) (c d : FVec Ideal S512x1 .f32) : k0_pay42 (F := Ideal) a b c d (ix2 r k)
      = k0_pay40 (F := Ideal) a c (ix2 r k) * (b (ix2 r k) - d (ix2 r (0 : Fin 1))) := by pointwise [k0_pay42, k0_pay40]
  unfold dsM1
  rw [h, pM1_at]
  pointwise [k0_pay35, gBot, k0_pay33, k0_pay29, cBot]
  rfl

theorem dkC_at (d : FVec Ideal S1024x256 .f32) (k : Fin 1024) (j : Fin 256) : dkC (F := Ideal) x4 x5 x6 x7 x8 x9 x10 d (ix2 k j)
    = d (ix2 k j) + ∑ r : Fin 1024, dsT x4 x5 x6 x7 x8 x9 x10 false r k * x4 (ix2 r j) := by
  rw [sum_halves, ← add_assoc]
  pointwise [dkC, k0_pay4, k0_pay15, k0_pay25, k0_pay14, qTop, qBot]
  simp only [dsC0_at, dsC1_at]
theorem dkM_at (d : FVec Ideal S1024x256 .f32) (k : Fin 1024) (j : Fin 256) : dkM (F := Ideal) x4 x5 x6 x7 x8 x9 x10 d (ix2 k j)
    = d (ix2 k j) + ∑ r : Fin 1024, dsT x4 x5 x6 x7 x8 x9 x10 true r k * x4 (ix2 r j) := by
  rw [sum_halves, ← add_assoc]
  unfold dkM
  have h (a b : FVec Ideal S512x256 .bf16) (ds' : FVec Ideal S512x1024 .bf16) (e1 e2 : FVec Ideal S512x1024 .f32) : k0_pay8 (F := Ideal) b ds' (k0_pay44 a e1 e2 d) (ix2 k j)
      = d (ix2 k j) + ∑ r : Fin 512, k0_pay39 e1 e2 (ix2 r k) * a (ix2 r j) + ∑ r : Fin 512, ds' (ix2 r k) * b (ix2 r j) := by
    pointwise [k0_pay8, k0_pay44]
  rw [h]
  simp only [dsM0_at, dsM1_at]
  pointwise [k0_pay31, k0_pay30, qTop, qBot]
theorem dvC_at (d : FVec Ideal S1024x128 .f32) (k : Fin 1024) (j : Fin 128) : dvC (F := Ideal) x4 x5 x6 x8 x9 d (ix2 k j)
    = d (ix2 k j) + ∑ r : Fin 1024, pT x4 x5 x6 x9 false r k * x8 (ix2 r j) := by
  rw [sum_halves, ← add_assoc]
  unfold dvC
  have h (a b : FVec Ideal S512x128 .bf16) (p : FVec Ideal S512x1024 .bf16) (p' : FVec Ideal S512x1024 .f32) : k0_pay27 (F := Ideal) b p' (k0_pay24 a p d) (ix2 k j)
      = d (ix2 k j) + ∑ r : Fin 512, p (ix2 r k) * a (ix2 r j) + ∑ r : Fin 512, p' (ix2 r k) * b (ix2 r j) := by
    pointwise [k0_pay27, k0_pay24]
  rw [h]
  simp only [pC0_at, pC1_at]
  pointwise [k0_pay16, k0_pay17, gTop, gBot]
theorem dvM_at (d : FVec Ideal S1024x128 .f32) (k : Fin 1024) (j : Fin 128) : dvM (F := Ideal) x4 x5 x6 x8 x9 d (ix2 k j)
    = d (ix2 k j) + ∑ r : Fin 1024, pT x4 x5 x6 x9 true r k * x8 (ix2 r j) := by
  rw [sum_halves, ← add_assoc]
  unfold dvM
  have h (a b : FVec Ideal S512x128 .bf16) (p p' : FVec Ideal S512x1024 .bf16) : k0_pay7 (F := Ideal) b p' (k0_pay43 a p d) (ix2 k j)
      = d (ix2 k j) + ∑ r : Fin 512, p (ix2 r k) * a (ix2 r j) + ∑ r : Fin 512, p' (ix2 r k) * b (ix2 r j) := by
    pointwise [k0_pay7, k0_pay43]
  rw [h]
  have e0 (r : Fin 512) : k0_pay37 (F := Ideal) x5 x6 (qTop x4) (cTop x9) (ix2 r k) = pT x4 x5 x6 x9 true (lo r) k := by
    rw [← pM0_at]; pointwise [k0_pay37]
  have e1 (r : Fin 512) : k0_pay41 (F := Ideal) (k0_pay34 x5 x6 (qBot x4)) (cBot x9) (ix2 r k) = pT x4 x5 x6 x9 true (hi r) k := by
    rw [← pM1_at]; pointwise [k0_pay41]
  simp only [e0, e1]
  pointwise [k0_pay32, k0_pay33, gTop, gBot]

/-- A query block's two half stores are one: its rows gain the product with the key tile, the others stay. -/
theorem rows_two (qi : Fin 4) (f : Fin 1024 → Fin 256 → EReal) (w0 w1 : FVec Ideal S512x256 .f32 → FVec Ideal S512x256 .f32)
    (h0 : ∀ v r j, w0 v (ix2 r j) = v (ix2 r j) + f (lo r) j) (h1 : ∀ v r j, w1 v (ix2 r j) = v (ix2 r j) + f (hi r) j)
    (d : FVec Ideal S4096x256 .f32) (y : Fin 4096) (j : Fin 256) :
    rowsPut (F := Ideal) (1024 * qi.val + 512) (w1 (rowsGet (F := Ideal) (1024 * qi.val + 512) (bot_le qi)
      (rowsPut (F := Ideal) (1024 * qi.val) (w0 (rowsGet (F := Ideal) (1024 * qi.val) (top_le qi) d)) d)))
      (rowsPut (F := Ideal) (1024 * qi.val) (w0 (rowsGet (F := Ideal) (1024 * qi.val) (top_le qi) d)) d) (ix2 y j)
    = if h : y.val / 1024 = qi.val then d (ix2 y j) + f ⟨y.val % 1024, by omega⟩ j else d (ix2 y j) := by
  have h4 := qi.isLt
  rw [rowsPut_at]
  by_cases hb : 1024 * qi.val + 512 ≤ y.val ∧ y.val < 1024 * qi.val + 512 + 512
  · rw [dif_pos hb, h1, rowsGet_at, rowsPut_at, dif_neg (by dsimp only; omega), dif_pos (by omega)]
    congr 2
    · congr 1; exact Fin.ext (by dsimp only; omega)
    · exact Fin.ext (by dsimp only; omega)
  · rw [dif_neg hb, rowsPut_at]
    by_cases ht : 1024 * qi.val ≤ y.val ∧ y.val < 1024 * qi.val + 512
    · rw [dif_pos ht, h0, rowsGet_at, dif_pos (by omega)]
      congr 2
      · congr 1; exact Fin.ext (by dsimp only; omega)
      · exact Fin.ext (by dsimp only; omega)
    · rw [dif_neg ht, dif_neg (by omega)]

theorem dqC_fst (ds : FVec Ideal S512x1024 .bf16) (v : FVec Ideal S512x256 .f32) (r : Fin 512) (j : Fin 256) :
    k0_pay26 (F := Ideal) (k0_pay12 x5 x6) ds v (ix2 r j) = v (ix2 r j) + ∑ k : Fin 1024, ds (ix2 r k) * kcat x5 x6 k j := by
  pointwise [k0_pay26, k0_pay12]; rfl
theorem dqC_snd (ds : FVec Ideal S512x1024 .bf16) (v : FVec Ideal S512x256 .f32) (r : Fin 512) (j : Fin 256) :
    k0_pay5 (F := Ideal) (k0_pay12 x5 x6) ds v (ix2 r j) = v (ix2 r j) + ∑ k : Fin 1024, ds (ix2 r k) * kcat x5 x6 k j := by
  pointwise [k0_pay5, k0_pay12]; rfl
theorem dqM_fst (ds : FVec Ideal S512x1024 .bf16) (v : FVec Ideal S512x256 .f32) (r : Fin 512) (j : Fin 256) :
    k0_pay6 (F := Ideal) (k0_pay28 x5 x6) ds (k0_pay45 v) (ix2 r j) = v (ix2 r j) + ∑ k : Fin 1024, ds (ix2 r k) * kcat x5 x6 k j := by
  pointwise [k0_pay6, k0_pay28, k0_pay45]; rfl
theorem dqM_snd (ds : FVec Ideal S512x1024 .bf16) (v : FVec Ideal S512x256 .f32) (r : Fin 512) (j : Fin 256) :
    k0_pay9 (F := Ideal) (k0_pay28 x5 x6) ds v (ix2 r j) = v (ix2 r j) + ∑ k : Fin 1024, ds (ix2 r k) * kcat x5 x6 k j := by
  pointwise [k0_pay9, k0_pay28]; rfl
theorem dqC_at (qi : Fin 4) (d : FVec Ideal S4096x256 .f32) (y : Fin 4096) (j : Fin 256) : dqC (F := Ideal) x4 x5 x6 x7 x8 x9 x10 qi d (ix2 y j)
    = if h : y.val / 1024 = qi.val then d (ix2 y j) + ∑ k : Fin 1024, dsT x4 x5 x6 x7 x8 x9 x10 false ⟨y.val % 1024, by omega⟩ k * kcat x5 x6 k j else d (ix2 y j) := by
  have h0 (v : FVec Ideal S512x256 .f32) (r : Fin 512) (j : Fin 256) : k0_pay26 (F := Ideal) (k0_pay12 x5 x6) (dsC0 x4 x5 x6 x7 x8 x9 x10) v (ix2 r j)
      = v (ix2 r j) + ∑ k : Fin 1024, dsT x4 x5 x6 x7 x8 x9 x10 false (lo r) k * kcat x5 x6 k j := by
    rw [dqC_fst]; simp only [dsC0_at]
  have h1 (v : FVec Ideal S512x256 .f32) (r : Fin 512) (j : Fin 256) : k0_pay5 (F := Ideal) (k0_pay12 x5 x6) (dsC1 x4 x5 x6 x7 x8 x9 x10) v (ix2 r j)
      = v (ix2 r j) + ∑ k : Fin 1024, dsT x4 x5 x6 x7 x8 x9 x10 false (hi r) k * kcat x5 x6 k j := by
    rw [dqC_snd]; simp only [dsC1_at]
  exact rows_two qi (fun r j => ∑ k : Fin 1024, dsT x4 x5 x6 x7 x8 x9 x10 false r k * kcat x5 x6 k j) (fun v => k0_pay26 (F := Ideal) (k0_pay12 x5 x6) (dsC0 x4 x5 x6 x7 x8 x9 x10) v) (fun v => k0_pay5 (F := Ideal) (k0_pay12 x5 x6) (dsC1 x4 x5 x6 x7 x8 x9 x10) v) h0 h1 d y j

theorem dsM0_at' (r : Fin 512) (k : Fin 1024) : dsM0 (F := Ideal) x4 x5 x6 x7 x8 x9 x10 (ix2 r k) = dsT x4 x5 x6 x7 x8 x9 x10 true (lo r) k := dsM0_at x4 x5 x6 x7 x8 x9 x10 r k
theorem dqM_at (qi : Fin 4) (d : FVec Ideal S4096x256 .f32) (y : Fin 4096) (j : Fin 256) : dqM (F := Ideal) x4 x5 x6 x7 x8 x9 x10 qi d (ix2 y j)
    = if h : y.val / 1024 = qi.val then d (ix2 y j) + ∑ k : Fin 1024, dsT x4 x5 x6 x7 x8 x9 x10 true ⟨y.val % 1024, by omega⟩ k * kcat x5 x6 k j else d (ix2 y j) := by
  have h0 (v : FVec Ideal S512x256 .f32) (r : Fin 512) (j : Fin 256) : k0_pay6 (F := Ideal) (k0_pay28 x5 x6) (dsM0 x4 x5 x6 x7 x8 x9 x10) (k0_pay45 v) (ix2 r j)
      = v (ix2 r j) + ∑ k : Fin 1024, dsT x4 x5 x6 x7 x8 x9 x10 true (lo r) k * kcat x5 x6 k j := by
    rw [dqM_fst]; simp only [dsM0_at']
  have h1 (v : FVec Ideal S512x256 .f32) (r : Fin 512) (j : Fin 256) : k0_pay9 (F := Ideal) (k0_pay28 x5 x6) (dsM1 x4 x5 x6 x7 x8 x9 x10) v (ix2 r j)
      = v (ix2 r j) + ∑ k : Fin 1024, dsT x4 x5 x6 x7 x8 x9 x10 true (hi r) k * kcat x5 x6 k j := by
    rw [dqM_snd]; simp only [dsM1_at]
  exact rows_two qi (fun r j => ∑ k : Fin 1024, dsT x4 x5 x6 x7 x8 x9 x10 true r k * kcat x5 x6 k j) (fun v => k0_pay6 (F := Ideal) (k0_pay28 x5 x6) (dsM0 x4 x5 x6 x7 x8 x9 x10) (k0_pay45 v)) (fun v => k0_pay9 (F := Ideal) (k0_pay28 x5 x6) (dsM1 x4 x5 x6 x7 x8 x9 x10) v) h0 h1 d y j

end

end Cert.FlashBwd

end
-- ==== Proof.Blocks.lean ====
/- The launch's input blocks at an entry: each is the host's array at the tile's place. -/
module

public import proofs.«01_k».proof.Proof.Data
public import proofs.«01_k».proof.Proof.Host
public import proofs.«01_k».proof.Proof.Tile
public import Idealize.ShloMosaic.Lib.Pipeline.ValueKit

@[expose] public section

set_option maxRecDepth 16384

noncomputable section

namespace Cert.FlashBwd

open Idealize.ShloMosaic Idealize.ShloMosaic.TcCoe Idealize.ShloMosaic.Tactic Cert.KernelIdeal Cert.KernelIdeal.Gen
open Idealize.ShloMosaic.Pipeline (Dat Cfg Window)

theorem idx_0 : ∀ t : Fin grid0.N, (cfgA (F := Ideal).win 0).index t = ![qOf (t.val % 10), t.val / 10] := of_decide_eq_true (by sl_kernel_rfl)
theorem idx_1 : ∀ t : Fin grid0.N, (cfgA (F := Ideal).win 1).index t = ![kOf (t.val % 10), 2 * (t.val / 10)] := of_decide_eq_true (by sl_kernel_rfl)
theorem idx_2 : ∀ t : Fin grid0.N, (cfgA (F := Ideal).win 2).index t = ![kOf (t.val % 10), 0] := of_decide_eq_true (by sl_kernel_rfl)
theorem idx_3 : ∀ t : Fin grid0.N, (cfgA (F := Ideal).win 3).index t = ![kOf (t.val % 10), 2 * (t.val / 10) + 1] := of_decide_eq_true (by sl_kernel_rfl)
theorem idx_4 : ∀ t : Fin grid0.N, (cfgA (F := Ideal).win 4).index t = ![qOf (t.val % 10), t.val / 10] := of_decide_eq_true (by sl_kernel_rfl)
theorem idx_5 : ∀ t : Fin grid0.N, (cfgA (F := Ideal).win 5).index t = ![qOf (t.val % 10), t.val / 10] := of_decide_eq_true (by sl_kernel_rfl)
theorem idx_6 : ∀ t : Fin grid0.N, (cfgA (F := Ideal).win 6).index t = ![qOf (t.val % 10), t.val / 10] := of_decide_eq_true (by sl_kernel_rfl)
theorem idx_7 : ∀ t : Fin grid0.N, (cfgA (F := Ideal).win 7).index t = ![kOf (t.val % 10), t.val / 10] := of_decide_eq_true (by sl_kernel_rfl)
theorem idx_8 : ∀ t : Fin grid0.N, (cfgA (F := Ideal).win 8).index t = ![kOf (t.val % 10), t.val / 10] := of_decide_eq_true (by sl_kernel_rfl)
theorem idx_9 : ∀ t : Fin grid0.N, (cfgA (F := Ideal).win 9).index t = ![0, t.val / 10] := of_decide_eq_true (by sl_kernel_rfl)

/-- Row `r` of the query block of grid point `t`, and of its key block; the point's head. -/
def qRow (s : ℕ) (r : Fin 1024) : Fin 4096 := ⟨1024 * (qF s).val + r.val, by omega⟩
def kF (s : ℕ) : Fin 4 := ⟨kOf s % 4, Nat.mod_lt _ (by decide)⟩
def kRow (s : ℕ) (r : Fin 1024) : Fin 4096 := ⟨1024 * (kF s).val + r.val, by omega⟩
def hd (t : Fin grid0.N) : Fin 8 := ⟨t.val / 10, by have : t.val < 80 := t.isLt; omega⟩
theorem qF_val (s : ℕ) : (qF s).val = qOf s := Nat.mod_eq_of_lt (by unfold qOf; split_ifs <;> omega)
theorem kF_val (s : ℕ) : (kF s).val = kOf s := Nat.mod_eq_of_lt (by unfold kOf; split_ifs <;> omega)

section
variable (m : (ℓ : Loc nD τ sig) → Buf (Elt Ideal) ℓ) (c : Dev nD) (t : Fin grid0.N)

theorem iblk_0 (r : Fin 1024) (j : Fin 256) : iblk m c 0 t (ix2 r j) = V m c main_v44 (ix2 (qRow (t.val % 10) r) (⟨(hd t).val * 256 + j.val, by omega⟩ : Fin 2048)) := by
  have e := idx_0 t
  have hb := qF_val (t.val % 10)
  blk_ext [iblk, e, qRow, hd]
theorem iblk_1 (r : Fin 1024) (j : Fin 128) : iblk m c 1 t (ix2 r j) = V m c main_v47 (ix2 (kRow (t.val % 10) r) (⟨(hd t).val * 256 + j.val, by omega⟩ : Fin 2048)) := by
  have e := idx_1 t
  have hb := kF_val (t.val % 10)
  blk_ext [iblk, e, kRow, hd]
theorem iblk_2 (r : Fin 1024) (j : Fin 128) : iblk m c 2 t (ix2 r j) = V m c main_v46 (ix2 (kRow (t.val % 10) r) j) := by
  have e := idx_2 t
  have hb := kF_val (t.val % 10)
  blk_ext [iblk, e, kRow, hd]
theorem iblk_3 (r : Fin 1024) (j : Fin 128) : iblk m c 3 t (ix2 r j) = V m c main_v47 (ix2 (kRow (t.val % 10) r) (⟨(hd t).val * 256 + (128 + j.val), by omega⟩ : Fin 2048)) := by
  have e := idx_3 t
  have hb := kF_val (t.val % 10)
  blk_ext [iblk, e, kRow, hd]
theorem iblk_4 (r : Fin 1024) (j : Fin 128) : iblk m c 4 t (ix2 r j) = V m c main_v48 (ix2 (qRow (t.val % 10) r) (⟨(hd t).val * 128 + j.val, by omega⟩ : Fin 1024)) := by
  have e := idx_4 t
  have hb := qF_val (t.val % 10)
  blk_ext [iblk, e, qRow, hd]
theorem read_5 (X : Buf (Elt Ideal) ((c : Thread nD τ).loc main_v36)) (r : Fin 1024) (j : Fin 128) : ((cfgA (F := Ideal).win 5).blk t).view.read (Elt Ideal) X (ix2 r j)
    = X (ix2 (qRow (t.val % 10) r) (⟨(hd t).val * 128 + j.val, by omega⟩ : Fin 1024)) := by
  have e := idx_5 t
  have hb := qF_val (t.val % 10)
  blk_ext [e, qRow, hd]
theorem iblk_5 (r : Fin 1024) (j : Fin 128) : iblk m c 5 t (ix2 r j)
    = V m c main_v36 (ix2 (qRow (t.val % 10) r) (⟨(hd t).val * 128 + j.val, by omega⟩ : Fin 1024)) := read_5 c t (V m c main_v36) r j
theorem read_6 (X : Buf (Elt Ideal) ((c : Thread nD τ).loc main_v41)) (r : Fin 1024) (j : Fin 128) : ((cfgA (F := Ideal).win 6).blk t).view.read (Elt Ideal) X (ix2 r j)
    = X (ix2 (qRow (t.val % 10) r) (⟨(hd t).val * 128 + j.val, by omega⟩ : Fin 1024)) := by
  have e := idx_6 t
  have hb := qF_val (t.val % 10)
  blk_ext [e, qRow, hd]
theorem iblk_6 (r : Fin 1024) (j : Fin 128) : iblk m c 6 t (ix2 r j)
    = V m c main_v41 (ix2 (qRow (t.val % 10) r) (⟨(hd t).val * 128 + j.val, by omega⟩ : Fin 1024)) := read_6 c t (V m c main_v41) r j
end

end Cert.FlashBwd

end
-- ==== Proof.TileReal.lean ====
/- What one grid point adds, in real numbers. When the arguments are real, so are the blocks the point reads, and the
   tile's weights and score gradients are those of the whole attention at the tile's rows. -/
module

public import proofs.«01_k».proof.Proof.Blocks

@[expose] public section

set_option maxRecDepth 16384

noncomputable section

namespace Cert.FlashBwd

open Idealize.ShloMosaic Idealize.ShloMosaic.TcCoe Idealize.ShloMosaic.Tactic Cert.KernelIdeal Cert.KernelIdeal.Gen

/-- Row `r` of block `b` of 4 blocks of 1024 rows. -/
def row (b : Fin 4) (r : Fin 1024) : Fin 4096 := ⟨1024 * b.val + r.val, by omega⟩
theorem qRow_eq (s : ℕ) (r : Fin 1024) : qRow s r = row (qF s) r := rfl
theorem kRow_eq (s : ℕ) (r : Fin 1024) : kRow s r = row (kF s) r := rfl

/-- The arguments on core `c` as real numbers: scaled queries, keys and values, rotated keys, output gradient. -/
structure Lift (m : (ℓ : Loc nD τ sig) → Buf (Elt Ideal) ℓ) (c : Dev nD) (Q : Fin 4096 → Fin 8 → Fin 192 → ℝ)
    (K : Fin 4096 → Fin 8 → Fin 256 → ℝ) (R : Fin 4096 → Fin 64 → ℝ) (C : Fin 4096 → Fin 8 → Fin 128 → ℝ) : Prop where
  q : ∀ i h x, hQ (A0 m c) (ix3 i h x) = (Q i h x : EReal)
  kv : ∀ i h x, hKV (A1 m c) (ix3 i h x) = (K i h x : EReal)
  kr : ∀ i x, A2 m c (ix2 i x) = (R i x : EReal)
  g : ∀ i h x, hG (A3 m c) (ix3 i h x) = (C i h x : EReal)

section
variable (m : (ℓ : Loc nD τ sig) → Buf (Elt Ideal) ℓ) (c : Dev nD) (t : Fin grid0.N) (Q : Fin 4096 → Fin 8 → Fin 192 → ℝ)
  (K : Fin 4096 → Fin 8 → Fin 256 → ℝ) (R : Fin 4096 → Fin 64 → ℝ) (C : Fin 4096 → Fin 8 → Fin 128 → ℝ)

/-! ## What the host saves -/

theorem cS_at (H : Lift m c Q K R C) (h : Fin 8) (i k : Fin 4096) : cS m c (ix3 h i k) = msk Q K R h i k := hS_at _ _ _ Q K R H.q H.kv H.kr h i k
theorem cMb_at (H : Lift m c Q K R C) (h : Fin 8) (i : Fin 4096) (z : Fin 1) : cMb m c (ix3 h i z) = (MR Q K R h i : EReal) :=
  hMb_at _ Q K R (hMx_at _ Q K R (cS_at m c Q K R C H)) h i z
theorem cE_at (H : Lift m c Q K R C) (h : Fin 8) (i k : Fin 4096) : cE m c (ix3 h i k) = (eR Q K R h i k : EReal) :=
  hE_at _ _ Q K R (cS_at m c Q K R C H) (cMb_at m c Q K R C H) h i k

/-! ## The blocks -/

theorem b0_at (H : Lift m c Q K R C) (r : Fin 1024) (j : Fin 256) : iblk m c 0 t (ix2 r j) = (Q2 Q (row (qF (t.val % 10)) r) (hd t) j : EReal) := by
  rw [iblk_0, V_q2]; exact hQ2_at _ Q H.q _ _ _
theorem b1_at (H : Lift m c Q K R C) (r : Fin 1024) (j : Fin 128) : iblk m c 1 t (ix2 r j) = (K (row (kF (t.val % 10)) r) (hd t) ⟨j.val, by omega⟩ : EReal) := by
  rw [iblk_1, V_kv, ← H.kv, hKV_at]; rfl
theorem b2_at (H : Lift m c Q K R C) (r : Fin 1024) (j : Fin 128) : iblk m c 2 t (ix2 r j) = (R2 R (row (kF (t.val % 10)) r) j : EReal) := by
  rw [iblk_2, V_kr2]; exact hKr2_at _ R H.kr _ _
theorem b3_at (H : Lift m c Q K R C) (r : Fin 1024) (j : Fin 128) : iblk m c 3 t (ix2 r j) = (K (row (kF (t.val % 10)) r) (hd t) ⟨128 + j.val, by omega⟩ : EReal) := by
  rw [iblk_3, V_kv, ← H.kv, hKV_at]; rfl
theorem b4_at (H : Lift m c Q K R C) (r : Fin 1024) (j : Fin 128) : iblk m c 4 t (ix2 r j) = (C (row (qF (t.val % 10)) r) (hd t) j : EReal) := by
  rw [iblk_4, V_do, ← H.g, hG_at]; rfl
theorem b5_at (H : Lift m c Q K R C) (r : Fin 1024) (j : Fin 128) : iblk m c 5 t (ix2 r j)
    = ((MR Q K R (hd t) (row (qF (t.val % 10)) r) + Real.log (LR Q K R (hd t) (row (qF (t.val % 10)) r)) : ℝ) : EReal) := by
  rw [iblk_5, V_lse]; exact hLse_at _ _ Q K R (cMb_at m c Q K R C H) (hL_at _ Q K R (cE_at m c Q K R C H)) _ _ _
theorem b6_at (H : Lift m c Q K R C) (r : Fin 1024) (j : Fin 128) : iblk m c 6 t (ix2 r j) = (avgR Q K R C (hd t) (row (qF (t.val % 10)) r) : EReal) := by
  rw [iblk_6, V_delta]
  exact hDelta_at _ _ _ Q K R C H.g H.kv (hW_at _ _ Q K R (cE_at m c Q K R C H) (hL_at _ Q K R (cE_at m c Q K R C H))) _ _ _

/-! ## The tile -/

/-- The padded score is the score. -/
theorem score_pad (q k : Fin 4096) (h : Fin 8) : ∑ x : Fin 128, Q2 Q q h ⟨x.val, by omega⟩ * K k h ⟨x.val, by omega⟩
    + ∑ x : Fin 128, Q2 Q q h ⟨128 + x.val, by omega⟩ * R2 R k x = sR Q K R h q k := by
  unfold sR
  refine congrArg₂ (· + ·) ?_ ?_
  · exact Finset.sum_congr rfl fun x _ => by unfold Q2; rw [dif_pos (by simp only []; omega)]
  · rw [Fin.sum_univ_two_halves 64 64 rfl]
    have e : ∑ x : Fin 64, Q2 Q q h ⟨128 + (64 + x.val), by omega⟩ * R2 R k ⟨64 + x.val, by omega⟩ = 0 :=
      Finset.sum_eq_zero fun x _ => by unfold Q2; rw [dif_neg (by simp only []; omega), zero_mul]
    refine Eq.trans (congrArg₂ (· + ·) (Finset.sum_congr rfl fun x _ => ?_) e) (add_zero _)
    unfold Q2 R2
    rw [dif_pos (by simp only []; omega), dif_pos (by simp only []; omega)]

theorem scoreT_at (H : Lift m c Q K R C) (r k : Fin 1024) : scoreT (iblk m c 0 t) (iblk m c 1 t) (iblk m c 2 t) r k
    = (sR Q K R (hd t) (row (qF (t.val % 10)) r) (row (kF (t.val % 10)) k) : EReal) := by
  unfold scoreT
  rw [← score_pad, EReal.coe_add, ← coe_sum, ← coe_sum]
  simp only [b0_at m c t Q K R C H, b1_at m c t Q K R C H, b2_at m c t Q K R C H, EReal.coe_mul]

/-- Whether the step is on the diagonal. -/
def dg (s : ℕ) : Bool := decide (qOf s = kOf s)
theorem kOf_le (s : ℕ) : kOf s ≤ qOf s := by unfold kOf qOf; split_ifs <;> omega

theorem mask_at (s : ℕ) (r k : Fin 1024) : (dg s = true → k.val ≤ r.val) ↔ (row (kF s) k).val ≤ (row (qF s) r).val := by
  have h1 := kOf_le s
  have e1 := qF_val s
  have e2 := kF_val s
  unfold dg row
  rw [decide_eq_true_iff]
  simp only []
  constructor
  · intro h
    by_cases e : qOf s = kOf s
    · have := h e; omega
    · omega
  · intro h e; omega

theorem pT_at (H : Lift m c Q K R C) (r k : Fin 1024) : pT (iblk m c 0 t) (iblk m c 1 t) (iblk m c 2 t) (iblk m c 5 t) (dg (t.val % 10)) r k
    = (wR Q K R (hd t) (row (qF (t.val % 10)) r) (row (kF (t.val % 10)) k) : EReal) := by
  unfold pT
  rw [scoreT_at m c t Q K R C H, b5_at m c t Q K R C H, ← exp_lse]
  unfold msk
  rw [if_congr (mask_at (t.val % 10) r k) rfl rfl]

theorem dsT_at (H : Lift m c Q K R C) (r k : Fin 1024) :
    dsT (iblk m c 0 t) (iblk m c 1 t) (iblk m c 2 t) (iblk m c 3 t) (iblk m c 4 t) (iblk m c 5 t) (iblk m c 6 t) (dg (t.val % 10)) r k
    = (dsR Q K R C (hd t) (row (qF (t.val % 10)) r) (row (kF (t.val % 10)) k) : EReal) := by
  unfold dsT
  rw [pT_at m c t Q K R C H, b6_at m c t Q K R C H]
  simp only [b3_at m c t Q K R C H, b4_at m c t Q K R C H, ← EReal.coe_mul, coe_sum, ← EReal.coe_sub]
  rfl

theorem kcat_at (H : Lift m c Q K R C) (k : Fin 1024) (j : Fin 256) : kcat (iblk m c 1 t) (iblk m c 2 t) k j = (K2 K R (row (kF (t.val % 10)) k) (hd t) j : EReal) := by
  unfold kcat K2
  by_cases h : j.val < 128
  · rw [dif_pos h, if_pos h, b1_at m c t Q K R C H]
  · rw [dif_neg h, if_neg h, b2_at m c t Q K R C H]

/-! ## The step -/

/-- What the tile of query block `a` and key block `b` gives to the padded key's gradient, -/
def dkP (h : Fin 8) (a b : Fin 4) (k : Fin 1024) (j : Fin 256) : ℝ := ∑ r, dsR Q K R C h (row a r) (row b k) * Q2 Q (row a r) h j
/-- to the value's, -/
def dvP (h : Fin 8) (a b : Fin 4) (k : Fin 1024) (j : Fin 128) : ℝ := ∑ r, wR Q K R h (row a r) (row b k) * C (row a r) h j
/-- and to the padded query's. -/
def dqP (h : Fin 8) (b : Fin 4) (y : Fin 4096) (j : Fin 256) : ℝ := ∑ k, dsR Q K R C h y (row b k) * K2 K R (row b k) h j

theorem pay1_at (y : Fin 4096) (j : Fin 256) : k0_pay1 (F := Ideal) (ix2 y j) = ((0 : ℝ) : EReal) := by pointwise [k0_pay1]; rfl
theorem pay2_at (y : Fin 1024) (j : Fin 256) : k0_pay2 (F := Ideal) (ix2 y j) = ((0 : ℝ) : EReal) := by pointwise [k0_pay2]; rfl
theorem pay3_at (y : Fin 1024) (j : Fin 128) : k0_pay3 (F := Ideal) (ix2 y j) = ((0 : ℝ) : EReal) := by pointwise [k0_pay3]; rfl

variable (s : St Ideal)

theorem step_dk (H : Lift m c Q K R C) (k : Fin 1024) (j : Fin 256) (x : ℝ) (hx : dg (t.val % 10) = false → s.2.1 (ix2 k j) = (x : EReal)) :
    (stepSt m c t s).2.1 (ix2 k j) = (((if dg (t.val % 10) = true then 0 else x) + dkP Q K R C (hd t) (qF (t.val % 10)) (kF (t.val % 10)) k j : ℝ) : EReal) := by
  have hs (r : Fin 1024) := dsT_at m c t Q K R C H r k
  unfold stepSt dkP
  rw [EReal.coe_add, ← coe_sum]
  by_cases hc : qOf (t.val % 10) = kOf (t.val % 10)
  · have hd' : dg (t.val % 10) = true := decide_eq_true hc
    rw [hd'] at hs
    rw [if_pos hc, if_pos hd']
    refine (dkM_at _ _ _ _ _ _ _ _ k j).trans ?_
    rw [pay2_at]
    simp only [hs, b0_at m c t Q K R C H, EReal.coe_mul]
  · have hd' : dg (t.val % 10) = false := decide_eq_false hc
    rw [hd'] at hs
    rw [if_neg hc, hd', if_neg (by decide)]
    refine (dkC_at _ _ _ _ _ _ _ _ k j).trans ?_
    rw [hx hd']
    simp only [hs, b0_at m c t Q K R C H, EReal.coe_mul]

theorem step_dv (H : Lift m c Q K R C) (k : Fin 1024) (j : Fin 128) (x : ℝ) (hx : dg (t.val % 10) = false → s.2.2 (ix2 k j) = (x : EReal)) :
    (stepSt m c t s).2.2 (ix2 k j) = (((if dg (t.val % 10) = true then 0 else x) + dvP Q K R C (hd t) (qF (t.val % 10)) (kF (t.val % 10)) k j : ℝ) : EReal) := by
  have hs (r : Fin 1024) := pT_at m c t Q K R C H r k
  unfold stepSt dvP
  rw [EReal.coe_add, ← coe_sum]
  by_cases hc : qOf (t.val % 10) = kOf (t.val % 10)
  · have hd' : dg (t.val % 10) = true := decide_eq_true hc
    rw [hd'] at hs
    rw [if_pos hc, if_pos hd']
    refine (dvM_at _ _ _ _ _ _ k j).trans ?_
    rw [pay3_at]
    simp only [hs, b4_at m c t Q K R C H, EReal.coe_mul]
  · have hd' : dg (t.val % 10) = false := decide_eq_false hc
    rw [hd'] at hs
    rw [if_neg hc, hd', if_neg (by decide)]
    refine (dvC_at _ _ _ _ _ _ k j).trans ?_
    rw [hx hd']
    simp only [hs, b4_at m c t Q K R C H, EReal.coe_mul]

theorem row_split (b : Fin 4) (y : Fin 4096) (h : y.val / 1024 = b.val) : row b ⟨y.val % 1024, Nat.mod_lt _ (by decide)⟩ = y :=
  Fin.ext (by unfold row; simp only []; omega)

theorem step_dq (H : Lift m c Q K R C) (y : Fin 4096) (j : Fin 256) (x : ℝ) (hx : t.val % 10 ≠ 0 → s.1 (ix2 y j) = (x : EReal)) :
    (stepSt m c t s).1 (ix2 y j) = (((if t.val % 10 = 0 then 0 else x)
      + (if y.val / 1024 = (qF (t.val % 10)).val then dqP Q K R C (hd t) (kF (t.val % 10)) y j else 0) : ℝ) : EReal) := by
  have hs (k : Fin 1024) := dsT_at m c t Q K R C H ⟨y.val % 1024, Nat.mod_lt _ (by decide)⟩ k
  have hk (k : Fin 1024) := kcat_at m c t Q K R C H k j
  have hb : (if t.val % 10 = 0 then k0_pay1 (F := Ideal) else s.1) (ix2 y j) = ((if t.val % 10 = 0 then 0 else x : ℝ) : EReal) := by
    by_cases h0 : t.val % 10 = 0
    · rw [if_pos h0, if_pos h0, pay1_at]
    · rw [if_neg h0, if_neg h0, hx h0]
  unfold stepSt
  by_cases hc : qOf (t.val % 10) = kOf (t.val % 10)
  · have hd' : dg (t.val % 10) = true := decide_eq_true hc
    rw [hd'] at hs
    rw [if_pos hc]
    refine (dqM_at _ _ _ _ _ _ _ _ _ y j).trans ?_
    rw [hb]
    by_cases hy : y.val / 1024 = (qF (t.val % 10)).val
    · simp only [row_split _ y hy] at hs
      rw [dif_pos hy, if_pos hy, EReal.coe_add, dqP, ← coe_sum]
      simp only [hs, hk, EReal.coe_mul]
    · rw [dif_neg hy, if_neg hy, add_zero]
  · have hd' : dg (t.val % 10) = false := decide_eq_false hc
    have h0 : t.val % 10 ≠ 0 := fun h => hc (by rw [h]; decide)
    rw [if_neg h0] at hb
    rw [hd'] at hs
    rw [if_neg hc]
    refine (dqC_at _ _ _ _ _ _ _ _ _ y j).trans ?_
    rw [hb]
    by_cases hy : y.val / 1024 = (qF (t.val % 10)).val
    · simp only [row_split _ y hy] at hs
      rw [dif_pos hy, if_pos hy, EReal.coe_add, dqP, ← coe_sum]
      simp only [hs, hk, EReal.coe_mul]
    · rw [dif_neg hy, if_neg hy, add_zero]
end

end Cert.FlashBwd

end
-- ==== Proof.Unroll.lean ====
/- The running sums step by step through a head, and what they have come to when they are written out. -/
module

public import proofs.«01_k».proof.Proof.TileReal

@[expose] public section

set_option maxRecDepth 16384

noncomputable section

namespace Cert.FlashBwd

open Idealize.ShloMosaic Idealize.ShloMosaic.TcCoe Idealize.ShloMosaic.Tactic Cert.KernelIdeal Cert.KernelIdeal.Gen

/-- Step `s` of head `h`. -/
def pt (h : Fin 8) (s : ℕ) (hs : s < 10) : Fin grid0.N := ⟨10 * h.val + s, by show _ < 80; omega⟩
theorem pt_mod (h : Fin 8) (s : ℕ) (hs : s < 10) : (pt h s hs).val % 10 = s := by unfold pt; simp only []; omega
theorem hd_pt (h : Fin 8) (s : ℕ) (hs : s < 10) : hd (pt h s hs) = h := Fin.ext (by unfold hd pt; simp only []; omega)
theorem pt_of (t : Fin grid0.N) : t = pt (hd t) (t.val % 10) (Nat.mod_lt _ (by decide)) := Fin.ext (by unfold hd pt; simp only []; omega)

/-- A key block's partial sum over the steps before `n`. -/
def upto (f : Fin 4 → Fin 4 → ℝ) (b : Fin 4) (n : ℕ) : ℝ := ∑ s ∈ Finset.range n, if kF s = b then f (qF s) b else 0

theorem kF_prev (s : ℕ) (hs : s + 1 < 10) (h : dg (s + 1) = false) : kF s = kF (s + 1) := by
  revert h; have : ∀ s < 9, dg (s + 1) = false → kF s = kF (s + 1) := by decide
  exact this s (by omega)
theorem kF_fresh (s : ℕ) (hs : s < 10) (h : dg s = true) (s' : ℕ) (h' : s' < s) : kF s' ≠ kF s := by
  have : ∀ s < 10, dg s = true → ∀ s' < s, kF s' ≠ kF s := by decide
  exact this s hs h s' h'

theorem upto_fresh (f : Fin 4 → Fin 4 → ℝ) (s : ℕ) (hs : s < 10) (h : dg s = true) : upto f (kF s) s = 0 :=
  Finset.sum_eq_zero fun s' h' => if_neg (kF_fresh s hs h s' (Finset.mem_range.1 h'))

theorem upto_step (f : Fin 4 → Fin 4 → ℝ) (s : ℕ) (hs : s < 10) :
    (if dg s = true then 0 else upto f (kF s) s) + f (qF s) (kF s) = upto f (kF s) (s + 1) := by
  rw [show upto f (kF s) (s + 1) = upto f (kF s) s + f (qF s) (kF s) from by
    unfold upto; rw [Finset.sum_range_succ, if_pos rfl]]
  by_cases h : dg s = true
  · rw [if_pos h, upto_fresh f s hs h]
  · rw [if_neg h]

/-- At the step that meets the last query block, the sum is over all query blocks: those above give nothing. -/
theorem upto_last (f : Fin 4 → Fin 4 → ℝ) (s : ℕ) (hs : s < 10) (hq : qOf s = 3) (hf : ∀ a b : Fin 4, a < b → f a b = 0) :
    upto f (kF s) (s + 1) = ∑ a, f a (kF s) := by
  have hall : ∀ s < 10, qOf s = 3 → s = 3 ∨ s = 6 ∨ s = 8 ∨ s = 9 := by decide
  have h := hall s hs hq
  have k0 : kF 0 = 0 ∧ kF 1 = 0 ∧ kF 2 = 0 ∧ kF 3 = 0 ∧ kF 4 = 1 ∧ kF 5 = 1 ∧ kF 6 = 1 ∧ kF 7 = 2 ∧ kF 8 = 2 ∧ kF 9 = 3 := by decide
  have q0 : qF 0 = 0 ∧ qF 1 = 1 ∧ qF 2 = 2 ∧ qF 3 = 3 ∧ qF 4 = 1 ∧ qF 5 = 2 ∧ qF 6 = 3 ∧ qF 7 = 2 ∧ qF 8 = 3 ∧ qF 9 = 3 := by decide
  have f1 := hf 0 1 (by decide)
  have f2 := hf 0 2 (by decide)
  have f3 := hf 1 2 (by decide)
  have f4 := hf 0 3 (by decide)
  have f5 := hf 1 3 (by decide)
  have f6 := hf 2 3 (by decide)
  rcases h with h | h | h | h <;> subst h <;>
    simp [upto, Finset.sum_range_succ, Fin.sum_univ_four, k0, q0, f1, f2, f3, f4, f5, f6]

/-- The query gradient's partial sum for a row of query block `a` over the steps before `n`. -/
def uptoQ (f : Fin 4 → ℝ) (a n : ℕ) : ℝ := ∑ s ∈ Finset.range n, if a = (qF s).val then f (kF s) else 0

theorem uptoQ_last (f : Fin 4 → ℝ) (a : ℕ) (ha : a < 4) (hf : ∀ b : Fin 4, a < b.val → f b = 0) : uptoQ f a 10 = ∑ b, f b := by
  have k0 : kF 0 = 0 ∧ kF 1 = 0 ∧ kF 2 = 0 ∧ kF 3 = 0 ∧ kF 4 = 1 ∧ kF 5 = 1 ∧ kF 6 = 1 ∧ kF 7 = 2 ∧ kF 8 = 2 ∧ kF 9 = 3 := by decide
  have q0 : qF 0 = 0 ∧ qF 1 = 1 ∧ qF 2 = 2 ∧ qF 3 = 3 ∧ qF 4 = 1 ∧ qF 5 = 2 ∧ qF 6 = 3 ∧ qF 7 = 2 ∧ qF 8 = 3 ∧ qF 9 = 3 := by decide
  have f1 := hf 1
  have f2 := hf 2
  have f3 := hf 3
  have h : a = 0 ∨ a = 1 ∨ a = 2 ∨ a = 3 := by omega
  rcases h with h | h | h | h <;> subst h <;> simp at f1 f2 f3 <;>
    simp [uptoQ, Finset.sum_range_succ, Fin.sum_univ_four, k0, q0, f1, f2, f3]

section
variable (m : (ℓ : Loc nD τ sig) → Buf (Elt Ideal) ℓ) (c : Dev nD) (Q : Fin 4096 → Fin 8 → Fin 192 → ℝ)
  (K : Fin 4096 → Fin 8 → Fin 256 → ℝ) (R : Fin 4096 → Fin 64 → ℝ) (C : Fin 4096 → Fin 8 → Fin 128 → ℝ)

theorem st_dk (H : Lift m c Q K R C) (h : Fin 8) (k : Fin 1024) (j : Fin 256) (s : ℕ) (hs : s < 10) :
    (st m c (10 * h.val + s + 1)).2.1 (ix2 k j) = (upto (fun a b => dkP Q K R C h a b k j) (kF s) (s + 1) : EReal) := by
  induction s with
  | zero =>
    have e := step_dk m c (pt h 0 hs) Q K R C (st m c (10 * h.val)) H k j 0 (fun hd => by rw [pt_mod] at hd; exact absurd hd (by decide))
    rw [pt_mod, hd_pt] at e
    refine (congrFun (congrArg (fun x => x.2.1) (st_succ m c (pt h 0 hs))) (ix2 k j)).trans (e.trans (congrArg _ ?_))
    rw [← upto_step _ 0 hs, if_pos (by decide), if_pos (by decide)]
  | succ n ih =>
    have ih := ih (by omega)
    have e := step_dk m c (pt h (n + 1) hs) Q K R C (st m c (10 * h.val + n + 1)) H k j (upto (fun a b => dkP Q K R C h a b k j) (kF (n + 1)) (n + 1))
      (fun hd => by rw [pt_mod] at hd; rw [ih, kF_prev n hs hd])
    rw [pt_mod, hd_pt] at e
    exact (congrFun (congrArg (fun x => x.2.1) (st_succ m c (pt h (n + 1) hs))) (ix2 k j)).trans (e.trans (congrArg _
      (upto_step (fun a b => dkP Q K R C h a b k j) (n + 1) hs)))

theorem st_dv (H : Lift m c Q K R C) (h : Fin 8) (k : Fin 1024) (j : Fin 128) (s : ℕ) (hs : s < 10) :
    (st m c (10 * h.val + s + 1)).2.2 (ix2 k j) = (upto (fun a b => dvP Q K R C h a b k j) (kF s) (s + 1) : EReal) := by
  induction s with
  | zero =>
    have e := step_dv m c (pt h 0 hs) Q K R C (st m c (10 * h.val)) H k j 0 (fun hd => by rw [pt_mod] at hd; exact absurd hd (by decide))
    rw [pt_mod, hd_pt] at e
    refine (congrFun (congrArg (fun x => x.2.2) (st_succ m c (pt h 0 hs))) (ix2 k j)).trans (e.trans (congrArg _ ?_))
    rw [← upto_step _ 0 hs, if_pos (by decide), if_pos (by decide)]
  | succ n ih =>
    have ih := ih (by omega)
    have e := step_dv m c (pt h (n + 1) hs) Q K R C (st m c (10 * h.val + n + 1)) H k j (upto (fun a b => dvP Q K R C h a b k j) (kF (n + 1)) (n + 1))
      (fun hd => by rw [pt_mod] at hd; rw [ih, kF_prev n hs hd])
    rw [pt_mod, hd_pt] at e
    exact (congrFun (congrArg (fun x => x.2.2) (st_succ m c (pt h (n + 1) hs))) (ix2 k j)).trans (e.trans (congrArg _
      (upto_step (fun a b => dvP Q K R C h a b k j) (n + 1) hs)))

theorem st_dq (H : Lift m c Q K R C) (h : Fin 8) (y : Fin 4096) (j : Fin 256) (s : ℕ) (hs : s < 10) :
    (st m c (10 * h.val + s + 1)).1 (ix2 y j) = (uptoQ (fun b => dqP Q K R C h b y j) (y.val / 1024) (s + 1) : EReal) := by
  induction s with
  | zero =>
    have e := step_dq m c (pt h 0 hs) Q K R C (st m c (10 * h.val)) H y j 0 (by rw [pt_mod]; intro h; exact absurd rfl h)
    rw [pt_mod, hd_pt] at e
    refine (congrFun (congrArg (fun x => x.1) (st_succ m c (pt h 0 hs))) (ix2 y j)).trans (e.trans (congrArg _ ?_))
    unfold uptoQ
    rw [Finset.sum_range_succ, Finset.sum_range_zero, if_pos rfl]
  | succ n ih =>
    have ih := ih (by omega)
    have e := step_dq m c (pt h (n + 1) hs) Q K R C (st m c (10 * h.val + n + 1)) H y j _ (fun _ => ih)
    rw [pt_mod, hd_pt] at e
    refine (congrFun (congrArg (fun x => x.1) (st_succ m c (pt h (n + 1) hs))) (ix2 y j)).trans (e.trans (congrArg _ ?_))
    unfold uptoQ
    rw [Finset.sum_range_succ _ (n + 1), if_neg (Nat.succ_ne_zero n)]

/-! ## When they are written out -/

theorem row_lt (a b : Fin 4) (h : a < b) (r k : Fin 1024) : (row a r).val < (row b k).val := by
  have h' : a.val < b.val := h
  unfold row; simp only []; omega

theorem sum_rows (f : Fin 4096 → ℝ) : ∑ a : Fin 4, ∑ r : Fin 1024, f (row a r) = ∑ y, f y := by
  rw [Fin.sum_univ_tiles 4 1024 rfl f]
  exact Finset.sum_congr rfl fun a _ => Finset.sum_congr rfl fun r _ => congrArg f (Fin.ext (by unfold row; simp only []; omega))

theorem out_dk (H : Lift m c Q K R C) (h : Fin 8) (k : Fin 1024) (j : Fin 256) (s : ℕ) (hs : s < 10) (hq : qOf s = 3) :
    (st m c (10 * h.val + s + 1)).2.1 (ix2 k j) = (dkR Q K R C h (row (kF s) k) j : EReal) := by
  have z (a b : Fin 4) (hab : a < b) : dkP Q K R C h a b k j = 0 := Finset.sum_eq_zero fun r _ => by
    rw [dsR_upper Q K R C h _ _ (row_lt a b hab r k), zero_mul]
  rw [st_dk m c Q K R C H h k j s hs, upto_last _ s hs hq z]
  exact congrArg _ (sum_rows fun q => dsR Q K R C h q (row (kF s) k) * Q2 Q q h j)

theorem out_dv (H : Lift m c Q K R C) (h : Fin 8) (k : Fin 1024) (j : Fin 128) (s : ℕ) (hs : s < 10) (hq : qOf s = 3) :
    (st m c (10 * h.val + s + 1)).2.2 (ix2 k j) = (dvR Q K R C h (row (kF s) k) j : EReal) := by
  have z (a b : Fin 4) (hab : a < b) : dvP Q K R C h a b k j = 0 := Finset.sum_eq_zero fun r _ => by
    rw [wR_upper Q K R h _ _ (row_lt a b hab r k), zero_mul]
  rw [st_dv m c Q K R C H h k j s hs, upto_last _ s hs hq z]
  exact congrArg _ (sum_rows fun q => wR Q K R h q (row (kF s) k) * C q h j)

theorem out_dq (H : Lift m c Q K R C) (h : Fin 8) (y : Fin 4096) (j : Fin 256) :
    (st m c (10 * h.val + 9 + 1)).1 (ix2 y j) = (dqR Q K R C h y j : EReal) := by
  have z (b : Fin 4) (hb : y.val / 1024 < b.val) : dqP Q K R C h b y j = 0 := Finset.sum_eq_zero fun k _ => by
    rw [dsR_upper Q K R C h _ _ (by unfold row; simp only []; omega), zero_mul]
  rw [st_dq m c Q K R C H h y j 9 (by decide), uptoQ_last _ _ (by omega) z]
  exact congrArg _ (sum_rows fun k => dsR Q K R C h y k * K2 K R k h j)
end

end Cert.FlashBwd

end
-- ==== Proof.Arrays.lean ====
/- The three output arrays after the launch: any arrays with the gradients as entries. -/
module

public import proofs.«01_k».proof.Proof.Unroll
public import proofs.«01_k».proof.Proof.Frame

@[expose] public section

set_option maxRecDepth 16384

noncomputable section

namespace Cert.FlashBwd

open Idealize.ShloMosaic Idealize.ShloMosaic.TcCoe Idealize.ShloMosaic.Tactic Cert.KernelIdeal Cert.KernelIdeal.Gen
open Idealize.ShloMosaic.Pipeline (Dat Cfg Window)

theorem pay10_at (a : FVec Ideal S1024x256 .f32) (b : FVec Ideal S1024x128 .f32) (k : Fin 1024) (j : Fin 256) : k0_pay10 (F := Ideal) a b (ix2 k j)
    = if h : j.val < 128 then a (ix2 k j) else b (ix2 k (⟨j.val - 128, by omega⟩ : Fin 128)) := by
  pointwise [k0_pay10]
theorem pay11_at (a : FVec Ideal S1024x256 .f32) (k : Fin 1024) (j : Fin 128) : k0_pay11 (F := Ideal) a (ix2 k j) = a (ix2 k (⟨128 + j.val, by omega⟩ : Fin 256)) := by
  pointwise [k0_pay11]

section
variable (m : (ℓ : Loc nD τ sig) → Buf (Elt Ideal) ℓ) (c : Dev nD) (Q : Fin 4096 → Fin 8 → Fin 192 → ℝ)
  (K : Fin 4096 → Fin 8 → Fin 256 → ℝ) (R : Fin 4096 → Fin 64 → ℝ) (C : Fin 4096 → Fin 8 → Fin 128 → ℝ)

theorem pt_eq (t : Fin grid0.N) : 10 * (hd t).val + t.val % 10 = t.val := by unfold hd; simp only []; omega

/-- The padded query's gradient, -/
theorem out9 (H : Lift m c Q K R C) (G : FVec Ideal S4096x2048 .f32)
    (hG : ∀ (i : Fin 4096) (h : Fin 8) (d : Fin 256), G (ix2 i (⟨h.val * 256 + d.val, by omega⟩ : Fin 2048)) = (dqR Q K R C h i d : EReal)) :
    (dats m 0 c).arrAt 9 (cfgA (F := Ideal)).N = G := by
  refine (dats m 0 c).arrAt_eq_of_covers 9 G (by decide +kernel) fun t hf y => ?_
  have e := idx_9 t
  rw [flush_9, beq_iff_eq] at hf
  blk_simp [e]
  rw [after_9]
  have hy (i : Fin 4096) (d : Fin 256) : (st m c (t.val + 1)).1 (ix2 i d) = G (((cfgA (F := Ideal).win 9).blk t).view.emb (ix2 i d)) := by
    have h1 := out_dq m c Q K R C H (hd t) i d
    rw [← hG, ← hf, pt_eq t] at h1
    refine h1.trans (congrArg G ?_)
    blk_ext [e, hd]
  rw [eq_ix2 (n0 := 4096) (n1 := 256) y]
  exact hy _ _

/-- the rotated key's, head by head, -/
theorem out8 (H : Lift m c Q K R C) (G : FVec Ideal S4096x1024 .f32)
    (hG : ∀ (i : Fin 4096) (h : Fin 8) (d : Fin 128), G (ix2 i (⟨h.val * 128 + d.val, by omega⟩ : Fin 1024)) = (dkR Q K R C h i ⟨128 + d.val, by omega⟩ : EReal)) :
    (dats m 0 c).arrAt 8 (cfgA (F := Ideal)).N = G := by
  refine (dats m 0 c).arrAt_eq_of_covers 8 G (by decide +kernel) fun t hf y => ?_
  have e := idx_8 t
  have hk := kF_val (t.val % 10)
  rw [flush_8, beq_iff_eq] at hf
  blk_simp [e]
  rw [after_8]
  have hy (k : Fin 1024) (d : Fin 128) : k0_pay11 (F := Ideal) (st m c (t.val + 1)).2.1 (ix2 k d) = G (((cfgA (F := Ideal).win 8).blk t).view.emb (ix2 k d)) := by
    have h1 := out_dk m c Q K R C H (hd t) k ⟨128 + d.val, by omega⟩ (t.val % 10) (Nat.mod_lt _ (by decide)) hf
    rw [← hG, pt_eq t] at h1
    refine (pay11_at _ k d).trans (h1.trans (congrArg G ?_))
    blk_ext [e, hd, row]
  rw [eq_ix2 (n0 := 1024) (n1 := 128) y]
  exact hy _ _

/-- and the key's and the value's side by side. -/
theorem out7 (H : Lift m c Q K R C) (G : FVec Ideal S4096x2048 .bf16)
    (hG : ∀ (i : Fin 4096) (h : Fin 8) (d : Fin 256), G (ix2 i (⟨h.val * 256 + d.val, by omega⟩ : Fin 2048))
      = ((if h1 : d.val < 128 then dkR Q K R C h i d else dvR Q K R C h i ⟨d.val - 128, by omega⟩ : ℝ) : EReal)) :
    (dats m 0 c).arrAt 7 (cfgA (F := Ideal)).N = G := by
  refine (dats m 0 c).arrAt_eq_of_covers 7 G (by decide +kernel) fun t hf y => ?_
  have e := idx_7 t
  have hk := kF_val (t.val % 10)
  rw [flush_7, beq_iff_eq] at hf
  blk_simp [e]
  rw [after_7]
  have hy (k : Fin 1024) (d : Fin 256) : k0_pay10 (F := Ideal) (st m c (t.val + 1)).2.1 (st m c (t.val + 1)).2.2 (ix2 k d)
      = G (((cfgA (F := Ideal).win 7).blk t).view.emb (ix2 k d)) := by
    have h2 : G (ix2 (row (kF (t.val % 10)) k) (⟨(hd t).val * 256 + d.val, by omega⟩ : Fin 2048)) = G (((cfgA (F := Ideal).win 7).blk t).view.emb (ix2 k d)) := by
      refine congrArg G ?_
      blk_ext [e, hd, row]
    rw [← h2, hG, pay10_at]
    by_cases hd1 : d.val < 128
    · have h1 := out_dk m c Q K R C H (hd t) k d (t.val % 10) (Nat.mod_lt _ (by decide)) hf
      rw [pt_eq t] at h1
      rw [dif_pos hd1, dif_pos hd1, h1]
    · have h1 := out_dv m c Q K R C H (hd t) k ⟨d.val - 128, by omega⟩ (t.val % 10) (Nat.mod_lt _ (by decide)) hf
      rw [pt_eq t] at h1
      rw [dif_neg hd1, dif_neg hd1, h1]
  rw [eq_ix2 (n0 := 1024) (n1 := 256) y]
  exact hy _ _
end

end Cert.FlashBwd

end
-- ==== Proof.Pre.lean ====
/- What the precondition says: every argument is a real number. -/
module

public import proofs.«01_k».proof.Pre_finite
public import proofs.«01_k».proof.Proof.TileReal
public import Idealize.ShloMosaic.Lib.ReduceAll

@[expose] public section

set_option maxRecDepth 16384

noncomputable section

namespace Cert.FlashBwd

open Idealize.ShloMosaic Idealize.ShloMosaic.TcCoe

theorem preFacts : Cert.Pre_finite.Facts where
  bcast_S_S4096x1536 := by decide
  reducesTo_S4096x1536_S_d0_1 := by decide
  h_S_ := by decide
  bcast_S_S4096x2048 := by decide
  reducesTo_S4096x2048_S_d0_1 := by decide
  bcast_S_S4096x64 := by decide
  reducesTo_S4096x64_S_d0_1 := by decide
  bcast_S_S4096x1024 := by decide
  reducesTo_S4096x1024_S_d0_1 := by decide

theorem inf_bits : Ideal.ofBits .f32 0x7F800000#32 = ⊤ := by simp [Ideal.ofBits, Ideal.ieee]

/-- The scale of the queries. -/
theorem scale_real : ((Ideal.ofBits .f32 0x3D93CD3A#32).toReal : EReal) = Ideal.ofBits .f32 0x3D93CD3A#32 := by
  refine EReal.coe_toReal ?_ ?_ <;> simp [Ideal.ofBits, Ideal.ieee, -EReal.coe_mul]

/-- A value whose magnitude is below infinity is real. -/
theorem real_of_lt (x : EReal) (h : max x (-x) < ⊤) : (x.toReal : EReal) = x := by
  refine EReal.coe_toReal ?_ ?_ <;> rintro rfl <;> simp at h

theorem all_real {s : Shape} (axes : List (Fin s.rank)) (x : FVec Ideal s .f32) (hb : Cert.Pre_finite.S_.BroadcastsInDim s (![] : Fin 0 → Fin s.rank))
    (hr : s.ReducesTo axes Cert.Pre_finite.S_) (hu : 0 < Cert.Pre_finite.S_.numel)
    (h : Host.reduce IntOp.andi (cmpf .olt (Host.absf x) (broadcastInDim s ![] hb (constant (F := Ideal) Cert.Pre_finite.S_ .f32 0x7F800000#32)))
      (constantI Cert.Pre_finite.S_ 1 1#1) hr hu (Shape.Idx.first hu) = 1#1) (i : s.Idx) : ((x i).toReal : EReal) = x i := by
  haveI : Subsingleton Cert.Pre_finite.S_.Idx := ⟨fun a b => funext fun k => k.elim0⟩
  have e := Host.reduce_andi_all _ _ hr hu _ h i
  have e2 : Ideal.cmp .olt (max (x i) (-(x i))) (Ideal.ofBits .f32 0x7F800000#32) = 1#1 := e
  have e3 := (Ideal.cmp_olt_eq_one _ _).1 e2
  rw [inf_bits] at e3
  exact real_of_lt _ e3

open Cert.KernelIdeal Cert.KernelIdeal.Gen in
/-- Under the precondition the arguments are real numbers. -/
theorem lift_of_pre [Cert.Pre_finite.Facts] (m : (ℓ : Loc nD τ sig) → Buf (Elt Ideal) ℓ) (c : Dev nD)
    (h : Cert.Pre_finite.fn (F := Ideal) (A0 m c) (A1 m c) (A2 m c) (A3 m c) = fun _ => 1#1) : ∃ Q K R C, Lift m c Q K R C := by
  have h0 := congrFun h (Shape.Idx.first Cert.Pre_finite.Facts.h_S_)
  dsimp only [Cert.Pre_finite.fn, Cert.Pre_finite.fn_part1] at h0
  obtain ⟨h1, e3⟩ := IntOp.andi_eq_one.1 h0
  obtain ⟨h2, e2⟩ := IntOp.andi_eq_one.1 h1
  obtain ⟨e0, e1⟩ := IntOp.andi_eq_one.1 h2
  refine ⟨fun i h x => (A0 m c (ix2 i (⟨h.val * 192 + x.val, by omega⟩ : Fin 1536))).toReal * (Ideal.ofBits .f32 0x3D93CD3A#32).toReal,
    fun i h x => (A1 m c (ix2 i (⟨h.val * 256 + x.val, by omega⟩ : Fin 2048))).toReal, fun i x => (A2 m c (ix2 i x)).toReal,
    fun i h x => (A3 m c (ix2 i (⟨h.val * 128 + x.val, by omega⟩ : Fin 1024))).toReal, ?_, ?_, ?_, ?_⟩
  · intro i h x
    rw [hQ_at, EReal.coe_mul, scale_real, all_real _ _ _ _ _ e0]
  · intro i h x
    rw [hKV_at, all_real _ _ _ _ _ e1]
  · intro i x
    exact (all_real _ _ _ _ _ e2 (ix2 i x)).symm
  · intro i h x
    rw [hG_at, all_real _ _ _ _ _ e3]

end Cert.FlashBwd

end
-- ==== Proof.Ref.lean ====
/- The reference's program in stages: scores, softmax, gradient of the scores, and the three results, each read at an
   entry and met with the mathematics. -/
module

public import proofs.«01_k».proof.Proof.Spec
public import proofs.«01_k».proof.Proof.Gen.ReferenceIdeal
public import proofs.«01_k».proof.Proof.Gen.ReferenceIdeal.Run
public import Idealize.ShloMosaic.Lib.Pointwise
public import Idealize.ShloMosaic.Lib.WordCmp

@[expose] public section

set_option maxRecDepth 16384

noncomputable section

namespace Cert.FlashBwd.Ref

open Idealize.ShloMosaic Idealize.ShloMosaic.TcCoe Cert.ReferenceIdeal Cert.ReferenceIdeal.Gen

def rQ (a0 : FVec Ideal S4096x1536 .f32) : FVec Ideal S4096x8x192 .f32 :=
  shapeCast _ (mulf a0 (broadcastInDim S4096x1536 ![] bcast_S_S4096x1536 (constant S_ .f32 0x3D93CD3A#32))) shapeCasts_S4096x1536_S4096x8x192
def rKV (a1 : FVec Ideal S4096x2048 .f32) : FVec Ideal S4096x8x256 .f32 := shapeCast _ a1 shapeCasts_S4096x2048_S4096x8x256
def rKr (a2 : FVec Ideal S4096x64 .f32) : FVec Ideal S4096x8x64 .f32 :=
  broadcastInDim S4096x8x64 ![0, 1, 2] bcast_S4096x1x64_S4096x8x64_0_1_2 (broadcastInDim S4096x1x64 ![0, 2] bcast_S4096x64_S4096x1x64_0_2 a2)
def rG (a3 : FVec Ideal S4096x1024 .f32) : FVec Ideal S4096x8x128 .f32 := shapeCast _ a3 shapeCasts_S4096x1024_S4096x8x128
def rMask : IVec S8x4096x4096 1 :=
  broadcastInDim S8x4096x4096 ![1, 2] bcast_S4096x4096_S8x4096x4096_1_2 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))
def rQn (q : FVec Ideal S4096x8x192 .f32) : FVec Ideal S4096x8x128 .f32 := extractStridedSlice S4096x8x128 ![0, 0, 0] q slices_S4096x8x192_S4096x8x128_0_0_0
def rQr (q : FVec Ideal S4096x8x192 .f32) : FVec Ideal S4096x8x64 .f32 := extractStridedSlice S4096x8x64 ![0, 0, 128] q slices_S4096x8x192_S4096x8x64_0_0_128
def rKn (kv : FVec Ideal S4096x8x256 .f32) : FVec Ideal S4096x8x128 .f32 := extractStridedSlice S4096x8x128 ![0, 0, 0] kv slices_S4096x8x256_S4096x8x128_0_0_0
def rV (kv : FVec Ideal S4096x8x256 .f32) : FVec Ideal S4096x8x128 .f32 := extractStridedSlice S4096x8x128 ![0, 0, 128] kv slices_S4096x8x256_S4096x8x128_0_0_128
/-- The masked scores, -/
def rS (q : FVec Ideal S4096x8x192 .f32) (kv : FVec Ideal S4096x8x256 .f32) (kr : FVec Ideal S4096x8x64 .f32) : FVec Ideal S8x4096x4096 .f32 :=
  select rMask (addf (Host.dotGeneral dot_S4096x8x128_S4096x8x128_S8x4096x4096_2_2_0_0_1_1 none (rQn q) (rKn kv))
      (Host.dotGeneral dot_S4096x8x64_S4096x8x64_S8x4096x4096_2_2_0_0_1_1 none (rQr q) kr))
    (broadcastInDim S8x4096x4096 ![] bcast_S_S8x4096x4096 (id (constant S_ .f32 0xFF800000#32)))
/-- each row's maximum, -/
def rMx (s : FVec Ideal S8x4096x4096 .f32) : FVec Ideal S8x4096 .f32 :=
  Host.reduce FloatOps.maximumf s (constant S_ .f32 0xFF800000#32) reducesTo_S8x4096x4096_S8x4096_d2 h_S_
/-- their exponentials against the row's maximum, -/
def rE (s : FVec Ideal S8x4096x4096 .f32) (mx : FVec Ideal S8x4096 .f32) : FVec Ideal S8x4096x4096 .f32 :=
  Host.exp (subf s (broadcastInDim S8x4096x4096 ![0, 1, 2] bcast_S8x4096x1_S8x4096x4096_0_1_2 (broadcastInDim S8x4096x1 ![0, 1] bcast_S8x4096_S8x4096x1_0_1
    (maximumf (broadcastInDim S8x4096 ![] bcast_S_S8x4096 (constant S_ .f32 0xFF800000#32)) mx))))
/-- the row's sum, -/
def rL (e : FVec Ideal S8x4096x4096 .f32) : FVec Ideal S8x4096x1 .f32 :=
  broadcastInDim S8x4096x1 ![0, 1] bcast_S8x4096_S8x4096x1_0_1 (Host.reduceAdd e (constant S_ .f32 0x00000000#32) reducesTo_S8x4096x4096_S8x4096_d2 h_S_)
/-- the weights, -/
def rW (e : FVec Ideal S8x4096x4096 .f32) (l : FVec Ideal S8x4096x1 .f32) : FVec Ideal S8x4096x4096 .f32 :=
  Host.divf e (broadcastInDim S8x4096x4096 ![0, 1, 2] bcast_S8x4096x1_S8x4096x4096_0_1_2 l)
def rGt (g : FVec Ideal S4096x8x128 .f32) : FVec Ideal S8x128x4096 .f32 := transpose S8x128x4096 [1, 2, 0] g transposes_S4096x8x128_S8x128x4096_1_2_0
/-- their gradient, -/
def rDp (g : FVec Ideal S4096x8x128 .f32) (kv : FVec Ideal S4096x8x256 .f32) : FVec Ideal S8x4096x4096 .f32 :=
  Host.dotGeneral dot_S8x128x4096_S4096x8x128_S8x4096x4096_1_2_2_0_0_1 none (rGt g) (rV kv)
/-- its part through the row's sum, negated, -/
def rAvg (dp e : FVec Ideal S8x4096x4096 .f32) (l : FVec Ideal S8x4096x1 .f32) : FVec Ideal S8x4096 .f32 :=
  Host.reduceAdd (Host.negf (shapeCast _ (Host.reduceAdd (mulf (mulf dp (broadcastInDim S8x4096x4096 ![0, 1, 2] bcast_S8x4096x1_S8x4096x4096_0_1_2
    (Host.divf (broadcastInDim S8x4096x1 ![] bcast_S_S8x4096x1 (constant S_ .f32 0x3F800000#32)) (mulf l l)))) e)
    (constant S_ .f32 0x00000000#32) reducesTo_S8x4096x4096_S8x4096_d2 h_S_) shapeCasts_S8x4096_S8x4096x1))
    (constant S_ .f32 0x00000000#32) reducesTo_S8x4096x1_S8x4096_d2 h_S_
/-- and the scores' gradient. -/
def rDs (dp e : FVec Ideal S8x4096x4096 .f32) (l : FVec Ideal S8x4096x1 .f32) (av : FVec Ideal S8x4096 .f32) : FVec Ideal S8x4096x4096 .f32 :=
  select rMask (mulf (addf (Host.divf dp (broadcastInDim S8x4096x4096 ![0, 1, 2] bcast_S8x4096x1_S8x4096x4096_0_1_2 l))
    (broadcastInDim S8x4096x4096 ![0, 1] bcast_S8x4096_S8x4096x4096_0_1 av)) e)
    (broadcastInDim S8x4096x4096 ![] bcast_S_S8x4096x4096 (constant S_ .f32 0x00000000#32))
def rDq (ds : FVec Ideal S8x4096x4096 .f32) (kv : FVec Ideal S4096x8x256 .f32) (kr : FVec Ideal S4096x8x64 .f32) : FVec Ideal S4096x2048 .f32 :=
  shapeCast _ (pad S4096x8x256 ![0, 0, 0] ![0, 0, 64] ![0, 0, 0] (addf
    (pad S4096x8x192 ![0, 0, 128] ![0, 0, 0] ![0, 0, 0] (transpose S4096x8x64 [1, 0, 2] (Host.dotGeneral dot_S8x4096x4096_S4096x8x64_S8x4096x64_2_0_1_2_0_1 none ds kr) transposes_S8x4096x64_S4096x8x64_1_0_2)
      (constant S_ .f32 0x00000000#32) pads_S4096x8x64_S4096x8x192_000_000_12800 h_S_)
    (pad S4096x8x192 ![0, 0, 0] ![0, 0, 64] ![0, 0, 0] (transpose S4096x8x128 [1, 0, 2] (Host.dotGeneral dot_S8x4096x4096_S4096x8x128_S8x4096x128_2_0_1_2_0_1 none ds (rKn kv)) transposes_S8x4096x128_S4096x8x128_1_0_2)
      (constant S_ .f32 0x00000000#32) pads_S4096x8x128_S4096x8x192_000_000_0640 h_S_))
    (sitofp .f32 (constantI S_ 32 0#32)) pads_S4096x8x192_S4096x8x256_000_000_0640 h_S_) shapeCasts_S4096x8x256_S4096x2048
def rDkr (ds : FVec Ideal S8x4096x4096 .f32) (q : FVec Ideal S4096x8x192 .f32) : FVec Ideal S4096x1024 .f32 :=
  shapeCast _ (pad S4096x8x128 ![0, 0, 0] ![0, 0, 64] ![0, 0, 0]
    (transpose S4096x8x64 [1, 0, 2] (Host.dotGeneral dot_S8x4096x4096_S4096x8x64_S8x4096x64_1_0_2_2_0_1 none ds (rQr q)) transposes_S8x4096x64_S4096x8x64_1_0_2)
    (sitofp .f32 (constantI S_ 32 0#32)) pads_S4096x8x64_S4096x8x128_000_000_0640 h_S_) shapeCasts_S4096x8x128_S4096x1024
def rDkv (ds w : FVec Ideal S8x4096x4096 .f32) (q : FVec Ideal S4096x8x192 .f32) (g : FVec Ideal S4096x8x128 .f32) : FVec Ideal S4096x2048 .bf16 :=
  truncf .bf16 (shapeCast _ (addf
    (pad S4096x8x256 ![0, 0, 128] ![0, 0, 0] ![0, 0, 0] (transpose S4096x8x128 [2, 0, 1] (Host.dotGeneral dot_S8x128x4096_S8x4096x4096_S8x128x4096_2_1_1_2_0_0 none (rGt g) w) transposes_S8x128x4096_S4096x8x128_2_0_1)
      (constant S_ .f32 0x00000000#32) pads_S4096x8x128_S4096x8x256_000_000_12800 h_S_)
    (pad S4096x8x256 ![0, 0, 0] ![0, 0, 128] ![0, 0, 0] (transpose S4096x8x128 [1, 0, 2] (Host.dotGeneral dot_S8x4096x4096_S4096x8x128_S8x4096x128_1_0_2_2_0_1 none ds (rQn q)) transposes_S8x4096x128_S4096x8x128_1_0_2)
      (constant S_ .f32 0x00000000#32) pads_S4096x8x128_S4096x8x256_000_000_01280 h_S_)) shapeCasts_S4096x8x256_S4096x2048) bitsLt_bf16_f32

section
variable (a0 : FVec Ideal S4096x1536 .f32) (a1 : FVec Ideal S4096x2048 .f32) (a2 : FVec Ideal S4096x64 .f32) (a3 : FVec Ideal S4096x1024 .f32)
def pE : FVec Ideal S8x4096x4096 .f32 := rE (rS (rQ a0) (rKV a1) (rKr a2)) (rMx (rS (rQ a0) (rKV a1) (rKr a2)))
def pDs : FVec Ideal S8x4096x4096 .f32 :=
  rDs (rDp (rG a3) (rKV a1)) (pE a0 a1 a2) (rL (pE a0 a1 a2)) (rAvg (rDp (rG a3) (rKV a1)) (pE a0 a1 a2) (rL (pE a0 a1 a2)))
end

section
variable (a0 : FVec Ideal S4096x1536 .f32) (a1 : FVec Ideal S4096x2048 .f32) (a2 : FVec Ideal S4096x64 .f32) (a3 : FVec Ideal S4096x1024 .f32)
  (q : FVec Ideal S4096x8x192 .f32) (kv : FVec Ideal S4096x8x256 .f32) (kr : FVec Ideal S4096x8x64 .f32) (g : FVec Ideal S4096x8x128 .f32)
  (s e dp w ds : FVec Ideal S8x4096x4096 .f32) (l : FVec Ideal S8x4096x1 .f32) (av mx : FVec Ideal S8x4096 .f32)
  (Q : Fin 4096 → Fin 8 → Fin 192 → ℝ) (K : Fin 4096 → Fin 8 → Fin 256 → ℝ) (R : Fin 4096 → Fin 64 → ℝ)
  (C : Fin 4096 → Fin 8 → Fin 128 → ℝ) (D : Fin 8 → Fin 4096 → Fin 4096 → ℝ)

theorem rQ_at (i : Fin 4096) (h : Fin 8) (x : Fin 192) : rQ a0 (ix3 i h x) = a0 (ix2 i (⟨h.val * 192 + x.val, by omega⟩ : Fin 1536)) * Ideal.ofBits .f32 0x3D93CD3A#32 := by
  pointwise [rQ]
theorem rKV_at (i : Fin 4096) (h : Fin 8) (x : Fin 256) : rKV a1 (ix3 i h x) = a1 (ix2 i (⟨h.val * 256 + x.val, by omega⟩ : Fin 2048)) := by
  pointwise [rKV]
theorem rKr_at (i : Fin 4096) (h : Fin 8) (x : Fin 64) : rKr a2 (ix3 i h x) = a2 (ix2 i x) := by
  pointwise [rKr]
theorem rG_at (i : Fin 4096) (h : Fin 8) (x : Fin 128) : rG a3 (ix3 i h x) = a3 (ix2 i (⟨h.val * 128 + x.val, by omega⟩ : Fin 1024)) := by
  pointwise [rG]

theorem rS_at (hq : ∀ i h x, q (ix3 i h x) = (Q i h x : EReal)) (hkv : ∀ i h x, kv (ix3 i h x) = (K i h x : EReal))
    (hkr : ∀ i h x, kr (ix3 i h x) = (R i x : EReal)) (h : Fin 8) (i k : Fin 4096) : rS q kv kr (ix3 h i k) = msk Q K R h i k := by
  pointwise [rS, rMask, rQn, rQr, rKn]
  rw [select_sle _ _ _ _ (by omega) (by omega)]
  unfold msk sR
  simp only [hq, hkv, hkr, ← EReal.coe_mul, coe_sum, ← EReal.coe_add]
  exact if_congr Iff.rfl rfl negInf

theorem rMx_at (hs : ∀ h i k, s (ix3 h i k) = msk Q K R h i k) (h : Fin 8) (i : Fin 4096) : rMx s (ix2 h i) = (MR Q K R h i : EReal) := by
  unfold rMx
  rw [reduce_max_last, show (constant S_ .f32 4286578688#32 : FVec Ideal S_ .f32) (Shape.Idx.first h_S_) = (⊥ : EReal) from negInf, ← fold_msk]
  exact congrArg (fun f => Finset.univ.fold max ⊥ f) (funext fun k => hs h i k)

theorem rE_at (hs : ∀ h i k, s (ix3 h i k) = msk Q K R h i k) (hm : ∀ h i, mx (ix2 h i) = (MR Q K R h i : EReal)) (h : Fin 8) (i k : Fin 4096) :
    rE s mx (ix3 h i k) = (eR Q K R h i k : EReal) := by
  pointwise [rE]
  rw [negInf, hs, hm, max_eq_right bot_le, exp_msk]

theorem rL_at (he : ∀ h i k, e (ix3 h i k) = (eR Q K R h i k : EReal)) (h : Fin 8) (i : Fin 4096) (z : Fin 1) : rL e (ix3 h i z) = (LR Q K R h i : EReal) := by
  pointwise [rL]
  simp only [he, coe_sum]; rfl

theorem rW_at (he : ∀ h i k, e (ix3 h i k) = (eR Q K R h i k : EReal)) (hl : ∀ h i z, l (ix3 h i z) = (LR Q K R h i : EReal)) (h : Fin 8) (i k : Fin 4096) :
    rW e l (ix3 h i k) = (wR Q K R h i k : EReal) := by
  pointwise [rW]
  rw [he, hl, coe_div _ _ (LR_pos Q K R h i).ne']; rfl

theorem rDp_at (hg : ∀ i h x, g (ix3 i h x) = (C i h x : EReal)) (hkv : ∀ i h x, kv (ix3 i h x) = (K i h x : EReal)) (h : Fin 8) (i k : Fin 4096) :
    rDp g kv (ix3 h i k) = (dpR K C h i k : EReal) := by
  pointwise [rDp, rGt, rV]
  simp only [hg, hkv, ← EReal.coe_mul, coe_sum]; rfl

theorem rAvg_at (hdp : ∀ h i k, dp (ix3 h i k) = (dpR K C h i k : EReal)) (he : ∀ h i k, e (ix3 h i k) = (eR Q K R h i k : EReal))
    (hl : ∀ h i z, l (ix3 h i z) = (LR Q K R h i : EReal)) (h : Fin 8) (i : Fin 4096) : rAvg dp e l (ix2 h i) = ((-(avgR Q K R C h i / LR Q K R h i) : ℝ) : EReal) := by
  have hL := (LR_pos Q K R h i).ne'
  pointwise [rAvg]
  simp only [hdp, he, hl]
  rw [← EReal.coe_mul, ← EReal.coe_one, coe_div _ _ (mul_ne_zero hL hL)]
  simp only [← EReal.coe_mul, coe_sum, ← EReal.coe_neg]
  rw [Fin.sum_univ_one]
  refine congrArg _ (congrArg _ ?_)
  unfold avgR wR
  rw [Finset.sum_div]
  exact Finset.sum_congr rfl fun k _ => by field_simp

theorem rDs_at (hdp : ∀ h i k, dp (ix3 h i k) = (dpR K C h i k : EReal)) (he : ∀ h i k, e (ix3 h i k) = (eR Q K R h i k : EReal))
    (hl : ∀ h i z, l (ix3 h i z) = (LR Q K R h i : EReal)) (ha : ∀ h i, av (ix2 h i) = ((-(avgR Q K R C h i / LR Q K R h i) : ℝ) : EReal))
    (h : Fin 8) (i k : Fin 4096) : rDs dp e l av (ix3 h i k) = (dsR Q K R C h i k : EReal) := by
  have hL := (LR_pos Q K R h i).ne'
  pointwise [rDs, rMask]
  rw [select_sle _ _ _ _ (by omega) (by omega)]
  by_cases hk : k.val ≤ i.val
  · rw [if_pos hk, hdp, he, hl, ha, coe_div _ _ hL, ← EReal.coe_add, ← EReal.coe_mul]
    refine congrArg _ ?_
    unfold dsR wR
    field_simp
    ring
  · rw [if_neg hk, dsR_upper Q K R C h i k (by omega)]; rfl

theorem rDq_at (hds : ∀ h i k, ds (ix3 h i k) = (D h i k : EReal)) (hkv : ∀ i h x, kv (ix3 i h x) = (K i h x : EReal))
    (hkr : ∀ i h x, kr (ix3 i h x) = (R i x : EReal)) (i : Fin 4096) (h : Fin 8) (d : Fin 256) :
    rDq ds kv kr (ix2 i (⟨h.val * 256 + d.val, by omega⟩ : Fin 2048)) = ((∑ k, D h i k * K2 K R k h d : ℝ) : EReal) := by
  pointwise [rDq, rKn]
  rw [sitofp_zero]
  simp only [hds, hkv, hkr, ← EReal.coe_mul, coe_sum]
  unfold K2 R2
  by_cases h1 : d.val < 128
  · rw [dif_pos (by omega), dif_neg (by omega), dif_pos h1, zero_add]
    simp only [if_pos h1]
  · by_cases h2 : d.val < 192
    · rw [dif_pos h2, dif_pos (by omega), dif_neg h1, add_zero]
      simp only [if_neg h1, dif_pos (show d.val - 128 < 64 by omega)]
    · rw [dif_neg h2]
      simp only [if_neg h1, dif_neg (show ¬ d.val - 128 < 64 by omega), mul_zero, Finset.sum_const_zero, EReal.coe_zero]

theorem rDkr_at (hds : ∀ h i k, ds (ix3 h i k) = (D h i k : EReal)) (hq : ∀ i h x, q (ix3 i h x) = (Q i h x : EReal)) (k : Fin 4096) (h : Fin 8) (d : Fin 128) :
    rDkr ds q (ix2 k (⟨h.val * 128 + d.val, by omega⟩ : Fin 1024)) = ((∑ i, D h i k * Q2 Q i h ⟨128 + d.val, by omega⟩ : ℝ) : EReal) := by
  pointwise [rDkr, rQr]
  rw [sitofp_zero]
  simp only [hds, hq, ← EReal.coe_mul, coe_sum]
  unfold Q2
  by_cases h1 : d.val < 64
  · rw [dif_pos h1]
    simp only [dif_pos (show 128 + d.val < 192 by omega)]
  · rw [dif_neg h1]
    simp only [dif_neg (show ¬ 128 + d.val < 192 by omega), mul_zero, Finset.sum_const_zero, EReal.coe_zero]

theorem rDkv_at (W : Fin 8 → Fin 4096 → Fin 4096 → ℝ) (hds : ∀ h i k, ds (ix3 h i k) = (D h i k : EReal)) (hw : ∀ h i k, w (ix3 h i k) = (W h i k : EReal))
    (hq : ∀ i h x, q (ix3 i h x) = (Q i h x : EReal)) (hg : ∀ i h x, g (ix3 i h x) = (C i h x : EReal)) (k : Fin 4096) (h : Fin 8) (d : Fin 256) :
    rDkv ds w q g (ix2 k (⟨h.val * 256 + d.val, by omega⟩ : Fin 2048))
      = ((if h1 : d.val < 128 then ∑ i, D h i k * Q2 Q i h d else ∑ i, W h i k * C i h ⟨d.val - 128, by omega⟩ : ℝ) : EReal) := by
  pointwise [rDkv, rQn, rGt]
  simp only [hds, hw, hq, hg, ← EReal.coe_mul, coe_sum]
  by_cases h1 : d.val < 128
  · rw [dif_neg (by omega), dif_pos h1, dif_pos h1, zero_add]
    unfold Q2
    simp only [dif_pos (show d.val < 192 by omega)]
  · rw [dif_pos (by omega), dif_neg h1, dif_neg h1, add_zero]
    simp only [mul_comm]
end

end Cert.FlashBwd.Ref

end
-- ==== Proof.RefRes.lean ====
/- The reference's three results, as the stages of Proof/Ref.lean. -/
module

public import proofs.«01_k».proof.Proof.Ref
public import proofs.«01_k».proof.Proof.Gen.ReferenceIdeal
public import proofs.«01_k».proof.Proof.Gen.ReferenceIdeal.Run
public import Idealize.ShloMosaic.Lib.Pointwise
public import Idealize.ShloMosaic.Lib.WordCmp

@[expose] public section

set_option maxRecDepth 16384

noncomputable section

namespace Cert.FlashBwd.Ref

open Idealize.ShloMosaic Idealize.ShloMosaic.TcCoe Cert.ReferenceIdeal Cert.ReferenceIdeal.Gen

set_option maxHeartbeats 1000000 in
theorem res2 (m : (ℓ : Loc nD τ sig) → Buf (Elt Ideal) ℓ) (c : Dev nD) : Value.res_main_v86 m c
    = rDq (pDs (m ((c.tc : Thread nD τ).loc main_arg0)) (m ((c.tc : Thread nD τ).loc main_arg1)) (m ((c.tc : Thread nD τ).loc main_arg2)) (m ((c.tc : Thread nD τ).loc main_arg3)))
      (rKV (m ((c.tc : Thread nD τ).loc main_arg1))) (rKr (m ((c.tc : Thread nD τ).loc main_arg2))) := by
  unfold Value.res_main_v86; rfl
theorem res1 (m : (ℓ : Loc nD τ sig) → Buf (Elt Ideal) ℓ) (c : Dev nD) : Value.res_main_v84 m c
    = rDkr (pDs (m ((c.tc : Thread nD τ).loc main_arg0)) (m ((c.tc : Thread nD τ).loc main_arg1)) (m ((c.tc : Thread nD τ).loc main_arg2)) (m ((c.tc : Thread nD τ).loc main_arg3)))
      (rQ (m ((c.tc : Thread nD τ).loc main_arg0))) := by
  unfold Value.res_main_v84; rfl
theorem res0 (m : (ℓ : Loc nD τ sig) → Buf (Elt Ideal) ℓ) (c : Dev nD) : Value.res_main_v88 m c
    = rDkv (pDs (m ((c.tc : Thread nD τ).loc main_arg0)) (m ((c.tc : Thread nD τ).loc main_arg1)) (m ((c.tc : Thread nD τ).loc main_arg2)) (m ((c.tc : Thread nD τ).loc main_arg3)))
      (rW (pE (m ((c.tc : Thread nD τ).loc main_arg0)) (m ((c.tc : Thread nD τ).loc main_arg1)) (m ((c.tc : Thread nD τ).loc main_arg2)))
        (rL (pE (m ((c.tc : Thread nD τ).loc main_arg0)) (m ((c.tc : Thread nD τ).loc main_arg1)) (m ((c.tc : Thread nD τ).loc main_arg2)))))
      (rQ (m ((c.tc : Thread nD τ).loc main_arg0))) (rG (m ((c.tc : Thread nD τ).loc main_arg3))) := by
  unfold Value.res_main_v88; rfl

end Cert.FlashBwd.Ref

end
-- ==== Proof.Value.lean ====
/- The kernel's three results are the reference's: both are the gradients of causal attention, entry by entry. -/
module

public import proofs.«01_k».proof.Defs
public import proofs.«01_k».proof.Proof.Arrays
public import proofs.«01_k».proof.Proof.Pre
public import proofs.«01_k».proof.Proof.RefRes

@[expose] public section

set_option maxRecDepth 16384

noncomputable section

namespace Cert.FlashBwd

open Idealize.ShloMosaic Idealize.ShloMosaic.TcCoe Idealize.ShloMosaic.Tactic Idealize.SL.Sem
open Cert.KernelIdeal Cert.KernelIdeal.Gen

section
variable (Q : Fin 4096 → Fin 8 → Fin 192 → ℝ) (K : Fin 4096 → Fin 8 → Fin 256 → ℝ) (R : Fin 4096 → Fin 64 → ℝ) (C : Fin 4096 → Fin 8 → Fin 128 → ℝ)
  (a0 : FVec Ideal S4096x1536 .f32) (a1 : FVec Ideal S4096x2048 .f32) (a2 : FVec Ideal S4096x64 .f32) (a3 : FVec Ideal S4096x1024 .f32)
  (hq : ∀ i h x, Ref.rQ a0 (ix3 i h x) = (Q i h x : EReal)) (hkv : ∀ i h x, Ref.rKV a1 (ix3 i h x) = (K i h x : EReal))
  (hkr : ∀ i h x, Ref.rKr a2 (ix3 i h x) = (R i x : EReal)) (hg : ∀ i h x, Ref.rG a3 (ix3 i h x) = (C i h x : EReal))
include hq hkv hkr

/-! ## The reference's weights and score gradients -/

theorem pE_at (h : Fin 8) (i k : Fin 4096) : Ref.pE a0 a1 a2 (ix3 h i k) = (eR Q K R h i k : EReal) := by
  have hs := Ref.rS_at _ _ _ Q K R hq hkv hkr
  exact Ref.rE_at _ _ Q K R hs (Ref.rMx_at _ Q K R hs) h i k

include hg in
theorem pDs_at (h : Fin 8) (i k : Fin 4096) : Ref.pDs a0 a1 a2 a3 (ix3 h i k) = (dsR Q K R C h i k : EReal) := by
  have he := pE_at Q K R a0 a1 a2 hq hkv hkr
  have hl := Ref.rL_at _ Q K R he
  have hdp := Ref.rDp_at _ _ K C hg hkv
  exact Ref.rDs_at _ _ _ _ Q K R C hdp he hl (Ref.rAvg_at _ _ _ Q K R C hdp he hl) h i k
end

section
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The reference's results are the kernel's output arrays. -/
theorem out_eq [Cert.Pre_finite.Facts] (h : Cert.Pre_finite.fn (F := Ideal) (A0 m c) (A1 m c) (A2 m c) (A3 m c) = fun _ => 1#1)
    (e0 : m' ((c.tc : Thread Cert.ReferenceIdeal.nD Cert.ReferenceIdeal.τ).loc Cert.ReferenceIdeal.main_arg0) = A0 m c)
    (e1 : m' ((c.tc : Thread Cert.ReferenceIdeal.nD Cert.ReferenceIdeal.τ).loc Cert.ReferenceIdeal.main_arg1) = A1 m c)
    (e2 : m' ((c.tc : Thread Cert.ReferenceIdeal.nD Cert.ReferenceIdeal.τ).loc Cert.ReferenceIdeal.main_arg2) = A2 m c)
    (e3 : m' ((c.tc : Thread Cert.ReferenceIdeal.nD Cert.ReferenceIdeal.τ).loc Cert.ReferenceIdeal.main_arg3) = A3 m c) :
    (dats m 0 c).arrAt 7 (cfgA (F := Ideal)).N = Cert.ReferenceIdeal.Value.res_main_v88 m' c
    ∧ (dats m 0 c).arrAt 8 (cfgA (F := Ideal)).N = Cert.ReferenceIdeal.Value.res_main_v84 m' c
    ∧ (dats m 0 c).arrAt 9 (cfgA (F := Ideal)).N = Cert.ReferenceIdeal.Value.res_main_v86 m' c := by
  obtain ⟨Q, K, R, C, H⟩ := lift_of_pre m c h
  have hq : ∀ i h x, Ref.rQ (A0 m c) (ix3 i h x) = (Q i h x : EReal) := fun i h x => by rw [Ref.rQ_at, ← hQ_at, H.q]
  have hkv : ∀ i h x, Ref.rKV (A1 m c) (ix3 i h x) = (K i h x : EReal) := fun i h x => (Ref.rKV_at _ i h x).trans ((hKV_at _ i h x).symm.trans (H.kv i h x))
  have hkr : ∀ i h x, Ref.rKr (A2 m c) (ix3 i h x) = (R i x : EReal) := fun i h x => by rw [Ref.rKr_at, H.kr]
  have hg : ∀ i h x, Ref.rG (A3 m c) (ix3 i h x) = (C i h x : EReal) := fun i h x => (Ref.rG_at _ i h x).trans ((hG_at _ i h x).symm.trans (H.g i h x))
  have he := pE_at Q K R _ _ _ hq hkv hkr
  have hds := pDs_at Q K R C _ _ _ _ hq hkv hkr hg
  have hw := Ref.rW_at _ _ Q K R he (Ref.rL_at _ Q K R he)
  rw [Ref.res0, Ref.res1, Ref.res2, e0, e1, e2, e3]
  refine ⟨out7 m c Q K R C H _ fun i h d => ?_, out8 m c Q K R C H _ fun i h d => ?_, out9 m c Q K R C H _ fun i h d => ?_⟩
  · exact Ref.rDkv_at _ _ _ _ Q C (dsR Q K R C) (wR Q K R) hds hw hq hg i h d
  · exact Ref.rDkr_at _ _ Q (dsR Q K R C) hds hq i h d
  · exact Ref.rDq_at _ _ _ K R (dsR Q K R C) hds hkv hkr i h d

/-- What the kernel's run leaves in its output arrays. -/
theorem post_out {r : PUnit × MemSt nD τ sig (Elt Ideal)} (h : Pipeline.FramePost (Pipeline.pin (pcfgs (F := Ideal)) adm) (dats m) 0 (V m) r) :
    r.2.mem ((c.tc : Thread nD τ).loc main_v49_0) = (dats m 0 c).arrAt 7 (cfgA (F := Ideal)).N
    ∧ r.2.mem ((c.tc : Thread nD τ).loc main_v49_1) = (dats m 0 c).arrAt 8 (cfgA (F := Ideal)).N
    ∧ r.2.mem ((c.tc : Thread nD τ).loc main_v49_2) = (dats m 0 c).arrAt 9 (cfgA (F := Ideal)).N :=
  ⟨(h c).1 7, (h c).1 8, (h c).1 9⟩
end

end Cert.FlashBwd

end
-- ==== Proof.Gate.lean ====
/- The gate of the feed-forward part: the logistic function, and two ways of writing the gate's slope. They agree on real numbers
   only, because multiplication spreads over a sum there and not at the infinities. -/
module

public import proofs.«01_k».proof.Proof.Spec
public import proofs.«01_k».proof.Proof.Pre

@[expose] public section

set_option maxRecDepth 16384

noncomputable section

namespace Cert.Gate

open Idealize.ShloMosaic

/-- The logistic function. -/
def sg (g : EReal) : EReal := Ideal.div 1 (1 + Ideal.exp (-g))

/-- The slope of `g * sg g * u` in `g`. -/
def slope (g u : EReal) : EReal := u * sg g + g * u * (sg g * (1 - sg g))

theorem sg_coe (a : ℝ) : ∃ s : ℝ, sg a = s := by
  refine ⟨1 / (1 + Real.exp (-a)), ?_⟩
  have h : (1 : ℝ) + Real.exp (-a) ≠ 0 := by positivity
  unfold sg
  rw [← EReal.coe_neg, Ideal.exp_coe, ← EReal.coe_one, ← EReal.coe_add, Cert.FlashBwd.coe_div _ _ h]

/-- The slope with the gate's derivative taken together, -/
theorem slope_eq (g u : EReal) (hg : (g.toReal : EReal) = g) (hu : (u.toReal : EReal) = u) :
    u * (sg g * (1 + g * (1 - sg g))) = slope g u := by
  obtain ⟨s, hs⟩ := sg_coe g.toReal
  rw [hg] at hs
  unfold slope
  rw [hs, ← hg, ← hu]
  norm_cast
  congr 1
  ring

/-- and times a cotangent. -/
theorem mul_slope (d g u : EReal) (hd : (d.toReal : EReal) = d) (hg : (g.toReal : EReal) = g) (hu : (u.toReal : EReal) = u) :
    d * slope g u = slope g (d * u) := by
  obtain ⟨s, hs⟩ := sg_coe g.toReal
  rw [hg] at hs
  unfold slope
  rw [hs, ← hd, ← hg, ← hu]
  norm_cast
  congr 1
  ring

/-- A sum of products of reals is real. -/
theorem sum_real {n : ℕ} (a b : Fin n → EReal) (ha : ∀ k, ((a k).toReal : EReal) = a k) (hb : ∀ k, ((b k).toReal : EReal) = b k) :
    ((∑ k, a k * b k).toReal : EReal) = ∑ k, a k * b k := by
  have h : ∑ k, a k * b k = ((∑ k, (a k).toReal * (b k).toReal : ℝ) : EReal) := by
    rw [← Cert.FlashBwd.coe_sum]
    exact Finset.sum_congr rfl fun k _ => by rw [EReal.coe_mul, ha, hb]
  rw [h, EReal.toReal_coe]

end Cert.Gate

end
-- ==== Proof.FfnUp.lean ====
/- The first half of the feed-forward part (`ffn_up`): the launch's three arrays, entry by entry, are the activation and its two slopes
   of the two products of the input's row and the weights' column. -/
module

public import proofs.«01_k».proof.Defs
public import proofs.«01_k».proof.Proof.Gate
public import proofs.«01_k».proof.Proof.Gen.Kernel6
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.FfnUp

open Idealize.ShloMosaic Idealize.ShloMosaic.TcCoe Idealize.ShloMosaic.Tactic Idealize.SL.Sem Cert.Kernel6Ideal Cert.Kernel6Ideal.Gen
open Idealize.ShloMosaic.Pipeline (Dat Cfg Window)
open Cert.Gate (sg)

theorem origin : (![0, 0] : Fin 2 → ℕ) = fun _ => 0 := funext fun a => by fin_cases a <;> rfl
theorem origin3 : (![0, 0, 0] : Fin 3 → ℕ) = fun _ => 0 := funext fun a => by fin_cases a <;> rfl

theorem preFacts : Cert.Pre_finite6.Facts where
  bcast_S_S4096x2048 := by decide
  reducesTo_S4096x2048_S_d0_1 := by decide
  h_S_ := by decide
  bcast_S_S4x2048x1408 := by decide
  reducesTo_S4x2048x1408_S_d0_1_2 := by decide

section
variable (x : Vec Ideal S512x2048 .bf16) (y y' : Vec Ideal S1x2048x1408 .bf16) (p : Fin 512) (q : Fin 1408)

/-- A block's product. -/
def prod : EReal := ∑ k : Fin 2048, x (ix2 p k) * y (ix3 0 k q)

theorem gate_at : k0_pay2 (F := Ideal) x y (ix2 p q) = prod x y p q := by pointwise [k0_pay2, k0_pay1, prod]
theorem up_at : k0_pay3 (F := Ideal) x y (ix2 p q) = prod x y p q := by pointwise [k0_pay3, k0_pay1, prod]
theorem sg_at : k0_pay4 (F := Ideal) x y (ix2 p q) = sg (prod x y p q) := by
  rw [← gate_at]
  pointwise [k0_pay4, sg]
  rw [zero_sub]

theorem out3_at : out0_3 (F := Ideal) x y y' (ix2 p q) = prod x y p q * sg (prod x y p q) := by
  unfold out0_3
  rw [View.canon_unit_zero (S := S512x1408) origin, View.ld_unit_zero (S := S512x2048) origin, View.ld_unit_zero (S := S1x2048x1408) origin3]
  pointwise [k0_pay6, k0_pay5]
  rw [gate_at, sg_at]

theorem out4_at : out0_4 (F := Ideal) x y y' (ix2 p q)
    = prod x y' p q * (sg (prod x y p q) * (1 + prod x y p q * (1 - sg (prod x y p q)))) := by
  unfold out0_4
  rw [View.canon_unit_zero (S := S512x1408) origin, View.ld_unit_zero (S := S512x2048) origin, View.ld_unit_zero (S := S1x2048x1408) origin3,
    View.ld_unit_zero (S := S1x2048x1408) origin3]
  pointwise [k0_pay7]
  rw [gate_at, up_at, sg_at]

theorem out5_at : out0_5 (F := Ideal) x y y' (ix2 p q) = prod x y p q * sg (prod x y p q) * prod x y' p q := by
  unfold out0_5
  rw [View.canon_unit_zero (S := S512x1408) origin, View.ld_unit_zero (S := S512x2048) origin, View.ld_unit_zero (S := S1x2048x1408) origin3,
    View.ld_unit_zero (S := S1x2048x1408) origin3]
  pointwise [k0_pay8, k0_pay5]
  rw [gate_at, up_at, sg_at]
end

theorem idx_0 : ∀ t : Fin grid0.N, win0_0.index t = ![t.val % 8, 0] := of_decide_eq_true (by sl_kernel_rfl)
theorem idx_1 : ∀ t : Fin grid0.N, win0_1.index t = ![t.val / 8, 0, 0] := of_decide_eq_true (by sl_kernel_rfl)
theorem idx_2 : ∀ t : Fin grid0.N, win0_2.index t = ![t.val / 8, 0, 0] := of_decide_eq_true (by sl_kernel_rfl)
theorem idx_3 : ∀ t : Fin grid0.N, win0_3.index t = ![t.val % 8, t.val / 8] := of_decide_eq_true (by sl_kernel_rfl)
theorem idx_4 : ∀ t : Fin grid0.N, win0_4.index t = ![t.val % 8, t.val / 8] := of_decide_eq_true (by sl_kernel_rfl)
theorem idx_5 : ∀ t : Fin grid0.N, win0_5.index t = ![t.val % 8, t.val / 8] := of_decide_eq_true (by sl_kernel_rfl)

section
variable (m : (ℓ : Loc nD τ sig) → Buf (Elt Ideal) ℓ) (c : Dev nD)

/-- The input and the two weights, as launched. -/
abbrev v : FVec Ideal S4096x2048 .f32 := m ((c : Thread nD τ).loc main_arg0)
abbrev wg : FVec Ideal S4x2048x1408 .f32 := m ((c : Thread nD τ).loc main_arg1)
abbrev wu : FVec Ideal S4x2048x1408 .f32 := m ((c : Thread nD τ).loc main_arg2)

theorem V_0 : V m c main_v0 = v m c := by
  unfold V; after_results; rfl
theorem V_1 : V m c main_v1 = wg m c := by
  unfold V; after_results; rfl
theorem V_2 : V m c main_v2 = wu m c := by
  unfold V; after_results; rfl

/-- The two products. -/
def gate (P : Fin 4096) (J : Fin 4) (q : Fin 1408) : EReal := ∑ k : Fin 2048, v m c (ix2 P k) * wg m c (ix3 J k q)
def up (P : Fin 4096) (J : Fin 4) (q : Fin 1408) : EReal := ∑ k : Fin 2048, v m c (ix2 P k) * wu m c (ix3 J k q)

variable (t : Fin grid0.N)
theorem lt : t.val < 32 := t.isLt

theorem iblk_0 (p : Fin 512) (k : Fin 2048) (P : Fin 4096) (hP : P.val = t.val % 8 * 512 + p.val) :
    iblk m c 0 t (ix2 p k) = v m c (ix2 P k) := by
  rw [← V_0]
  have e := idx_0 t
  blk_ext [iblk, e, hP]
theorem iblk_1 (k : Fin 2048) (q : Fin 1408) (J : Fin 4) (hJ : J.val = t.val / 8) :
    iblk m c 1 t (ix3 0 k q) = wg m c (ix3 J k q) := by
  rw [← V_1]
  have e := idx_1 t
  blk_ext [iblk, e, hJ]
theorem iblk_2 (k : Fin 2048) (q : Fin 1408) (J : Fin 4) (hJ : J.val = t.val / 8) :
    iblk m c 2 t (ix3 0 k q) = wu m c (ix3 J k q) := by
  rw [← V_2]
  have e := idx_2 t
  blk_ext [iblk, e, hJ]

theorem prod_gate (p : Fin 512) (q : Fin 1408) (P : Fin 4096) (J : Fin 4) (hP : P.val = t.val % 8 * 512 + p.val) (hJ : J.val = t.val / 8) :
    prod (iblk m c 0 t) (iblk m c 1 t) p q = gate m c P J q :=
  Finset.sum_congr rfl fun k _ => congr_arg₂ (· * ·) (iblk_0 m c t p k _ hP) (iblk_1 m c t k q _ hJ)
theorem prod_up (p : Fin 512) (q : Fin 1408) (P : Fin 4096) (J : Fin 4) (hP : P.val = t.val % 8 * 512 + p.val) (hJ : J.val = t.val / 8) :
    prod (iblk m c 0 t) (iblk m c 2 t) p q = up m c P J q :=
  Finset.sum_congr rfl fun k _ => congr_arg₂ (· * ·) (iblk_0 m c t p k _ hP) (iblk_2 m c t k q _ hJ)

/-- The three arrays after the launch. -/
theorem out_3 (G : FVec Ideal S4096x5632 .bf16)
    (hG : ∀ (r : Fin 4096) (j : Fin 4) (f : Fin 1408), G (ix2 r (⟨j.val * 1408 + f.val, by omega⟩ : Fin 5632)) = gate m c r j f * sg (gate m c r j f)) :
    (dats m 0 c).arrAt 3 cfg0.N = G := by
  refine (dats m 0 c).arrAt_eq_of_covers 3 G (by decide +kernel) fun t _ y => ?_
  have e := idx_3 t
  have hN := lt t
  have hv (p : Fin 512) (q : Fin 1408) : (dats m 0 c).after 3 t (ix2 p q) = G (((cfg0.win 3).blk t).view.emb (ix2 p q)) := by
    have hG' : G (((cfg0.win 3).blk t).view.emb (ix2 p q))
        = G (ix2 (⟨t.val % 8 * 512 + p.val, by omega⟩ : Fin 4096) (⟨t.val / 8 * 1408 + q.val, by omega⟩ : Fin 5632)) := by
      refine congrArg G ?_
      blk_ext [e]
    rw [hG', hG _ (⟨t.val / 8, by omega⟩ : Fin 4), after0_3, out3_at, prod_gate m c t p q ⟨t.val % 8 * 512 + p.val, by omega⟩ ⟨t.val / 8, by omega⟩ rfl rfl]
  blk_simp [e]
  rw [eq_ix2 (n0 := 512) (n1 := 1408) y]
  exact hv _ _

theorem out_4 (G : FVec Ideal S4096x5632 .bf16)
    (hG : ∀ (r : Fin 4096) (j : Fin 4) (f : Fin 1408), G (ix2 r (⟨j.val * 1408 + f.val, by omega⟩ : Fin 5632))
      = up m c r j f * (sg (gate m c r j f) * (1 + gate m c r j f * (1 - sg (gate m c r j f))))) :
    (dats m 0 c).arrAt 4 cfg0.N = G := by
  refine (dats m 0 c).arrAt_eq_of_covers 4 G (by decide +kernel) fun t _ y => ?_
  have e := idx_4 t
  have hN := lt t
  have hv (p : Fin 512) (q : Fin 1408) : (dats m 0 c).after 4 t (ix2 p q) = G (((cfg0.win 4).blk t).view.emb (ix2 p q)) := by
    have hG' : G (((cfg0.win 4).blk t).view.emb (ix2 p q))
        = G (ix2 (⟨t.val % 8 * 512 + p.val, by omega⟩ : Fin 4096) (⟨t.val / 8 * 1408 + q.val, by omega⟩ : Fin 5632)) := by
      refine congrArg G ?_
      blk_ext [e]
    rw [hG', hG _ (⟨t.val / 8, by omega⟩ : Fin 4), after0_4, out4_at, prod_gate m c t p q ⟨t.val % 8 * 512 + p.val, by omega⟩ ⟨t.val / 8, by omega⟩ rfl rfl,
      prod_up m c t p q ⟨t.val % 8 * 512 + p.val, by omega⟩ ⟨t.val / 8, by omega⟩ rfl rfl]
  blk_simp [e]
  rw [eq_ix2 (n0 := 512) (n1 := 1408) y]
  exact hv _ _

theorem out_5 (G : FVec Ideal S4096x5632 .bf16)
    (hG : ∀ (r : Fin 4096) (j : Fin 4) (f : Fin 1408), G (ix2 r (⟨j.val * 1408 + f.val, by omega⟩ : Fin 5632))
      = gate m c r j f * sg (gate m c r j f) * up m c r j f) :
    (dats m 0 c).arrAt 5 cfg0.N = G := by
  refine (dats m 0 c).arrAt_eq_of_covers 5 G (by decide +kernel) fun t _ y => ?_
  have e := idx_5 t
  have hN := lt t
  have hv (p : Fin 512) (q : Fin 1408) : (dats m 0 c).after 5 t (ix2 p q) = G (((cfg0.win 5).blk t).view.emb (ix2 p q)) := by
    have hG' : G (((cfg0.win 5).blk t).view.emb (ix2 p q))
        = G (ix2 (⟨t.val % 8 * 512 + p.val, by omega⟩ : Fin 4096) (⟨t.val / 8 * 1408 + q.val, by omega⟩ : Fin 5632)) := by
      refine congrArg G ?_
      blk_ext [e]
    rw [hG', hG _ (⟨t.val / 8, by omega⟩ : Fin 4), after0_5, out5_at, prod_gate m c t p q ⟨t.val % 8 * 512 + p.val, by omega⟩ ⟨t.val / 8, by omega⟩ rfl rfl,
      prod_up m c t p q ⟨t.val % 8 * 512 + p.val, by omega⟩ ⟨t.val / 8, by omega⟩ rfl rfl]
  blk_simp [e]
  rw [eq_ix2 (n0 := 512) (n1 := 1408) y]
  exact hv _ _

/-- Under the precondition both products are real numbers. -/
theorem reals [Cert.Pre_finite6.Facts] (h : Cert.Pre_finite6.fn (F := Ideal) (v m c) (wg m c) (wu m c) = fun _ => 1#1)
    (r : Fin 4096) (j : Fin 4) (f : Fin 1408) :
    ((gate m c r j f).toReal : EReal) = gate m c r j f ∧ ((up m c r j f).toReal : EReal) = up m c r j f := by
  have h0 := congrFun h (Shape.Idx.first Cert.Pre_finite6.Facts.h_S_)
  dsimp only [Cert.Pre_finite6.fn] at h0
  obtain ⟨h1, e2⟩ := IntOp.andi_eq_one.1 h0
  obtain ⟨e0, e1⟩ := IntOp.andi_eq_one.1 h1
  exact ⟨Cert.Gate.sum_real _ _ (fun k => Cert.FlashBwd.all_real _ _ _ _ _ e0 _) (fun k => Cert.FlashBwd.all_real _ _ _ _ _ e1 _),
    Cert.Gate.sum_real _ _ (fun k => Cert.FlashBwd.all_real _ _ _ _ _ e0 _) (fun k => Cert.FlashBwd.all_real _ _ _ _ _ e2 _)⟩
end

/-- The kernel and the reference end with equal activations and slopes. -/
theorem algebraic [Cert.Pre_finite6.Facts] : Cert.algebraic_Kernel6Ideal_Reference6Ideal_pre_finite6 := by
  intro m g m' g' hpre hagree
  refine ⟨_, _, _, ?_, Cert.Reference6Ideal.Value.run (F := Ideal) m' g'⟩
  refine (θ_run Cert.Kernel6Ideal.defs _ _).mono (fun r h c => ?_) (Cert.Kernel6Ideal.Value.run_blocks (F := Ideal) m g)
  refine ⟨(h c).1.trans (out_3 m c _ fun r j f => ?_), (h c).2.1.trans (out_4 m c _ fun r j f => ?_), (h c).2.2.1.trans (out_5 m c _ fun r j f => ?_), (h c).2.2.2⟩
  · rw [(hagree c).1, (hagree c).2.1]
    pointwise [gate, sg]
  · rw [(hagree c).1, (hagree c).2.1, (hagree c).2.2, Cert.Gate.slope_eq _ _ (reals m c (hpre c) r j f).1 (reals m c (hpre c) r j f).2]
    pointwise [gate, up, sg, Cert.Gate.slope]
  · rw [(hagree c).1, (hagree c).2.1, (hagree c).2.2]
    pointwise [gate, up, sg]

section
variable {F : FTy → Type} [FloatOps F]

/-! The printed kernel and its ideal form are one text, so the one's run is the other's. -/

theorem same_body : Cert.Kernel6.cc0_ffn_up (F := F) = Cert.Kernel6Ideal.cc0_ffn_up (F := F) := rfl
theorem same_bodies : (Cert.Kernel6.defs₀ : Defs _ _ _ (Elt F) _) = Cert.Kernel6Ideal.defs₀ (F := F) := by
  refine congrArg (Defs.onTc (nD := Cert.Kernel6Ideal.nD) (τ := Cert.Kernel6Ideal.τ) (sig := Cert.Kernel6Ideal.sig) (Val := Elt F) (Λ := Cert.Kernel6Ideal.Λ₀)) (funext fun l => ?_)
  match l with
  | 0 => exact funext fun a => congrFun (congrFun (congrFun (congrFun (congrFun (congrFun (congrFun (congrFun (congrFun (congrFun (congrFun (congrFun (congrFun same_body _) _) _) _) _) _) _) _) _) _) _) _) _
theorem defs_eq : Cert.Kernel6.defs (F := F) = Pipeline.defs (Cert.Kernel6Ideal.pcfgs (F := F)) Cert.Kernel6.defs₀ := rfl
theorem same_defs : Cert.Kernel6.defs (F := F) = Cert.Kernel6Ideal.defs (F := F) :=
  defs_eq.trans (congrArg (Pipeline.defs (Cert.Kernel6Ideal.pcfgs (F := F))) same_bodies)
theorem same_main : Cert.Kernel6.main (F := F) = Cert.Kernel6Ideal.main (F := F) := rfl

theorem run_of_same (D : Defs Cert.Kernel6Ideal.nD Cert.Kernel6Ideal.τ Cert.Kernel6Ideal.sig (Elt F) (Pipeline.Sig Cert.Kernel6Ideal.Λ₀ (Fin 1) fun p => (Cert.Kernel6Ideal.pcfgs (F := F) p).Adm)) (M)
    (hD : D = Cert.Kernel6Ideal.defs (F := F)) (hM : M = Cert.Kernel6Ideal.main (F := F)) (s Q) (h : θ_run (Cert.Kernel6Ideal.defs (F := F)) (onTc (τ := Cert.Kernel6Ideal.τ) (Cert.Kernel6Ideal.main (F := F))) s Q) :
    θ_run D (onTc (τ := Cert.Kernel6Ideal.τ) M) s Q := by
  subst hD hM; exact h
end

theorem frame_printed : Cert.quiescent_Kernel6 := fun m ρ _ =>
  run_of_same (F := Bits) (Cert.Kernel6.defs (F := Bits)) (Cert.Kernel6.main (F := Bits)) same_defs same_main _ _ (Cert.Kernel6Ideal.Gen.frame (F := Bits) m ρ)

theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

end Cert.FfnUp

end
-- ==== Proof.FfnDown.lean ====
/- The last product of the feed-forward part (`ffn_down`): the launch's array is the product of the activations and the
   weight, each entry one sum over the hidden columns, which the kernel takes in four steps. -/
module

public import proofs.«01_k».proof.Defs
public import proofs.«01_k».proof.Proof.Gen.Kernel7Ideal.Value
public import proofs.«01_k».proof.Proof.Gen.Reference7Ideal.Run
public import proofs.«01_k».proof.Proof.Gen.Kernel7
public import Idealize.ShloMosaic.Lib.Pointwise
public import Idealize.ShloMosaic.Lib.Pipeline.ValueKit

@[expose] public section

set_option maxRecDepth 16384

noncomputable section

namespace Cert.FfnDown

open Idealize.ShloMosaic Idealize.ShloMosaic.TcCoe Idealize.ShloMosaic.Tactic Idealize.SL.Sem Cert.Kernel7Ideal Cert.Kernel7Ideal.Gen
open Idealize.ShloMosaic.Pipeline (Dat Cfg Window)

theorem origin : (![0, 0] : Fin 2 → ℕ) = fun _ => 0 := funext fun a => by fin_cases a <;> rfl

section
variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1024x1024 .f32) (h6 : a6.IsWhole) (x : Vec Ideal S1024x1408 .bf16) (y : Vec Ideal S1408x1024 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1408) origin, View.ld_unit_zero (S := S1408x1024) origin]

/-- at the next two it goes on, -/
theorem next (h : ¬cond0_0 i) (h' : ¬cond0_1 i) (s : Vec Ideal S1024x1024 .f32) :
    sout0_B_0 (F := Ideal) c i a3 h3 a4 h4 a5 h5 a6 h6 h h' x y s = k0_pay2 x y s := by
  unfold sout0_B_0
  rw [View.read_writes_eq_canon _ _ _ (scover0_B_0 c i a3 h3 a4 h4 a5 h5 a6 h6 h h' x y s)]
  unfold kernelRun0_B
  dsimp only
  sl_unfold_words
  rw [View.canon_unit_zero (S := S1024x1024) origin]
  simp only [View.readAt_eq_ld, h3.read_unread, h4.read_unread, h6.read_unread, View.ld_unit_zero (S := S1024x1024) origin,
    View.ld_unit_zero (S := S1024x1408) origin, View.ld_unit_zero (S := S1408x1024) origin]

/-- and at its last it is written out. -/
theorem last (h : ¬cond0_0 i) (h' : cond0_1 i) (s : Vec Ideal S1024x1024 .f32) :
    out0_C_2 (F := Ideal) c i a3 h3 a4 h4 a5 h5 a6 h6 h h' x y s = k0_pay2 x y s := by
  unfold out0_C_2
  rw [View.read_writes_eq_canon _ _ _ (cover0_C_2 c i a3 h3 a4 h4 a5 h5 a6 h6 h h' x y s)]
  unfold kernelRun0_C
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S1024x1024) origin,
    View.ld_unit_zero (S := S1024x1408) origin, View.ld_unit_zero (S := S1408x1024) origin]
end

theorem start_at (p q : Fin 1024) : k0_pay1 (F := Ideal) (ix2 p q) = 0 := by pointwise [k0_pay1]

/-- One step adds the product of the two blocks. -/
theorem step_at (x : Vec Ideal S1024x1408 .bf16) (y : Vec Ideal S1408x1024 .bf16) (s : Vec Ideal S1024x1024 .f32) (p q : Fin 1024) :
    k0_pay2 (F := Ideal) x y s (ix2 p q) = s (ix2 p q) + ∑ k : Fin 1408, x (ix2 p k) * y (ix2 k q) := by pointwise [k0_pay2]

theorem idx_0 : ∀ t : Fin grid0.N, win0_0.index t = ![t.val / 8, t.val % 4] := of_decide_eq_true (by sl_kernel_rfl)
theorem idx_1 : ∀ t : Fin grid0.N, win0_1.index t = ![t.val % 4, t.val / 4 % 2] := of_decide_eq_true (by sl_kernel_rfl)
theorem idx_2 : ∀ t : Fin grid0.N, win0_2.index t = ![t.val / 8, t.val / 4 % 2] := of_decide_eq_true (by sl_kernel_rfl)

section
variable (m : (ℓ : Loc nD τ sig) → Buf (Elt Ideal) ℓ) (c : Dev nD)

/-- The activations and the weight, as launched. -/
abbrev act : FVec Ideal S4096x5632 .f32 := m ((c : Thread nD τ).loc main_arg0)
abbrev wd : FVec Ideal S5632x2048 .f32 := m ((c : Thread nD τ).loc main_arg1)

theorem V_0 : V m c main_v0 = act m c := by
  unfold V; after_results; rfl
theorem V_1 : V m c main_v1 = wd m c := by
  unfold V; after_results; rfl

variable (t : Fin grid0.N)
theorem lt : t.val < 32 := t.isLt

theorem iblk_0 (p : Fin 1024) (k : Fin 1408) (P : Fin 4096) (K : Fin 5632) (hP : P.val = t.val / 8 * 1024 + p.val) (hK : K.val = t.val % 4 * 1408 + k.val) :
    iblk m c 0 t (ix2 p k) = act m c (ix2 P K) := by
  rw [← V_0]
  have e := idx_0 t
  blk_ext [iblk, e, hP, hK]
theorem iblk_1 (k : Fin 1408) (q : Fin 1024) (K : Fin 5632) (Q : Fin 2048) (hK : K.val = t.val % 4 * 1408 + k.val) (hQ : Q.val = t.val / 4 % 2 * 1024 + q.val) :
    iblk m c 1 t (ix2 k q) = wd m c (ix2 K Q) := by
  rw [← V_1]
  have e := idx_1 t
  blk_ext [iblk, e, hK, hQ]

/-- The product of the two whole arrays over the `J`-th quarter of the hidden columns. -/
def part (P : Fin 4096) (Q : Fin 2048) (J : Fin 4) : Ideal .f32 :=
  ∑ k : Fin 1408, act m c (ix2 P ⟨J.val * 1408 + k.val, by omega⟩) * wd m c (ix2 ⟨J.val * 1408 + k.val, by omega⟩ Q)

theorem parts (P : Fin 4096) (Q : Fin 2048) :
    ∑ k : Fin 5632, act m c (ix2 P k) * wd m c (ix2 k Q) = part m c P Q 0 + part m c P Q 1 + part m c P Q 2 + part m c P Q 3 := by
  refine (Fin.sum_univ_tiles 4 1408 rfl _).trans ?_
  rw [Fin.sum_univ_four]
  rfl

/-- A point's step adds its quarter. -/
theorem step_part (s : Vec Ideal S1024x1024 .f32) (p q : Fin 1024) (P : Fin 4096) (Q : Fin 2048) (J : Fin 4)
    (hP : P.val = t.val / 8 * 1024 + p.val) (hQ : Q.val = t.val / 4 % 2 * 1024 + q.val) (hJ : J.val = t.val % 4) :
    k0_pay2 (F := Ideal) (iblk m c 0 t) (iblk m c 1 t) s (ix2 p q) = s (ix2 p q) + part m c P Q J := by
  rw [step_at]
  refine congrArg (s (ix2 p q) + ·) (Finset.sum_congr rfl fun k _ => ?_)
  exact congr_arg₂ (· * ·) (iblk_0 m c t p k _ _ hP (by dsimp only; omega)) (iblk_1 m c t k q _ _ (by dsimp only; omega) hQ)

/-- The running sum after a point. -/
def sum (t : Fin cfg0.N) : Vec Ideal S1024x1024 .f32 := (outsAt0 m c t.val t.isLt).2

abbrev prev (t : Fin cfg0.N) : Fin cfg0.N := ⟨t.val - 1, Nat.lt_of_le_of_lt (Nat.sub_le _ _) t.isLt⟩

theorem sum_first (t : Fin cfg0.N) (h : t.val % 4 = 0) : sum m c t = k0_pay2 (iblk m c 0 t) (iblk m c 1 t) (k0_pay1 (F := Ideal)) := by
  unfold sum
  rw [outsAt0_A m c t h (by omega)]
  dsimp only
  rw [first]

theorem sum_next (t : Fin cfg0.N) (h : ¬t.val % 4 = 0) (h' : ¬t.val % 4 = 3) : sum m c t = k0_pay2 (iblk m c 0 t) (iblk m c 1 t) (sum m c (prev t)) := by
  unfold sum
  rw [outsAt0_B m c t h h']
  dsimp only
  rw [next]

theorem after_last (t : Fin cfg0.N) (h : t.val % 4 = 3) : (dats m 0 c).after 2 t = k0_pay2 (iblk m c 0 t) (iblk m c 1 t) (sum m c (prev t)) := by
  rw [after0_2, outsAt0_C m c t (by omega) h]
  dsimp only
  rw [last]
  rfl

/-- The array after the launch. -/
theorem out (G : FVec Ideal S4096x2048 .f32)
    (hG : ∀ (r : Fin 4096) (d : Fin 2048), G (ix2 r d) = ∑ k : Fin 5632, act m c (ix2 r k) * wd m c (ix2 k d)) :
    (dats m 0 c).arrAt 2 cfg0.N = G := by
  refine (dats m 0 c).arrAt_eq_of_covers 2 G (by decide +kernel) fun t hf y => ?_
  have e := idx_2 t
  have hm : t.val % 4 = 3 := (flush0_2 t).mp hf
  have hN := lt t
  have hv (p q : Fin 1024) : (dats m 0 c).after 2 t (ix2 p q) = G (((cfg0.win 2).blk t).view.emb (ix2 p q)) := by
    have hG' : G (((cfg0.win 2).blk t).view.emb (ix2 p q))
        = G (ix2 (⟨t.val / 8 * 1024 + p.val, by omega⟩ : Fin 4096) (⟨t.val / 4 % 2 * 1024 + q.val, by omega⟩ : Fin 2048)) := by
      refine congrArg G ?_
      blk_ext [e]
    rw [hG', hG, parts, after_last m c t hm,
      step_part m c t _ p q ⟨t.val / 8 * 1024 + p.val, by omega⟩ ⟨t.val / 4 % 2 * 1024 + q.val, by omega⟩ 3 rfl rfl hm.symm,
      sum_next m c (prev t) (by dsimp only; omega) (by dsimp only; omega),
      step_part m c (prev t) _ p q ⟨t.val / 8 * 1024 + p.val, by omega⟩ ⟨t.val / 4 % 2 * 1024 + q.val, by omega⟩ 2
        (by dsimp only; omega) (by dsimp only; omega) (by show 2 = (t.val - 1) % 4; omega),
      sum_next m c (prev (prev t)) (by dsimp only; omega) (by dsimp only; omega),
      step_part m c (prev (prev t)) _ p q ⟨t.val / 8 * 1024 + p.val, by omega⟩ ⟨t.val / 4 % 2 * 1024 + q.val, by omega⟩ 1
        (by dsimp only; omega) (by dsimp only; omega) (by show 1 = (t.val - 1 - 1) % 4; omega),
      sum_first m c (prev (prev (prev t))) (by dsimp only; omega),
      step_part m c (prev (prev (prev t))) _ p q ⟨t.val / 8 * 1024 + p.val, by omega⟩ ⟨t.val / 4 % 2 * 1024 + q.val, by omega⟩ 0
        (by dsimp only; omega) (by dsimp only; omega) (by show 0 = (t.val - 1 - 1 - 1) % 4; omega),
      start_at, zero_add]
  blk_simp [e]
  rw [eq_ix2 (n0 := 1024) (n1 := 1024) y]
  exact hv _ _
end

/-- The kernel and the reference end with equal products. -/
theorem algebraic : Cert.algebraic_Kernel7Ideal_Reference7Ideal := by
  intro m g m' g' _ hagree
  refine ⟨_, ?_, Cert.Reference7Ideal.Value.run (F := Ideal) m' g'⟩
  refine (θ_run Cert.Kernel7Ideal.defs _ _).mono (fun r h c => ?_) (Cert.Kernel7Ideal.Value.run_blocks (F := Ideal) m g)
  refine ⟨(h c).1.trans (out m c _ fun f d => ?_), (h c).2⟩
  rw [(hagree c).1, (hagree c).2]
  pointwise []

section
variable {F : FTy → Type} [FloatOps F]

/-! The printed kernel and its ideal form are one text, so the one's run is the other's. -/

theorem same_body : Cert.Kernel7.cc0_ffn_down (F := F) = Cert.Kernel7Ideal.cc0_ffn_down (F := F) := rfl
theorem same_bodies : (Cert.Kernel7.defs₀ : Defs _ _ _ (Elt F) _) = Cert.Kernel7Ideal.defs₀ (F := F) := by
  refine congrArg (Defs.onTc (nD := Cert.Kernel7Ideal.nD) (τ := Cert.Kernel7Ideal.τ) (sig := Cert.Kernel7Ideal.sig) (Val := Elt F) (Λ := Cert.Kernel7Ideal.Λ₀)) (funext fun l => ?_)
  match l with
  | 0 => exact funext fun a => congrFun (congrFun (congrFun (congrFun (congrFun (congrFun (congrFun (congrFun (congrFun same_body _) _) _) _) _) _) _) _) _
theorem defs_eq : Cert.Kernel7.defs (F := F) = Pipeline.defs (Cert.Kernel7Ideal.pcfgs (F := F)) Cert.Kernel7.defs₀ := rfl
theorem same_defs : Cert.Kernel7.defs (F := F) = Cert.Kernel7Ideal.defs (F := F) :=
  defs_eq.trans (congrArg (Pipeline.defs (Cert.Kernel7Ideal.pcfgs (F := F))) same_bodies)
theorem same_main : Cert.Kernel7.main (F := F) = Cert.Kernel7Ideal.main (F := F) := rfl

theorem run_of_same (D : Defs Cert.Kernel7Ideal.nD Cert.Kernel7Ideal.τ Cert.Kernel7Ideal.sig (Elt F) (Pipeline.Sig Cert.Kernel7Ideal.Λ₀ (Fin 1) fun p => (Cert.Kernel7Ideal.pcfgs (F := F) p).Adm)) (M)
    (hD : D = Cert.Kernel7Ideal.defs (F := F)) (hM : M = Cert.Kernel7Ideal.main (F := F)) (s Q) (h : θ_run (Cert.Kernel7Ideal.defs (F := F)) (onTc (τ := Cert.Kernel7Ideal.τ) (Cert.Kernel7Ideal.main (F := F))) s Q) :
    θ_run D (onTc (τ := Cert.Kernel7Ideal.τ) M) s Q := by
  subst hD hM; exact h
end

theorem frame_printed : Cert.quiescent_Kernel7 := fun m ρ _ =>
  run_of_same (F := Bits) (Cert.Kernel7.defs (F := Bits)) (Cert.Kernel7.main (F := Bits)) same_defs same_main _ _ (Cert.Kernel7Ideal.Gen.frame (F := Bits) m ρ)

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.FfnDown

end
-- ==== Proof.FfnDownBwd.lean ====
/- The backward of the second half of the feed-forward part (`ffn_down_bwd`): the launch's two arrays, entry by entry, are the product of
   the cotangent's row and the weight's row, times the activation's two slopes. -/
module

public import proofs.«01_k».proof.Defs
public import proofs.«01_k».proof.Proof.Gate
public import proofs.«01_k».proof.Proof.Gen.Kernel2
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.FfnDownBwd

open Idealize.ShloMosaic Idealize.ShloMosaic.TcCoe Idealize.ShloMosaic.Tactic Idealize.SL.Sem Cert.Kernel2Ideal Cert.Kernel2Ideal.Gen
open Idealize.ShloMosaic.Pipeline (Dat Cfg Window)
open Cert.Gate (sg)

theorem origin : (![0, 0] : Fin 2 → ℕ) = fun _ => 0 := funext fun a => by fin_cases a <;> rfl

theorem preFacts : Cert.Pre_finite2.Facts where
  bcast_S_S4096x5632 := by decide
  reducesTo_S4096x5632_S_d0_1 := by decide
  h_S_ := by decide
  bcast_S_S5632x2048 := by decide
  reducesTo_S5632x2048_S_d0_1 := by decide
  bcast_S_S4096x2048 := by decide
  reducesTo_S4096x2048_S_d0_1 := by decide

section
variable (x : Vec Ideal S1024x2048 .bf16) (y : Vec Ideal S512x2048 .bf16) (z z' : Vec Ideal S1024x512 .bf16) (p : Fin 1024) (q : Fin 512)

/-- A block's product. -/
def prod : EReal := ∑ k : Fin 2048, x (ix2 p k) * y (ix2 q k)

theorem prod_at : k0_pay1 (F := Ideal) x y (ix2 p q) = prod x y p q := by pointwise [k0_pay1, prod]

theorem out4_at : out0_4 (F := Ideal) x y z z' (ix2 p q) = prod x y p q * z' (ix2 p q) := by
  unfold out0_4
  rw [View.canon_unit_zero (S := S1024x512) origin]
  simp only [View.ld_unit_zero (S := S1024x2048) origin, View.ld_unit_zero (S := S512x2048) origin, View.ld_unit_zero (S := S1024x512) origin]
  pointwise [k0_pay3]
  rw [prod_at]

theorem out5_at : out0_5 (F := Ideal) x y z z' (ix2 p q) = prod x y p q * z (ix2 p q) := by
  unfold out0_5
  rw [View.canon_unit_zero (S := S1024x512) origin]
  simp only [View.ld_unit_zero (S := S1024x2048) origin, View.ld_unit_zero (S := S512x2048) origin, View.ld_unit_zero (S := S1024x512) origin]
  pointwise [k0_pay2]
  rw [prod_at]
end

theorem idx_0 : ∀ t : Fin grid0.N, win0_0.index t = ![t.val / 11, 0] := of_decide_eq_true (by sl_kernel_rfl)
theorem idx_1 : ∀ t : Fin grid0.N, win0_1.index t = ![t.val % 11, 0] := of_decide_eq_true (by sl_kernel_rfl)
theorem idx_2 : ∀ t : Fin grid0.N, win0_2.index t = ![t.val / 11, t.val % 11] := of_decide_eq_true (by sl_kernel_rfl)
theorem idx_3 : ∀ t : Fin grid0.N, win0_3.index t = ![t.val / 11, t.val % 11] := of_decide_eq_true (by sl_kernel_rfl)
theorem idx_4 : ∀ t : Fin grid0.N, win0_4.index t = ![t.val / 11, t.val % 11] := of_decide_eq_true (by sl_kernel_rfl)
theorem idx_5 : ∀ t : Fin grid0.N, win0_5.index t = ![t.val / 11, t.val % 11] := of_decide_eq_true (by sl_kernel_rfl)

section
variable (m : (ℓ : Loc nD τ sig) → Buf (Elt Ideal) ℓ) (c : Dev nD)

/-- The two products of the first half, the weight and the cotangent, as launched. -/
abbrev gate : FVec Ideal S4096x5632 .f32 := m ((c : Thread nD τ).loc main_arg0)
abbrev up : FVec Ideal S4096x5632 .f32 := m ((c : Thread nD τ).loc main_arg1)
abbrev wd : FVec Ideal S5632x2048 .f32 := m ((c : Thread nD τ).loc main_arg2)
abbrev ct : FVec Ideal S4096x2048 .f32 := m ((c : Thread nD τ).loc main_arg3)

theorem V_6 : V m c main_v6 = ct m c := by
  unfold V; rfl
theorem V_7 : V m c main_v7 = wd m c := by
  unfold V; rfl

/-- The activation's two slopes, taken before the launch. -/
theorem V_8 (i : Fin 4096) (j : Fin 5632) : V m c main_v8 (ix2 i j) = gate m c (ix2 i j) * sg (gate m c (ix2 i j)) := by
  unfold V
  simp only [List.flatten_cons, List.flatten_nil, List.cons_append, List.nil_append, StableHlo.TRef.binary, StableHlo.TRef.nullary, StableHlo.TRef.unary,
    StableHlo.TRef.toBuf, StableHlo.TRef.ofBuf, cast_eq]
  after_results_simp
  pointwise [gate, sg]
theorem V_9 (i : Fin 4096) (j : Fin 5632) : V m c main_v9 (ix2 i j) = Cert.Gate.slope (gate m c (ix2 i j)) (up m c (ix2 i j)) := by
  unfold V
  simp only [List.flatten_cons, List.flatten_nil, List.cons_append, List.nil_append, StableHlo.TRef.binary, StableHlo.TRef.nullary, StableHlo.TRef.unary,
    StableHlo.TRef.toBuf, StableHlo.TRef.ofBuf, cast_eq]
  after_results_simp
  pointwise [gate, up, sg, Cert.Gate.slope]

/-- The cotangent's product. -/
def dact (i : Fin 4096) (j : Fin 5632) : EReal := ∑ k : Fin 2048, ct m c (ix2 i k) * wd m c (ix2 j k)

variable (t : Fin grid0.N)
theorem lt : t.val < 44 := t.isLt

theorem iblk_0 (p : Fin 1024) (k : Fin 2048) (P : Fin 4096) (hP : P.val = t.val / 11 * 1024 + p.val) :
    iblk m c 0 t (ix2 p k) = ct m c (ix2 P k) := by
  rw [← V_6]
  have e := idx_0 t
  blk_ext [iblk, e, hP]
theorem iblk_1 (q : Fin 512) (k : Fin 2048) (Q : Fin 5632) (hQ : Q.val = t.val % 11 * 512 + q.val) :
    iblk m c 1 t (ix2 q k) = wd m c (ix2 Q k) := by
  rw [← V_7]
  have e := idx_1 t
  blk_ext [iblk, e, hQ]
theorem iblk_2 (p : Fin 1024) (q : Fin 512) (P : Fin 4096) (Q : Fin 5632) (hP : P.val = t.val / 11 * 1024 + p.val) (hQ : Q.val = t.val % 11 * 512 + q.val) :
    iblk m c 2 t (ix2 p q) = gate m c (ix2 P Q) * sg (gate m c (ix2 P Q)) := by
  rw [← V_8]
  have e := idx_2 t
  blk_ext [iblk, e, hP, hQ]
theorem iblk_3 (p : Fin 1024) (q : Fin 512) (P : Fin 4096) (Q : Fin 5632) (hP : P.val = t.val / 11 * 1024 + p.val) (hQ : Q.val = t.val % 11 * 512 + q.val) :
    iblk m c 3 t (ix2 p q) = Cert.Gate.slope (gate m c (ix2 P Q)) (up m c (ix2 P Q)) := by
  rw [← V_9]
  have e := idx_3 t
  blk_ext [iblk, e, hP, hQ]

theorem prod_dact (p : Fin 1024) (q : Fin 512) (P : Fin 4096) (Q : Fin 5632) (hP : P.val = t.val / 11 * 1024 + p.val) (hQ : Q.val = t.val % 11 * 512 + q.val) :
    prod (iblk m c 0 t) (iblk m c 1 t) p q = dact m c P Q :=
  Finset.sum_congr rfl fun k _ => congr_arg₂ (· * ·) (iblk_0 m c t p k _ hP) (iblk_1 m c t q k _ hQ)

/-- The two arrays after the launch. -/
theorem out_4 (G : FVec Ideal S4096x5632 .bf16)
    (hG : ∀ (i : Fin 4096) (j : Fin 5632), G (ix2 i j) = dact m c i j * Cert.Gate.slope (gate m c (ix2 i j)) (up m c (ix2 i j))) :
    (dats m 0 c).arrAt 4 cfg0.N = G := by
  refine (dats m 0 c).arrAt_eq_of_covers 4 G (by decide +kernel) fun t _ y => ?_
  have e := idx_4 t
  have hN := lt t
  have hv (p : Fin 1024) (q : Fin 512) : (dats m 0 c).after 4 t (ix2 p q) = G (((cfg0.win 4).blk t).view.emb (ix2 p q)) := by
    have hG' : G (((cfg0.win 4).blk t).view.emb (ix2 p q))
        = G (ix2 (⟨t.val / 11 * 1024 + p.val, by omega⟩ : Fin 4096) (⟨t.val % 11 * 512 + q.val, by omega⟩ : Fin 5632)) := by
      refine congrArg G ?_
      blk_ext [e]
    rw [hG', hG, after0_4, out4_at, prod_dact m c t p q ⟨t.val / 11 * 1024 + p.val, by omega⟩ ⟨t.val % 11 * 512 + q.val, by omega⟩ rfl rfl,
      iblk_3 m c t p q ⟨t.val / 11 * 1024 + p.val, by omega⟩ ⟨t.val % 11 * 512 + q.val, by omega⟩ rfl rfl]
  blk_simp [e]
  rw [eq_ix2 (n0 := 1024) (n1 := 512) y]
  exact hv _ _

theorem out_5 (G : FVec Ideal S4096x5632 .bf16)
    (hG : ∀ (i : Fin 4096) (j : Fin 5632), G (ix2 i j) = dact m c i j * (gate m c (ix2 i j) * sg (gate m c (ix2 i j)))) :
    (dats m 0 c).arrAt 5 cfg0.N = G := by
  refine (dats m 0 c).arrAt_eq_of_covers 5 G (by decide +kernel) fun t _ y => ?_
  have e := idx_5 t
  have hN := lt t
  have hv (p : Fin 1024) (q : Fin 512) : (dats m 0 c).after 5 t (ix2 p q) = G (((cfg0.win 5).blk t).view.emb (ix2 p q)) := by
    have hG' : G (((cfg0.win 5).blk t).view.emb (ix2 p q))
        = G (ix2 (⟨t.val / 11 * 1024 + p.val, by omega⟩ : Fin 4096) (⟨t.val % 11 * 512 + q.val, by omega⟩ : Fin 5632)) := by
      refine congrArg G ?_
      blk_ext [e]
    rw [hG', hG, after0_5, out5_at, prod_dact m c t p q ⟨t.val / 11 * 1024 + p.val, by omega⟩ ⟨t.val % 11 * 512 + q.val, by omega⟩ rfl rfl,
      iblk_2 m c t p q ⟨t.val / 11 * 1024 + p.val, by omega⟩ ⟨t.val % 11 * 512 + q.val, by omega⟩ rfl rfl]
  blk_simp [e]
  rw [eq_ix2 (n0 := 1024) (n1 := 512) y]
  exact hv _ _

/-- Under the precondition the slope takes the cotangent inside. -/
theorem inside [Cert.Pre_finite2.Facts] (h : Cert.Pre_finite2.fn (F := Ideal) (gate m c) (up m c) (wd m c) (ct m c) = fun _ => 1#1)
    (i : Fin 4096) (j : Fin 5632) :
    dact m c i j * Cert.Gate.slope (gate m c (ix2 i j)) (up m c (ix2 i j))
      = Cert.Gate.slope (gate m c (ix2 i j)) (dact m c i j * up m c (ix2 i j)) := by
  have h0 := congrFun h (Shape.Idx.first Cert.Pre_finite2.Facts.h_S_)
  dsimp only [Cert.Pre_finite2.fn, Cert.Pre_finite2.fn_part1] at h0
  obtain ⟨h1, e3⟩ := IntOp.andi_eq_one.1 h0
  obtain ⟨h2, e2⟩ := IntOp.andi_eq_one.1 h1
  obtain ⟨e0, e1⟩ := IntOp.andi_eq_one.1 h2
  exact Cert.Gate.mul_slope _ _ _
    (Cert.Gate.sum_real _ _ (fun k => Cert.FlashBwd.all_real _ _ _ _ _ e3 _) (fun k => Cert.FlashBwd.all_real _ _ _ _ _ e2 _))
    (Cert.FlashBwd.all_real _ _ _ _ _ e0 _) (Cert.FlashBwd.all_real _ _ _ _ _ e1 _)
end

/-- The kernel and the reference end with equal gradients. -/
theorem algebraic [Cert.Pre_finite2.Facts] : Cert.algebraic_Kernel2Ideal_Reference2Ideal_pre_finite2 := by
  intro m g m' g' hpre hagree
  refine ⟨_, _, ?_, Cert.Reference2Ideal.Value.run (F := Ideal) m' g'⟩
  refine (θ_run Cert.Kernel2Ideal.defs _ _).mono (fun r h c => ?_) (Cert.Kernel2Ideal.Value.run_blocks (F := Ideal) m g)
  refine ⟨(h c).1.trans (out_4 m c _ fun i j => ?_), (h c).2.1.trans (out_5 m c _ fun i j => ?_), (h c).2.2⟩
  · rw [(hagree c).1, (hagree c).2.1, (hagree c).2.2.1, (hagree c).2.2.2, inside m c (hpre c) i j]
    pointwise [dact, sg, Cert.Gate.slope]
  · rw [(hagree c).1, (hagree c).2.2.1, (hagree c).2.2.2, mul_comm]
    pointwise [dact, sg]

section
variable {F : FTy → Type} [FloatOps F]

/-! The printed kernel and its ideal form are one text, so the one's run is the other's. -/

theorem same_body : Cert.Kernel2.cc0_ffn_down_bwd (F := F) = Cert.Kernel2Ideal.cc0_ffn_down_bwd (F := F) := rfl
theorem same_bodies : (Cert.Kernel2.defs₀ : Defs _ _ _ (Elt F) _) = Cert.Kernel2Ideal.defs₀ (F := F) := by
  refine congrArg (Defs.onTc (nD := Cert.Kernel2Ideal.nD) (τ := Cert.Kernel2Ideal.τ) (sig := Cert.Kernel2Ideal.sig) (Val := Elt F) (Λ := Cert.Kernel2Ideal.Λ₀)) (funext fun l => ?_)
  match l with
  | 0 => exact funext fun a => congrFun (congrFun (congrFun (congrFun (congrFun (congrFun (congrFun (congrFun (congrFun (congrFun (congrFun (congrFun (congrFun same_body _) _) _) _) _) _) _) _) _) _) _) _) _
theorem defs_eq : Cert.Kernel2.defs (F := F) = Pipeline.defs (Cert.Kernel2Ideal.pcfgs (F := F)) Cert.Kernel2.defs₀ := rfl
theorem same_defs : Cert.Kernel2.defs (F := F) = Cert.Kernel2Ideal.defs (F := F) :=
  defs_eq.trans (congrArg (Pipeline.defs (Cert.Kernel2Ideal.pcfgs (F := F))) same_bodies)
theorem same_main : Cert.Kernel2.main (F := F) = Cert.Kernel2Ideal.main (F := F) := rfl

theorem run_of_same (D : Defs Cert.Kernel2Ideal.nD Cert.Kernel2Ideal.τ Cert.Kernel2Ideal.sig (Elt F) (Pipeline.Sig Cert.Kernel2Ideal.Λ₀ (Fin 1) fun p => (Cert.Kernel2Ideal.pcfgs (F := F) p).Adm)) (M)
    (hD : D = Cert.Kernel2Ideal.defs (F := F)) (hM : M = Cert.Kernel2Ideal.main (F := F)) (s Q) (h : θ_run (Cert.Kernel2Ideal.defs (F := F)) (onTc (τ := Cert.Kernel2Ideal.τ) (Cert.Kernel2Ideal.main (F := F))) s Q) :
    θ_run D (onTc (τ := Cert.Kernel2Ideal.τ) M) s Q := by
  subst hD hM; exact h
end

theorem frame_printed : Cert.quiescent_Kernel2 := fun m ρ _ =>
  run_of_same (F := Bits) (Cert.Kernel2.defs (F := Bits)) (Cert.Kernel2.main (F := Bits)) same_defs same_main _ _ (Cert.Kernel2Ideal.Gen.frame (F := Bits) m ρ)

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

end Cert.FfnDownBwd

end
-- ==== Proof.FfnUpBwd.lean ====
/- The gradient of the feed-forward part's input (`ffn_up_bwd`): the launch's array is the sum of the two products of a
   cotangent and its transposed weight, each entry a sum over the hidden columns, which the kernel takes in four steps. -/
module

public import proofs.«01_k».proof.Defs
public import proofs.«01_k».proof.Proof.Gen.Kernel5Ideal.Value
public import proofs.«01_k».proof.Proof.Gen.Reference5Ideal.Run
public import proofs.«01_k».proof.Proof.Gen.Kernel5
public import Idealize.ShloMosaic.Lib.Pointwise
public import Idealize.ShloMosaic.Lib.Pipeline.ValueKit

@[expose] public section

set_option maxRecDepth 16384

noncomputable section

namespace Cert.FfnUpBwd

open Idealize.ShloMosaic Idealize.ShloMosaic.TcCoe Idealize.ShloMosaic.Tactic Idealize.SL.Sem Cert.Kernel5Ideal Cert.Kernel5Ideal.Gen
open Idealize.ShloMosaic.Pipeline (Dat Cfg Window)

theorem origin : (![0, 0] : Fin 2 → ℕ) = fun _ => 0 := funext fun a => by fin_cases a <;> rfl
theorem origin3 : (![0, 0, 0] : Fin 3 → ℕ) = fun _ => 0 := funext fun a => by fin_cases a <;> rfl

section
variable (c : Dev nD) (i : grid0.Coords) (a3 : Memref sig .tc .vmem S1024x1408 .bf16) (h3 : a3.IsWhole)
  (a4 : Memref sig .tc .vmem S1x1024x1408 .bf16) (h4 : a4.IsWhole) (a5 : Memref sig .tc .vmem S1024x1408 .bf16) (h5 : a5.IsWhole)
  (a6 : Memref sig .tc .vmem S1x1024x1408 .bf16) (h6 : a6.IsWhole) (a7 : Memref sig .tc .vmem S1024x1024 .f32) (h7 : a7.IsWhole)
  (a8 : Memref sig .tc .vmem S1024x1024 .f32) (h8 : a8.IsWhole)
  (x : Vec Ideal S1024x1408 .bf16) (y : Vec Ideal S1x1024x1408 .bf16) (x' : Vec Ideal S1024x1408 .bf16) (y' : Vec Ideal S1x1024x1408 .bf16)

/-- At a tile's first step the sum starts from zero, -/
theorem first (h : cond0_0 i) (h' : ¬cond0_1 i) :
    sout0_A_0 (F := Ideal) c i a3 h3 a4 h4 a5 h5 a6 h6 a7 h7 a8 h8 h h' x y x' y' = k0_pay2 x y x' y' (k0_pay1 (F := Ideal)) := by
  unfold sout0_A_0
  rw [View.read_writes_eq_canon _ _ _ (scover0_A_0 c i a3 h3 a4 h4 a5 h5 a6 h6 a7 h7 a8 h8 h h' x y x' y')]
  unfold kernelRun0_A
  dsimp only
  sl_unfold_words
  rw [View.canon_cons_unit_zero (S := S1024x1024) origin, View.readCov_unit_zero (S := S1024x1024) _ origin]
  simp only [View.readAt_eq_ld, h3.read_unread, h4.read_unread, h5.read_unread, h6.read_unread, View.ld_unit_zero (S := S1024x1408) origin,
    View.ld_unit_zero (S := S1x1024x1408) origin3]

/-- at the next two it goes on, -/
theorem next (h : ¬cond0_0 i) (h' : ¬cond0_1 i) (s : Vec Ideal S1024x1024 .f32) :
    sout0_B_0 (F := Ideal) c i a3 h3 a4 h4 a5 h5 a6 h6 a7 h7 a8 h8 h h' x y x' y' s = k0_pay2 x y x' y' s := by
  unfold sout0_B_0
  rw [View.read_writes_eq_canon _ _ _ (scover0_B_0 c i a3 h3 a4 h4 a5 h5 a6 h6 a7 h7 a8 h8 h h' x y x' y' s)]
  unfold kernelRun0_B
  dsimp only
  sl_unfold_words
  rw [View.canon_unit_zero (S := S1024x1024) origin]
  simp only [View.readAt_eq_ld, h3.read_unread, h4.read_unread, h5.read_unread, h6.read_unread, h8.read_unread, View.ld_unit_zero (S := S1024x1024) origin,
    View.ld_unit_zero (S := S1024x1408) origin, View.ld_unit_zero (S := S1x1024x1408) origin3]

/-- and at its last it is written out. -/
theorem last (h : ¬cond0_0 i) (h' : cond0_1 i) (s : Vec Ideal S1024x1024 .f32) :
    out0_C_4 (F := Ideal) c i a3 h3 a4 h4 a5 h5 a6 h6 a7 h7 a8 h8 h h' x y x' y' s = k0_pay2 x y x' y' s := by
  unfold out0_C_4
  rw [View.read_writes_eq_canon _ _ _ (cover0_C_4 c i a3 h3 a4 h4 a5 h5 a6 h6 a7 h7 a8 h8 h h' x y x' y' s)]
  unfold kernelRun0_C
  dsimp only
  sl_unfold_words
  rw [View.canon_unit_zero (S := S1024x1024) origin, View.readCov_unit_zero (S := S1024x1024) _ origin]
  simp only [View.readAt_eq_ld, h3.read_unread, h4.read_unread, h5.read_unread, h6.read_unread, h8.read_unread, View.ld_unit_zero (S := S1024x1024) origin,
    View.ld_unit_zero (S := S1024x1408) origin, View.ld_unit_zero (S := S1x1024x1408) origin3]
end

theorem start_at (p q : Fin 1024) : k0_pay1 (F := Ideal) (ix2 p q) = 0 := by pointwise [k0_pay1]

/-- One step adds the two products of the blocks. -/
theorem step_at (x : Vec Ideal S1024x1408 .bf16) (y : Vec Ideal S1x1024x1408 .bf16) (x' : Vec Ideal S1024x1408 .bf16) (y' : Vec Ideal S1x1024x1408 .bf16)
    (s : Vec Ideal S1024x1024 .f32) (p q : Fin 1024) :
    k0_pay2 (F := Ideal) x y x' y' s (ix2 p q)
      = s (ix2 p q) + (∑ k : Fin 1408, x (ix2 p k) * y (ix3 0 q k) + ∑ k : Fin 1408, x' (ix2 p k) * y' (ix3 0 q k)) := by pointwise [k0_pay2]

theorem idx_0 : ∀ t : Fin grid0.N, win0_0.index t = ![t.val / 8, t.val % 4] := of_decide_eq_true (by sl_kernel_rfl)
theorem idx_1 : ∀ t : Fin grid0.N, win0_1.index t = ![t.val % 4, t.val / 4 % 2, 0] := of_decide_eq_true (by sl_kernel_rfl)
theorem idx_2 : ∀ t : Fin grid0.N, win0_2.index t = ![t.val / 8, t.val % 4] := of_decide_eq_true (by sl_kernel_rfl)
theorem idx_3 : ∀ t : Fin grid0.N, win0_3.index t = ![t.val % 4, t.val / 4 % 2, 0] := of_decide_eq_true (by sl_kernel_rfl)
theorem idx_4 : ∀ t : Fin grid0.N, win0_4.index t = ![t.val / 8, t.val / 4 % 2] := of_decide_eq_true (by sl_kernel_rfl)

section
variable (m : (ℓ : Loc nD τ sig) → Buf (Elt Ideal) ℓ) (c : Dev nD)

/-- The two weights and the two cotangents, as launched. -/
abbrev wg : FVec Ideal S4x2048x1408 .f32 := m ((c : Thread nD τ).loc main_arg0)
abbrev wu : FVec Ideal S4x2048x1408 .f32 := m ((c : Thread nD τ).loc main_arg1)
abbrev dg : FVec Ideal S4096x5632 .f32 := m ((c : Thread nD τ).loc main_arg2)
abbrev du : FVec Ideal S4096x5632 .f32 := m ((c : Thread nD τ).loc main_arg3)

theorem V_0 : V m c main_v0 = wg m c := by
  unfold V; after_results; rfl
theorem V_1 : V m c main_v1 = wu m c := by
  unfold V; after_results; rfl
theorem V_2 : V m c main_v2 = dg m c := by
  unfold V; after_results; rfl
theorem V_3 : V m c main_v3 = du m c := by
  unfold V; after_results; rfl

variable (t : Fin grid0.N)
theorem lt : t.val < 32 := t.isLt

theorem iblk_0 (p : Fin 1024) (k : Fin 1408) (P : Fin 4096) (K : Fin 5632) (hP : P.val = t.val / 8 * 1024 + p.val) (hK : K.val = t.val % 4 * 1408 + k.val) :
    iblk m c 0 t (ix2 p k) = dg m c (ix2 P K) := by
  rw [← V_2]
  have e := idx_0 t
  blk_ext [iblk, e, hP, hK]
theorem iblk_1 (q : Fin 1024) (k : Fin 1408) (J : Fin 4) (Q : Fin 2048) (hJ : J.val = t.val % 4) (hQ : Q.val = t.val / 4 % 2 * 1024 + q.val) :
    iblk m c 1 t (ix3 0 q k) = wg m c (ix3 J Q k) := by
  rw [← V_0]
  have e := idx_1 t
  blk_ext [iblk, e, hJ, hQ]
theorem iblk_2 (p : Fin 1024) (k : Fin 1408) (P : Fin 4096) (K : Fin 5632) (hP : P.val = t.val / 8 * 1024 + p.val) (hK : K.val = t.val % 4 * 1408 + k.val) :
    iblk m c 2 t (ix2 p k) = du m c (ix2 P K) := by
  rw [← V_3]
  have e := idx_2 t
  blk_ext [iblk, e, hP, hK]
theorem iblk_3 (q : Fin 1024) (k : Fin 1408) (J : Fin 4) (Q : Fin 2048) (hJ : J.val = t.val % 4) (hQ : Q.val = t.val / 4 % 2 * 1024 + q.val) :
    iblk m c 3 t (ix3 0 q k) = wu m c (ix3 J Q k) := by
  rw [← V_1]
  have e := idx_3 t
  blk_ext [iblk, e, hJ, hQ]

/-- The two products over the `J`-th block of the hidden columns. -/
def gate (P : Fin 4096) (Q : Fin 2048) (J : Fin 4) : Ideal .f32 :=
  ∑ k : Fin 1408, dg m c (ix2 P ⟨J.val * 1408 + k.val, by omega⟩) * wg m c (ix3 J Q k)
def up (P : Fin 4096) (Q : Fin 2048) (J : Fin 4) : Ideal .f32 :=
  ∑ k : Fin 1408, du m c (ix2 P ⟨J.val * 1408 + k.val, by omega⟩) * wu m c (ix3 J Q k)

/-- A point's step adds its block. -/
theorem step_part (s : Vec Ideal S1024x1024 .f32) (p q : Fin 1024) (P : Fin 4096) (Q : Fin 2048) (J : Fin 4)
    (hP : P.val = t.val / 8 * 1024 + p.val) (hQ : Q.val = t.val / 4 % 2 * 1024 + q.val) (hJ : J.val = t.val % 4) :
    k0_pay2 (F := Ideal) (iblk m c 0 t) (iblk m c 1 t) (iblk m c 2 t) (iblk m c 3 t) s (ix2 p q)
      = s (ix2 p q) + (gate m c P Q J + up m c P Q J) := by
  rw [step_at]
  refine congrArg (s (ix2 p q) + ·) (congr_arg₂ (· + ·) (Finset.sum_congr rfl fun k _ => ?_) (Finset.sum_congr rfl fun k _ => ?_))
  · exact congr_arg₂ (· * ·) (iblk_0 m c t p k _ _ hP (by dsimp only; omega)) (iblk_1 m c t q k _ _ hJ hQ)
  · exact congr_arg₂ (· * ·) (iblk_2 m c t p k _ _ hP (by dsimp only; omega)) (iblk_3 m c t q k _ _ hJ hQ)

/-- The running sum after a point. -/
def sum (t : Fin cfg0.N) : Vec Ideal S1024x1024 .f32 := (outsAt0 m c t.val t.isLt).2

abbrev prev (t : Fin cfg0.N) : Fin cfg0.N := ⟨t.val - 1, Nat.lt_of_le_of_lt (Nat.sub_le _ _) t.isLt⟩

theorem sum_first (t : Fin cfg0.N) (h : t.val % 4 = 0) :
    sum m c t = k0_pay2 (iblk m c 0 t) (iblk m c 1 t) (iblk m c 2 t) (iblk m c 3 t) (k0_pay1 (F := Ideal)) := by
  unfold sum
  rw [outsAt0_A m c t h (by omega)]
  dsimp only
  rw [first]

theorem sum_next (t : Fin cfg0.N) (h : ¬t.val % 4 = 0) (h' : ¬t.val % 4 = 3) :
    sum m c t = k0_pay2 (iblk m c 0 t) (iblk m c 1 t) (iblk m c 2 t) (iblk m c 3 t) (sum m c (prev t)) := by
  unfold sum
  rw [outsAt0_B m c t h h']
  dsimp only
  rw [next]

theorem after_last (t : Fin cfg0.N) (h : t.val % 4 = 3) :
    (dats m 0 c).after 4 t = k0_pay2 (iblk m c 0 t) (iblk m c 1 t) (iblk m c 2 t) (iblk m c 3 t) (sum m c (prev t)) := by
  rw [after0_4, outsAt0_C m c t (by omega) h]
  dsimp only
  rw [last]
  rfl

/-- The steps' order of adding is the sums'. -/
theorem regroup (a b : Fin 4 → Ideal .f32) : a 0 + b 0 + (a 1 + b 1) + (a 2 + b 2) + (a 3 + b 3) = (∑ j, b j) + ∑ j, a j := by
  rw [Fin.sum_univ_four, Fin.sum_univ_four]
  abel

/-- The array after the launch. -/
theorem out (G : FVec Ideal S4096x2048 .f32)
    (hG : ∀ (r : Fin 4096) (d : Fin 2048), G (ix2 r d) = (∑ j : Fin 4, up m c r d j) + ∑ j : Fin 4, gate m c r d j) :
    (dats m 0 c).arrAt 4 cfg0.N = G := by
  refine (dats m 0 c).arrAt_eq_of_covers 4 G (by decide +kernel) fun t hf y => ?_
  have e := idx_4 t
  have hm : t.val % 4 = 3 := (flush0_4 t).mp hf
  have hN := lt t
  have hv (p q : Fin 1024) : (dats m 0 c).after 4 t (ix2 p q) = G (((cfg0.win 4).blk t).view.emb (ix2 p q)) := by
    have hG' : G (((cfg0.win 4).blk t).view.emb (ix2 p q))
        = G (ix2 (⟨t.val / 8 * 1024 + p.val, by omega⟩ : Fin 4096) (⟨t.val / 4 % 2 * 1024 + q.val, by omega⟩ : Fin 2048)) := by
      refine congrArg G ?_
      blk_ext [e]
    rw [hG', hG, ← regroup, after_last m c t hm,
      step_part m c t _ p q ⟨t.val / 8 * 1024 + p.val, by omega⟩ ⟨t.val / 4 % 2 * 1024 + q.val, by omega⟩ 3 rfl rfl hm.symm,
      sum_next m c (prev t) (by dsimp only; omega) (by dsimp only; omega),
      step_part m c (prev t) _ p q ⟨t.val / 8 * 1024 + p.val, by omega⟩ ⟨t.val / 4 % 2 * 1024 + q.val, by omega⟩ 2
        (by dsimp only; omega) (by dsimp only; omega) (by show 2 = (t.val - 1) % 4; omega),
      sum_next m c (prev (prev t)) (by dsimp only; omega) (by dsimp only; omega),
      step_part m c (prev (prev t)) _ p q ⟨t.val / 8 * 1024 + p.val, by omega⟩ ⟨t.val / 4 % 2 * 1024 + q.val, by omega⟩ 1
        (by dsimp only; omega) (by dsimp only; omega) (by show 1 = (t.val - 1 - 1) % 4; omega),
      sum_first m c (prev (prev (prev t))) (by dsimp only; omega),
      step_part m c (prev (prev (prev t))) _ p q ⟨t.val / 8 * 1024 + p.val, by omega⟩ ⟨t.val / 4 % 2 * 1024 + q.val, by omega⟩ 0
        (by dsimp only; omega) (by dsimp only; omega) (by show 0 = (t.val - 1 - 1 - 1) % 4; omega),
      start_at, zero_add]
  blk_simp [e]
  rw [eq_ix2 (n0 := 1024) (n1 := 1024) y]
  exact hv _ _
end

/-- The kernel and the reference end with equal gradients. -/
theorem algebraic : Cert.algebraic_Kernel5Ideal_Reference5Ideal := by
  intro m g m' g' _ hagree
  refine ⟨_, ?_, Cert.Reference5Ideal.Value.run (F := Ideal) m' g'⟩
  refine (θ_run Cert.Kernel5Ideal.defs _ _).mono (fun r h c => ?_) (Cert.Kernel5Ideal.Value.run_blocks (F := Ideal) m g)
  refine ⟨(h c).1.trans (out m c _ fun r d => ?_), (h c).2⟩
  rw [(hagree c).1, (hagree c).2.1, (hagree c).2.2.1, (hagree c).2.2.2]
  pointwise [up, gate]

section
variable {F : FTy → Type} [FloatOps F]

/-! The printed kernel and its ideal form are one text, so the one's run is the other's. -/

theorem same_body : Cert.Kernel5.cc0_ffn_up_bwd (F := F) = Cert.Kernel5Ideal.cc0_ffn_up_bwd (F := F) := rfl
theorem same_bodies : (Cert.Kernel5.defs₀ : Defs _ _ _ (Elt F) _) = Cert.Kernel5Ideal.defs₀ (F := F) := by
  refine congrArg (Defs.onTc (nD := Cert.Kernel5Ideal.nD) (τ := Cert.Kernel5Ideal.τ) (sig := Cert.Kernel5Ideal.sig) (Val := Elt F) (Λ := Cert.Kernel5Ideal.Λ₀)) (funext fun l => ?_)
  match l with
  | 0 => exact funext fun a => congrFun (congrFun (congrFun (congrFun (congrFun (congrFun (congrFun (congrFun (congrFun (congrFun (congrFun (congrFun (congrFun same_body _) _) _) _) _) _) _) _) _) _) _) _) _
theorem defs_eq : Cert.Kernel5.defs (F := F) = Pipeline.defs (Cert.Kernel5Ideal.pcfgs (F := F)) Cert.Kernel5.defs₀ := rfl
theorem same_defs : Cert.Kernel5.defs (F := F) = Cert.Kernel5Ideal.defs (F := F) :=
  defs_eq.trans (congrArg (Pipeline.defs (Cert.Kernel5Ideal.pcfgs (F := F))) same_bodies)
theorem same_main : Cert.Kernel5.main (F := F) = Cert.Kernel5Ideal.main (F := F) := rfl

theorem run_of_same (D : Defs Cert.Kernel5Ideal.nD Cert.Kernel5Ideal.τ Cert.Kernel5Ideal.sig (Elt F) (Pipeline.Sig Cert.Kernel5Ideal.Λ₀ (Fin 1) fun p => (Cert.Kernel5Ideal.pcfgs (F := F) p).Adm)) (M)
    (hD : D = Cert.Kernel5Ideal.defs (F := F)) (hM : M = Cert.Kernel5Ideal.main (F := F)) (s Q) (h : θ_run (Cert.Kernel5Ideal.defs (F := F)) (onTc (τ := Cert.Kernel5Ideal.τ) (Cert.Kernel5Ideal.main (F := F))) s Q) :
    θ_run D (onTc (τ := Cert.Kernel5Ideal.τ) M) s Q := by
  subst hD hM; exact h
end

theorem frame_printed : Cert.quiescent_Kernel5 := fun m ρ _ =>
  run_of_same (F := Bits) (Cert.Kernel5.defs (F := Bits)) (Cert.Kernel5.main (F := Bits)) same_defs same_main _ _ (Cert.Kernel5Ideal.Gen.frame (F := Bits) m ρ)

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.FfnUpBwd

end
-- ==== Proof.GradWDown.lean ====
/- The gradient of the last product's weight (`grad_w_down`): the launch's array is the product of the transposed
   activations and the cotangent, each entry one sum over the tokens. -/
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.GradWDown

open Idealize.ShloMosaic Idealize.ShloMosaic.TcCoe Idealize.ShloMosaic.Tactic Idealize.SL.Sem Cert.Kernel3Ideal Cert.Kernel3Ideal.Gen
open Idealize.ShloMosaic.Pipeline (Dat Cfg Window)

theorem origin : (![0, 0] : Fin 2 → ℕ) = fun _ => 0 := funext fun a => by fin_cases a <;> rfl

section
variable (c : Dev nD) (i : grid0.Coords) (a3 : Memref sig .tc .vmem S2048x1408 .bf16) (h3 : a3.IsWhole)
  (a4 : Memref sig .tc .vmem S2048x1024 .bf16) (h4 : a4.IsWhole) (a5 : Memref sig .tc .vmem S1408x1024 .f32) (h5 : a5.IsWhole)
  (a6 : Memref sig .tc .vmem S1408x1024 .f32) (h6 : a6.IsWhole) (x : Vec Ideal S2048x1408 .bf16) (y : Vec Ideal S2048x1024 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S1408x1024) origin, View.readCov_unit_zero (S := S1408x1024) _ origin]
  simp only [View.readAt_eq_ld, h3.read_unread, h4.read_unread, View.ld_unit_zero (S := S2048x1408) origin, View.ld_unit_zero (S := S2048x1024) origin]

/-- and at its last it is written out. -/
theorem last (h : ¬cond0_0 i) (h' : cond0_1 i) (s : Vec Ideal S1408x1024 .f32) :
    out0_B_2 (F := Ideal) c i a3 h3 a4 h4 a5 h5 a6 h6 h h' x y s = k0_pay2 x y s := by
  unfold out0_B_2
  rw [View.read_writes_eq_canon _ _ _ (cover0_B_2 c i a3 h3 a4 h4 a5 h5 a6 h6 h h' x y s)]
  unfold kernelRun0_B
  dsimp only
  sl_unfold_words
  rw [View.canon_unit_zero (S := S1408x1024) origin, View.readCov_unit_zero (S := S1408x1024) _ origin]
  simp only [View.readAt_eq_ld, h3.read_unread, h4.read_unread, h6.read_unread, View.ld_unit_zero (S := S1408x1024) origin,
    View.ld_unit_zero (S := S2048x1408) origin, View.ld_unit_zero (S := S2048x1024) origin]
end

theorem start_at (p : Fin 1408) (q : Fin 1024) : k0_pay1 (F := Ideal) (ix2 p q) = 0 := by pointwise [k0_pay1]

/-- One step adds the product of the two blocks. -/
theorem step_at (x : Vec Ideal S2048x1408 .bf16) (y : Vec Ideal S2048x1024 .bf16) (s : Vec Ideal S1408x1024 .f32) (p : Fin 1408) (q : Fin 1024) :
    k0_pay2 (F := Ideal) x y s (ix2 p q) = s (ix2 p q) + ∑ k : Fin 2048, x (ix2 k p) * y (ix2 k q) := by pointwise [k0_pay2]

theorem idx_0 : ∀ t : Fin grid0.N, win0_0.index t = ![t.val % 2, t.val / 4] := of_decide_eq_true (by sl_kernel_rfl)
theorem idx_1 : ∀ t : Fin grid0.N, win0_1.index t = ![t.val % 2, t.val / 2 % 2] := of_decide_eq_true (by sl_kernel_rfl)
theorem idx_2 : ∀ t : Fin grid0.N, win0_2.index t = ![t.val / 4, t.val / 2 % 2] := of_decide_eq_true (by sl_kernel_rfl)

section
variable (m : (ℓ : Loc nD τ sig) → Buf (Elt Ideal) ℓ) (c : Dev nD)

/-- The activations and the cotangent, as launched. -/
abbrev act : FVec Ideal S4096x5632 .f32 := m ((c : Thread nD τ).loc main_arg0)
abbrev ct : FVec Ideal S4096x2048 .f32 := m ((c : Thread nD τ).loc main_arg1)

theorem V_0 : V m c main_v0 = act m c := by
  unfold V; after_results; rfl
theorem V_1 : V m c main_v1 = ct m c := by
  unfold V; after_results; rfl

variable (t : Fin grid0.N)
theorem lt : t.val < 16 := t.isLt

theorem iblk_0 (k : Fin 2048) (p : Fin 1408) (K : Fin 4096) (P : Fin 5632) (hK : K.val = t.val % 2 * 2048 + k.val) (hP : P.val = t.val / 4 * 1408 + p.val) :
    iblk m c 0 t (ix2 k p) = act m c (ix2 K P) := by
  rw [← V_0]
  have e := idx_0 t
  blk_ext [iblk, e, hK, hP]
theorem iblk_1 (k : Fin 2048) (q : Fin 1024) (K : Fin 4096) (Q : Fin 2048) (hK : K.val = t.val % 2 * 2048 + k.val) (hQ : Q.val = t.val / 2 % 2 * 1024 + q.val) :
    iblk m c 1 t (ix2 k q) = ct m c (ix2 K Q) := by
  rw [← V_1]
  have e := idx_1 t
  blk_ext [iblk, e, hK, hQ]

/-- The array after the launch. -/
theorem out (G : FVec Ideal S5632x2048 .f32)
    (hG : ∀ (f : Fin 5632) (d : Fin 2048), G (ix2 f d) = ∑ k : Fin 4096, act m c (ix2 k f) * ct m c (ix2 k d)) :
    (dats m 0 c).arrAt 2 cfg0.N = G := by
  refine (dats m 0 c).arrAt_eq_of_covers 2 G (by decide +kernel) fun t hf y => ?_
  have e := idx_2 t
  have hm : t.val % 2 = 1 := (flush0_2 t).mp hf
  have hN := lt t
  have hv (p : Fin 1408) (q : Fin 1024) : (dats m 0 c).after 2 t (ix2 p q) = G (((cfg0.win 2).blk t).view.emb (ix2 p q)) := by
    have ht : (t.val - 1) % 2 = 0 := by omega
    rw [after0_2, outsAt0_B m c t (by omega) hm]
    have ha := outsAt0_A m c (⟨t.val - 1, Nat.lt_of_le_of_lt (Nat.sub_le _ _) t.isLt⟩ : Fin cfg0.N) ht (by dsimp only; omega)
    dsimp only at ha ⊢
    rw [ha, last]
    dsimp only
    rw [first]
    have hG' : G (((cfg0.win 2).blk t).view.emb (ix2 p q))
        = G (ix2 (⟨t.val / 4 * 1408 + p.val, by omega⟩ : Fin 5632) (⟨t.val / 2 % 2 * 1024 + q.val, by omega⟩ : Fin 2048)) := by
      refine congrArg G ?_
      blk_ext [e]
    rw [hG', hG, Fin.sum_univ_two_halves 2048 2048 rfl, step_at, step_at, start_at, zero_add]
    refine congr_arg₂ (· + ·) (Finset.sum_congr rfl fun k _ => ?_) (Finset.sum_congr rfl fun k _ => ?_)
    · exact congr_arg₂ (· * ·) (iblk_0 m c _ k p _ _ (by dsimp only; omega) (by dsimp only; omega)) (iblk_1 m c _ k q _ _ (by dsimp only; omega) (by dsimp only; omega))
    · exact congr_arg₂ (· * ·) (iblk_0 m c _ k p _ _ (by dsimp only; omega) (by dsimp only)) (iblk_1 m c _ k q _ _ (by dsimp only; omega) (by dsimp only))
  blk_simp [e]
  rw [eq_ix2 (n0 := 1408) (n1 := 1024) y]
  exact hv _ _
end

/-- The kernel and the reference end with equal gradients. -/
theorem algebraic : Cert.algebraic_Kernel3Ideal_Reference3Ideal := by
  intro m g m' g' _ hagree
  refine ⟨_, ?_, Cert.Reference3Ideal.Value.run (F := Ideal) m' g'⟩
  refine (θ_run Cert.Kernel3Ideal.defs _ _).mono (fun r h c => ?_) (Cert.Kernel3Ideal.Value.run_blocks (F := Ideal) m g)
  refine ⟨(h c).1.trans (out m c _ fun f d => ?_), (h c).2⟩
  rw [(hagree c).1, (hagree c).2]
  pointwise []
  exact Finset.sum_congr rfl fun k _ => mul_comm _ _

section
variable {F : FTy → Type} [FloatOps F]

/-! The printed kernel and its ideal form are one text, so the one's run is the other's. -/

theorem same_body : Cert.Kernel3.cc0_grad_w_down (F := F) = Cert.Kernel3Ideal.cc0_grad_w_down (F := F) := rfl
theorem same_bodies : (Cert.Kernel3.defs₀ : Defs _ _ _ (Elt F) _) = Cert.Kernel3Ideal.defs₀ (F := F) := by
  refine congrArg (Defs.onTc (nD := Cert.Kernel3Ideal.nD) (τ := Cert.Kernel3Ideal.τ) (sig := Cert.Kernel3Ideal.sig) (Val := Elt F) (Λ := Cert.Kernel3Ideal.Λ₀)) (funext fun l => ?_)
  match l with
  | 0 => exact funext fun a => congrFun (congrFun (congrFun (congrFun (congrFun (congrFun (congrFun (congrFun (congrFun same_body _) _) _) _) _) _) _) _) _
theorem defs_eq : Cert.Kernel3.defs (F := F) = Pipeline.defs (Cert.Kernel3Ideal.pcfgs (F := F)) Cert.Kernel3.defs₀ := rfl
theorem same_defs : Cert.Kernel3.defs (F := F) = Cert.Kernel3Ideal.defs (F := F) :=
  defs_eq.trans (congrArg (Pipeline.defs (Cert.Kernel3Ideal.pcfgs (F := F))) same_bodies)
theorem same_main : Cert.Kernel3.main (F := F) = Cert.Kernel3Ideal.main (F := F) := rfl

theorem run_of_same (D : Defs Cert.Kernel3Ideal.nD Cert.Kernel3Ideal.τ Cert.Kernel3Ideal.sig (Elt F) (Pipeline.Sig Cert.Kernel3Ideal.Λ₀ (Fin 1) fun p => (Cert.Kernel3Ideal.pcfgs (F := F) p).Adm)) (M)
    (hD : D = Cert.Kernel3Ideal.defs (F := F)) (hM : M = Cert.Kernel3Ideal.main (F := F)) (s Q) (h : θ_run (Cert.Kernel3Ideal.defs (F := F)) (onTc (τ := Cert.Kernel3Ideal.τ) (Cert.Kernel3Ideal.main (F := F))) s Q) :
    θ_run D (onTc (τ := Cert.Kernel3Ideal.τ) M) s Q := by
  subst hD hM; exact h
end

theorem frame_printed : Cert.quiescent_Kernel3 := fun m ρ _ =>
  run_of_same (F := Bits) (Cert.Kernel3.defs (F := Bits)) (Cert.Kernel3.main (F := Bits)) same_defs same_main _ _ (Cert.Kernel3Ideal.Gen.frame (F := Bits) m ρ)

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.GradWDown

end
-- ==== Proof.GradWGate.lean ====
/- The gradient of a first product's weight (`grad_w_gate`, and `grad_w_up` by the same call): the launch's array is, column
   block by column block, the product of the transposed input and the cotangent, each entry one sum over the tokens. -/
module

public import proofs.«01_k».proof.Defs
public import proofs.«01_k».proof.Proof.Gen.Kernel4Ideal.Value
public import proofs.«01_k».proof.Proof.Gen.Reference4Ideal.Run
public import proofs.«01_k».proof.Proof.Gen.Kernel4
public import Idealize.ShloMosaic.Lib.Pointwise
public import Idealize.ShloMosaic.Lib.Pipeline.ValueKit

@[expose] public section

set_option maxRecDepth 16384

noncomputable section

namespace Cert.GradWGate

open Idealize.ShloMosaic Idealize.ShloMosaic.TcCoe Idealize.ShloMosaic.Tactic Idealize.SL.Sem Cert.Kernel4Ideal Cert.Kernel4Ideal.Gen
open Idealize.ShloMosaic.Pipeline (Dat Cfg Window)

theorem origin : (![0, 0] : Fin 2 → ℕ) = fun _ => 0 := funext fun a => by fin_cases a <;> rfl
theorem origin3 : (![0, 0, 0] : Fin 3 → ℕ) = fun _ => 0 := funext fun a => by fin_cases a <;> rfl

section
variable (c : Dev nD) (i : grid0.Coords) (a3 : Memref sig .tc .vmem S2048x1024 .bf16) (h3 : a3.IsWhole)
  (a4 : Memref sig .tc .vmem S2048x1408 .bf16) (h4 : a4.IsWhole) (a5 : Memref sig .tc .vmem S1x1024x1408 .f32) (h5 : a5.IsWhole)
  (a6 : Memref sig .tc .vmem S1024x1408 .f32) (h6 : a6.IsWhole) (x : Vec Ideal S2048x1024 .bf16) (y : Vec Ideal S2048x1408 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S1024x1408) origin, View.readCov_unit_zero (S := S1024x1408) _ origin]
  simp only [View.readAt_eq_ld, h3.read_unread, h4.read_unread, View.ld_unit_zero (S := S2048x1024) origin, View.ld_unit_zero (S := S2048x1408) origin]

/-- and at its last it is written out. -/
theorem last (h : ¬cond0_0 i) (h' : cond0_1 i) (s : Vec Ideal S1024x1408 .f32) :
    out0_B_2 (F := Ideal) c i a3 h3 a4 h4 a5 h5 a6 h6 h h' x y s = k0_pay3 (k0_pay2 x y s) := by
  unfold out0_B_2
  rw [View.read_writes_eq_canon _ _ _ (cover0_B_2 c i a3 h3 a4 h4 a5 h5 a6 h6 h h' x y s)]
  unfold kernelRun0_B
  dsimp only
  sl_unfold_words
  rw [View.canon_unit_zero (S := S1x1024x1408) origin3, View.readCov_unit_zero (S := S1024x1408) _ origin]
  simp only [View.readAt_eq_ld, h3.read_unread, h4.read_unread, h6.read_unread, View.ld_unit_zero (S := S1024x1408) origin,
    View.ld_unit_zero (S := S2048x1024) origin, View.ld_unit_zero (S := S2048x1408) origin]
end

theorem start_at (p : Fin 1024) (q : Fin 1408) : k0_pay1 (F := Ideal) (ix2 p q) = 0 := by pointwise [k0_pay1]

/-- One step adds the product of the two blocks. -/
theorem step_at (x : Vec Ideal S2048x1024 .bf16) (y : Vec Ideal S2048x1408 .bf16) (s : Vec Ideal S1024x1408 .f32) (p : Fin 1024) (q : Fin 1408) :
    k0_pay2 (F := Ideal) x y s (ix2 p q) = s (ix2 p q) + ∑ k : Fin 2048, x (ix2 k p) * y (ix2 k q) := by pointwise [k0_pay2]

theorem write_at (s : Vec Ideal S1024x1408 .f32) (z : Fin 1) (p : Fin 1024) (q : Fin 1408) : k0_pay3 (F := Ideal) s (ix3 z p q) = s (ix2 p q) := by
  pointwise [k0_pay3]

theorem idx_0 : ∀ t : Fin grid0.N, win0_0.index t = ![t.val % 2, t.val / 8] := of_decide_eq_true (by sl_kernel_rfl)
theorem idx_1 : ∀ t : Fin grid0.N, win0_1.index t = ![t.val % 2, t.val / 2 % 4] := of_decide_eq_true (by sl_kernel_rfl)
theorem idx_2 : ∀ t : Fin grid0.N, win0_2.index t = ![t.val / 2 % 4, t.val / 8, 0] := of_decide_eq_true (by sl_kernel_rfl)

section
variable (m : (ℓ : Loc nD τ sig) → Buf (Elt Ideal) ℓ) (c : Dev nD)

/-- The input and the cotangent, as launched. -/
abbrev v : FVec Ideal S4096x2048 .f32 := m ((c : Thread nD τ).loc main_arg0)
abbrev ct : FVec Ideal S4096x5632 .f32 := m ((c : Thread nD τ).loc main_arg1)

theorem V_0 : V m c main_v0 = v m c := by
  unfold V; after_results; rfl
theorem V_1 : V m c main_v1 = ct m c := by
  unfold V; after_results; rfl

variable (t : Fin grid0.N)
theorem lt : t.val < 16 := t.isLt

theorem iblk_0 (k : Fin 2048) (p : Fin 1024) (K : Fin 4096) (P : Fin 2048) (hK : K.val = t.val % 2 * 2048 + k.val) (hP : P.val = t.val / 8 * 1024 + p.val) :
    iblk m c 0 t (ix2 k p) = v m c (ix2 K P) := by
  rw [← V_0]
  have e := idx_0 t
  blk_ext [iblk, e, hK, hP]
theorem iblk_1 (k : Fin 2048) (q : Fin 1408) (K : Fin 4096) (Q : Fin 5632) (hK : K.val = t.val % 2 * 2048 + k.val) (hQ : Q.val = t.val / 2 % 4 * 1408 + q.val) :
    iblk m c 1 t (ix2 k q) = ct m c (ix2 K Q) := by
  rw [← V_1]
  have e := idx_1 t
  blk_ext [iblk, e, hK, hQ]

/-- The array after the launch. -/
theorem out (G : FVec Ideal S4x2048x1408 .f32)
    (hG : ∀ (j : Fin 4) (d : Fin 2048) (f : Fin 1408), G (ix3 j d f) = ∑ k : Fin 4096, v m c (ix2 k d) * ct m c (ix2 k ⟨j.val * 1408 + f.val, by omega⟩)) :
    (dats m 0 c).arrAt 2 cfg0.N = G := by
  refine (dats m 0 c).arrAt_eq_of_covers 2 G (by decide +kernel) fun t hf y => ?_
  have e := idx_2 t
  have hm : t.val % 2 = 1 := (flush0_2 t).mp hf
  have hN := lt t
  have hv (z : Fin 1) (p : Fin 1024) (q : Fin 1408) : (dats m 0 c).after 2 t (ix3 z p q) = G (((cfg0.win 2).blk t).view.emb (ix3 z p q)) := by
    have ht : (t.val - 1) % 2 = 0 := by omega
    rw [after0_2, outsAt0_B m c t (by omega) hm]
    have ha := outsAt0_A m c (⟨t.val - 1, Nat.lt_of_le_of_lt (Nat.sub_le _ _) t.isLt⟩ : Fin cfg0.N) ht (by dsimp only; omega)
    dsimp only at ha ⊢
    rw [ha, last]
    dsimp only
    rw [first]
    have hG' : G (((cfg0.win 2).blk t).view.emb (ix3 z p q))
        = G (ix3 (⟨t.val / 2 % 4, by omega⟩ : Fin 4) (⟨t.val / 8 * 1024 + p.val, by omega⟩ : Fin 2048) q) := by
      refine congrArg G ?_
      blk_ext [e]
    rw [hG', hG, Fin.sum_univ_two_halves 2048 2048 rfl, write_at, step_at, step_at, start_at, zero_add]
    refine congr_arg₂ (· + ·) (Finset.sum_congr rfl fun k _ => ?_) (Finset.sum_congr rfl fun k _ => ?_)
    · exact congr_arg₂ (· * ·) (iblk_0 m c _ k p _ _ (by dsimp only; omega) (by dsimp only; omega)) (iblk_1 m c _ k q _ _ (by dsimp only; omega) (by dsimp only; omega))
    · exact congr_arg₂ (· * ·) (iblk_0 m c _ k p _ _ (by dsimp only; omega) (by dsimp only)) (iblk_1 m c _ k q _ _ (by dsimp only; omega) (by dsimp only))
  blk_simp [e]
  rw [eq_ix3 (n0 := 1) (n1 := 1024) (n2 := 1408) y]
  exact hv _ _ _
end

/-- The kernel and the reference end with equal gradients. -/
theorem algebraic : Cert.algebraic_Kernel4Ideal_Reference4Ideal := by
  intro m g m' g' _ hagree
  refine ⟨_, ?_, Cert.Reference4Ideal.Value.run (F := Ideal) m' g'⟩
  refine (θ_run Cert.Kernel4Ideal.defs _ _).mono (fun r h c => ?_) (Cert.Kernel4Ideal.Value.run_blocks (F := Ideal) m g)
  refine ⟨(h c).1.trans (out m c _ fun j d f => ?_), (h c).2⟩
  rw [(hagree c).1, (hagree c).2]
  pointwise []
  exact Finset.sum_congr rfl fun k _ => mul_comm _ _

section
variable {F : FTy → Type} [FloatOps F]

/-! The printed kernel and its ideal form are one text, so the one's run is the other's. -/

theorem same_body : Cert.Kernel4.cc0_grad_w_gate (F := F) = Cert.Kernel4Ideal.cc0_grad_w_gate (F := F) := rfl
theorem same_bodies : (Cert.Kernel4.defs₀ : Defs _ _ _ (Elt F) _) = Cert.Kernel4Ideal.defs₀ (F := F) := by
  refine congrArg (Defs.onTc (nD := Cert.Kernel4Ideal.nD) (τ := Cert.Kernel4Ideal.τ) (sig := Cert.Kernel4Ideal.sig) (Val := Elt F) (Λ := Cert.Kernel4Ideal.Λ₀)) (funext fun l => ?_)
  match l with
  | 0 => exact funext fun a => congrFun (congrFun (congrFun (congrFun (congrFun (congrFun (congrFun (congrFun (congrFun same_body _) _) _) _) _) _) _) _) _
theorem defs_eq : Cert.Kernel4.defs (F := F) = Pipeline.defs (Cert.Kernel4Ideal.pcfgs (F := F)) Cert.Kernel4.defs₀ := rfl
theorem same_defs : Cert.Kernel4.defs (F := F) = Cert.Kernel4Ideal.defs (F := F) :=
  defs_eq.trans (congrArg (Pipeline.defs (Cert.Kernel4Ideal.pcfgs (F := F))) same_bodies)
theorem same_main : Cert.Kernel4.main (F := F) = Cert.Kernel4Ideal.main (F := F) := rfl

theorem run_of_same (D : Defs Cert.Kernel4Ideal.nD Cert.Kernel4Ideal.τ Cert.Kernel4Ideal.sig (Elt F) (Pipeline.Sig Cert.Kernel4Ideal.Λ₀ (Fin 1) fun p => (Cert.Kernel4Ideal.pcfgs (F := F) p).Adm)) (M)
    (hD : D = Cert.Kernel4Ideal.defs (F := F)) (hM : M = Cert.Kernel4Ideal.main (F := F)) (s Q) (h : θ_run (Cert.Kernel4Ideal.defs (F := F)) (onTc (τ := Cert.Kernel4Ideal.τ) (Cert.Kernel4Ideal.main (F := F))) s Q) :
    θ_run D (onTc (τ := Cert.Kernel4Ideal.τ) M) s Q := by
  subst hD hM; exact h
end

theorem frame_printed : Cert.quiescent_Kernel4 := fun m ρ _ =>
  run_of_same (F := Bits) (Cert.Kernel4.defs (F := Bits)) (Cert.Kernel4.main (F := Bits)) same_defs same_main _ _ (Cert.Kernel4Ideal.Gen.frame (F := Bits) m ρ)

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.GradWGate

end
-- ==== Proof.Product.lean ====
/- What the modules on the mixers' projections share. -/
module

public import proofs.«01_k».proof.Defs
public import Idealize.ShloMosaic.Lib.Pointwise
public import Idealize.ShloMosaic.Lib.Pipeline.ValueKit

@[expose] public section

noncomputable section

namespace Cert.Product

open Idealize.ShloMosaic Idealize.ShloMosaic.TcCoe Idealize.ShloMosaic.Tactic Idealize.SL.Sem

/-- Every read and write of the bodies is of a whole block. -/
theorem origin : (![0, 0] : Fin 2 → ℕ) = fun _ => 0 := funext fun a => by fin_cases a <;> rfl
theorem origin3 : (![0, 0, 0] : Fin 3 → ℕ) = fun _ => 0 := funext fun a => by fin_cases a <;> rfl

/-- Equal programs have the same runs: a printed kernel and its ideal form are one text, so the one's run is the other's. -/
theorem run_of_same {nD : ℕ} {τ : _} {sig : _} {F : FTy → Type} {Λ : _} (D D' : Defs nD τ sig (Elt F) Λ)
    (M M' : Dev nD → Prog (TpuEff nD τ sig (Elt F) Λ .tc) PUnit) (hD : D = D') (hM : M = M') (s) (Q) (h : θ_run D' (onTc (τ := τ) M') s Q) :
    θ_run D (onTc (τ := τ) M) s Q := by
  subst hD hM; exact h

end Cert.Product

end
-- ==== Proof.InProj.lean ====
/- The product in front of the mixers (`in_proj`): the launch's array is the product of the normalised input and the
   weight, which is held transposed. The kernel takes each entry's whole sum in one step. -/
module

public import proofs.«01_k».proof.Proof.Product
public import proofs.«01_k».proof.Proof.Gen.Kernel8
public import proofs.«01_k».proof.Proof.Gen.Kernel8Ideal.Value
public import proofs.«01_k».proof.Proof.Gen.Reference8Ideal.Run

@[expose] public section

set_option maxRecDepth 16384

noncomputable section

namespace Cert.InProj

open Idealize.ShloMosaic Idealize.ShloMosaic.TcCoe Idealize.ShloMosaic.Tactic Idealize.SL.Sem Cert.Kernel8Ideal Cert.Kernel8Ideal.Gen
open Idealize.ShloMosaic.Pipeline (Dat Cfg Window)
open Cert.Product (origin)

/-- A tile's one step starts from zero and writes its sum out. -/
theorem only (c : Dev nD) (i : grid0.Coords) (a3 : Memref sig .tc .vmem S1024x2048 .bf16) (h3 : a3.IsWhole)
    (a4 : Memref sig .tc .vmem S768x2048 .bf16) (h4 : a4.IsWhole) (a5 : Memref sig .tc .vmem S1024x768 .f32) (h5 : a5.IsWhole)
    (a6 : Memref sig .tc .vmem S1024x768 .f32) (h6 : a6.IsWhole) (x : Vec Ideal S1024x2048 .bf16) (y : Vec Ideal S768x2048 .bf16)
    (h : cond0_0 i) (h' : cond0_1 i) :
    out0_A_2 (F := Ideal) c i a3 h3 a4 h4 a5 h5 a6 h6 h h' x y = k0_pay2 x y (k0_pay1 (F := Ideal)) := by
  unfold out0_A_2
  rw [View.read_writes_eq_canon _ _ _ (cover0_A_2 c i a3 h3 a4 h4 a5 h5 a6 h6 h h' x y)]
  unfold kernelRun0_A
  dsimp only
  sl_unfold_words
  rw [View.canon_unit_zero (S := S1024x768) origin]
  simp (disch := decide) only [View.readCov_cons_unit_lit', View.readCov_unit_lit', View.readAt_eq_ld, h3.read_unread, h4.read_unread, View.ld_unit_zero (S := S1024x2048) origin, View.ld_unit_zero (S := S768x2048) origin]

theorem start_at (p : Fin 1024) (q : Fin 768) : k0_pay1 (F := Ideal) (ix2 p q) = 0 := by pointwise [k0_pay1]

/-- The step adds the product of the two blocks. -/
theorem step_at (x : Vec Ideal S1024x2048 .bf16) (y : Vec Ideal S768x2048 .bf16) (s : Vec Ideal S1024x768 .f32) (p : Fin 1024) (q : Fin 768) :
    k0_pay2 (F := Ideal) x y s (ix2 p q) = s (ix2 p q) + ∑ k : Fin 2048, x (ix2 p k) * y (ix2 q k) := by pointwise [k0_pay2]

theorem idx_0 : ∀ t : Fin grid0.N, win0_0.index t = ![t.val / 5, 0] := of_decide_eq_true (by sl_kernel_rfl)
theorem idx_1 : ∀ t : Fin grid0.N, win0_1.index t = ![t.val % 5, 0] := of_decide_eq_true (by sl_kernel_rfl)
theorem idx_2 : ∀ t : Fin grid0.N, win0_2.index t = ![t.val / 5, t.val % 5] := of_decide_eq_true (by sl_kernel_rfl)

section
variable (m : (ℓ : Loc nD τ sig) → Buf (Elt Ideal) ℓ) (c : Dev nD)

/-- The normalised input and the weight, as launched. -/
abbrev u : FVec Ideal S4096x2048 .f32 := m ((c : Thread nD τ).loc main_arg0)
abbrev wi : FVec Ideal S3840x2048 .f32 := m ((c : Thread nD τ).loc main_arg1)

theorem V_0 : V m c main_v0 = u m c := by
  unfold V; after_results; rfl
theorem V_1 : V m c main_v1 = wi m c := by
  unfold V; after_results; rfl

variable (t : Fin grid0.N)
theorem lt : t.val < 20 := t.isLt

theorem iblk_0 (p : Fin 1024) (k : Fin 2048) (P : Fin 4096) (hP : P.val = t.val / 5 * 1024 + p.val) :
    iblk m c 0 t (ix2 p k) = u m c (ix2 P k) := by
  rw [← V_0]
  have e := idx_0 t
  blk_ext [iblk, e, hP]
theorem iblk_1 (q : Fin 768) (k : Fin 2048) (Q : Fin 3840) (hQ : Q.val = t.val % 5 * 768 + q.val) :
    iblk m c 1 t (ix2 q k) = wi m c (ix2 Q k) := by
  rw [← V_1]
  have e := idx_1 t
  blk_ext [iblk, e, hQ]

/-- The array after the launch. -/
theorem out (G : FVec Ideal S4096x3840 .f32)
    (hG : ∀ (r : Fin 4096) (d : Fin 3840), G (ix2 r d) = ∑ k : Fin 2048, u m c (ix2 r k) * wi m c (ix2 d k)) :
    (dats m 0 c).arrAt 2 cfg0.N = G := by
  refine (dats m 0 c).arrAt_eq_of_covers 2 G (by decide +kernel) fun t _ y => ?_
  have e := idx_2 t
  have hN := lt t
  have hv (p : Fin 1024) (q : Fin 768) : (dats m 0 c).after 2 t (ix2 p q) = G (((cfg0.win 2).blk t).view.emb (ix2 p q)) := by
    have hG' : G (((cfg0.win 2).blk t).view.emb (ix2 p q))
        = G (ix2 (⟨t.val / 5 * 1024 + p.val, by omega⟩ : Fin 4096) (⟨t.val % 5 * 768 + q.val, by omega⟩ : Fin 3840)) := by
      refine congrArg G ?_
      blk_ext [e]
    rw [after0_2]
    unfold outsAt0
    rw [only, hG', hG, step_at, start_at, zero_add]
    refine Eq.trans (α := Ideal .f32) (Finset.sum_congr rfl fun k _ => ?_) rfl
    exact congr_arg₂ (· * ·) (iblk_0 m c t p k _ rfl) (iblk_1 m c t q k _ rfl)
  blk_simp [e]
  rw [eq_ix2 (n0 := 1024) (n1 := 768) y]
  exact hv _ _
end

/-- The kernel and the reference end with equal products. -/
theorem algebraic : Cert.algebraic_Kernel8Ideal_Reference8Ideal := by
  intro m g m' g' _ hagree
  refine ⟨_, ?_, Cert.Reference8Ideal.Value.run (F := Ideal) m' g'⟩
  refine (θ_run Cert.Kernel8Ideal.defs _ _).mono (fun r h c => ?_) (Cert.Kernel8Ideal.Value.run_blocks (F := Ideal) m g)
  refine ⟨(h c).1.trans (out m c _ fun f d => ?_), (h c).2⟩
  rw [(hagree c).1, (hagree c).2]
  pointwise []

section
variable {F : FTy → Type} [FloatOps F]

theorem same_body : Cert.Kernel8.cc0_in_proj (F := F) = Cert.Kernel8Ideal.cc0_in_proj (F := F) := rfl
theorem same_bodies : (Cert.Kernel8.defs₀ : Defs _ _ _ (Elt F) _) = Cert.Kernel8Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel8.defs (F := F) = Pipeline.defs (pcfgs (F := F)) Cert.Kernel8.defs₀ := rfl
theorem same_defs : Cert.Kernel8.defs (F := F) = Cert.Kernel8Ideal.defs (F := F) :=
  defs_eq.trans (congrArg (Pipeline.defs (pcfgs (F := F))) same_bodies)
theorem same_main : Cert.Kernel8.main (F := F) = Cert.Kernel8Ideal.main (F := F) := rfl
end

theorem frame_printed : Cert.quiescent_Kernel8 := fun m ρ _ =>
  Product.run_of_same _ _ _ _ same_defs same_main _ _ (Cert.Kernel8Ideal.Gen.frame (F := Bits) m ρ)

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.InProj

end
-- ==== Proof.InProjBwd.lean ====
/- The backward of the product in front of the mixers (`in_proj_bwd`): the launch's array is the product of the cotangent and
   the weight, each entry one sum over the projection's columns, which the kernel takes in two steps. -/
module

public import proofs.«01_k».proof.Proof.Product
public import proofs.«01_k».proof.Proof.Gen.Kernel9
public import proofs.«01_k».proof.Proof.Gen.Kernel9Ideal.Value
public import proofs.«01_k».proof.Proof.Gen.Reference9Ideal.Run

@[expose] public section

set_option maxRecDepth 16384

noncomputable section

namespace Cert.InProjBwd

open Idealize.ShloMosaic Idealize.ShloMosaic.TcCoe Idealize.ShloMosaic.Tactic Idealize.SL.Sem Cert.Kernel9Ideal Cert.Kernel9Ideal.Gen
open Idealize.ShloMosaic.Pipeline (Dat Cfg Window)
open Cert.Product (origin)

section
variable (c : Dev nD) (i : grid0.Coords) (a3 : Memref sig .tc .vmem S1024x1920 .bf16) (h3 : a3.IsWhole)
  (a4 : Memref sig .tc .vmem S1920x1024 .bf16) (h4 : a4.IsWhole) (a5 : Memref sig .tc .vmem S1024x1024 .f32) (h5 : a5.IsWhole)
  (a6 : Memref sig .tc .vmem S1024x1024 .f32) (h6 : a6.IsWhole) (x : Vec Ideal S1024x1920 .bf16) (y : Vec Ideal S1920x1024 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1920) origin, View.ld_unit_zero (S := S1920x1024) origin]

/-- and at its last it is written out. -/
theorem last (h : ¬cond0_0 i) (h' : cond0_1 i) (s : Vec Ideal S1024x1024 .f32) :
    out0_B_2 (F := Ideal) c i a3 h3 a4 h4 a5 h5 a6 h6 h h' x y s = k0_pay2 x y s := by
  unfold out0_B_2
  rw [View.read_writes_eq_canon _ _ _ (cover0_B_2 c i a3 h3 a4 h4 a5 h5 a6 h6 h h' x y s)]
  unfold kernelRun0_B
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S1024x1024) origin,
    View.ld_unit_zero (S := S1024x1920) origin, View.ld_unit_zero (S := S1920x1024) origin]
end

theorem start_at (p q : Fin 1024) : k0_pay1 (F := Ideal) (ix2 p q) = 0 := by pointwise [k0_pay1]

/-- One step adds the product of the two blocks. -/
theorem step_at (x : Vec Ideal S1024x1920 .bf16) (y : Vec Ideal S1920x1024 .bf16) (s : Vec Ideal S1024x1024 .f32) (p q : Fin 1024) :
    k0_pay2 (F := Ideal) x y s (ix2 p q) = s (ix2 p q) + ∑ k : Fin 1920, x (ix2 p k) * y (ix2 k q) := by pointwise [k0_pay2]

theorem idx_0 : ∀ t : Fin grid0.N, win0_0.index t = ![t.val / 4, t.val % 2] := of_decide_eq_true (by sl_kernel_rfl)
theorem idx_1 : ∀ t : Fin grid0.N, win0_1.index t = ![t.val % 2, t.val / 2 % 2] := of_decide_eq_true (by sl_kernel_rfl)
theorem idx_2 : ∀ t : Fin grid0.N, win0_2.index t = ![t.val / 4, t.val / 2 % 2] := of_decide_eq_true (by sl_kernel_rfl)

section
variable (m : (ℓ : Loc nD τ sig) → Buf (Elt Ideal) ℓ) (c : Dev nD)

/-- The cotangent and the weight, as launched. -/
abbrev dproj : FVec Ideal S4096x3840 .f32 := m ((c : Thread nD τ).loc main_arg1)
abbrev wi : FVec Ideal S3840x2048 .f32 := m ((c : Thread nD τ).loc main_arg0)

theorem V_0 : V m c main_v0 = dproj m c := by
  unfold V; after_results; rfl
theorem V_1 : V m c main_v1 = wi m c := by
  unfold V; after_results; rfl

variable (t : Fin grid0.N)
theorem lt : t.val < 16 := t.isLt

theorem iblk_0 (p : Fin 1024) (k : Fin 1920) (P : Fin 4096) (K : Fin 3840) (hP : P.val = t.val / 4 * 1024 + p.val) (hK : K.val = t.val % 2 * 1920 + k.val) :
    iblk m c 0 t (ix2 p k) = dproj m c (ix2 P K) := by
  rw [← V_0]
  have e := idx_0 t
  blk_ext [iblk, e, hK, hP]
theorem iblk_1 (k : Fin 1920) (q : Fin 1024) (K : Fin 3840) (Q : Fin 2048) (hK : K.val = t.val % 2 * 1920 + k.val) (hQ : Q.val = t.val / 2 % 2 * 1024 + q.val) :
    iblk m c 1 t (ix2 k q) = wi m c (ix2 K Q) := by
  rw [← V_1]
  have e := idx_1 t
  blk_ext [iblk, e, hK, hQ]

/-- The array after the launch. -/
theorem out (G : FVec Ideal S4096x2048 .f32)
    (hG : ∀ (r : Fin 4096) (d : Fin 2048), G (ix2 r d) = ∑ k : Fin 3840, dproj m c (ix2 r k) * wi m c (ix2 k d)) :
    (dats m 0 c).arrAt 2 cfg0.N = G := by
  refine (dats m 0 c).arrAt_eq_of_covers 2 G (by decide +kernel) fun t hf y => ?_
  have e := idx_2 t
  have hm : t.val % 2 = 1 := (flush0_2 t).mp hf
  have hN := lt t
  have hv (p q : Fin 1024) : (dats m 0 c).after 2 t (ix2 p q) = G (((cfg0.win 2).blk t).view.emb (ix2 p q)) := by
    have ht : (t.val - 1) % 2 = 0 := by omega
    rw [after0_2, outsAt0_B m c t (by omega) hm]
    have ha := outsAt0_A m c (⟨t.val - 1, Nat.lt_of_le_of_lt (Nat.sub_le _ _) t.isLt⟩ : Fin cfg0.N) ht (by dsimp only; omega)
    dsimp only at ha ⊢
    rw [ha, last]
    dsimp only
    rw [first]
    have hG' : G (((cfg0.win 2).blk t).view.emb (ix2 p q))
        = G (ix2 (⟨t.val / 4 * 1024 + p.val, by omega⟩ : Fin 4096) (⟨t.val / 2 % 2 * 1024 + q.val, by omega⟩ : Fin 2048)) := by
      refine congrArg G ?_
      blk_ext [e]
    rw [hG', hG, Fin.sum_univ_two_halves 1920 1920 rfl, step_at, step_at, start_at, zero_add]
    refine congr_arg₂ (· + ·) (Finset.sum_congr rfl fun k _ => ?_) (Finset.sum_congr rfl fun k _ => ?_)
    · exact congr_arg₂ (· * ·) (iblk_0 m c _ p k _ _ (by dsimp only; omega) (by dsimp only; omega)) (iblk_1 m c _ k q _ _ (by dsimp only; omega) (by dsimp only; omega))
    · exact congr_arg₂ (· * ·) (iblk_0 m c _ p k _ _ (by dsimp only) (by dsimp only; omega)) (iblk_1 m c _ k q _ _ (by dsimp only; omega) (by dsimp only))
  blk_simp [e]
  rw [eq_ix2 (n0 := 1024) (n1 := 1024) y]
  exact hv _ _
end

/-- The kernel and the reference end with equal gradients. -/
theorem algebraic : Cert.algebraic_Kernel9Ideal_Reference9Ideal := by
  intro m g m' g' _ hagree
  refine ⟨_, ?_, Cert.Reference9Ideal.Value.run (F := Ideal) m' g'⟩
  refine (θ_run Cert.Kernel9Ideal.defs _ _).mono (fun r h c => ?_) (Cert.Kernel9Ideal.Value.run_blocks (F := Ideal) m g)
  refine ⟨(h c).1.trans (out m c _ fun f d => ?_), (h c).2⟩
  rw [(hagree c).1, (hagree c).2]
  pointwise []

section
variable {F : FTy → Type} [FloatOps F]

theorem same_body : Cert.Kernel9.cc0_in_proj_bwd (F := F) = Cert.Kernel9Ideal.cc0_in_proj_bwd (F := F) := rfl
theorem same_bodies : (Cert.Kernel9.defs₀ : Defs _ _ _ (Elt F) _) = Cert.Kernel9Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel9.defs (F := F) = Pipeline.defs (pcfgs (F := F)) Cert.Kernel9.defs₀ := rfl
theorem same_defs : Cert.Kernel9.defs (F := F) = Cert.Kernel9Ideal.defs (F := F) :=
  defs_eq.trans (congrArg (Pipeline.defs (pcfgs (F := F))) same_bodies)
theorem same_main : Cert.Kernel9.main (F := F) = Cert.Kernel9Ideal.main (F := F) := rfl
end

theorem frame_printed : Cert.quiescent_Kernel9 := fun m ρ _ =>
  Product.run_of_same _ _ _ _ same_defs same_main _ _ (Cert.Kernel9Ideal.Gen.frame (F := Bits) m ρ)

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.InProjBwd

end
-- ==== Proof.GradWIn.lean ====
/- The gradient of the weight in front of the mixers (`grad_w_in`): the launch's array is the product of the transposed
   cotangent and the normalised input, each entry one sum over the tokens, which the kernel takes in two steps. -/
module

public import proofs.«01_k».proof.Proof.Product
public import proofs.«01_k».proof.Proof.Gen.Kernel10
public import proofs.«01_k».proof.Proof.Gen.Kernel10Ideal.Value
public import proofs.«01_k».proof.Proof.Gen.Reference10Ideal.Run

@[expose] public section

set_option maxRecDepth 16384

noncomputable section

namespace Cert.GradWIn

open Idealize.ShloMosaic Idealize.ShloMosaic.TcCoe Idealize.ShloMosaic.Tactic Idealize.SL.Sem Cert.Kernel10Ideal Cert.Kernel10Ideal.Gen
open Idealize.ShloMosaic.Pipeline (Dat Cfg Window)
open Cert.Product (origin)

section
variable (c : Dev nD) (i : grid0.Coords) (a3 : Memref sig .tc .vmem S2048x1280 .bf16) (h3 : a3.IsWhole)
  (a4 : Memref sig .tc .vmem S2048x1024 .bf16) (h4 : a4.IsWhole) (a5 : Memref sig .tc .vmem S1280x1024 .f32) (h5 : a5.IsWhole)
  (a6 : Memref sig .tc .vmem S1280x1024 .f32) (h6 : a6.IsWhole) (x : Vec Ideal S2048x1280 .bf16) (y : Vec Ideal S2048x1024 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S1280x1024) origin, View.readCov_unit_zero (S := S1280x1024) _ origin]
  simp only [View.readAt_eq_ld, h3.read_unread, h4.read_unread, View.ld_unit_zero (S := S2048x1280) origin, View.ld_unit_zero (S := S2048x1024) origin]

/-- and at its last it is written out. -/
theorem last (h : ¬cond0_0 i) (h' : cond0_1 i) (s : Vec Ideal S1280x1024 .f32) :
    out0_B_2 (F := Ideal) c i a3 h3 a4 h4 a5 h5 a6 h6 h h' x y s = k0_pay2 x y s := by
  unfold out0_B_2
  rw [View.read_writes_eq_canon _ _ _ (cover0_B_2 c i a3 h3 a4 h4 a5 h5 a6 h6 h h' x y s)]
  unfold kernelRun0_B
  dsimp only
  sl_unfold_words
  rw [View.canon_unit_zero (S := S1280x1024) origin, View.readCov_unit_zero (S := S1280x1024) _ origin]
  simp only [View.readAt_eq_ld, h3.read_unread, h4.read_unread, h6.read_unread, View.ld_unit_zero (S := S1280x1024) origin,
    View.ld_unit_zero (S := S2048x1280) origin, View.ld_unit_zero (S := S2048x1024) origin]
end

theorem start_at (p : Fin 1280) (q : Fin 1024) : k0_pay1 (F := Ideal) (ix2 p q) = 0 := by pointwise [k0_pay1]

/-- One step adds the product of the two blocks. -/
theorem step_at (x : Vec Ideal S2048x1280 .bf16) (y : Vec Ideal S2048x1024 .bf16) (s : Vec Ideal S1280x1024 .f32) (p : Fin 1280) (q : Fin 1024) :
    k0_pay2 (F := Ideal) x y s (ix2 p q) = s (ix2 p q) + ∑ k : Fin 2048, x (ix2 k p) * y (ix2 k q) := by pointwise [k0_pay2]

theorem idx_0 : ∀ t : Fin grid0.N, win0_0.index t = ![t.val % 2, t.val / 4] := of_decide_eq_true (by sl_kernel_rfl)
theorem idx_1 : ∀ t : Fin grid0.N, win0_1.index t = ![t.val % 2, t.val / 2 % 2] := of_decide_eq_true (by sl_kernel_rfl)
theorem idx_2 : ∀ t : Fin grid0.N, win0_2.index t = ![t.val / 4, t.val / 2 % 2] := of_decide_eq_true (by sl_kernel_rfl)

section
variable (m : (ℓ : Loc nD τ sig) → Buf (Elt Ideal) ℓ) (c : Dev nD)

/-- The cotangent and the normalised input, as launched. -/
abbrev ct : FVec Ideal S4096x3840 .f32 := m ((c : Thread nD τ).loc main_arg1)
abbrev u : FVec Ideal S4096x2048 .f32 := m ((c : Thread nD τ).loc main_arg0)

theorem V_0 : V m c main_v0 = ct m c := by
  unfold V; after_results; rfl
theorem V_1 : V m c main_v1 = u m c := by
  unfold V; after_results; rfl

variable (t : Fin grid0.N)
theorem lt : t.val < 12 := t.isLt

theorem iblk_0 (k : Fin 2048) (p : Fin 1280) (K : Fin 4096) (P : Fin 3840) (hK : K.val = t.val % 2 * 2048 + k.val) (hP : P.val = t.val / 4 * 1280 + p.val) :
    iblk m c 0 t (ix2 k p) = ct m c (ix2 K P) := by
  rw [← V_0]
  have e := idx_0 t
  blk_ext [iblk, e, hK, hP]
theorem iblk_1 (k : Fin 2048) (q : Fin 1024) (K : Fin 4096) (Q : Fin 2048) (hK : K.val = t.val % 2 * 2048 + k.val) (hQ : Q.val = t.val / 2 % 2 * 1024 + q.val) :
    iblk m c 1 t (ix2 k q) = u m c (ix2 K Q) := by
  rw [← V_1]
  have e := idx_1 t
  blk_ext [iblk, e, hK, hQ]

/-- The array after the launch. -/
theorem out (G : FVec Ideal S3840x2048 .f32)
    (hG : ∀ (f : Fin 3840) (d : Fin 2048), G (ix2 f d) = ∑ k : Fin 4096, ct m c (ix2 k f) * u m c (ix2 k d)) :
    (dats m 0 c).arrAt 2 cfg0.N = G := by
  refine (dats m 0 c).arrAt_eq_of_covers 2 G (by decide +kernel) fun t hf y => ?_
  have e := idx_2 t
  have hm : t.val % 2 = 1 := (flush0_2 t).mp hf
  have hN := lt t
  have hv (p : Fin 1280) (q : Fin 1024) : (dats m 0 c).after 2 t (ix2 p q) = G (((cfg0.win 2).blk t).view.emb (ix2 p q)) := by
    have ht : (t.val - 1) % 2 = 0 := by omega
    rw [after0_2, outsAt0_B m c t (by omega) hm]
    have ha := outsAt0_A m c (⟨t.val - 1, Nat.lt_of_le_of_lt (Nat.sub_le _ _) t.isLt⟩ : Fin cfg0.N) ht (by dsimp only; omega)
    dsimp only at ha ⊢
    rw [ha, last]
    dsimp only
    rw [first]
    have hG' : G (((cfg0.win 2).blk t).view.emb (ix2 p q))
        = G (ix2 (⟨t.val / 4 * 1280 + p.val, by omega⟩ : Fin 3840) (⟨t.val / 2 % 2 * 1024 + q.val, by omega⟩ : Fin 2048)) := by
      refine congrArg G ?_
      blk_ext [e]
    rw [hG', hG, Fin.sum_univ_two_halves 2048 2048 rfl, step_at, step_at, start_at, zero_add]
    refine congr_arg₂ (· + ·) (Finset.sum_congr rfl fun k _ => ?_) (Finset.sum_congr rfl fun k _ => ?_)
    · exact congr_arg₂ (· * ·) (iblk_0 m c _ k p _ _ (by dsimp only; omega) (by dsimp only; omega)) (iblk_1 m c _ k q _ _ (by dsimp only; omega) (by dsimp only; omega))
    · exact congr_arg₂ (· * ·) (iblk_0 m c _ k p _ _ (by dsimp only; omega) (by dsimp only)) (iblk_1 m c _ k q _ _ (by dsimp only; omega) (by dsimp only))
  blk_simp [e]
  rw [eq_ix2 (n0 := 1280) (n1 := 1024) y]
  exact hv _ _
end

/-- The kernel and the reference end with equal gradients. -/
theorem algebraic : Cert.algebraic_Kernel10Ideal_Reference10Ideal := by
  intro m g m' g' _ hagree
  refine ⟨_, ?_, Cert.Reference10Ideal.Value.run (F := Ideal) m' g'⟩
  refine (θ_run Cert.Kernel10Ideal.defs _ _).mono (fun r h c => ?_) (Cert.Kernel10Ideal.Value.run_blocks (F := Ideal) m g)
  refine ⟨(h c).1.trans (out m c _ fun f d => ?_), (h c).2⟩
  rw [(hagree c).1, (hagree c).2]
  pointwise []

section
variable {F : FTy → Type} [FloatOps F]

theorem same_body : Cert.Kernel10.cc0_grad_w_in (F := F) = Cert.Kernel10Ideal.cc0_grad_w_in (F := F) := rfl
theorem same_bodies : (Cert.Kernel10.defs₀ : Defs _ _ _ (Elt F) _) = Cert.Kernel10Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel10.defs (F := F) = Pipeline.defs (pcfgs (F := F)) Cert.Kernel10.defs₀ := rfl
theorem same_defs : Cert.Kernel10.defs (F := F) = Cert.Kernel10Ideal.defs (F := F) :=
  defs_eq.trans (congrArg (Pipeline.defs (pcfgs (F := F))) same_bodies)
theorem same_main : Cert.Kernel10.main (F := F) = Cert.Kernel10Ideal.main (F := F) := rfl
end

theorem frame_printed : Cert.quiescent_Kernel10 := fun m ρ _ =>
  Product.run_of_same _ _ _ _ same_defs same_main _ _ (Cert.Kernel10Ideal.Gen.frame (F := Bits) m ρ)

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.GradWIn

end
-- ==== Proof.OutProj.lean ====
/- The product behind the mixers (`out_proj`): the launch's array is the product of the two branches' joined outputs and the
   weight. The kernel takes each entry's whole sum in one step. -/
module

public import proofs.«01_k».proof.Proof.Product
public import proofs.«01_k».proof.Proof.Gen.Kernel11
public import proofs.«01_k».proof.Proof.Gen.Kernel11Ideal.Value
public import proofs.«01_k».proof.Proof.Gen.Reference11Ideal.Run

@[expose] public section

set_option maxRecDepth 16384

noncomputable section

namespace Cert.OutProj

open Idealize.ShloMosaic Idealize.ShloMosaic.TcCoe Idealize.ShloMosaic.Tactic Idealize.SL.Sem Cert.Kernel11Ideal Cert.Kernel11Ideal.Gen
open Idealize.ShloMosaic.Pipeline (Dat Cfg Window)
open Cert.Product (origin)

/-- A tile's one step starts from zero and writes its sum out. -/
theorem only (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole) (x : Vec Ideal S1024x2048 .bf16) (y : Vec Ideal S2048x1024 .bf16)
    (h : cond0_0 i) (h' : cond0_1 i) :
    out0_A_2 (F := Ideal) c i a3 h3 a4 h4 a5 h5 a6 h6 h h' x y = k0_pay2 x y (k0_pay1 (F := Ideal)) := by
  unfold out0_A_2
  rw [View.read_writes_eq_canon _ _ _ (cover0_A_2 c i a3 h3 a4 h4 a5 h5 a6 h6 h h' x y)]
  unfold kernelRun0_A
  dsimp only
  sl_unfold_words
  rw [View.canon_unit_zero (S := S1024x1024) origin]
  simp (disch := decide) only [View.readCov_cons_unit_lit', View.readCov_unit_lit', View.readAt_eq_ld, h3.read_unread, h4.read_unread, View.ld_unit_zero (S := S1024x2048) origin, View.ld_unit_zero (S := S2048x1024) origin]

theorem start_at (p q : Fin 1024) : k0_pay1 (F := Ideal) (ix2 p q) = 0 := by pointwise [k0_pay1]

/-- The step adds the product of the two blocks. -/
theorem step_at (x : Vec Ideal S1024x2048 .bf16) (y : Vec Ideal S2048x1024 .bf16) (s : Vec Ideal S1024x1024 .f32) (p q : Fin 1024) :
    k0_pay2 (F := Ideal) x y s (ix2 p q) = s (ix2 p q) + ∑ k : Fin 2048, x (ix2 p k) * y (ix2 k q) := by pointwise [k0_pay2]

theorem idx_0 : ∀ t : Fin grid0.N, win0_0.index t = ![t.val / 2, 0] := of_decide_eq_true (by sl_kernel_rfl)
theorem idx_1 : ∀ t : Fin grid0.N, win0_1.index t = ![0, t.val % 2] := of_decide_eq_true (by sl_kernel_rfl)
theorem idx_2 : ∀ t : Fin grid0.N, win0_2.index t = ![t.val / 2, t.val % 2] := of_decide_eq_true (by sl_kernel_rfl)

section
variable (m : (ℓ : Loc nD τ sig) → Buf (Elt Ideal) ℓ) (c : Dev nD)

/-- The joined outputs and the weight, as launched. -/
abbrev cat : FVec Ideal S4096x2048 .f32 := m ((c : Thread nD τ).loc main_arg0)
abbrev wo : FVec Ideal S2048x2048 .f32 := m ((c : Thread nD τ).loc main_arg1)

theorem V_0 : V m c main_v0 = cat m c := by
  unfold V; after_results; rfl
theorem V_1 : V m c main_v1 = wo m c := by
  unfold V; after_results; rfl

variable (t : Fin grid0.N)
theorem lt : t.val < 8 := t.isLt

theorem iblk_0 (p : Fin 1024) (k : Fin 2048) (P : Fin 4096) (hP : P.val = t.val / 2 * 1024 + p.val) :
    iblk m c 0 t (ix2 p k) = cat m c (ix2 P k) := by
  rw [← V_0]
  have e := idx_0 t
  blk_ext [iblk, e, hP]
theorem iblk_1 (k : Fin 2048) (q : Fin 1024) (Q : Fin 2048) (hQ : Q.val = t.val % 2 * 1024 + q.val) :
    iblk m c 1 t (ix2 k q) = wo m c (ix2 k Q) := by
  rw [← V_1]
  have e := idx_1 t
  blk_ext [iblk, e, hQ]

/-- The array after the launch. -/
theorem out (G : FVec Ideal S4096x2048 .f32)
    (hG : ∀ (r : Fin 4096) (d : Fin 2048), G (ix2 r d) = ∑ k : Fin 2048, cat m c (ix2 r k) * wo m c (ix2 k d)) :
    (dats m 0 c).arrAt 2 cfg0.N = G := by
  refine (dats m 0 c).arrAt_eq_of_covers 2 G (by decide +kernel) fun t _ y => ?_
  have e := idx_2 t
  have hN := lt t
  have hv (p q : Fin 1024) : (dats m 0 c).after 2 t (ix2 p q) = G (((cfg0.win 2).blk t).view.emb (ix2 p q)) := by
    have hG' : G (((cfg0.win 2).blk t).view.emb (ix2 p q))
        = G (ix2 (⟨t.val / 2 * 1024 + p.val, by omega⟩ : Fin 4096) (⟨t.val % 2 * 1024 + q.val, by omega⟩ : Fin 2048)) := by
      refine congrArg G ?_
      blk_ext [e]
    rw [after0_2]
    unfold outsAt0
    rw [only, hG', hG, step_at, start_at, zero_add]
    refine Eq.trans (α := Ideal .f32) (Finset.sum_congr rfl fun k _ => ?_) rfl
    exact congr_arg₂ (· * ·) (iblk_0 m c t p k _ rfl) (iblk_1 m c t k q _ rfl)
  blk_simp [e]
  rw [eq_ix2 (n0 := 1024) (n1 := 1024) y]
  exact hv _ _
end

/-- The kernel and the reference end with equal products. -/
theorem algebraic : Cert.algebraic_Kernel11Ideal_Reference11Ideal := by
  intro m g m' g' _ hagree
  refine ⟨_, ?_, Cert.Reference11Ideal.Value.run (F := Ideal) m' g'⟩
  refine (θ_run Cert.Kernel11Ideal.defs _ _).mono (fun r h c => ?_) (Cert.Kernel11Ideal.Value.run_blocks (F := Ideal) m g)
  refine ⟨(h c).1.trans (out m c _ fun f d => ?_), (h c).2⟩
  rw [(hagree c).1, (hagree c).2]
  pointwise []

section
variable {F : FTy → Type} [FloatOps F]

theorem same_body : Cert.Kernel11.cc0_out_proj (F := F) = Cert.Kernel11Ideal.cc0_out_proj (F := F) := rfl
theorem same_bodies : (Cert.Kernel11.defs₀ : Defs _ _ _ (Elt F) _) = Cert.Kernel11Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel11.defs (F := F) = Pipeline.defs (pcfgs (F := F)) Cert.Kernel11.defs₀ := rfl
theorem same_defs : Cert.Kernel11.defs (F := F) = Cert.Kernel11Ideal.defs (F := F) :=
  defs_eq.trans (congrArg (Pipeline.defs (pcfgs (F := F))) same_bodies)
theorem same_main : Cert.Kernel11.main (F := F) = Cert.Kernel11Ideal.main (F := F) := rfl
end

theorem frame_printed : Cert.quiescent_Kernel11 := fun m ρ _ =>
  Product.run_of_same _ _ _ _ same_defs same_main _ _ (Cert.Kernel11Ideal.Gen.frame (F := Bits) m ρ)

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

end Cert.OutProj

end
-- ==== Proof.OutProjBwd.lean ====
/- The backward of the product behind the mixers (`out_proj_bwd`): the launch's array is the product of the cotangent and the
   transposed weight. The kernel takes each entry's whole sum in one step. -/
module

public import proofs.«01_k».proof.Proof.Product
public import proofs.«01_k».proof.Proof.Gen.Kernel12
public import proofs.«01_k».proof.Proof.Gen.Kernel12Ideal.Value
public import proofs.«01_k».proof.Proof.Gen.Reference12Ideal.Run

@[expose] public section

set_option maxRecDepth 16384

noncomputable section

namespace Cert.OutProjBwd

open Idealize.ShloMosaic Idealize.ShloMosaic.TcCoe Idealize.ShloMosaic.Tactic Idealize.SL.Sem Cert.Kernel12Ideal Cert.Kernel12Ideal.Gen
open Idealize.ShloMosaic.Pipeline (Dat Cfg Window)
open Cert.Product (origin)

/-- A tile's one step starts from zero and writes its sum out. -/
theorem only (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1024x1024 .f32) (h5 : a5.IsWhole)
    (a6 : Memref sig .tc .vmem S1024x1024 .f32) (h6 : a6.IsWhole) (x : Vec Ideal S1024x2048 .bf16) (y : Vec Ideal S1024x2048 .bf16)
    (h : cond0_0 i) (h' : cond0_1 i) :
    out0_A_2 (F := Ideal) c i a3 h3 a4 h4 a5 h5 a6 h6 h h' x y = k0_pay2 x y (k0_pay1 (F := Ideal)) := by
  unfold out0_A_2
  rw [View.read_writes_eq_canon _ _ _ (cover0_A_2 c i a3 h3 a4 h4 a5 h5 a6 h6 h h' x y)]
  unfold kernelRun0_A
  dsimp only
  sl_unfold_words
  rw [View.canon_unit_zero (S := S1024x1024) origin]
  simp (disch := decide) only [View.readCov_cons_unit_lit', View.readCov_unit_lit', View.readAt_eq_ld, h3.read_unread, h4.read_unread, View.ld_unit_zero (S := S1024x2048) origin]

theorem start_at (p q : Fin 1024) : k0_pay1 (F := Ideal) (ix2 p q) = 0 := by pointwise [k0_pay1]

/-- The step adds the product of the two blocks. -/
theorem step_at (x : Vec Ideal S1024x2048 .bf16) (y : Vec Ideal S1024x2048 .bf16) (s : Vec Ideal S1024x1024 .f32) (p q : Fin 1024) :
    k0_pay2 (F := Ideal) x y s (ix2 p q) = s (ix2 p q) + ∑ k : Fin 2048, x (ix2 p k) * y (ix2 q k) := by pointwise [k0_pay2]

theorem idx_0 : ∀ t : Fin grid0.N, win0_0.index t = ![t.val / 2, 0] := of_decide_eq_true (by sl_kernel_rfl)
theorem idx_1 : ∀ t : Fin grid0.N, win0_1.index t = ![t.val % 2, 0] := of_decide_eq_true (by sl_kernel_rfl)
theorem idx_2 : ∀ t : Fin grid0.N, win0_2.index t = ![t.val / 2, t.val % 2] := of_decide_eq_true (by sl_kernel_rfl)

section
variable (m : (ℓ : Loc nD τ sig) → Buf (Elt Ideal) ℓ) (c : Dev nD)

/-- The cotangent and the weight, as launched. -/
abbrev ct : FVec Ideal S4096x2048 .f32 := m ((c : Thread nD τ).loc main_arg1)
abbrev wo : FVec Ideal S2048x2048 .f32 := m ((c : Thread nD τ).loc main_arg0)

theorem V_0 : V m c main_v0 = ct m c := by
  unfold V; after_results; rfl
theorem V_1 : V m c main_v1 = wo m c := by
  unfold V; after_results; rfl

variable (t : Fin grid0.N)
theorem lt : t.val < 8 := t.isLt

theorem iblk_0 (p : Fin 1024) (k : Fin 2048) (P : Fin 4096) (hP : P.val = t.val / 2 * 1024 + p.val) :
    iblk m c 0 t (ix2 p k) = ct m c (ix2 P k) := by
  rw [← V_0]
  have e := idx_0 t
  blk_ext [iblk, e, hP]
theorem iblk_1 (q : Fin 1024) (k : Fin 2048) (Q : Fin 2048) (hQ : Q.val = t.val % 2 * 1024 + q.val) :
    iblk m c 1 t (ix2 q k) = wo m c (ix2 Q k) := by
  rw [← V_1]
  have e := idx_1 t
  blk_ext [iblk, e, hQ]

/-- The array after the launch. -/
theorem out (G : FVec Ideal S4096x2048 .f32)
    (hG : ∀ (r : Fin 4096) (d : Fin 2048), G (ix2 r d) = ∑ k : Fin 2048, ct m c (ix2 r k) * wo m c (ix2 d k)) :
    (dats m 0 c).arrAt 2 cfg0.N = G := by
  refine (dats m 0 c).arrAt_eq_of_covers 2 G (by decide +kernel) fun t _ y => ?_
  have e := idx_2 t
  have hN := lt t
  have hv (p q : Fin 1024) : (dats m 0 c).after 2 t (ix2 p q) = G (((cfg0.win 2).blk t).view.emb (ix2 p q)) := by
    have hG' : G (((cfg0.win 2).blk t).view.emb (ix2 p q))
        = G (ix2 (⟨t.val / 2 * 1024 + p.val, by omega⟩ : Fin 4096) (⟨t.val % 2 * 1024 + q.val, by omega⟩ : Fin 2048)) := by
      refine congrArg G ?_
      blk_ext [e]
    rw [after0_2]
    unfold outsAt0
    rw [only, hG', hG, step_at, start_at, zero_add]
    refine Eq.trans (α := Ideal .f32) (Finset.sum_congr rfl fun k _ => ?_) rfl
    exact congr_arg₂ (· * ·) (iblk_0 m c t p k _ rfl) (iblk_1 m c t q k _ rfl)
  blk_simp [e]
  rw [eq_ix2 (n0 := 1024) (n1 := 1024) y]
  exact hv _ _
end

/-- The kernel and the reference end with equal products. -/
theorem algebraic : Cert.algebraic_Kernel12Ideal_Reference12Ideal := by
  intro m g m' g' _ hagree
  refine ⟨_, ?_, Cert.Reference12Ideal.Value.run (F := Ideal) m' g'⟩
  refine (θ_run Cert.Kernel12Ideal.defs _ _).mono (fun r h c => ?_) (Cert.Kernel12Ideal.Value.run_blocks (F := Ideal) m g)
  refine ⟨(h c).1.trans (out m c _ fun f d => ?_), (h c).2⟩
  rw [(hagree c).1, (hagree c).2]
  pointwise []

section
variable {F : FTy → Type} [FloatOps F]

theorem same_body : Cert.Kernel12.cc0_out_proj_bwd (F := F) = Cert.Kernel12Ideal.cc0_out_proj_bwd (F := F) := rfl
theorem same_bodies : (Cert.Kernel12.defs₀ : Defs _ _ _ (Elt F) _) = Cert.Kernel12Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel12.defs (F := F) = Pipeline.defs (pcfgs (F := F)) Cert.Kernel12.defs₀ := rfl
theorem same_defs : Cert.Kernel12.defs (F := F) = Cert.Kernel12Ideal.defs (F := F) :=
  defs_eq.trans (congrArg (Pipeline.defs (pcfgs (F := F))) same_bodies)
theorem same_main : Cert.Kernel12.main (F := F) = Cert.Kernel12Ideal.main (F := F) := rfl
end

theorem frame_printed : Cert.quiescent_Kernel12 := fun m ρ _ =>
  Product.run_of_same _ _ _ _ same_defs same_main _ _ (Cert.Kernel12Ideal.Gen.frame (F := Bits) m ρ)

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.OutProjBwd

end
-- ==== Proof.GradWOut.lean ====
/- The gradient of the weight behind the mixers (`grad_w_out`): the launch's array is the product of the transposed joined
   outputs and the cotangent, each entry one sum over the tokens, which the kernel takes in two steps. -/
module

public import proofs.«01_k».proof.Proof.Product
public import proofs.«01_k».proof.Proof.Gen.Kernel13
public import proofs.«01_k».proof.Proof.Gen.Kernel13Ideal.Value
public import proofs.«01_k».proof.Proof.Gen.Reference13Ideal.Run

@[expose] public section

set_option maxRecDepth 16384

noncomputable section

namespace Cert.GradWOut

open Idealize.ShloMosaic Idealize.ShloMosaic.TcCoe Idealize.ShloMosaic.Tactic Idealize.SL.Sem Cert.Kernel13Ideal Cert.Kernel13Ideal.Gen
open Idealize.ShloMosaic.Pipeline (Dat Cfg Window)
open Cert.Product (origin)

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (x : Vec Ideal S2048x1024 .bf16) (y : Vec Ideal S2048x1024 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S2048x1024) origin]

/-- and at its last it is written out. -/
theorem last (h : ¬cond0_0 i) (h' : cond0_1 i) (s : Vec Ideal S1024x1024 .f32) :
    out0_B_2 (F := Ideal) c i a3 h3 a4 h4 a5 h5 a6 h6 h h' x y s = k0_pay2 x y s := by
  unfold out0_B_2
  rw [View.read_writes_eq_canon _ _ _ (cover0_B_2 c i a3 h3 a4 h4 a5 h5 a6 h6 h h' x y s)]
  unfold kernelRun0_B
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S1024x1024) origin,
    View.ld_unit_zero (S := S2048x1024) origin]
end

theorem start_at (p q : Fin 1024) : k0_pay1 (F := Ideal) (ix2 p q) = 0 := by pointwise [k0_pay1]

/-- One step adds the product of the two blocks. -/
theorem step_at (x : Vec Ideal S2048x1024 .bf16) (y : Vec Ideal S2048x1024 .bf16) (s : Vec Ideal S1024x1024 .f32) (p q : Fin 1024) :
    k0_pay2 (F := Ideal) x y s (ix2 p q) = s (ix2 p q) + ∑ k : Fin 2048, x (ix2 k p) * y (ix2 k q) := by pointwise [k0_pay2]

theorem idx_0 : ∀ t : Fin grid0.N, win0_0.index t = ![t.val % 2, t.val / 4] := of_decide_eq_true (by sl_kernel_rfl)
theorem idx_1 : ∀ t : Fin grid0.N, win0_1.index t = ![t.val % 2, t.val / 2 % 2] := of_decide_eq_true (by sl_kernel_rfl)
theorem idx_2 : ∀ t : Fin grid0.N, win0_2.index t = ![t.val / 4, t.val / 2 % 2] := of_decide_eq_true (by sl_kernel_rfl)

section
variable (m : (ℓ : Loc nD τ sig) → Buf (Elt Ideal) ℓ) (c : Dev nD)

/-- The joined outputs and the cotangent, as launched. -/
abbrev cat : FVec Ideal S4096x2048 .f32 := m ((c : Thread nD τ).loc main_arg0)
abbrev ct : FVec Ideal S4096x2048 .f32 := m ((c : Thread nD τ).loc main_arg1)

theorem V_0 : V m c main_v0 = cat m c := by
  unfold V; after_results; rfl
theorem V_1 : V m c main_v1 = ct m c := by
  unfold V; after_results; rfl

variable (t : Fin grid0.N)
theorem lt : t.val < 8 := t.isLt

theorem iblk_0 (k : Fin 2048) (p : Fin 1024) (K : Fin 4096) (P : Fin 2048) (hK : K.val = t.val % 2 * 2048 + k.val) (hP : P.val = t.val / 4 * 1024 + p.val) :
    iblk m c 0 t (ix2 k p) = cat m c (ix2 K P) := by
  rw [← V_0]
  have e := idx_0 t
  blk_ext [iblk, e, hK, hP]
theorem iblk_1 (k : Fin 2048) (q : Fin 1024) (K : Fin 4096) (Q : Fin 2048) (hK : K.val = t.val % 2 * 2048 + k.val) (hQ : Q.val = t.val / 2 % 2 * 1024 + q.val) :
    iblk m c 1 t (ix2 k q) = ct m c (ix2 K Q) := by
  rw [← V_1]
  have e := idx_1 t
  blk_ext [iblk, e, hK, hQ]

/-- The array after the launch. -/
theorem out (G : FVec Ideal S2048x2048 .f32)
    (hG : ∀ (f : Fin 2048) (d : Fin 2048), G (ix2 f d) = ∑ k : Fin 4096, cat m c (ix2 k f) * ct m c (ix2 k d)) :
    (dats m 0 c).arrAt 2 cfg0.N = G := by
  refine (dats m 0 c).arrAt_eq_of_covers 2 G (by decide +kernel) fun t hf y => ?_
  have e := idx_2 t
  have hm : t.val % 2 = 1 := (flush0_2 t).mp hf
  have hN := lt t
  have hv (p q : Fin 1024) : (dats m 0 c).after 2 t (ix2 p q) = G (((cfg0.win 2).blk t).view.emb (ix2 p q)) := by
    have ht : (t.val - 1) % 2 = 0 := by omega
    rw [after0_2, outsAt0_B m c t (by omega) hm]
    have ha := outsAt0_A m c (⟨t.val - 1, Nat.lt_of_le_of_lt (Nat.sub_le _ _) t.isLt⟩ : Fin cfg0.N) ht (by dsimp only; omega)
    dsimp only at ha ⊢
    rw [ha, last]
    dsimp only
    rw [first]
    have hG' : G (((cfg0.win 2).blk t).view.emb (ix2 p q))
        = G (ix2 (⟨t.val / 4 * 1024 + p.val, by omega⟩ : Fin 2048) (⟨t.val / 2 % 2 * 1024 + q.val, by omega⟩ : Fin 2048)) := by
      refine congrArg G ?_
      blk_ext [e]
    rw [hG', hG, Fin.sum_univ_two_halves 2048 2048 rfl, step_at, step_at, start_at, zero_add]
    refine congr_arg₂ (· + ·) (Finset.sum_congr rfl fun k _ => ?_) (Finset.sum_congr rfl fun k _ => ?_)
    · exact congr_arg₂ (· * ·) (iblk_0 m c _ k p _ _ (by dsimp only; omega) (by dsimp only; omega)) (iblk_1 m c _ k q _ _ (by dsimp only; omega) (by dsimp only; omega))
    · exact congr_arg₂ (· * ·) (iblk_0 m c _ k p _ _ (by dsimp only; omega) (by dsimp only)) (iblk_1 m c _ k q _ _ (by dsimp only; omega) (by dsimp only))
  blk_simp [e]
  rw [eq_ix2 (n0 := 1024) (n1 := 1024) y]
  exact hv _ _
end

/-- The kernel and the reference end with equal gradients. -/
theorem algebraic : Cert.algebraic_Kernel13Ideal_Reference13Ideal := by
  intro m g m' g' _ hagree
  refine ⟨_, ?_, Cert.Reference13Ideal.Value.run (F := Ideal) m' g'⟩
  refine (θ_run Cert.Kernel13Ideal.defs _ _).mono (fun r h c => ?_) (Cert.Kernel13Ideal.Value.run_blocks (F := Ideal) m g)
  refine ⟨(h c).1.trans (out m c _ fun f d => ?_), (h c).2⟩
  rw [(hagree c).1, (hagree c).2]
  pointwise []
  exact Finset.sum_congr rfl fun k _ => mul_comm _ _

section
variable {F : FTy → Type} [FloatOps F]

theorem same_body : Cert.Kernel13.cc0_grad_w_out (F := F) = Cert.Kernel13Ideal.cc0_grad_w_out (F := F) := rfl
theorem same_bodies : (Cert.Kernel13.defs₀ : Defs _ _ _ (Elt F) _) = Cert.Kernel13Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel13.defs (F := F) = Pipeline.defs (pcfgs (F := F)) Cert.Kernel13.defs₀ := rfl
theorem same_defs : Cert.Kernel13.defs (F := F) = Cert.Kernel13Ideal.defs (F := F) :=
  defs_eq.trans (congrArg (Pipeline.defs (pcfgs (F := F))) same_bodies)
theorem same_main : Cert.Kernel13.main (F := F) = Cert.Kernel13Ideal.main (F := F) := rfl
end

theorem frame_printed : Cert.quiescent_Kernel13 := fun m ρ _ =>
  Product.run_of_same _ _ _ _ same_defs same_main _ _ (Cert.Kernel13Ideal.Gen.frame (F := Bits) m ρ)

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

end Cert.GradWOut

end
-- ==== Proof.QUp.lean ====
/- The queries' projection (`q_up`): the launch's array is the product of the normalised latent and the weight. The kernel takes
   each entry's whole sum in one step. -/
module

public import proofs.«01_k».proof.Proof.Product
public import proofs.«01_k».proof.Proof.Gen.Kernel14
public import proofs.«01_k».proof.Proof.Gen.Kernel14Ideal.Value
public import proofs.«01_k».proof.Proof.Gen.Reference14Ideal.Run

@[expose] public section

set_option maxRecDepth 16384

noncomputable section

namespace Cert.QUp

open Idealize.ShloMosaic Idealize.ShloMosaic.TcCoe Idealize.ShloMosaic.Tactic Idealize.SL.Sem Cert.Kernel14Ideal Cert.Kernel14Ideal.Gen
open Idealize.ShloMosaic.Pipeline (Dat Cfg Window)
open Cert.Product (origin)

/-- A tile's one step starts from zero and writes its sum out. -/
theorem only (c : Dev nD) (i : grid0.Coords) (a3 : Memref sig .tc .vmem S1024x512 .bf16) (h3 : a3.IsWhole)
    (a4 : Memref sig .tc .vmem S512x1024 .bf16) (h4 : a4.IsWhole) (a5 : Memref sig .tc .vmem S1024x1024 .f32) (h5 : a5.IsWhole)
    (a6 : Memref sig .tc .vmem S1024x1024 .f32) (h6 : a6.IsWhole) (x : Vec Ideal S1024x512 .bf16) (y : Vec Ideal S512x1024 .bf16)
    (h : cond0_0 i) (h' : cond0_1 i) :
    out0_A_2 (F := Ideal) c i a3 h3 a4 h4 a5 h5 a6 h6 h h' x y = k0_pay2 x y (k0_pay1 (F := Ideal)) := by
  unfold out0_A_2
  rw [View.read_writes_eq_canon _ _ _ (cover0_A_2 c i a3 h3 a4 h4 a5 h5 a6 h6 h h' x y)]
  unfold kernelRun0_A
  dsimp only
  sl_unfold_words
  rw [View.canon_unit_zero (S := S1024x1024) origin]
  simp (disch := decide) only [View.readCov_cons_unit_lit', View.readCov_unit_lit', View.readAt_eq_ld, h3.read_unread, h4.read_unread, View.ld_unit_zero (S := S1024x512) origin, View.ld_unit_zero (S := S512x1024) origin]

theorem start_at (p q : Fin 1024) : k0_pay1 (F := Ideal) (ix2 p q) = 0 := by pointwise [k0_pay1]

/-- The step adds the product of the two blocks. -/
theorem step_at (x : Vec Ideal S1024x512 .bf16) (y : Vec Ideal S512x1024 .bf16) (s : Vec Ideal S1024x1024 .f32) (p q : Fin 1024) :
    k0_pay2 (F := Ideal) x y s (ix2 p q) = s (ix2 p q) + ∑ k : Fin 512, x (ix2 p k) * y (ix2 k q) := by pointwise [k0_pay2]

theorem idx_0 : ∀ t : Fin grid0.N, win0_0.index t = ![t.val / 2, 0] := of_decide_eq_true (by sl_kernel_rfl)
theorem idx_1 : ∀ t : Fin grid0.N, win0_1.index t = ![0, t.val % 2] := of_decide_eq_true (by sl_kernel_rfl)
theorem idx_2 : ∀ t : Fin grid0.N, win0_2.index t = ![t.val / 2, t.val % 2] := of_decide_eq_true (by sl_kernel_rfl)

section
variable (m : (ℓ : Loc nD τ sig) → Buf (Elt Ideal) ℓ) (c : Dev nD)

/-- The latent and the weight, as launched. -/
abbrev lat : FVec Ideal S4096x512 .f32 := m ((c : Thread nD τ).loc main_arg0)
abbrev wq : FVec Ideal S512x2048 .f32 := m ((c : Thread nD τ).loc main_arg1)

theorem V_0 : V m c main_v0 = lat m c := by
  unfold V; after_results; rfl
theorem V_1 : V m c main_v1 = wq m c := by
  unfold V; after_results; rfl

variable (t : Fin grid0.N)
theorem lt : t.val < 8 := t.isLt

theorem iblk_0 (p : Fin 1024) (k : Fin 512) (P : Fin 4096) (hP : P.val = t.val / 2 * 1024 + p.val) :
    iblk m c 0 t (ix2 p k) = lat m c (ix2 P k) := by
  rw [← V_0]
  have e := idx_0 t
  blk_ext [iblk, e, hP]
theorem iblk_1 (k : Fin 512) (q : Fin 1024) (Q : Fin 2048) (hQ : Q.val = t.val % 2 * 1024 + q.val) :
    iblk m c 1 t (ix2 k q) = wq m c (ix2 k Q) := by
  rw [← V_1]
  have e := idx_1 t
  blk_ext [iblk, e, hQ]

/-- The array after the launch. -/
theorem out (G : FVec Ideal S4096x2048 .f32)
    (hG : ∀ (r : Fin 4096) (d : Fin 2048), G (ix2 r d) = ∑ k : Fin 512, lat m c (ix2 r k) * wq m c (ix2 k d)) :
    (dats m 0 c).arrAt 2 cfg0.N = G := by
  refine (dats m 0 c).arrAt_eq_of_covers 2 G (by decide +kernel) fun t _ y => ?_
  have e := idx_2 t
  have hN := lt t
  have hv (p q : Fin 1024) : (dats m 0 c).after 2 t (ix2 p q) = G (((cfg0.win 2).blk t).view.emb (ix2 p q)) := by
    have hG' : G (((cfg0.win 2).blk t).view.emb (ix2 p q))
        = G (ix2 (⟨t.val / 2 * 1024 + p.val, by omega⟩ : Fin 4096) (⟨t.val % 2 * 1024 + q.val, by omega⟩ : Fin 2048)) := by
      refine congrArg G ?_
      blk_ext [e]
    rw [after0_2]
    unfold outsAt0
    rw [only, hG', hG, step_at, start_at, zero_add]
    refine Eq.trans (α := Ideal .f32) (Finset.sum_congr rfl fun k _ => ?_) rfl
    exact congr_arg₂ (· * ·) (iblk_0 m c t p k _ rfl) (iblk_1 m c t k q _ rfl)
  blk_simp [e]
  rw [eq_ix2 (n0 := 1024) (n1 := 1024) y]
  exact hv _ _
end

/-- The kernel and the reference end with equal products. -/
theorem algebraic : Cert.algebraic_Kernel14Ideal_Reference14Ideal := by
  intro m g m' g' _ hagree
  refine ⟨_, ?_, Cert.Reference14Ideal.Value.run (F := Ideal) m' g'⟩
  refine (θ_run Cert.Kernel14Ideal.defs _ _).mono (fun r h c => ?_) (Cert.Kernel14Ideal.Value.run_blocks (F := Ideal) m g)
  refine ⟨(h c).1.trans (out m c _ fun f d => ?_), (h c).2⟩
  rw [(hagree c).1, (hagree c).2]
  pointwise []

section
variable {F : FTy → Type} [FloatOps F]

theorem same_body : Cert.Kernel14.cc0_q_up (F := F) = Cert.Kernel14Ideal.cc0_q_up (F := F) := rfl
theorem same_bodies : (Cert.Kernel14.defs₀ : Defs _ _ _ (Elt F) _) = Cert.Kernel14Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel14.defs (F := F) = Pipeline.defs (pcfgs (F := F)) Cert.Kernel14.defs₀ := rfl
theorem same_defs : Cert.Kernel14.defs (F := F) = Cert.Kernel14Ideal.defs (F := F) :=
  defs_eq.trans (congrArg (Pipeline.defs (pcfgs (F := F))) same_bodies)
theorem same_main : Cert.Kernel14.main (F := F) = Cert.Kernel14Ideal.main (F := F) := rfl
end

theorem frame_printed : Cert.quiescent_Kernel14 := fun m ρ _ =>
  Product.run_of_same _ _ _ _ same_defs same_main _ _ (Cert.Kernel14Ideal.Gen.frame (F := Bits) m ρ)

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

end Cert.QUp

end
-- ==== Proof.KvUp.lean ====
/- The keys' and values' projection (`kv_up`): the launch's array is the product of the normalised latent and the weight, column
   block by column block. The kernel takes each entry's whole sum in one step. -/
module

public import proofs.«01_k».proof.Proof.Product
public import proofs.«01_k».proof.Proof.Gen.Kernel15
public import proofs.«01_k».proof.Proof.Gen.Kernel15Ideal.Value
public import proofs.«01_k».proof.Proof.Gen.Reference15Ideal.Run

@[expose] public section

set_option maxRecDepth 16384

noncomputable section

namespace Cert.KvUp

open Idealize.ShloMosaic Idealize.ShloMosaic.TcCoe Idealize.ShloMosaic.Tactic Idealize.SL.Sem Cert.Kernel15Ideal Cert.Kernel15Ideal.Gen
open Idealize.ShloMosaic.Pipeline (Dat Cfg Window)
open Cert.Product (origin origin3)

/-- A tile's one step starts from zero and writes its sum out. -/
theorem only (c : Dev nD) (i : grid0.Coords) (a3 : Memref sig .tc .vmem S1024x512 .bf16) (h3 : a3.IsWhole)
    (a4 : Memref sig .tc .vmem S1x512x512 .bf16) (h4 : a4.IsWhole) (a5 : Memref sig .tc .vmem S1024x512 .bf16) (h5 : a5.IsWhole)
    (a6 : Memref sig .tc .vmem S1024x512 .f32) (h6 : a6.IsWhole) (x : Vec Ideal S1024x512 .bf16) (y : Vec Ideal S1x512x512 .bf16)
    (h : cond0_0 i) (h' : cond0_1 i) :
    out0_A_2 (F := Ideal) c i a3 h3 a4 h4 a5 h5 a6 h6 h h' x y = k0_pay3 (k0_pay2 x y (k0_pay1 (F := Ideal))) := by
  unfold out0_A_2
  rw [View.read_writes_eq_canon _ _ _ (cover0_A_2 c i a3 h3 a4 h4 a5 h5 a6 h6 h h' x y)]
  unfold kernelRun0_A
  dsimp only
  sl_unfold_words
  rw [View.canon_unit_zero (S := S1024x512) origin]
  simp (disch := decide) only [View.readCov_cons_unit_lit', View.readCov_unit_lit', View.readAt_eq_ld, h3.read_unread, h4.read_unread, View.ld_unit_zero (S := S1024x512) origin, View.ld_unit_zero (S := S1x512x512) origin3]

theorem start_at (p : Fin 1024) (q : Fin 512) : k0_pay1 (F := Ideal) (ix2 p q) = 0 := by pointwise [k0_pay1]

/-- The step adds the product of the two blocks. -/
theorem step_at (x : Vec Ideal S1024x512 .bf16) (y : Vec Ideal S1x512x512 .bf16) (s : Vec Ideal S1024x512 .f32) (p : Fin 1024) (q : Fin 512) :
    k0_pay2 (F := Ideal) x y s (ix2 p q) = s (ix2 p q) + ∑ k : Fin 512, x (ix2 p k) * y (ix3 0 k q) := by pointwise [k0_pay2]

theorem write_at (s : Vec Ideal S1024x512 .f32) (p : Fin 1024) (q : Fin 512) : k0_pay3 (F := Ideal) s (ix2 p q) = s (ix2 p q) := by
  pointwise [k0_pay3]

theorem idx_0 : ∀ t : Fin grid0.N, win0_0.index t = ![t.val / 4, 0] := of_decide_eq_true (by sl_kernel_rfl)
theorem idx_1 : ∀ t : Fin grid0.N, win0_1.index t = ![t.val % 4, 0, 0] := of_decide_eq_true (by sl_kernel_rfl)
theorem idx_2 : ∀ t : Fin grid0.N, win0_2.index t = ![t.val / 4, t.val % 4] := of_decide_eq_true (by sl_kernel_rfl)

section
variable (m : (ℓ : Loc nD τ sig) → Buf (Elt Ideal) ℓ) (c : Dev nD)

/-- The latent and the weight, as launched. -/
abbrev lat : FVec Ideal S4096x512 .f32 := m ((c : Thread nD τ).loc main_arg0)
abbrev wkv : FVec Ideal S4x512x512 .f32 := m ((c : Thread nD τ).loc main_arg1)

theorem V_0 : V m c main_v0 = lat m c := by
  unfold V; after_results; rfl
theorem V_1 : V m c main_v1 = wkv m c := by
  unfold V; after_results; rfl

variable (t : Fin grid0.N)
theorem lt : t.val < 16 := t.isLt

theorem iblk_0 (p : Fin 1024) (k : Fin 512) (P : Fin 4096) (hP : P.val = t.val / 4 * 1024 + p.val) :
    iblk m c 0 t (ix2 p k) = lat m c (ix2 P k) := by
  rw [← V_0]
  have e := idx_0 t
  blk_ext [iblk, e, hP]
theorem iblk_1 (k : Fin 512) (q : Fin 512) (J : Fin 4) (hJ : J.val = t.val % 4) :
    iblk m c 1 t (ix3 0 k q) = wkv m c (ix3 J k q) := by
  rw [← V_1]
  have e := idx_1 t
  blk_ext [iblk, e, hJ]

/-- The array after the launch. -/
theorem out (G : FVec Ideal S4096x2048 .bf16)
    (hG : ∀ (r : Fin 4096) (j : Fin 4) (f : Fin 512), G (ix2 r ⟨j.val * 512 + f.val, by omega⟩) = ∑ k : Fin 512, lat m c (ix2 r k) * wkv m c (ix3 j k f)) :
    (dats m 0 c).arrAt 2 cfg0.N = G := by
  refine (dats m 0 c).arrAt_eq_of_covers 2 G (by decide +kernel) fun t _ y => ?_
  have e := idx_2 t
  have hN := lt t
  have hv (p : Fin 1024) (q : Fin 512) : (dats m 0 c).after 2 t (ix2 p q) = G (((cfg0.win 2).blk t).view.emb (ix2 p q)) := by
    have hG' : G (((cfg0.win 2).blk t).view.emb (ix2 p q))
        = G (ix2 (⟨t.val / 4 * 1024 + p.val, by omega⟩ : Fin 4096) (⟨(⟨t.val % 4, by omega⟩ : Fin 4).val * 512 + q.val, by dsimp only; omega⟩ : Fin 2048)) := by
      refine congrArg G ?_
      blk_ext [e]
    rw [after0_2]
    unfold outsAt0
    rw [only, hG', hG, write_at, step_at, start_at, zero_add]
    refine Eq.trans (α := Ideal .f32) (Finset.sum_congr rfl fun k _ => ?_) rfl
    exact congr_arg₂ (· * ·) (iblk_0 m c t p k _ rfl) (iblk_1 m c t k q _ rfl)
  blk_simp [e]
  rw [eq_ix2 (n0 := 1024) (n1 := 512) y]
  exact hv _ _
end

/-- The kernel and the reference end with equal products. -/
theorem algebraic : Cert.algebraic_Kernel15Ideal_Reference15Ideal := by
  intro m g m' g' _ hagree
  refine ⟨_, ?_, Cert.Reference15Ideal.Value.run (F := Ideal) m' g'⟩
  refine (θ_run Cert.Kernel15Ideal.defs _ _).mono (fun r h c => ?_) (Cert.Kernel15Ideal.Value.run_blocks (F := Ideal) m g)
  refine ⟨(h c).1.trans (out m c _ fun r j f => ?_), (h c).2⟩
  rw [(hagree c).1, (hagree c).2]
  pointwise []

section
variable {F : FTy → Type} [FloatOps F]

theorem same_body : Cert.Kernel15.cc0_kv_up (F := F) = Cert.Kernel15Ideal.cc0_kv_up (F := F) := rfl
theorem same_bodies : (Cert.Kernel15.defs₀ : Defs _ _ _ (Elt F) _) = Cert.Kernel15Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel15.defs (F := F) = Pipeline.defs (pcfgs (F := F)) Cert.Kernel15.defs₀ := rfl
theorem same_defs : Cert.Kernel15.defs (F := F) = Cert.Kernel15Ideal.defs (F := F) :=
  defs_eq.trans (congrArg (Pipeline.defs (pcfgs (F := F))) same_bodies)
theorem same_main : Cert.Kernel15.main (F := F) = Cert.Kernel15Ideal.main (F := F) := rfl
end

theorem frame_printed : Cert.quiescent_Kernel15 := fun m ρ _ =>
  Product.run_of_same _ _ _ _ same_defs same_main _ _ (Cert.Kernel15Ideal.Gen.frame (F := Bits) m ρ)

theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

end Cert.KvUp

end
-- ==== Proof.QUpBwd.lean ====
/- The backward of the queries' projection (`q_up_bwd`): the launch's array is the product of the cotangent and the transposed
   weight. The kernel takes each entry's whole sum in one step. -/
module

public import proofs.«01_k».proof.Proof.Product
public import proofs.«01_k».proof.Proof.Gen.Kernel16
public import proofs.«01_k».proof.Proof.Gen.Kernel16Ideal.Value
public import proofs.«01_k».proof.Proof.Gen.Reference16Ideal.Run

@[expose] public section

set_option maxRecDepth 16384

noncomputable section

namespace Cert.QUpBwd

open Idealize.ShloMosaic Idealize.ShloMosaic.TcCoe Idealize.ShloMosaic.Tactic Idealize.SL.Sem Cert.Kernel16Ideal Cert.Kernel16Ideal.Gen
open Idealize.ShloMosaic.Pipeline (Dat Cfg Window)
open Cert.Product (origin)

/-- A tile's one step starts from zero and writes its sum out. -/
theorem only (c : Dev nD) (i : grid0.Coords) (a3 : Memref sig .tc .vmem S1024x2048 .bf16) (h3 : a3.IsWhole)
    (a4 : Memref sig .tc .vmem S512x2048 .bf16) (h4 : a4.IsWhole) (a5 : Memref sig .tc .vmem S1024x512 .f32) (h5 : a5.IsWhole)
    (a6 : Memref sig .tc .vmem S1024x512 .f32) (h6 : a6.IsWhole) (x : Vec Ideal S1024x2048 .bf16) (y : Vec Ideal S512x2048 .bf16)
    (h : cond0_0 i) (h' : cond0_1 i) :
    out0_A_2 (F := Ideal) c i a3 h3 a4 h4 a5 h5 a6 h6 h h' x y = k0_pay2 x y (k0_pay1 (F := Ideal)) := by
  unfold out0_A_2
  rw [View.read_writes_eq_canon _ _ _ (cover0_A_2 c i a3 h3 a4 h4 a5 h5 a6 h6 h h' x y)]
  unfold kernelRun0_A
  dsimp only
  sl_unfold_words
  rw [View.canon_unit_zero (S := S1024x512) origin]
  simp (disch := decide) only [View.readCov_cons_unit_lit', View.readCov_unit_lit', View.readAt_eq_ld, h3.read_unread, h4.read_unread, View.ld_unit_zero (S := S1024x2048) origin, View.ld_unit_zero (S := S512x2048) origin]

theorem start_at (p : Fin 1024) (q : Fin 512) : k0_pay1 (F := Ideal) (ix2 p q) = 0 := by pointwise [k0_pay1]

/-- The step adds the product of the two blocks. -/
theorem step_at (x : Vec Ideal S1024x2048 .bf16) (y : Vec Ideal S512x2048 .bf16) (s : Vec Ideal S1024x512 .f32) (p : Fin 1024) (q : Fin 512) :
    k0_pay2 (F := Ideal) x y s (ix2 p q) = s (ix2 p q) + ∑ k : Fin 2048, x (ix2 p k) * y (ix2 q k) := by pointwise [k0_pay2]

theorem idx_0 : ∀ t : Fin grid0.N, win0_0.index t = ![t.val, 0] := of_decide_eq_true (by sl_kernel_rfl)
theorem idx_1 : ∀ t : Fin grid0.N, win0_1.index t = ![0, 0] := of_decide_eq_true (by sl_kernel_rfl)
theorem idx_2 : ∀ t : Fin grid0.N, win0_2.index t = ![t.val, 0] := of_decide_eq_true (by sl_kernel_rfl)

section
variable (m : (ℓ : Loc nD τ sig) → Buf (Elt Ideal) ℓ) (c : Dev nD)

/-- The cotangent and the weight, as launched. -/
abbrev ct : FVec Ideal S4096x2048 .f32 := m ((c : Thread nD τ).loc main_arg1)
abbrev wq : FVec Ideal S512x2048 .f32 := m ((c : Thread nD τ).loc main_arg0)

theorem V_0 : V m c main_v0 = ct m c := by
  unfold V; after_results; rfl
theorem V_1 : V m c main_v1 = wq m c := by
  unfold V; after_results; rfl

variable (t : Fin grid0.N)
theorem lt : t.val < 4 := t.isLt

theorem iblk_0 (p : Fin 1024) (k : Fin 2048) (P : Fin 4096) (hP : P.val = t.val * 1024 + p.val) :
    iblk m c 0 t (ix2 p k) = ct m c (ix2 P k) := by
  rw [← V_0]
  have e := idx_0 t
  blk_ext [iblk, e, hP]
theorem iblk_1 (q : Fin 512) (k : Fin 2048) :
    iblk m c 1 t (ix2 q k) = wq m c (ix2 q k) := by
  rw [← V_1]
  have e := idx_1 t
  blk_ext [iblk, e]

/-- The array after the launch. -/
theorem out (G : FVec Ideal S4096x512 .f32)
    (hG : ∀ (r : Fin 4096) (d : Fin 512), G (ix2 r d) = ∑ k : Fin 2048, ct m c (ix2 r k) * wq m c (ix2 d k)) :
    (dats m 0 c).arrAt 2 cfg0.N = G := by
  refine (dats m 0 c).arrAt_eq_of_covers 2 G (by decide +kernel) fun t _ y => ?_
  have e := idx_2 t
  have hN := lt t
  have hv (p : Fin 1024) (q : Fin 512) : (dats m 0 c).after 2 t (ix2 p q) = G (((cfg0.win 2).blk t).view.emb (ix2 p q)) := by
    have hG' : G (((cfg0.win 2).blk t).view.emb (ix2 p q))
        = G (ix2 (⟨t.val * 1024 + p.val, by omega⟩ : Fin 4096) q) := by
      refine congrArg G ?_
      blk_ext [e]
    rw [after0_2]
    unfold outsAt0
    rw [only, hG', hG, step_at, start_at, zero_add]
    refine Eq.trans (α := Ideal .f32) (Finset.sum_congr rfl fun k _ => ?_) rfl
    exact congr_arg₂ (· * ·) (iblk_0 m c t p k _ rfl) (iblk_1 m c t q k)
  blk_simp [e]
  rw [eq_ix2 (n0 := 1024) (n1 := 512) y]
  exact hv _ _
end

/-- The kernel and the reference end with equal products. -/
theorem algebraic : Cert.algebraic_Kernel16Ideal_Reference16Ideal := by
  intro m g m' g' _ hagree
  refine ⟨_, ?_, Cert.Reference16Ideal.Value.run (F := Ideal) m' g'⟩
  refine (θ_run Cert.Kernel16Ideal.defs _ _).mono (fun r h c => ?_) (Cert.Kernel16Ideal.Value.run_blocks (F := Ideal) m g)
  refine ⟨(h c).1.trans (out m c _ fun f d => ?_), (h c).2⟩
  rw [(hagree c).1, (hagree c).2]
  pointwise []

section
variable {F : FTy → Type} [FloatOps F]

theorem same_body : Cert.Kernel16.cc0_q_up_bwd (F := F) = Cert.Kernel16Ideal.cc0_q_up_bwd (F := F) := rfl
theorem same_bodies : (Cert.Kernel16.defs₀ : Defs _ _ _ (Elt F) _) = Cert.Kernel16Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel16.defs (F := F) = Pipeline.defs (pcfgs (F := F)) Cert.Kernel16.defs₀ := rfl
theorem same_defs : Cert.Kernel16.defs (F := F) = Cert.Kernel16Ideal.defs (F := F) :=
  defs_eq.trans (congrArg (Pipeline.defs (pcfgs (F := F))) same_bodies)
theorem same_main : Cert.Kernel16.main (F := F) = Cert.Kernel16Ideal.main (F := F) := rfl
end

theorem frame_printed : Cert.quiescent_Kernel16 := fun m ρ _ =>
  Product.run_of_same _ _ _ _ same_defs same_main _ _ (Cert.Kernel16Ideal.Gen.frame (F := Bits) m ρ)

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

end Cert.QUpBwd

end
-- ==== Proof.KvUpBwd.lean ====
/- The backward of the keys' and values' projection (`kv_up_bwd`): the launch's array is the product of the cotangent and the
   transposed weight, each entry a sum over the weight's four column blocks, which the kernel takes in a step each. -/
module

public import proofs.«01_k».proof.Proof.Product
public import proofs.«01_k».proof.Proof.Gen.Kernel17
public import proofs.«01_k».proof.Proof.Gen.Kernel17Ideal.Value
public import proofs.«01_k».proof.Proof.Gen.Reference17Ideal.Run

@[expose] public section

set_option maxRecDepth 16384

noncomputable section

namespace Cert.KvUpBwd

open Idealize.ShloMosaic Idealize.ShloMosaic.TcCoe Idealize.ShloMosaic.Tactic Idealize.SL.Sem Cert.Kernel17Ideal Cert.Kernel17Ideal.Gen
open Idealize.ShloMosaic.Pipeline (Dat Cfg Window)
open Cert.Product (origin origin3)

section
variable (c : Dev nD) (i : grid0.Coords) (a3 : Memref sig .tc .vmem S1024x512 .bf16) (h3 : a3.IsWhole)
  (a4 : Memref sig .tc .vmem S1x512x512 .bf16) (h4 : a4.IsWhole) (a5 : Memref sig .tc .vmem S1024x512 .f32) (h5 : a5.IsWhole)
  (a6 : Memref sig .tc .vmem S1024x512 .f32) (h6 : a6.IsWhole) (x : Vec Ideal S1024x512 .bf16) (y : Vec Ideal S1x512x512 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S1024x512) origin, View.readCov_unit_zero (S := S1024x512) _ origin]
  simp only [View.readAt_eq_ld, h3.read_unread, h4.read_unread, View.ld_unit_zero (S := S1024x512) origin, View.ld_unit_zero (S := S1x512x512) origin3]

/-- at the next two it goes on, -/
theorem next (h : ¬cond0_0 i) (h' : ¬cond0_1 i) (s : Vec Ideal S1024x512 .f32) :
    sout0_B_0 (F := Ideal) c i a3 h3 a4 h4 a5 h5 a6 h6 h h' x y s = k0_pay2 x y s := by
  unfold sout0_B_0
  rw [View.read_writes_eq_canon _ _ _ (scover0_B_0 c i a3 h3 a4 h4 a5 h5 a6 h6 h h' x y s)]
  unfold kernelRun0_B
  dsimp only
  sl_unfold_words
  rw [View.canon_unit_zero (S := S1024x512) origin]
  simp only [View.readAt_eq_ld, h3.read_unread, h4.read_unread, h6.read_unread, View.ld_unit_zero (S := S1024x512) origin,
    View.ld_unit_zero (S := S1x512x512) origin3]

/-- and at its last it is written out. -/
theorem last (h : ¬cond0_0 i) (h' : cond0_1 i) (s : Vec Ideal S1024x512 .f32) :
    out0_C_2 (F := Ideal) c i a3 h3 a4 h4 a5 h5 a6 h6 h h' x y s = k0_pay2 x y s := by
  unfold out0_C_2
  rw [View.read_writes_eq_canon _ _ _ (cover0_C_2 c i a3 h3 a4 h4 a5 h5 a6 h6 h h' x y s)]
  unfold kernelRun0_C
  dsimp only
  sl_unfold_words
  rw [View.canon_unit_zero (S := S1024x512) origin, View.readCov_unit_zero (S := S1024x512) _ origin]
  simp only [View.readAt_eq_ld, h3.read_unread, h4.read_unread, h6.read_unread, View.ld_unit_zero (S := S1024x512) origin,
    View.ld_unit_zero (S := S1x512x512) origin3]
end

theorem start_at (p : Fin 1024) (q : Fin 512) : k0_pay1 (F := Ideal) (ix2 p q) = 0 := by pointwise [k0_pay1]

/-- One step adds the product of the two blocks. -/
theorem step_at (x : Vec Ideal S1024x512 .bf16) (y : Vec Ideal S1x512x512 .bf16) (s : Vec Ideal S1024x512 .f32) (p : Fin 1024) (q : Fin 512) :
    k0_pay2 (F := Ideal) x y s (ix2 p q) = s (ix2 p q) + ∑ k : Fin 512, x (ix2 p k) * y (ix3 0 q k) := by pointwise [k0_pay2]

theorem idx_0 : ∀ t : Fin grid0.N, win0_0.index t = ![t.val / 4, t.val % 4] := of_decide_eq_true (by sl_kernel_rfl)
theorem idx_1 : ∀ t : Fin grid0.N, win0_1.index t = ![t.val % 4, 0, 0] := of_decide_eq_true (by sl_kernel_rfl)
theorem idx_2 : ∀ t : Fin grid0.N, win0_2.index t = ![t.val / 4, 0] := of_decide_eq_true (by sl_kernel_rfl)

section
variable (m : (ℓ : Loc nD τ sig) → Buf (Elt Ideal) ℓ) (c : Dev nD)

/-- The weight and the cotangent, as launched. -/
abbrev wkv : FVec Ideal S4x512x512 .f32 := m ((c : Thread nD τ).loc main_arg0)
abbrev ct : FVec Ideal S4096x2048 .f32 := m ((c : Thread nD τ).loc main_arg1)

theorem V_0 : V m c main_v0 = ct m c := by
  unfold V; after_results; rfl
theorem V_1 : V m c main_v1 = wkv m c := by
  unfold V; after_results; rfl

variable (t : Fin grid0.N)
theorem lt : t.val < 16 := t.isLt

theorem iblk_0 (p : Fin 1024) (k : Fin 512) (P : Fin 4096) (K : Fin 2048) (hP : P.val = t.val / 4 * 1024 + p.val) (hK : K.val = t.val % 4 * 512 + k.val) :
    iblk m c 0 t (ix2 p k) = ct m c (ix2 P K) := by
  rw [← V_0]
  have e := idx_0 t
  blk_ext [iblk, e, hP, hK]
theorem iblk_1 (q k : Fin 512) (J : Fin 4) (hJ : J.val = t.val % 4) : iblk m c 1 t (ix3 0 q k) = wkv m c (ix3 J q k) := by
  rw [← V_1]
  have e := idx_1 t
  blk_ext [iblk, e, hJ]

/-- The product over the `J`-th block of columns. -/
def part (P : Fin 4096) (q : Fin 512) (J : Fin 4) : Ideal .f32 :=
  ∑ k : Fin 512, ct m c (ix2 P ⟨J.val * 512 + k.val, by omega⟩) * wkv m c (ix3 J q k)

/-- A point's step adds its block. -/
theorem step_part (s : Vec Ideal S1024x512 .f32) (p : Fin 1024) (q : Fin 512) (P : Fin 4096) (J : Fin 4)
    (hP : P.val = t.val / 4 * 1024 + p.val) (hJ : J.val = t.val % 4) :
    k0_pay2 (F := Ideal) (iblk m c 0 t) (iblk m c 1 t) s (ix2 p q) = s (ix2 p q) + part m c P q J := by
  rw [step_at]
  refine congrArg (s (ix2 p q) + ·) (Finset.sum_congr rfl fun k _ => ?_)
  exact congr_arg₂ (· * ·) (iblk_0 m c t p k _ _ hP (by dsimp only; omega)) (iblk_1 m c t q k _ hJ)

/-- The running sum after a point. -/
def sum (t : Fin cfg0.N) : Vec Ideal S1024x512 .f32 := (outsAt0 m c t.val t.isLt).2

abbrev prev (t : Fin cfg0.N) : Fin cfg0.N := ⟨t.val - 1, Nat.lt_of_le_of_lt (Nat.sub_le _ _) t.isLt⟩

theorem sum_first (t : Fin cfg0.N) (h : t.val % 4 = 0) : sum m c t = k0_pay2 (iblk m c 0 t) (iblk m c 1 t) (k0_pay1 (F := Ideal)) := by
  unfold sum
  rw [outsAt0_A m c t h (by omega)]
  dsimp only
  rw [first]

theorem sum_next (t : Fin cfg0.N) (h : ¬t.val % 4 = 0) (h' : ¬t.val % 4 = 3) : sum m c t = k0_pay2 (iblk m c 0 t) (iblk m c 1 t) (sum m c (prev t)) := by
  unfold sum
  rw [outsAt0_B m c t h h']
  dsimp only
  rw [next]

theorem after_last (t : Fin cfg0.N) (h : t.val % 4 = 3) : (dats m 0 c).after 2 t = k0_pay2 (iblk m c 0 t) (iblk m c 1 t) (sum m c (prev t)) := by
  rw [after0_2, outsAt0_C m c t (by omega) h]
  dsimp only
  rw [last]
  rfl

/-- The array after the launch. -/
theorem out (G : FVec Ideal S4096x512 .f32) (hG : ∀ (r : Fin 4096) (d : Fin 512), G (ix2 r d) = ∑ j : Fin 4, part m c r d j) :
    (dats m 0 c).arrAt 2 cfg0.N = G := by
  refine (dats m 0 c).arrAt_eq_of_covers 2 G (by decide +kernel) fun t hf y => ?_
  have e := idx_2 t
  have hm : t.val % 4 = 3 := (flush0_2 t).mp hf
  have hN := lt t
  have hv (p : Fin 1024) (q : Fin 512) : (dats m 0 c).after 2 t (ix2 p q) = G (((cfg0.win 2).blk t).view.emb (ix2 p q)) := by
    have hG' : G (((cfg0.win 2).blk t).view.emb (ix2 p q)) = G (ix2 (⟨t.val / 4 * 1024 + p.val, by omega⟩ : Fin 4096) q) := by
      refine congrArg G ?_
      blk_ext [e]
    rw [hG', hG, Fin.sum_univ_four, after_last m c t hm, step_part m c t _ p q ⟨t.val / 4 * 1024 + p.val, by omega⟩ 3 rfl hm.symm,
      sum_next m c (prev t) (by dsimp only; omega) (by dsimp only; omega),
      step_part m c (prev t) _ p q ⟨t.val / 4 * 1024 + p.val, by omega⟩ 2 (by dsimp only; omega) (by show 2 = (t.val - 1) % 4; omega),
      sum_next m c (prev (prev t)) (by dsimp only; omega) (by dsimp only; omega),
      step_part m c (prev (prev t)) _ p q ⟨t.val / 4 * 1024 + p.val, by omega⟩ 1 (by dsimp only; omega) (by show 1 = (t.val - 1 - 1) % 4; omega),
      sum_first m c (prev (prev (prev t))) (by dsimp only; omega),
      step_part m c (prev (prev (prev t))) _ p q ⟨t.val / 4 * 1024 + p.val, by omega⟩ 0 (by dsimp only; omega)
        (by show 0 = (t.val - 1 - 1 - 1) % 4; omega),
      start_at, zero_add]
  blk_simp [e]
  rw [eq_ix2 (n0 := 1024) (n1 := 512) y]
  exact hv _ _
end

/-- The kernel and the reference end with equal gradients. -/
theorem algebraic : Cert.algebraic_Kernel17Ideal_Reference17Ideal := by
  intro m g m' g' _ hagree
  refine ⟨_, ?_, Cert.Reference17Ideal.Value.run (F := Ideal) m' g'⟩
  refine (θ_run Cert.Kernel17Ideal.defs _ _).mono (fun r h c => ?_) (Cert.Kernel17Ideal.Value.run_blocks (F := Ideal) m g)
  refine ⟨(h c).1.trans (out m c _ fun r d => ?_), (h c).2⟩
  rw [(hagree c).1, (hagree c).2]
  pointwise [part]

section
variable {F : FTy → Type} [FloatOps F]

theorem same_body : Cert.Kernel17.cc0_kv_up_bwd (F := F) = Cert.Kernel17Ideal.cc0_kv_up_bwd (F := F) := rfl
theorem same_bodies : (Cert.Kernel17.defs₀ : Defs _ _ _ (Elt F) _) = Cert.Kernel17Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel17.defs (F := F) = Pipeline.defs (pcfgs (F := F)) Cert.Kernel17.defs₀ := rfl
theorem same_defs : Cert.Kernel17.defs (F := F) = Cert.Kernel17Ideal.defs (F := F) :=
  defs_eq.trans (congrArg (Pipeline.defs (pcfgs (F := F))) same_bodies)
theorem same_main : Cert.Kernel17.main (F := F) = Cert.Kernel17Ideal.main (F := F) := rfl
end

theorem frame_printed : Cert.quiescent_Kernel17 := fun m ρ _ =>
  Product.run_of_same _ _ _ _ same_defs same_main _ _ (Cert.Kernel17Ideal.Gen.frame (F := Bits) m ρ)

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

end Cert.KvUpBwd

end
-- ==== Proof.GradWUq.lean ====
/- The gradient of the queries' projection's weight (`grad_w_uq`): the launch's array is the product of the transposed latent
   and the cotangent, each entry one sum over the tokens, which the kernel takes in two steps. -/
module

public import proofs.«01_k».proof.Proof.Product
public import proofs.«01_k».proof.Proof.Gen.Kernel18
public import proofs.«01_k».proof.Proof.Gen.Kernel18Ideal.Value
public import proofs.«01_k».proof.Proof.Gen.Reference18Ideal.Run

@[expose] public section

set_option maxRecDepth 16384

noncomputable section

namespace Cert.GradWUq

open Idealize.ShloMosaic Idealize.ShloMosaic.TcCoe Idealize.ShloMosaic.Tactic Idealize.SL.Sem Cert.Kernel18Ideal Cert.Kernel18Ideal.Gen
open Idealize.ShloMosaic.Pipeline (Dat Cfg Window)
open Cert.Product (origin)

section
variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .f32) (h5 : a5.IsWhole)
  (a6 : Memref sig .tc .vmem S512x1024 .f32) (h6 : a6.IsWhole) (x : Vec Ideal S2048x512 .bf16) (y : Vec Ideal S2048x1024 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S512x1024) origin, View.readCov_unit_zero (S := S512x1024) _ origin]
  simp only [View.readAt_eq_ld, h3.read_unread, h4.read_unread, View.ld_unit_zero (S := S2048x512) origin, View.ld_unit_zero (S := S2048x1024) origin]

/-- and at its last it is written out. -/
theorem last (h : ¬cond0_0 i) (h' : cond0_1 i) (s : Vec Ideal S512x1024 .f32) :
    out0_B_2 (F := Ideal) c i a3 h3 a4 h4 a5 h5 a6 h6 h h' x y s = k0_pay2 x y s := by
  unfold out0_B_2
  rw [View.read_writes_eq_canon _ _ _ (cover0_B_2 c i a3 h3 a4 h4 a5 h5 a6 h6 h h' x y s)]
  unfold kernelRun0_B
  dsimp only
  sl_unfold_words
  rw [View.canon_unit_zero (S := S512x1024) origin, View.readCov_unit_zero (S := S512x1024) _ origin]
  simp only [View.readAt_eq_ld, h3.read_unread, h4.read_unread, h6.read_unread, View.ld_unit_zero (S := S512x1024) origin,
    View.ld_unit_zero (S := S2048x512) origin, View.ld_unit_zero (S := S2048x1024) origin]
end

theorem start_at (p : Fin 512) (q : Fin 1024) : k0_pay1 (F := Ideal) (ix2 p q) = 0 := by pointwise [k0_pay1]

/-- One step adds the product of the two blocks. -/
theorem step_at (x : Vec Ideal S2048x512 .bf16) (y : Vec Ideal S2048x1024 .bf16) (s : Vec Ideal S512x1024 .f32) (p : Fin 512) (q : Fin 1024) :
    k0_pay2 (F := Ideal) x y s (ix2 p q) = s (ix2 p q) + ∑ k : Fin 2048, x (ix2 k p) * y (ix2 k q) := by pointwise [k0_pay2]

theorem idx_0 : ∀ t : Fin grid0.N, win0_0.index t = ![t.val % 2, 0] := of_decide_eq_true (by sl_kernel_rfl)
theorem idx_1 : ∀ t : Fin grid0.N, win0_1.index t = ![t.val % 2, t.val / 2] := of_decide_eq_true (by sl_kernel_rfl)
theorem idx_2 : ∀ t : Fin grid0.N, win0_2.index t = ![0, t.val / 2] := of_decide_eq_true (by sl_kernel_rfl)

section
variable (m : (ℓ : Loc nD τ sig) → Buf (Elt Ideal) ℓ) (c : Dev nD)

/-- The latent and the cotangent, as launched. -/
abbrev lat : FVec Ideal S4096x512 .f32 := m ((c : Thread nD τ).loc main_arg0)
abbrev ct : FVec Ideal S4096x2048 .f32 := m ((c : Thread nD τ).loc main_arg1)

theorem V_0 : V m c main_v0 = lat m c := by
  unfold V; after_results; rfl
theorem V_1 : V m c main_v1 = ct m c := by
  unfold V; after_results; rfl

variable (t : Fin grid0.N)
theorem lt : t.val < 4 := t.isLt

theorem iblk_0 (k : Fin 2048) (p : Fin 512) (K : Fin 4096) (hK : K.val = t.val % 2 * 2048 + k.val) :
    iblk m c 0 t (ix2 k p) = lat m c (ix2 K p) := by
  rw [← V_0]
  have e := idx_0 t
  blk_ext [iblk, e, hK]
theorem iblk_1 (k : Fin 2048) (q : Fin 1024) (K : Fin 4096) (Q : Fin 2048) (hK : K.val = t.val % 2 * 2048 + k.val) (hQ : Q.val = t.val / 2 * 1024 + q.val) :
    iblk m c 1 t (ix2 k q) = ct m c (ix2 K Q) := by
  rw [← V_1]
  have e := idx_1 t
  blk_ext [iblk, e, hK, hQ]

/-- The array after the launch. -/
theorem out (G : FVec Ideal S512x2048 .f32)
    (hG : ∀ (f : Fin 512) (d : Fin 2048), G (ix2 f d) = ∑ k : Fin 4096, lat m c (ix2 k f) * ct m c (ix2 k d)) :
    (dats m 0 c).arrAt 2 cfg0.N = G := by
  refine (dats m 0 c).arrAt_eq_of_covers 2 G (by decide +kernel) fun t hf y => ?_
  have e := idx_2 t
  have hm : t.val % 2 = 1 := (flush0_2 t).mp hf
  have hN := lt t
  have hv (p : Fin 512) (q : Fin 1024) : (dats m 0 c).after 2 t (ix2 p q) = G (((cfg0.win 2).blk t).view.emb (ix2 p q)) := by
    have ht : (t.val - 1) % 2 = 0 := by omega
    rw [after0_2, outsAt0_B m c t (by omega) hm]
    have ha := outsAt0_A m c (⟨t.val - 1, Nat.lt_of_le_of_lt (Nat.sub_le _ _) t.isLt⟩ : Fin cfg0.N) ht (by dsimp only; omega)
    dsimp only at ha ⊢
    rw [ha, last]
    dsimp only
    rw [first]
    have hG' : G (((cfg0.win 2).blk t).view.emb (ix2 p q))
        = G (ix2 p (⟨t.val / 2 * 1024 + q.val, by omega⟩ : Fin 2048)) := by
      refine congrArg G ?_
      blk_ext [e]
    rw [hG', hG, Fin.sum_univ_two_halves 2048 2048 rfl, step_at, step_at, start_at, zero_add]
    refine congr_arg₂ (· + ·) (Finset.sum_congr rfl fun k _ => ?_) (Finset.sum_congr rfl fun k _ => ?_)
    · exact congr_arg₂ (· * ·) (iblk_0 m c _ k p _ (by dsimp only; omega)) (iblk_1 m c _ k q _ _ (by dsimp only; omega) (by dsimp only; omega))
    · exact congr_arg₂ (· * ·) (iblk_0 m c _ k p _ (by dsimp only; omega)) (iblk_1 m c _ k q _ _ (by dsimp only; omega) (by dsimp only))
  blk_simp [e]
  rw [eq_ix2 (n0 := 512) (n1 := 1024) y]
  exact hv _ _
end

/-- The kernel and the reference end with equal gradients. -/
theorem algebraic : Cert.algebraic_Kernel18Ideal_Reference18Ideal := by
  intro m g m' g' _ hagree
  refine ⟨_, ?_, Cert.Reference18Ideal.Value.run (F := Ideal) m' g'⟩
  refine (θ_run Cert.Kernel18Ideal.defs _ _).mono (fun r h c => ?_) (Cert.Kernel18Ideal.Value.run_blocks (F := Ideal) m g)
  refine ⟨(h c).1.trans (out m c _ fun f d => ?_), (h c).2⟩
  rw [(hagree c).1, (hagree c).2]
  pointwise []
  exact Finset.sum_congr rfl fun k _ => mul_comm _ _

section
variable {F : FTy → Type} [FloatOps F]

theorem same_body : Cert.Kernel18.cc0_grad_w_uq (F := F) = Cert.Kernel18Ideal.cc0_grad_w_uq (F := F) := rfl
theorem same_bodies : (Cert.Kernel18.defs₀ : Defs _ _ _ (Elt F) _) = Cert.Kernel18Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel18.defs (F := F) = Pipeline.defs (pcfgs (F := F)) Cert.Kernel18.defs₀ := rfl
theorem same_defs : Cert.Kernel18.defs (F := F) = Cert.Kernel18Ideal.defs (F := F) :=
  defs_eq.trans (congrArg (Pipeline.defs (pcfgs (F := F))) same_bodies)
theorem same_main : Cert.Kernel18.main (F := F) = Cert.Kernel18Ideal.main (F := F) := rfl
end

theorem frame_printed : Cert.quiescent_Kernel18 := fun m ρ _ =>
  Product.run_of_same _ _ _ _ same_defs same_main _ _ (Cert.Kernel18Ideal.Gen.frame (F := Bits) m ρ)

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

end Cert.GradWUq

end
-- ==== Proof.GradWUkv.lean ====
/- The gradient of the keys' and values' projection's weight (`grad_w_ukv`): the launch's array is, column block by column
   block, the product of the transposed latent and the cotangent, each entry one sum over the tokens. -/
module

public import proofs.«01_k».proof.Proof.Product
public import proofs.«01_k».proof.Proof.Gen.Kernel19Ideal.Value
public import proofs.«01_k».proof.Proof.Gen.Reference19Ideal.Run
public import proofs.«01_k».proof.Proof.Gen.Kernel19

@[expose] public section

set_option maxRecDepth 16384

noncomputable section

namespace Cert.GradWUkv

open Idealize.ShloMosaic Idealize.ShloMosaic.TcCoe Idealize.ShloMosaic.Tactic Idealize.SL.Sem Cert.Kernel19Ideal Cert.Kernel19Ideal.Gen
open Idealize.ShloMosaic.Pipeline (Dat Cfg Window)
open Cert.Product (origin origin3)

section
variable (c : Dev nD) (i : grid0.Coords) (a3 : Memref sig .tc .vmem S2048x512 .bf16) (h3 : a3.IsWhole)
  (a4 : Memref sig .tc .vmem S2048x512 .bf16) (h4 : a4.IsWhole) (a5 : Memref sig .tc .vmem S1x512x512 .f32) (h5 : a5.IsWhole)
  (a6 : Memref sig .tc .vmem S512x512 .f32) (h6 : a6.IsWhole) (x : Vec Ideal S2048x512 .bf16) (y : Vec Ideal S2048x512 .bf16)

/-- At a tile's first step the sum starts from zero, -/
theorem first (h : cond0_0 i) (h' : ¬cond0_1 i) :
    sout0_A_0 (F := Ideal) c i a3 h3 a4 h4 a5 h5 a6 h6 h h' x y = k0_pay2 x y (k0_pay1 (F := Ideal)) := by
  unfold sout0_A_0
  rw [View.read_writes_eq_canon _ _ _ (scover0_A_0 c i a3 h3 a4 h4 a5 h5 a6 h6 h h' x y)]
  unfold kernelRun0_A
  dsimp only
  sl_unfold_words
  rw [View.canon_cons_unit_zero (S := S512x512) origin, View.readCov_unit_zero (S := S512x512) _ origin]
  simp only [View.readAt_eq_ld, h3.read_unread, h4.read_unread, View.ld_unit_zero (S := S2048x512) origin]

/-- and at its last it is written out. -/
theorem last (h : ¬cond0_0 i) (h' : cond0_1 i) (s : Vec Ideal S512x512 .f32) :
    out0_B_2 (F := Ideal) c i a3 h3 a4 h4 a5 h5 a6 h6 h h' x y s = k0_pay3 (k0_pay2 x y s) := by
  unfold out0_B_2
  rw [View.read_writes_eq_canon _ _ _ (cover0_B_2 c i a3 h3 a4 h4 a5 h5 a6 h6 h h' x y s)]
  unfold kernelRun0_B
  dsimp only
  sl_unfold_words
  rw [View.canon_unit_zero (S := S1x512x512) origin3, View.readCov_unit_zero (S := S512x512) _ origin]
  simp only [View.readAt_eq_ld, h3.read_unread, h4.read_unread, h6.read_unread, View.ld_unit_zero (S := S512x512) origin,
    View.ld_unit_zero (S := S2048x512) origin]
end

theorem start_at (p q : Fin 512) : k0_pay1 (F := Ideal) (ix2 p q) = 0 := by pointwise [k0_pay1]

/-- One step adds the product of the two blocks. -/
theorem step_at (x : Vec Ideal S2048x512 .bf16) (y : Vec Ideal S2048x512 .bf16) (s : Vec Ideal S512x512 .f32) (p q : Fin 512) :
    k0_pay2 (F := Ideal) x y s (ix2 p q) = s (ix2 p q) + ∑ k : Fin 2048, x (ix2 k p) * y (ix2 k q) := by pointwise [k0_pay2]

theorem write_at (s : Vec Ideal S512x512 .f32) (z : Fin 1) (p q : Fin 512) : k0_pay3 (F := Ideal) s (ix3 z p q) = s (ix2 p q) := by
  pointwise [k0_pay3]

theorem idx_0 : ∀ t : Fin grid0.N, win0_0.index t = ![t.val % 2, 0] := of_decide_eq_true (by sl_kernel_rfl)
theorem idx_1 : ∀ t : Fin grid0.N, win0_1.index t = ![t.val % 2, t.val / 2] := of_decide_eq_true (by sl_kernel_rfl)
theorem idx_2 : ∀ t : Fin grid0.N, win0_2.index t = ![t.val / 2, 0, 0] := of_decide_eq_true (by sl_kernel_rfl)

section
variable (m : (ℓ : Loc nD τ sig) → Buf (Elt Ideal) ℓ) (c : Dev nD)

/-- The latent and the cotangent, as launched. -/
abbrev lat : FVec Ideal S4096x512 .f32 := m ((c : Thread nD τ).loc main_arg0)
abbrev ct : FVec Ideal S4096x2048 .f32 := m ((c : Thread nD τ).loc main_arg1)

theorem V_0 : V m c main_v0 = lat m c := by
  unfold V; after_results; rfl
theorem V_1 : V m c main_v1 = ct m c := by
  unfold V; after_results; rfl

variable (t : Fin grid0.N)
theorem lt : t.val < 8 := t.isLt

theorem iblk_0 (k : Fin 2048) (p : Fin 512) (K : Fin 4096) (hK : K.val = t.val % 2 * 2048 + k.val) :
    iblk m c 0 t (ix2 k p) = lat m c (ix2 K p) := by
  rw [← V_0]
  have e := idx_0 t
  blk_ext [iblk, e, hK]
theorem iblk_1 (k : Fin 2048) (q : Fin 512) (K : Fin 4096) (Q : Fin 2048) (hK : K.val = t.val % 2 * 2048 + k.val) (hQ : Q.val = t.val / 2 * 512 + q.val) :
    iblk m c 1 t (ix2 k q) = ct m c (ix2 K Q) := by
  rw [← V_1]
  have e := idx_1 t
  blk_ext [iblk, e, hK, hQ]

/-- The array after the launch. -/
theorem out (G : FVec Ideal S4x512x512 .f32)
    (hG : ∀ (j : Fin 4) (d : Fin 512) (f : Fin 512), G (ix3 j d f) = ∑ k : Fin 4096, lat m c (ix2 k d) * ct m c (ix2 k ⟨j.val * 512 + f.val, by omega⟩)) :
    (dats m 0 c).arrAt 2 cfg0.N = G := by
  refine (dats m 0 c).arrAt_eq_of_covers 2 G (by decide +kernel) fun t hf y => ?_
  have e := idx_2 t
  have hm : t.val % 2 = 1 := (flush0_2 t).mp hf
  have hN := lt t
  have hv (z : Fin 1) (p q : Fin 512) : (dats m 0 c).after 2 t (ix3 z p q) = G (((cfg0.win 2).blk t).view.emb (ix3 z p q)) := by
    have ht : (t.val - 1) % 2 = 0 := by omega
    rw [after0_2, outsAt0_B m c t (by omega) hm]
    have ha := outsAt0_A m c (⟨t.val - 1, Nat.lt_of_le_of_lt (Nat.sub_le _ _) t.isLt⟩ : Fin cfg0.N) ht (by dsimp only; omega)
    dsimp only at ha ⊢
    rw [ha, last]
    dsimp only
    rw [first]
    have hG' : G (((cfg0.win 2).blk t).view.emb (ix3 z p q))
        = G (ix3 (⟨t.val / 2, by omega⟩ : Fin 4) p q) := by
      refine congrArg G ?_
      blk_ext [e]
    rw [hG', hG, Fin.sum_univ_two_halves 2048 2048 rfl, write_at, step_at, step_at, start_at, zero_add]
    refine congr_arg₂ (· + ·) (Finset.sum_congr rfl fun k _ => ?_) (Finset.sum_congr rfl fun k _ => ?_)
    · exact congr_arg₂ (· * ·) (iblk_0 m c _ k p _ (by dsimp only; omega)) (iblk_1 m c _ k q _ _ (by dsimp only; omega) (by dsimp only; omega))
    · exact congr_arg₂ (· * ·) (iblk_0 m c _ k p _ (by dsimp only; omega)) (iblk_1 m c _ k q _ _ (by dsimp only; omega) (by dsimp only))
  blk_simp [e]
  rw [eq_ix3 (n0 := 1) (n1 := 512) (n2 := 512) y]
  exact hv _ _ _
end

/-- The kernel and the reference end with equal gradients. -/
theorem algebraic : Cert.algebraic_Kernel19Ideal_Reference19Ideal := by
  intro m g m' g' _ hagree
  refine ⟨_, ?_, Cert.Reference19Ideal.Value.run (F := Ideal) m' g'⟩
  refine (θ_run Cert.Kernel19Ideal.defs _ _).mono (fun r h c => ?_) (Cert.Kernel19Ideal.Value.run_blocks (F := Ideal) m g)
  refine ⟨(h c).1.trans (out m c _ fun j d f => ?_), (h c).2⟩
  rw [(hagree c).1, (hagree c).2]
  pointwise []
  exact Finset.sum_congr rfl fun k _ => mul_comm _ _

section
variable {F : FTy → Type} [FloatOps F]

theorem same_body : Cert.Kernel19.cc0_grad_w_ukv (F := F) = Cert.Kernel19Ideal.cc0_grad_w_ukv (F := F) := rfl
theorem same_bodies : (Cert.Kernel19.defs₀ : Defs _ _ _ (Elt F) _) = Cert.Kernel19Ideal.defs₀ (F := F) := by
  refine congrArg (Defs.onTc (nD := nD) (τ := τ) (sig := sig) (Val := Elt F) (Λ := Λ₀)) (funext fun l => ?_)
  match l with
  | 0 => exact funext fun a => congrFun (congrFun (congrFun (congrFun (congrFun (congrFun (congrFun (congrFun (congrFun same_body _) _) _) _) _) _) _) _) _
theorem defs_eq : Cert.Kernel19.defs (F := F) = Pipeline.defs (pcfgs (F := F)) Cert.Kernel19.defs₀ := rfl
theorem same_defs : Cert.Kernel19.defs (F := F) = Cert.Kernel19Ideal.defs (F := F) :=
  defs_eq.trans (congrArg (Pipeline.defs (pcfgs (F := F))) same_bodies)
theorem same_main : Cert.Kernel19.main (F := F) = Cert.Kernel19Ideal.main (F := F) := rfl
end

theorem frame_printed : Cert.quiescent_Kernel19 := fun m ρ _ =>
  Product.run_of_same _ _ _ _ same_defs same_main _ _ (Cert.Kernel19Ideal.Gen.frame (F := Bits) m ρ)

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

end Cert.GradWUkv

end
-- ==== Proof.FwdParts.lean ====
/- The forward attention kernel's step, cut into its three parts.

   The grid is 4 pairs of heads by 10 steps. Two small tables say, step by step, which 1024-row block of queries and which
   1024-row block of keys is used: the ten pairs with query block >= key block, grouped by query block, the key block
   rising within a group. A step begins anew at the first key block, updates the running maximum, sum and product at a key
   block before the query block, and at the query block itself updates them masked and writes the results. -/
module

public import proofs.«01_k».proof.Proof.Gen.Kernel20Ideal.Launch
public import proofs.«01_k».proof.Proof.Gen.Kernel20Ideal.Skeleton
public import Idealize.ShloMosaic.Lib.Tactic

@[expose] public section

set_option maxRecDepth 65536

noncomputable section

namespace Cert.FlashFwd

open Idealize.ShloMosaic Idealize.ShloMosaic.TcCoe Idealize.ShloMosaic.Tactic Idealize.SL.Sem
open Cert.Kernel20Ideal Cert.Kernel20Ideal.Gen

variable {F : FTy → Type} [FloatOps F]

/-- The two tables as the host writes them. -/
def tabs : pre0.Contents (Elt F) := fun
  | 0 => fun i => lit0 (S10.rowMajor i)
  | 1 => fun i => lit1 (S10.rowMajor i)

/-- The query block of step `s` of a pair of heads. -/
abbrev qOf (s : ℕ) : ℕ := if s < 1 then 0 else if s < 3 then 1 else if s < 6 then 2 else 3
/-- The key block of step `s`. -/
abbrev kOf (s : ℕ) : ℕ := if s < 1 then 0 else if s < 3 then s - 1 else if s < 6 then s - 3 else s - 6

/-- The word of the query table at a grid point. -/
def qW (i : grid0.Coords) : BitVec 32 := (tabs (F := F)).at 0 (Rect.unit (s := S10) (k0_off1 i) S1.size (Facts₀.k0_off1_inb i)) numel1_S1
/-- The word of the key table at a grid point. -/
def kW (i : grid0.Coords) : BitVec 32 := (tabs (F := F)).at 1 (Rect.unit (s := S10) (k0_off1 i) S1.size (Facts₀.k0_off1_inb i)) numel1_S1

theorem tabs_ok : ok0 (F := F) tabs := of_decide_eq_true (by sl_kernel_rfl)

/-- The tables with the launch's condition on them. -/
def adm : (p : Fin 1) → (pcfgs (F := F) p).Adm := fun _ => ⟨tabs, tabs_ok⟩

theorem qW_eq : ∀ t : Fin grid0.N, qW (F := F) (grid0.coords t) = BitVec.ofNat 32 (qOf (t.val % 10)) := of_decide_eq_true (by sl_kernel_rfl)
theorem kW_eq : ∀ t : Fin grid0.N, kW (F := F) (grid0.coords t) = BitVec.ofNat 32 (kOf (t.val % 10)) := of_decide_eq_true (by sl_kernel_rfl)

section
variable (i : grid0.Coords) (arg2 : Memref sig .tc .smem S10 .i32) (harg2 : arg2.IsWhole) (arg3 : Memref sig .tc .smem S10 .i32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole)

/-- The first key block: the running maximum, sum and product begin anew. -/
def initPart : Prog (TpuEff nD τ sig (Elt F) Λ₀ .tc) PUnit := do
  let v14 : Vec F S2x1024x1 .f32 ← Prog.lift (.load arg9 (Rect.unit (s := S2x1024x1) ![0, 0, 0] S2x1024x1.size inb_S2x1024x1_S2x1024x1_0_0_0).toLoadRect (View.loadsAt_vmem h_S2x1024x1))
  Prog.lift (.store arg9 (Rect.unit (s := S2x1024x1) ![0, 0, 0] S2x1024x1.size inb_S2x1024x1_S2x1024x1_0_0_0) (k0_pay1 (F := F)) Finset.univ (View.stores_vmem_bits_univ h_S2x1024x1 rfl) (.inl rfl))
  let v18 : Vec F S2x1024x1 .f32 ← Prog.lift (.load arg10 (Rect.unit (s := S2x1024x1) ![0, 0, 0] S2x1024x1.size inb_S2x1024x1_S2x1024x1_0_0_0).toLoadRect (View.loadsAt_vmem h_S2x1024x1))
  Prog.lift (.store arg10 (Rect.unit (s := S2x1024x1) ![0, 0, 0] S2x1024x1.size inb_S2x1024x1_S2x1024x1_0_0_0) (k0_pay2 (F := F)) Finset.univ (View.stores_vmem_bits_univ h_S2x1024x1 rfl) (.inl rfl))
  let v22 : Vec F S2x1024x128 .f32 ← Prog.lift (.load arg11 (Rect.unit (s := S2x1024x128) ![0, 0, 0] S2x1024x128.size inb_S2x1024x128_S2x1024x128_0_0_0).toLoadRect (View.loadsAt_vmem h_S2x1024x128))
  Prog.lift (.store arg11 (Rect.unit (s := S2x1024x128) ![0, 0, 0] S2x1024x128.size inb_S2x1024x128_S2x1024x128_0_0_0) (k0_pay3 (F := F)) Finset.univ (View.stores_vmem_bits_univ h_S2x1024x128 rfl) (.inl rfl))
  pure ⟨⟩

/-- A key block before the query block: no mask. -/
def plainPart : Prog (TpuEff nD τ sig (Elt F) Λ₀ .tc) PUnit := do
  let ⟨v26, v31, v33, v42, v43, v45, v48⟩ : Σ' (v26 : FVec F S1024x1024 .f32) (v31 : FVec F S1024x1 .f32) (v33 : FVec F S1024x1 .f32) (v42 : FVec F S1024x1 .f32) (v43 : FVec F S1024x1024 .bf16) (v45 : FVec F S1024x1 .f32), FVec F S1024x1 .f32 ← k0_part1 i arg2 harg2 arg3 harg3 arg4 harg4 arg5 harg5 arg6 harg6 arg7 harg7 arg8 harg8 arg9 harg9 arg10 harg10 arg11 harg11
  let ⟨v50, v59, v60, v79, v81⟩ : Σ' (v50 : FVec F S1024x1 .f32) (v59 : FVec F S1024x1 .f32) (v60 : FVec F S1024x1024 .bf16) (v79 : FVec F S1024x128 .bf16), FVec F S1024x128 .f32 ← k0_part2 i arg2 harg2 arg3 harg3 arg4 harg4 arg5 harg5 arg6 harg6 arg7 harg7 arg8 harg8 arg9 harg9 arg10 harg10 arg11 harg11 v26 v31 v33 v42 v43 v45 v48
  let v86 : Vec F S1x1024x1 .f32 ← Prog.lift (.load arg10 (Rect.unit (s := S2x1024x1) ![1, 0, 0] S1x1024x1.size inb_S2x1024x1_S1x1024x1_1_0_0).toLoadRect (View.loadsAt_vmem h_S1x1024x1))
  Prog.lift (.store arg10 (Rect.unit (s := S2x1024x1) ![1, 0, 0] S1x1024x1.size inb_S2x1024x1_S1x1024x1_1_0_0) (k0_pay4 v59) Finset.univ (View.stores_vmem_bits_univ h_S1x1024x1 rfl) (.inl rfl))
  let v89 : Vec F S1x1024x128 .f32 ← Prog.lift (.load arg11 (Rect.unit (s := S2x1024x128) ![1, 0, 0] S1x1024x128.size inb_S2x1024x128_S1x1024x128_1_0_0).toLoadRect (View.loadsAt_vmem h_S1x1024x128))
  Prog.lift (.store arg11 (Rect.unit (s := S2x1024x128) ![1, 0, 0] S1x1024x128.size inb_S2x1024x128_S1x1024x128_1_0_0) (k0_pay5 v50 v60 v79 v81) Finset.univ (View.stores_vmem_bits_univ h_S1x1024x128 rfl) (.inl rfl))
  let v92 : Vec F S1x1024x1 .f32 ← Prog.lift (.load arg9 (Rect.unit (s := S2x1024x1) ![1, 0, 0] S1x1024x1.size inb_S2x1024x1_S1x1024x1_1_0_0).toLoadRect (View.loadsAt_vmem h_S1x1024x1))
  Prog.lift (.store arg9 (Rect.unit (s := S2x1024x1) ![1, 0, 0] S1x1024x1.size inb_S2x1024x1_S1x1024x1_1_0_0) (k0_pay6 v48) Finset.univ (View.stores_vmem_bits_univ h_S1x1024x1 rfl) (.inl rfl))
  pure ⟨⟩

/-- The key block at the query block: masked; the two results are written. -/
def maskedPart : Prog (TpuEff nD τ sig (Elt F) Λ₀ .tc) PUnit := do
  let ⟨v26, v38, v40, v49, v50⟩ : Σ' (v26 : FVec F S1024x1024 .f32) (v38 : FVec F S1024x1 .f32) (v40 : FVec F S1024x1 .f32) (v49 : FVec F S1024x1 .f32), FVec F S1024x1024 .bf16 ← k0_part3 i arg2 harg2 arg3 harg3 arg4 harg4 arg5 harg5 arg6 harg6 arg7 harg7 arg8 harg8 arg9 harg9 arg10 harg10 arg11 harg11
  let ⟨v62, v64, v73, v74, v89⟩ : Σ' (v62 : FVec F S1024x1 .f32) (v64 : FVec F S1024x1 .f32) (v73 : FVec F S1024x1 .f32) (v74 : FVec F S1024x1024 .bf16), FVec F S1024x128 .f32 ← k0_part4 i arg2 harg2 arg3 harg3 arg4 harg4 arg5 harg5 arg6 harg6 arg7 harg7 arg8 harg8 arg9 harg9 arg10 harg10 arg11 harg11 v26 v38 v40 v49 v50
  let v90 : Vec F S1024x128 .f32 ← Prog.lift (.load arg8 (Rect.unit (s := S1024x256) ![0, 0] S1024x128.size inb_S1024x256_S1024x128_0_0).toLoadRect (View.loadsAt_vmem h_S1024x128))
  Prog.lift (.store arg8 (Rect.unit (s := S1024x256) ![0, 0] S1024x128.size inb_S1024x256_S1024x128_0_0) v89 Finset.univ (View.stores_vmem_bits_univ h_S1024x128 rfl) (.inl rfl))
  let v91 : Vec F S1024x128 .bf16 ← Prog.lift (.load arg5 (Rect.unit (s := S1024x512) ![0, 384] S1024x128.size inb_S1024x512_S1024x128_0_384).toLoadRect (View.loadsAt_vmem h_S1024x128))
  let v93 : Vec F S1x1024x128 .f32 ← Prog.lift (.load arg11 (Rect.unit (s := S2x1024x128) ![1, 0, 0] S1x1024x128.size inb_S2x1024x128_S1x1024x128_1_0_0).toLoadRect (View.loadsAt_vmem h_S1x1024x128))
  let v101 : Vec F S1024x128 .f32 ← Prog.lift (.load arg7 (Rect.unit (s := S1024x256) ![0, 128] S1024x128.size inb_S1024x256_S1024x128_0_128).toLoadRect (View.loadsAt_vmem h_S1024x128))
  Prog.lift (.store arg7 (Rect.unit (s := S1024x256) ![0, 128] S1024x128.size inb_S1024x256_S1024x128_0_128) (k0_pay7 v64 v73 v74 v91 v93) Finset.univ (View.stores_vmem_bits_univ h_S1024x128 rfl) (.inl rfl))
  let v106 : Vec F S1024x128 .f32 ← Prog.lift (.load arg8 (Rect.unit (s := S1024x256) ![0, 128] S1024x128.size inb_S1024x256_S1024x128_0_128).toLoadRect (View.loadsAt_vmem h_S1024x128))
  Prog.lift (.store arg8 (Rect.unit (s := S1024x256) ![0, 128] S1024x128.size inb_S1024x256_S1024x128_0_128) (k0_pay8 v62 v73) Finset.univ (View.stores_vmem_bits_univ h_S1024x128 rfl) (.inl rfl))
  pure ⟨⟩

end

set_option maxHeartbeats 1600000 in
/-- The step is the three parts in turn, each under its test. -/
theorem body_eq (i : grid0.Coords) (arg2 : Memref sig .tc .smem S10 .i32) (harg2 : arg2.IsWhole) (arg3 : Memref sig .tc .smem S10 .i32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole) :
    cc0_flash_fwd (F := F) i arg2 harg2 arg3 harg3 arg4 harg4 arg5 harg5 arg6 harg6 arg7 harg7 arg8 harg8 arg9 harg9 arg10 harg10 arg11 harg11 = (do
      let w2 : Elt F .i32 ← smemLoad arg2 (Rect.unit (s := S10) (k0_off1 i) S1.size (Facts₀.k0_off1_inb i)) numel1_S1 rfl
      let w3 : Elt F .i32 ← smemLoad arg3 (Rect.unit (s := S10) (k0_off1 i) S1.size (Facts₀.k0_off1_inb i)) numel1_S1 rfl
      (if Scalar.cmpi .ne (Scalar.extui (Scalar.cmpi .eq w3 0#32) : BitVec 32) 0#32 = 1#1 then initPart arg9 arg10 arg11 else pure ⟨⟩)
      (if Scalar.cmpi .ne (Scalar.extui (Scalar.cmpi .slt w3 w2) : BitVec 32) 0#32 = 1#1 then plainPart i arg2 harg2 arg3 harg3 arg4 harg4 arg5 harg5 arg6 harg6 arg7 harg7 arg8 harg8 arg9 harg9 arg10 harg10 arg11 harg11 else pure ⟨⟩)
      (if k0_cond3 w2 w3 = 1#1 then maskedPart i arg2 harg2 arg3 harg3 arg4 harg4 arg5 harg5 arg6 harg6 arg7 harg7 arg8 harg8 arg9 harg9 arg10 harg10 arg11 harg11 else pure ⟨⟩)) := by
  rw [cc0_flash_fwd_eq_skeleton]
  unfold cc0_flash_fwd_skel
  refine congrArg (bind _) (funext fun w2 => congrArg (bind _) (funext fun w3 => ?_))
  by_cases h1 : Scalar.cmpi .ne (Scalar.extui (Scalar.cmpi .eq w3 0#32) : BitVec 32) 0#32 = 1#1 <;>
  by_cases h2 : Scalar.cmpi .ne (Scalar.extui (Scalar.cmpi .slt w3 w2) : BitVec 32) 0#32 = 1#1 <;>
  by_cases h3 : k0_cond3 w2 w3 = 1#1 <;>
  (dsimp only; simp only [h1, h2, h3, if_true, if_false, dif_pos, dif_neg, not_false_iff, ite_true, ite_false, dite_true, dite_false]; rfl)

end Cert.FlashFwd

end
-- ==== Proof.FwdStep.lean ====
/- What the parts of the forward attention kernel's step do, as plain functions of the tiles they read, and their runs. -/
module

public import proofs.«01_k».proof.Proof.FwdParts
public import Idealize.ShloMosaic.Lib.Pipeline.FrameBody
public import Idealize.ShloMosaic.Lib.Pipeline.ValueKit.Basic
public import Idealize.ShloMosaic.Lib.Pipeline.ValueKit.Acc
public import Idealize.ShloMosaic.Lib.VecWindow
public import Idealize.ShloMosaic.Lib.WritesUnit
public import Idealize.ShloMosaic.Lib.Ring
public import Idealize.ShloMosaic.Lib.WordCmp
public import Idealize.ShloMosaic.Lib.Pointwise

@[expose] public section

set_option maxRecDepth 16384

noncomputable section

namespace Cert.FlashFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel20Ideal Cert.Kernel20Ideal.Gen

variable {F : FTy → Type} [FloatOps F]

local notation "𝕄" => MT nD τ sig Unit (Elt F) ℕ (UR sig nD τ) ℕ

/-- A box of an array overwritten. -/
def put {s : Shape} {α : Type} (off size : Fin s.rank → ℕ) (w : (⟨s.rank, size⟩ : Shape).Idx → α) (d : s.Idx → α) : s.Idx → α := fun y =>
  if h : ∀ a, off a ≤ (y a).val ∧ (y a).val < off a + size a then w (Rect.unitLocal (s := s) (off := off) (size := size) y h) else d y

theorem read_put {s : Shape} {e : EltTy} {sp : Space} (v : View sig .tc sp s e) (f : v.ty.Contents (Elt F)) {off size : Fin s.rank → ℕ}
    (inb : ∀ a, off a + size a ≤ s.size a) (w : (⟨s.rank, size⟩ : Shape).Idx → Elt F e) (L : List (View.Piece (Elt F) s e)) :
    v.read (Elt F) (v.writes (Elt F) f (⟨Rect.unit off size inb, w⟩ :: L)) = put off size w (v.read (Elt F) (v.writes (Elt F) f L)) := by
  funext y
  rw [View.read_writes_cons_unit v f inb w L y rfl]
  rfl

theorem read_writes_nil {s : Shape} {e : EltTy} {sp : Space} (v : View sig .tc sp s e) (f : v.ty.Contents (Elt F)) :
    v.read (Elt F) (v.writes (Elt F) f []) = v.read (Elt F) f := rfl

/-- One head's half of a statistic, and of the running product. -/
def half (h : Fin 2) (d : Vec F S2x1024x1 .f32) : Vec F S1x1024x1 .f32 := fun y => d (ix3 h (y (1 : Fin 3)) (y (2 : Fin 3)))
def halfA (h : Fin 2) (d : Vec F S2x1024x128 .f32) : Vec F S1x1024x128 .f32 := fun y => d (ix3 h (y (1 : Fin 3)) (y (2 : Fin 3)))

/-- Two heads' halves side by side. -/
def two (a b : Vec F S1x1024x1 .f32) : Vec F S2x1024x1 .f32 := fun y => if (y (0 : Fin 3)).val = 0 then a (ix3 0 (y (1 : Fin 3)) (y (2 : Fin 3))) else b (ix3 0 (y (1 : Fin 3)) (y (2 : Fin 3)))
def twoA (a b : Vec F S1x1024x128 .f32) : Vec F S2x1024x128 .f32 := fun y => if (y (0 : Fin 3)).val = 0 then a (ix3 0 (y (1 : Fin 3)) (y (2 : Fin 3))) else b (ix3 0 (y (1 : Fin 3)) (y (2 : Fin 3)))
/-- Two heads' results side by side. -/
def twoO (a b : Vec F S1024x128 .f32) : Vec F S1024x256 .f32 := fun y =>
  if h : (y (1 : Fin 2)).val < 128 then a (ix2 (y (0 : Fin 2)) ⟨(y (1 : Fin 2)).val, h⟩) else b (ix2 (y (0 : Fin 2)) ⟨(y (1 : Fin 2)).val - 128, by have : (y (1 : Fin 2)).val < 256 := (y (1 : Fin 2)).isLt; omega⟩)

theorem ld_half (h : Fin 2) (d : Vec F S2x1024x1 .f32) (inb) :
    View.ld d (Rect.unit (s := S2x1024x1) ![h.val, 0, 0] S1x1024x1.size inb) = half h d := by
  funext y
  refine congrArg d (funext fun a => Fin.ext ?_)
  have hy : (y (0 : Fin 3)).val = 0 := by have : (y (0 : Fin 3)).val < 1 := (y (0 : Fin 3)).isLt; omega
  match a with
  | 0 => show h.val + 1 * (y (0 : Fin 3)).val = h.val; omega
  | 1 => show 0 + 1 * (y (1 : Fin 3)).val = (y (1 : Fin 3)).val; omega
  | 2 => show 0 + 1 * (y (2 : Fin 3)).val = (y (2 : Fin 3)).val; omega

theorem ld_halfA (h : Fin 2) (d : Vec F S2x1024x128 .f32) (inb) :
    View.ld d (Rect.unit (s := S2x1024x128) ![h.val, 0, 0] S1x1024x128.size inb) = halfA h d := by
  funext y
  refine congrArg d (funext fun a => Fin.ext ?_)
  have hy : (y (0 : Fin 3)).val = 0 := by have : (y (0 : Fin 3)).val < 1 := (y (0 : Fin 3)).isLt; omega
  match a with
  | 0 => show h.val + 1 * (y (0 : Fin 3)).val = h.val; omega
  | 1 => show 0 + 1 * (y (1 : Fin 3)).val = (y (1 : Fin 3)).val; omega
  | 2 => show 0 + 1 * (y (2 : Fin 3)).val = (y (2 : Fin 3)).val; omega

theorem ld_0 (d : Vec F S2x1024x1 .f32) (inb) : View.ld d (Rect.unit (s := S2x1024x1) ![0, 0, 0] ![1, 1024, 1] inb) = half 0 d := ld_half 0 d inb
theorem ld_1 (d : Vec F S2x1024x1 .f32) (inb) : View.ld d (Rect.unit (s := S2x1024x1) ![1, 0, 0] ![1, 1024, 1] inb) = half 1 d := ld_half 1 d inb
theorem ldA_0 (d : Vec F S2x1024x128 .f32) (inb) : View.ld d (Rect.unit (s := S2x1024x128) ![0, 0, 0] ![1, 1024, 128] inb) = halfA 0 d := ld_halfA 0 d inb
theorem ldA_1 (d : Vec F S2x1024x128 .f32) (inb) : View.ld d (Rect.unit (s := S2x1024x128) ![1, 0, 0] ![1, 1024, 128] inb) = halfA 1 d := ld_halfA 1 d inb

theorem put_two (a b : Vec F S1x1024x1 .f32) (d : Vec F S2x1024x1 .f32) :
    put (s := S2x1024x1) ![1, 0, 0] S1x1024x1.size b (put (s := S2x1024x1) ![0, 0, 0] S1x1024x1.size a d) = two a b := by
  funext y
  have h0 : (y (0 : Fin 3)).val < 2 := (y (0 : Fin 3)).isLt
  have h1 : (y (1 : Fin 3)).val < 1024 := (y (1 : Fin 3)).isLt
  have h2 : (y (2 : Fin 3)).val < 1 := (y (2 : Fin 3)).isLt
  unfold put two
  by_cases hy : (y (0 : Fin 3)).val = 0
  · rw [dif_neg (fun h => by have : 1 ≤ (y (0 : Fin 3)).val := (h (0 : Fin 3)).1; omega), dif_pos (fun a => by
      match a with
      | 0 => exact ⟨Nat.zero_le _, by show (y (0 : Fin 3)).val < 0 + 1; omega⟩
      | 1 => exact ⟨Nat.zero_le _, by show (y (1 : Fin 3)).val < 0 + 1024; omega⟩
      | 2 => exact ⟨Nat.zero_le _, by show (y (2 : Fin 3)).val < 0 + 1; omega⟩), if_pos hy]
    refine congrArg a (funext fun a => Fin.ext ?_)
    match a with
    | 0 => exact Nat.sub_eq_zero_of_le (by show (y (0 : Fin 3)).val ≤ 0; omega)
    | 1 => rfl
    | 2 => rfl
  · rw [dif_pos (fun a => by
      match a with
      | 0 => exact ⟨by show 1 ≤ (y (0 : Fin 3)).val; omega, by show (y (0 : Fin 3)).val < 1 + 1; omega⟩
      | 1 => exact ⟨Nat.zero_le _, by show (y (1 : Fin 3)).val < 0 + 1024; omega⟩
      | 2 => exact ⟨Nat.zero_le _, by show (y (2 : Fin 3)).val < 0 + 1; omega⟩), if_neg hy]
    refine congrArg b (funext fun a => Fin.ext ?_)
    match a with
    | 0 => exact Nat.sub_eq_zero_of_le (by show (y (0 : Fin 3)).val ≤ 1; omega)
    | 1 => rfl
    | 2 => rfl

theorem put_twoA (a b : Vec F S1x1024x128 .f32) (d : Vec F S2x1024x128 .f32) :
    put (s := S2x1024x128) ![1, 0, 0] S1x1024x128.size b (put (s := S2x1024x128) ![0, 0, 0] S1x1024x128.size a d) = twoA a b := by
  funext y
  have h0 : (y (0 : Fin 3)).val < 2 := (y (0 : Fin 3)).isLt
  have h1 : (y (1 : Fin 3)).val < 1024 := (y (1 : Fin 3)).isLt
  have h2 : (y (2 : Fin 3)).val < 128 := (y (2 : Fin 3)).isLt
  unfold put twoA
  by_cases hy : (y (0 : Fin 3)).val = 0
  · rw [dif_neg (fun h => by have : 1 ≤ (y (0 : Fin 3)).val := (h (0 : Fin 3)).1; omega), dif_pos (fun a => by
      match a with
      | 0 => exact ⟨Nat.zero_le _, by show (y (0 : Fin 3)).val < 0 + 1; omega⟩
      | 1 => exact ⟨Nat.zero_le _, by show (y (1 : Fin 3)).val < 0 + 1024; omega⟩
      | 2 => exact ⟨Nat.zero_le _, by show (y (2 : Fin 3)).val < 0 + 128; omega⟩), if_pos hy]
    refine congrArg a (funext fun a => Fin.ext ?_)
    match a with
    | 0 => exact Nat.sub_eq_zero_of_le (by show (y (0 : Fin 3)).val ≤ 0; omega)
    | 1 => rfl
    | 2 => rfl
  · rw [dif_pos (fun a => by
      match a with
      | 0 => exact ⟨by show 1 ≤ (y (0 : Fin 3)).val; omega, by show (y (0 : Fin 3)).val < 1 + 1; omega⟩
      | 1 => exact ⟨Nat.zero_le _, by show (y (1 : Fin 3)).val < 0 + 1024; omega⟩
      | 2 => exact ⟨Nat.zero_le _, by show (y (2 : Fin 3)).val < 0 + 128; omega⟩), if_neg hy]
    refine congrArg b (funext fun a => Fin.ext ?_)
    match a with
    | 0 => exact Nat.sub_eq_zero_of_le (by show (y (0 : Fin 3)).val ≤ 1; omega)
    | 1 => rfl
    | 2 => rfl

theorem put_twoO (a b : Vec F S1024x128 .f32) (d : Vec F S1024x256 .f32) :
    put (s := S1024x256) ![0, 128] S1024x128.size b (put (s := S1024x256) ![0, 0] S1024x128.size a d) = twoO a b := by
  funext y
  have h0 : (y (0 : Fin 2)).val < 1024 := (y (0 : Fin 2)).isLt
  have h1 : (y (1 : Fin 2)).val < 256 := (y (1 : Fin 2)).isLt
  unfold put twoO
  by_cases hy : (y (1 : Fin 2)).val < 128
  · rw [dif_neg (fun h => by have : 128 ≤ (y (1 : Fin 2)).val := (h (1 : Fin 2)).1; omega), dif_pos (fun a => by
      match a with
      | 0 => exact ⟨Nat.zero_le _, by show (y (0 : Fin 2)).val < 0 + 1024; omega⟩
      | 1 => exact ⟨Nat.zero_le _, by show (y (1 : Fin 2)).val < 0 + 128; omega⟩), dif_pos hy]
    refine congrArg a (funext fun a => Fin.ext ?_)
    match a with
    | 0 => rfl
    | 1 => rfl
  · rw [dif_pos (fun a => by
      match a with
      | 0 => exact ⟨Nat.zero_le _, by show (y (0 : Fin 2)).val < 0 + 1024; omega⟩
      | 1 => exact ⟨by show 128 ≤ (y (1 : Fin 2)).val; omega, by show (y (1 : Fin 2)).val < 128 + 128; omega⟩), dif_neg hy]
    refine congrArg b (funext fun a => Fin.ext ?_)
    match a with
    | 0 => rfl
    | 1 => rfl

/-- Each head's queries, rotary and other parts together; -/
def q0 (x : Vec F S1024x512 .bf16) : Vec F S1024x256 .bf16 := View.ld x (Rect.unit (s := S1024x512) ![0, 0] S1024x256.size inb_S1024x512_S1024x256_0_0)
def q1 (x : Vec F S1024x512 .bf16) : Vec F S1024x256 .bf16 := View.ld x (Rect.unit (s := S1024x512) ![0, 256] S1024x256.size inb_S1024x512_S1024x256_0_256)
/-- its keys' other part and its values. -/
def kn0 (x : Vec F S1024x512 .bf16) : Vec F S1024x128 .bf16 := View.ld x (Rect.unit (s := S1024x512) ![0, 0] S1024x128.size inb_S1024x512_S1024x128_0_0)
def vv0 (x : Vec F S1024x512 .bf16) : Vec F S1024x128 .bf16 := View.ld x (Rect.unit (s := S1024x512) ![0, 128] S1024x128.size inb_S1024x512_S1024x128_0_128)
def kn1 (x : Vec F S1024x512 .bf16) : Vec F S1024x128 .bf16 := View.ld x (Rect.unit (s := S1024x512) ![0, 256] S1024x128.size inb_S1024x512_S1024x128_0_256)
def vv1 (x : Vec F S1024x512 .bf16) : Vec F S1024x128 .bf16 := View.ld x (Rect.unit (s := S1024x512) ![0, 384] S1024x128.size inb_S1024x512_S1024x128_0_384)

section
variable (x4 x5 : Vec F S1024x512 .bf16) (x6 : Vec F S1024x128 .bf16) (m l : Vec F S2x1024x1 .f32) (a : Vec F S2x1024x128 .f32)

/-- The unmasked update of the running maximum, -/
def mP : Vec F S2x1024x1 .f32 := two (k0_pay26 (k0_pay13 x6 (kn0 x5) (q0 x4) (half 0 m))) (k0_pay6 (k0_pay19 x6 (kn1 x5) (q1 x4) (half 1 m)))
/-- of the running sum, -/
def lP : Vec F S2x1024x1 .f32 := two (k0_pay24 (k0_pay16 x6 (kn0 x5) (q0 x4) (half 0 m) (half 0 l)))
  (k0_pay4 (k0_pay22 (k0_pay11 x6 (kn1 x5) (q1 x4)) (k0_pay18 (half 1 m)) (k0_pay19 x6 (kn1 x5) (q1 x4) (half 1 m)) (half 1 l)))
/-- and of the running product. -/
def aP : Vec F S2x1024x128 .f32 :=
  twoA (k0_pay25 (k0_pay14 x6 (kn0 x5) (q0 x4) (half 0 m)) (k0_pay17 x6 (kn0 x5) (q0 x4) (half 0 m)) (vv0 x5) (halfA 0 a))
    (k0_pay5 (k0_pay20 (k0_pay18 (half 1 m)) (k0_pay19 x6 (kn1 x5) (q1 x4) (half 1 m))) (k0_pay23 (k0_pay11 x6 (kn1 x5) (q1 x4)) (k0_pay19 x6 (kn1 x5) (q1 x4) (half 1 m)))
      (k0_pay27 (vv1 x5)) (k0_pay28 (halfA 1 a)))
/-- The masked step's two results. -/
def oM : Vec F S1024x256 .f32 :=
  twoO (k0_pay45 (k0_pay34 x6 (kn0 x5) (q0 x4) (half 0 m)) (k0_pay36 x6 (kn0 x5) (q0 x4) (half 0 m) (half 0 l)) (k0_pay37 x6 (kn0 x5) (q0 x4) (half 0 m)) (vv0 x5) (halfA 0 a))
    (k0_pay7 (k0_pay41 (k0_pay30 x6 (kn1 x5) (q1 x4)) (half 1 m)) (k0_pay43 (k0_pay30 x6 (kn1 x5) (q1 x4)) (half 1 m) (half 1 l)) (k0_pay44 (k0_pay30 x6 (kn1 x5) (q1 x4)) (half 1 m)) (vv1 x5) (halfA 1 a))
def lseM : Vec F S1024x256 .f32 :=
  twoO (k0_pay46 (k0_pay33 x6 (kn0 x5) (q0 x4) (half 0 m)) (k0_pay36 x6 (kn0 x5) (q0 x4) (half 0 m) (half 0 l)))
    (k0_pay8 (k0_pay40 (k0_pay30 x6 (kn1 x5) (q1 x4)) (half 1 m)) (k0_pay43 (k0_pay30 x6 (kn1 x5) (q1 x4)) (half 1 m) (half 1 l)))

/-- The running maximum, sum and product. -/
abbrev St (F : FTy → Type) [FloatOps F] : Type := Vec F S2x1024x1 .f32 × Vec F S2x1024x1 .f32 × Vec F S2x1024x128 .f32

/-- Begun anew at the first key block; -/
def initSt (I : Prop) [Decidable I] (s : St F) : St F := if I then (k0_pay1 (F := F), k0_pay2 (F := F), k0_pay3 (F := F)) else s
/-- updated at a key block before the query block. -/
def plainSt (P : Prop) [Decidable P] (s : St F) : St F := if P then (mP x4 x5 x6 s.1, lP x4 x5 x6 s.1 s.2.1, aP x4 x5 x6 s.1 s.2.2) else s
end

end Cert.FlashFwd

end
-- ==== Proof.FwdRun.lean ====
/- Runs of the three parts of the forward attention kernel's step: what each leaves in the buffers. -/
module

public import proofs.«01_k».proof.Proof.FwdStep

@[expose] public section

set_option maxRecDepth 16384

noncomputable section

namespace Cert.FlashFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel20Ideal Cert.Kernel20Ideal.Gen

variable {F : FTy → Type} [FloatOps F]

local notation "𝕄" => MT nD τ sig Unit (Elt F) ℕ (UR sig nD τ) ℕ

set_option maxHeartbeats 1600000 in
/-- The running maximum, sum and product begin anew. -/
theorem init_run (c : Dev nD) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole)
    (x9 : Vec F S2x1024x1 .f32) (x10 : Vec F S2x1024x1 .f32) (x11 : Vec F S2x1024x128 .f32) (E : Set ℕ) (K : PUnit → sProp 𝕄) :
    iprop(owns (c : Thread nD τ) arg9 fullShare x9 ∗ owns (c : Thread nD τ) arg10 fullShare x10 ∗ owns (c : Thread nD τ) arg11 fullShare x11
      ∗ (iprop(owns (c : Thread nD τ) arg9 fullShare (k0_pay1 (F := F)) ∗ owns (c : Thread nD τ) arg10 fullShare (k0_pay2 (F := F))
        ∗ owns (c : Thread nD τ) arg11 fullShare (k0_pay3 (F := F))) -∗ K ⟨⟩))
      ⊢ wp frame (wpE (defs₀ (F := F)) Variants.none c none) E (initPart arg9 arg10 arg11) K := by
  unfold initPart owns
  iintro ⟨⟨%f9, %hf9, H9⟩, ⟨%f10, %hf10, H10⟩, ⟨%f11, %hf11, H11⟩, Hk⟩
  obtain rfl := harg9.eq_unread hf9
  obtain rfl := harg10.eq_unread hf10
  obtain rfl := harg11.eq_unread hf11
  sl_exec
  sl_step
  iapply Hk
  isplitl [H9]
  · iexists _; isplitr
    swap
    · iexact H9
    ipureintro
    exact View.read_writes_full (s := S2x1024x1) arg9.view _ _ _ _
  isplitl [H10]
  · iexists _; isplitr
    swap
    · iexact H10
    ipureintro
    exact View.read_writes_full (s := S2x1024x1) arg10.view _ _ _ _
  iexists _; isplitr
  swap
  · iexact H11
  ipureintro
  exact View.read_writes_full (s := S2x1024x128) arg11.view _ _ _ _

set_option maxHeartbeats 4800000 in
/-- The unmasked update. -/
theorem plain_run (c : Dev nD) (i : grid0.Coords) (arg2 : Memref sig .tc .smem S10 .i32) (harg2 : arg2.IsWhole) (arg3 : Memref sig .tc .smem S10 .i32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole)
    (x4 x5 : Vec F S1024x512 .bf16) (x6 : Vec F S1024x128 .bf16) (x9 : Vec F S2x1024x1 .f32) (x10 : Vec F S2x1024x1 .f32) (x11 : Vec F S2x1024x128 .f32) (E : Set ℕ) (K : PUnit → sProp 𝕄) :
    iprop(owns (c : Thread nD τ) arg4 fullShare x4 ∗ owns (c : Thread nD τ) arg5 fullShare x5 ∗ owns (c : Thread nD τ) arg6 fullShare x6
      ∗ owns (c : Thread nD τ) arg9 fullShare x9 ∗ owns (c : Thread nD τ) arg10 fullShare x10 ∗ owns (c : Thread nD τ) arg11 fullShare x11
      ∗ (iprop(owns (c : Thread nD τ) arg4 fullShare x4 ∗ owns (c : Thread nD τ) arg5 fullShare x5 ∗ owns (c : Thread nD τ) arg6 fullShare x6
        ∗ owns (c : Thread nD τ) arg9 fullShare (mP x4 x5 x6 x9) ∗ owns (c : Thread nD τ) arg10 fullShare (lP x4 x5 x6 x9 x10)
        ∗ owns (c : Thread nD τ) arg11 fullShare (aP x4 x5 x6 x9 x11)) -∗ K ⟨⟩))
      ⊢ wp frame (wpE (defs₀ (F := F)) Variants.none c none) E (plainPart i arg2 harg2 arg3 harg3 arg4 harg4 arg5 harg5 arg6 harg6 arg7 harg7 arg8 harg8 arg9 harg9 arg10 harg10 arg11 harg11) K := by
  unfold plainPart
  simp only [k0_part1_eq_skeleton, k0_part2_eq_skeleton]
  unfold owns
  iintro ⟨⟨%f4, %hf4, H4⟩, ⟨%f5, %hf5, H5⟩, ⟨%f6, %hf6, H6⟩, ⟨%f9, %hf9, H9⟩, ⟨%f10, %hf10, H10⟩, ⟨%f11, %hf11, H11⟩, Hk⟩
  obtain rfl := harg4.eq_unread hf4
  obtain rfl := harg5.eq_unread hf5
  obtain rfl := harg6.eq_unread hf6
  obtain rfl := harg9.eq_unread hf9
  obtain rfl := harg10.eq_unread hf10
  obtain rfl := harg11.eq_unread hf11
  sl_exec
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H9]
  · iexists _; isplitr
    swap
    · iexact H9
    ipureintro
    dsimp only [plain_run.sl.r, plain_run.sl.r_1, plain_run.sl.r_2, plain_run.sl.r_3, plain_run.sl.r_4, plain_run.sl.r_5, plain_run.sl.r_6, plain_run.sl.r_7, plain_run.sl.r_8, plain_run.sl.r_9, plain_run.sl.r_10, plain_run.sl.r_11, plain_run.sl.v80]
    refine (read_put arg9.view _ _ _ _).trans ((congrArg (put _ _ _) (read_put arg9.view _ _ _ _)).trans ((put_two _ _ _).trans ?_))
    simp (disch := decide) only [Memref.IsWhole.read_unread, View.readAt_eq_ld, View.ld_unit_lit]
    simp only [ld_0, ld_1, ldA_0, ldA_1]
    rfl
  isplitl [H10]
  · iexists _; isplitr
    swap
    · iexact H10
    ipureintro
    dsimp only [plain_run.sl.r, plain_run.sl.r_1, plain_run.sl.r_2, plain_run.sl.r_3, plain_run.sl.r_4, plain_run.sl.r_5, plain_run.sl.r_6, plain_run.sl.r_7, plain_run.sl.r_8, plain_run.sl.r_9, plain_run.sl.r_10, plain_run.sl.r_11, plain_run.sl.v80]
    refine (read_put arg10.view _ _ _ _).trans ((congrArg (put _ _ _) (read_put arg10.view _ _ _ _)).trans ((put_two _ _ _).trans ?_))
    simp (disch := decide) only [Memref.IsWhole.read_unread, View.readAt_eq_ld, View.ld_unit_lit]
    simp only [ld_0, ld_1, ldA_0, ldA_1]
    rfl
  · iexists _; isplitr
    swap
    · iexact H11
    ipureintro
    dsimp only [plain_run.sl.r, plain_run.sl.r_1, plain_run.sl.r_2, plain_run.sl.r_3, plain_run.sl.r_4, plain_run.sl.r_5, plain_run.sl.r_6, plain_run.sl.r_7, plain_run.sl.r_8, plain_run.sl.r_9, plain_run.sl.r_10, plain_run.sl.r_11, plain_run.sl.v80]
    refine (read_put arg11.view _ _ _ _).trans ((congrArg (put _ _ _) (read_put arg11.view _ _ _ _)).trans ((put_twoA _ _ _).trans ?_))
    simp (disch := decide) only [Memref.IsWhole.read_unread, View.readAt_eq_ld, View.ld_unit_lit]
    simp only [ld_0, ld_1, ldA_0, ldA_1]
    rfl

set_option maxHeartbeats 4800000 in
/-- The masked update, and the two results. -/
theorem masked_run (c : Dev nD) (i : grid0.Coords) (arg2 : Memref sig .tc .smem S10 .i32) (harg2 : arg2.IsWhole) (arg3 : Memref sig .tc .smem S10 .i32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole)
    (x4 x5 : Vec F S1024x512 .bf16) (x6 : Vec F S1024x128 .bf16) (x7 x8 : Vec F S1024x256 .f32) (x9 : Vec F S2x1024x1 .f32) (x10 : Vec F S2x1024x1 .f32) (x11 : Vec F S2x1024x128 .f32) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
      ∗ owns (c : Thread nD τ) arg9 fullShare x9 ∗ owns (c : Thread nD τ) arg10 fullShare x10 ∗ owns (c : Thread nD τ) arg11 fullShare x11
      ∗ (iprop(owns (c : Thread nD τ) arg4 fullShare x4 ∗ owns (c : Thread nD τ) arg5 fullShare x5 ∗ owns (c : Thread nD τ) arg6 fullShare x6
        ∗ owns (c : Thread nD τ) arg7 fullShare (oM x4 x5 x6 x9 x10 x11) ∗ owns (c : Thread nD τ) arg8 fullShare (lseM x4 x5 x6 x9 x10)
        ∗ owns (c : Thread nD τ) arg9 fullShare x9 ∗ owns (c : Thread nD τ) arg10 fullShare x10
        ∗ owns (c : Thread nD τ) arg11 fullShare x11) -∗ K ⟨⟩))
      ⊢ wp frame (wpE (defs₀ (F := F)) Variants.none c none) E (maskedPart i arg2 harg2 arg3 harg3 arg4 harg4 arg5 harg5 arg6 harg6 arg7 harg7 arg8 harg8 arg9 harg9 arg10 harg10 arg11 harg11) K := by
  unfold maskedPart
  simp only [k0_part3_eq_skeleton, k0_part4_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap
    · iexact H7
    ipureintro
    dsimp only [masked_run.sl.r, masked_run.sl.r_1, masked_run.sl.r_2, masked_run.sl.r_3, masked_run.sl.r_4, masked_run.sl.r_5, masked_run.sl.r_6, masked_run.sl.r_7, masked_run.sl.r_8, masked_run.sl.r_9]
    refine (read_put arg7.view _ _ _ _).trans ((congrArg (put _ _ _) (read_put arg7.view _ _ _ _)).trans ((put_twoO _ _ _).trans ?_))
    simp (disch := decide) only [Memref.IsWhole.read_unread, View.readAt_eq_ld, View.ld_unit_lit]
    simp only [ld_0, ld_1, ldA_0, ldA_1]
    rfl
  isplitl [H8]
  · iexists _; isplitr
    swap
    · iexact H8
    ipureintro
    dsimp only [masked_run.sl.r, masked_run.sl.r_1, masked_run.sl.r_2, masked_run.sl.r_3, masked_run.sl.r_4, masked_run.sl.r_5, masked_run.sl.r_6, masked_run.sl.r_7, masked_run.sl.r_8, masked_run.sl.r_9]
    refine (read_put arg8.view _ _ _ _).trans ((congrArg (put _ _ _) (read_put arg8.view _ _ _ _)).trans ((put_twoO _ _ _).trans ?_))
    simp (disch := decide) only [Memref.IsWhole.read_unread, View.readAt_eq_ld, View.ld_unit_lit]
    simp only [ld_0, ld_1, ldA_0, ldA_1]
    rfl
  isplitl [H9]
  · iexists _; isplitr; · ipureintro; exact harg9.read_unread _
    iexact H9
  isplitl [H10]
  · iexists _; isplitr; · ipureintro; exact harg10.read_unread _
    iexact H10
  · iexists _; isplitr; · ipureintro; exact harg11.read_unread _
    iexact H11

/-- Each part under its test. -/
theorem init_if (c : Dev nD) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole) (b : BitVec 1) (I : Prop) [Decidable I] (hI : b = 1#1 ↔ I) (s : St F) (E : Set ℕ) (K : PUnit → sProp 𝕄) :
    iprop(owns (c : Thread nD τ) arg9 fullShare (s).1 ∗ owns (c : Thread nD τ) arg10 fullShare (s).2.1 ∗ owns (c : Thread nD τ) arg11 fullShare (s).2.2 ∗ (iprop(owns (c : Thread nD τ) arg9 fullShare (initSt I s).1 ∗ owns (c : Thread nD τ) arg10 fullShare (initSt I s).2.1 ∗ owns (c : Thread nD τ) arg11 fullShare (initSt I s).2.2) -∗ K ⟨⟩))
      ⊢ wp frame (wpE (defs₀ (F := F)) Variants.none c none) E (if b = 1#1 then initPart arg9 arg10 arg11 else pure ⟨⟩) K := by
  by_cases h : I
  · rw [if_pos (hI.mpr h), show initSt I s = _ from if_pos h]
    exact init_run c arg9 harg9 arg10 harg10 arg11 harg11 _ _ _ E K
  · rw [if_neg (fun h' => h (hI.mp h')), show initSt I s = s from if_neg h]
    iintro ⟨H9, H10, H11, Hk⟩
    sl_step
    iapply Hk
    isplitl [H9]; · iexact H9
    isplitl [H10]; · iexact H10
    iexact H11

theorem plain_if (c : Dev nD) (i : grid0.Coords) (arg2 : Memref sig .tc .smem S10 .i32) (harg2 : arg2.IsWhole) (arg3 : Memref sig .tc .smem S10 .i32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole) (b : BitVec 1) (P : Prop) [Decidable P] (hP : b = 1#1 ↔ P)
    (x4 x5 : Vec F S1024x512 .bf16) (x6 : Vec F S1024x128 .bf16) (s : St F) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg9 fullShare (s).1 ∗ owns (c : Thread nD τ) arg10 fullShare (s).2.1 ∗ owns (c : Thread nD τ) arg11 fullShare (s).2.2
      ∗ (iprop(owns (c : Thread nD τ) arg4 fullShare x4 ∗ owns (c : Thread nD τ) arg5 fullShare x5 ∗ owns (c : Thread nD τ) arg6 fullShare x6 ∗ owns (c : Thread nD τ) arg9 fullShare (plainSt x4 x5 x6 P s).1 ∗ owns (c : Thread nD τ) arg10 fullShare (plainSt x4 x5 x6 P s).2.1 ∗ owns (c : Thread nD τ) arg11 fullShare (plainSt x4 x5 x6 P s).2.2) -∗ K ⟨⟩))
      ⊢ wp frame (wpE (defs₀ (F := F)) Variants.none c none) E (if b = 1#1 then plainPart i arg2 harg2 arg3 harg3 arg4 harg4 arg5 harg5 arg6 harg6 arg7 harg7 arg8 harg8 arg9 harg9 arg10 harg10 arg11 harg11 else pure ⟨⟩) K := by
  by_cases h : P
  · rw [if_pos (hP.mpr h), show plainSt x4 x5 x6 P s = _ from if_pos h]
    exact plain_run c i arg2 harg2 arg3 harg3 arg4 harg4 arg5 harg5 arg6 harg6 arg7 harg7 arg8 harg8 arg9 harg9 arg10 harg10 arg11 harg11 _ _ _ _ _ _ E K
  · rw [if_neg (fun h' => h (hP.mp h')), show plainSt x4 x5 x6 P s = s from if_neg h]
    iintro ⟨H4, H5, H6, H9, H10, H11, Hk⟩
    sl_step
    iapply Hk
    isplitl [H4]; · iexact H4
    isplitl [H5]; · iexact H5
    isplitl [H6]; · iexact H6
    isplitl [H9]; · iexact H9
    isplitl [H10]; · iexact H10
    iexact H11

theorem masked_if (c : Dev nD) (i : grid0.Coords) (arg2 : Memref sig .tc .smem S10 .i32) (harg2 : arg2.IsWhole) (arg3 : Memref sig .tc .smem S10 .i32) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole) (b : BitVec 1) (M : Prop) [Decidable M] (hM : b = 1#1 ↔ M)
    (x4 x5 : Vec F S1024x512 .bf16) (x6 : Vec F S1024x128 .bf16) (x7 x8 : Vec F S1024x256 .f32) (s : St F) (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (s).1 ∗ owns (c : Thread nD τ) arg10 fullShare (s).2.1 ∗ owns (c : Thread nD τ) arg11 fullShare (s).2.2
      ∗ (iprop(owns (c : Thread nD τ) arg4 fullShare x4 ∗ owns (c : Thread nD τ) arg5 fullShare x5 ∗ owns (c : Thread nD τ) arg6 fullShare x6 ∗ owns (c : Thread nD τ) arg7 fullShare (if M then oM x4 x5 x6 s.1 s.2.1 s.2.2 else x7) ∗ owns (c : Thread nD τ) arg8 fullShare (if M then lseM x4 x5 x6 s.1 s.2.1 else x8) ∗ owns (c : Thread nD τ) arg9 fullShare (s).1 ∗ owns (c : Thread nD τ) arg10 fullShare (s).2.1 ∗ owns (c : Thread nD τ) arg11 fullShare (s).2.2) -∗ K ⟨⟩))
      ⊢ wp frame (wpE (defs₀ (F := F)) Variants.none c none) E (if b = 1#1 then maskedPart i arg2 harg2 arg3 harg3 arg4 harg4 arg5 harg5 arg6 harg6 arg7 harg7 arg8 harg8 arg9 harg9 arg10 harg10 arg11 harg11 else pure ⟨⟩) K := by
  by_cases h : M
  · rw [if_pos (hM.mpr h), if_pos h, if_pos h]
    exact masked_run c i arg2 harg2 arg3 harg3 arg4 harg4 arg5 harg5 arg6 harg6 arg7 harg7 arg8 harg8 arg9 harg9 arg10 harg10 arg11 harg11 _ _ _ _ _ _ _ _ E K
  · rw [if_neg (fun h' => h (hM.mp h')), if_neg h, if_neg h]
    iintro ⟨H4, H5, H6, H7, H8, H9, H10, H11, Hk⟩
    sl_step
    iapply Hk
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The tables' words, held to read. -/
def Held (c : Dev nD) (b0 : Buf (Elt F) ((Memref.whole main_c).view.loc (c : Thread nD τ))) (b1 : Buf (Elt F) ((Memref.whole main_c_0).view.loc (c : Thread nD τ))) : sProp 𝕄 :=
  iprop(((Memref.whole main_c).view.loc (c : Thread nD τ) ↦{fullShare.right} b0) ∗ ((Memref.whole main_c_0).view.loc (c : Thread nD τ) ↦{fullShare.right} b1))

set_option maxHeartbeats 1600000 in
/-- One whole step. -/
theorem step_run (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x128 .bf16) (harg6 : arg6.IsWhole) (arg7 : Memref sig .tc .vmem S1024x256 .f32) (harg7 : arg7.IsWhole) (arg8 : Memref sig .tc .vmem S1024x256 .f32) (harg8 : arg8.IsWhole) (arg9 : Memref sig .tc .vmem S2x1024x1 .f32) (harg9 : arg9.IsWhole) (arg10 : Memref sig .tc .vmem S2x1024x1 .f32) (harg10 : arg10.IsWhole) (arg11 : Memref sig .tc .vmem S2x1024x128 .f32) (harg11 : arg11.IsWhole)
    (b0 : Buf (Elt F) ((Memref.whole main_c).view.loc (c : Thread nD τ))) (b1 : Buf (Elt F) ((Memref.whole main_c_0).view.loc (c : Thread nD τ))) (w2 w3 : BitVec 32)
    (hw2 : w2 = ((Memref.whole main_c).access (Rect.unit (s := S10) (k0_off1 i) S1.size (Facts₀.k0_off1_inb i))).read (Elt F) b0 (Shape.Idx.first (numel1_S1.symm ▸ Nat.one_pos)))
    (hw3 : w3 = ((Memref.whole main_c_0).access (Rect.unit (s := S10) (k0_off1 i) S1.size (Facts₀.k0_off1_inb i))).read (Elt F) b1 (Shape.Idx.first (numel1_S1.symm ▸ Nat.one_pos)))
    (I P M : Prop) [Decidable I] [Decidable P] [Decidable M]
    (hI : Scalar.cmpi .ne (Scalar.extui (Scalar.cmpi .eq w3 0#32) : BitVec 32) 0#32 = 1#1 ↔ I)
    (hP : Scalar.cmpi .ne (Scalar.extui (Scalar.cmpi .slt w3 w2) : BitVec 32) 0#32 = 1#1 ↔ P)
    (hM : k0_cond3 w2 w3 = 1#1 ↔ M)
    (x4 x5 : Vec F S1024x512 .bf16) (x6 : Vec F S1024x128 .bf16) (x7 x8 : Vec F S1024x256 .f32) (s : St F) (E : Set ℕ) (K : PUnit → sProp 𝕄) :
    iprop(Held c b0 b1 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (s).1 ∗ owns (c : Thread nD τ) arg10 fullShare (s).2.1 ∗ owns (c : Thread nD τ) arg11 fullShare (s).2.2
      ∗ (iprop(Held c b0 b1 ∗ owns (c : Thread nD τ) arg4 fullShare x4 ∗ owns (c : Thread nD τ) arg5 fullShare x5 ∗ owns (c : Thread nD τ) arg6 fullShare x6
          ∗ owns (c : Thread nD τ) arg7 fullShare (if M then oM x4 x5 x6 (plainSt x4 x5 x6 P (initSt I s)).1 (plainSt x4 x5 x6 P (initSt I s)).2.1 (plainSt x4 x5 x6 P (initSt I s)).2.2 else x7)
          ∗ owns (c : Thread nD τ) arg8 fullShare (if M then lseM x4 x5 x6 (plainSt x4 x5 x6 P (initSt I s)).1 (plainSt x4 x5 x6 P (initSt I s)).2.1 else x8)
          ∗ owns (c : Thread nD τ) arg9 fullShare (plainSt x4 x5 x6 P (initSt I s)).1 ∗ owns (c : Thread nD τ) arg10 fullShare (plainSt x4 x5 x6 P (initSt I s)).2.1 ∗ owns (c : Thread nD τ) arg11 fullShare (plainSt x4 x5 x6 P (initSt I s)).2.2) -∗ K ⟨⟩))
      ⊢ wp frame (wpE (defs₀ (F := F)) Variants.none c none) E (cc0_flash_fwd i (Memref.whole main_c) (Memref.isWhole_whole _) (Memref.whole main_c_0) (Memref.isWhole_whole _) arg4 harg4 arg5 harg5 arg6 harg6 arg7 harg7 arg8 harg8 arg9 harg9 arg10 harg10 arg11 harg11) K := by
  rw [body_eq]
  unfold Held
  iintro ⟨⟨HT0, HT1⟩, H4, H5, H6, H7, H8, H9, H10, H11, Hk⟩
  unfold smemLoad
  simp only [smemLoadElt_bind]
  named_smem HT0 w2 hw2
  simp only [Prog.bind_ret, smemLoadElt_bind]
  named_smem HT1 w3 hw3
  simp only [Prog.bind_ret, wp_bind]
  iapply (init_if (F := F) c arg9 harg9 arg10 harg10 arg11 harg11 _ I hI s E _)
  isplitl [H9]; · iexact H9
  isplitl [H10]; · iexact H10
  isplitl [H11]; · iexact H11
  iintro ⟨H9, H10, H11⟩
  iapply (plain_if (F := F) c i _ _ _ _ arg4 harg4 arg5 harg5 arg6 harg6 arg7 harg7 arg8 harg8 arg9 harg9 arg10 harg10 arg11 harg11 _ P hP x4 x5 x6 (initSt I s) E _)
  isplitl [H4]; · iexact H4
  isplitl [H5]; · iexact H5
  isplitl [H6]; · iexact H6
  isplitl [H9]; · iexact H9
  isplitl [H10]; · iexact H10
  isplitl [H11]; · iexact H11
  iintro ⟨H4, H5, H6, H9, H10, H11⟩
  iapply (masked_if (F := F) c i _ _ _ _ arg4 harg4 arg5 harg5 arg6 harg6 arg7 harg7 arg8 harg8 arg9 harg9 arg10 harg10 arg11 harg11 _ M hM x4 x5 x6 x7 x8 (plainSt x4 x5 x6 P (initSt I s)) E _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H4, H5, H6, H7, H8, H9, H10, H11⟩
  iapply Hk
  isplitl [HT0 HT1]
  · isplitl [HT0]; · iexact HT0
    iexact HT1
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.FlashFwd

end
-- ==== Proof.FwdFrame.lean ====
/- The forward attention kernel's launch, point by point, and its run: from any memory every weakly fair execution of the
   program ends, with the three arguments as they were, the two results at what the launch's data names, and every
   semaphore counter at zero. -/
module

public import proofs.«01_k».proof.Proof.FwdRun
public import Idealize.ShloMosaic.Lib.Claim

@[expose] public section

set_option maxRecDepth 16384

noncomputable section

namespace Cert.FlashFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel20Ideal Cert.Kernel20Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch at the tables the host writes. -/
abbrev cfgA : Cfg sig Λ₀ := cfg0 (F := F) (adm 0)

/-- The host's operations before the launch, stretch by stretch. -/
abbrev hostStretches : List (List (HloOp τ sig (Elt F))) := [hostOps0, hostOps0_1, hostOps0_2, hostOps0_3, hostOps0_4]

/-- What the buffers hold when the launch begins. -/
def V (c : Dev nD) (b : Ref sig .tc) : Buf (Elt F) ((c : Thread nD τ).loc b) :=
  StableHlo.after (hostStretches (F := F)).flatten (fun b => m (c, b)) b

/-- Window `w`'s block at point `t`, read off its array as the launch finds it. -/
def iblk (c : Dev nD) (w : Fin 5) (t : Fin grid0.N) : ((cfgA (F := F).win w).xblock (grid0.coords t)).Idx → Elt F (spec0 w).elt :=
  ((cfgA (F := F).win w).blk t).view.read (Elt F) (V m c (Pipeline.arrRef spec0 w))

/-- One step's effect on the running maximum, sum and product. -/
def stepSt (c : Dev nD) (t : Fin grid0.N) (s : St F) : St F :=
  plainSt (iblk m c 0 t) (iblk m c 1 t) (iblk m c 2 t) (kOf (t.val % 10) < qOf (t.val % 10)) (initSt (kOf (t.val % 10) = 0) s)

/-- What the run finds in the running maximum, sum and product, after `n` steps from `s`. -/
def st (c : Dev nD) (s : St F) : ℕ → St F
  | 0 => s
  | n + 1 => if h : n < grid0.N then stepSt m c ⟨n, h⟩ (st c s n) else st c s n

theorem st_succ (c : Dev nD) (s : St F) (t : Fin grid0.N) : st m c s (t.val + 1) = stepSt m c t (st m c s t.val) := dif_pos t.isLt

/-- The state before the first step does not matter: the first step begins anew. -/
abbrev st0 : St F := (k0_pay1 (F := F), k0_pay2 (F := F), k0_pay3 (F := F))

/-! ## The invariant -/

/-- The scratch buffers holding a state. -/
def Keep (c : Dev nD) (s : St F) : sProp 𝕄 :=
  iprop(owns (c : Thread nD τ) (Memref.whole cc0_scratch0) fullShare s.1 ∗ owns (c : Thread nD τ) (Memref.whole cc0_scratch1) fullShare s.2.1
    ∗ owns (c : Thread nD τ) (Memref.whole cc0_scratch2) fullShare s.2.2)

/-- The scratch buffers before step `n`. -/
def Scr (c : Dev nD) : ℕ → sProp 𝕄
  | 0 => iprop(∃ s : St F, Keep c s)
  | n + 1 => Keep c (st m c st0 (n + 1))

/-- The invariant before step `n`. -/
def Inv (c : Dev nD) (n : ℕ) : sProp 𝕄 := iprop(Scr m c n ∗ (∃ r, prngReg c r) ∗ Held c (tabs (F := F) 0) (tabs (F := F) 1))

/-- Before every step the buffers hold some state that the step takes where the run's own state goes. -/
theorem Scr_open (c : Dev nD) (t : Fin grid0.N) : Scr m c t.val ⊢ iprop(∃ s : St F, ⌜stepSt m c t s = st m c st0 (t.val + 1)⌝ ∗ Keep c s) := by
  rw [st_succ]
  obtain ⟨n, hn⟩ := t
  cases n with
  | zero =>
    unfold Scr
    iintro ⟨%s, H⟩
    iexists s
    isplitr
    · ipureintro
      rfl
    iexact H
  | succ n =>
    unfold Scr
    iintro H
    iexists (st m c st0 (n + 1))
    isplitr
    · ipureintro
      rfl
    iexact H

theorem Scr_any (c : Dev nD) (n : ℕ) : Scr m c n ⊢ iprop(∃ s : St F, Keep c s) := by
  cases n with
  | zero => exact .rfl
  | succ n =>
    unfold Scr
    iintro H
    iexists _
    iexact H

/-! ## The launch's data -/

/-- What the launch holds on core `c`: the arrays as it finds them; each input's buffer at its block; the outputs' at
    what the masked step writes. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oM (iblk m c 0 t) (iblk m c 1 t) (iblk m c 2 t) (st m c st0 (t.val + 1)).1 (st m c st0 (t.val + 1)).2.1 (st m c st0 (t.val + 1)).2.2
    | ⟨4, _⟩ => lseM (iblk m c 0 t) (iblk m c 1 t) (iblk m c 2 t) (st m c st0 (t.val + 1)).1 (st m c st0 (t.val + 1)).2.1
  Φ t := Inv m c t.val
  q w := if (spec0 w).isOut then fullShare else Pipeline.shareOf spec0 w
  owed _ := 0

theorem A_eq (c : Dev nD) (w : Fin 5) : (dats m 0 c).A w = V m c (Pipeline.arrRef spec0 w) := by
  dsimp only [dats]

theorem after_0 (c : Dev nD) (t : Fin grid0.N) : (dats m 0 c).after 0 t = iblk m c 0 t := by dsimp only [dats]; rfl
theorem after_1 (c : Dev nD) (t : Fin grid0.N) : (dats m 0 c).after 1 t = iblk m c 1 t := by dsimp only [dats]; rfl
theorem after_2 (c : Dev nD) (t : Fin grid0.N) : (dats m 0 c).after 2 t = iblk m c 2 t := by dsimp only [dats]; rfl
theorem after_3 (c : Dev nD) (t : Fin grid0.N) : (dats m 0 c).after 3 t
    = oM (iblk m c 0 t) (iblk m c 1 t) (iblk m c 2 t) (st m c st0 (t.val + 1)).1 (st m c st0 (t.val + 1)).2.1 (st m c st0 (t.val + 1)).2.2 := by dsimp only [dats]; rfl
theorem after_4 (c : Dev nD) (t : Fin grid0.N) : (dats m 0 c).after 4 t
    = lseM (iblk m c 0 t) (iblk m c 1 t) (iblk m c 2 t) (st m c st0 (t.val + 1)).1 (st m c st0 (t.val + 1)).2.1 := by dsimp only [dats]; rfl

/-! An input's current buffer holds its block at every point. -/

theorem before_0 (c : Dev nD) (t : Fin grid0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin grid0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin grid0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## When the outputs are touched, and the tests of a step -/

theorem idle_3 : ∀ t : Fin grid0.N, cfgA (F := F).idle 3 (grid0.coords t) = (kOf (t.val % 10) != qOf (t.val % 10)) := of_decide_eq_true (by sl_kernel_rfl)
theorem idle_4 : ∀ t : Fin grid0.N, cfgA (F := F).idle 4 (grid0.coords t) = (kOf (t.val % 10) != qOf (t.val % 10)) := of_decide_eq_true (by sl_kernel_rfl)
theorem flush_3 : ∀ t : Fin grid0.N, (cfgA (F := F).win 3).flush t = (kOf (t.val % 10) == qOf (t.val % 10)) := of_decide_eq_true (by sl_kernel_rfl)
theorem flush_4 : ∀ t : Fin grid0.N, (cfgA (F := F).win 4).flush t = (kOf (t.val % 10) == qOf (t.val % 10)) := of_decide_eq_true (by sl_kernel_rfl)

theorem init_iff : ∀ t : Fin grid0.N, Scalar.cmpi .ne (Scalar.extui (Scalar.cmpi .eq (kW (F := F) (grid0.coords t)) 0#32) : BitVec 32) 0#32 = 1#1
    ↔ kOf (t.val % 10) = 0 := of_decide_eq_true (by sl_kernel_rfl)
theorem plain_iff : ∀ t : Fin grid0.N, Scalar.cmpi .ne (Scalar.extui (Scalar.cmpi .slt (kW (F := F) (grid0.coords t)) (qW (F := F) (grid0.coords t))) : BitVec 32) 0#32 = 1#1
    ↔ kOf (t.val % 10) < qOf (t.val % 10) := of_decide_eq_true (by sl_kernel_rfl)
theorem masked_iff : ∀ t : Fin grid0.N, k0_cond3 (qW (F := F) (grid0.coords t)) (kW (F := F) (grid0.coords t)) = 1#1
    ↔ kOf (t.val % 10) = qOf (t.val % 10) := of_decide_eq_true (by sl_kernel_rfl)

/-! ## The body at a point -/

/-- Each window's current buffer at point `t`. -/
abbrev ms0 (t : Fin grid0.N) : Memref sig .tc .vmem S1024x512 .bf16 := spec0_0.stage (cfgA (F := F).slots t 0)
abbrev hs0 (t : Fin grid0.N) : (ms0 (F := F) t).IsWhole := hstage0_0 ((cfgA (F := F).slots t 0).cast nbuf0_0)
abbrev ms1 (t : Fin grid0.N) : Memref sig .tc .vmem S1024x512 .bf16 := spec0_1.stage (cfgA (F := F).slots t 1)
abbrev hs1 (t : Fin grid0.N) : (ms1 (F := F) t).IsWhole := hstage0_1 ((cfgA (F := F).slots t 1).cast nbuf0_1)
abbrev ms2 (t : Fin grid0.N) : Memref sig .tc .vmem S1024x128 .bf16 := spec0_2.stage (cfgA (F := F).slots t 2)
abbrev hs2 (t : Fin grid0.N) : (ms2 (F := F) t).IsWhole := hstage0_2 ((cfgA (F := F).slots t 2).cast nbuf0_2)
abbrev ms3 (t : Fin grid0.N) : Memref sig .tc .vmem S1024x256 .f32 := spec0_3.stage (cfgA (F := F).slots t 3)
abbrev hs3 (t : Fin grid0.N) : (ms3 (F := F) t).IsWhole := hstage0_3 ((cfgA (F := F).slots t 3).cast nbuf0_3)
abbrev ms4 (t : Fin grid0.N) : Memref sig .tc .vmem S1024x256 .f32 := spec0_4.stage (cfgA (F := F).slots t 4)
abbrev hs4 (t : Fin grid0.N) : (ms4 (F := F) t).IsWhole := hstage0_4 ((cfgA (F := F).slots t 4).cast nbuf0_4)

/-- The body at point `t`. -/
def bodyAt (t : Fin grid0.N) : Prog (TpuEff nD τ sig (Elt F) Λ₀ .tc) PUnit :=
  cc0_flash_fwd (grid0.coords t) (Memref.whole main_c) (Memref.isWhole_whole _) (Memref.whole main_c_0) (Memref.isWhole_whole _) (ms0 (F := F) t) (hs0 (F := F) t) (ms1 (F := F) t) (hs1 (F := F) t) (ms2 (F := F) t) (hs2 (F := F) t) (ms3 (F := F) t) (hs3 (F := F) t) (ms4 (F := F) t) (hs4 (F := F) t) (Memref.whole cc0_scratch0) (Memref.isWhole_whole _) (Memref.whole cc0_scratch1) (Memref.isWhole_whole _) (Memref.whole cc0_scratch2) (Memref.isWhole_whole _)

/-- What the body is called with at point `t`, -/
def bodyPre (c : Dev nD) (t : Fin grid0.N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d)))

/-- and what it returns. -/
def bodyPost (c : Dev nD) (t : Fin grid0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_0 (c : Dev nD) (t : Fin grid0.N) : (dats m 0 c).leavesExact 0 t = owns (c : Thread nD τ) (ms0 (F := F) t) fullShare (iblk m c 0 t) := by
  unfold Dat.leavesExact; rw [show cfgA (F := F).idle 0 (grid0.coords t) = false from rfl, after_0]; rfl
theorem leaves_1 (c : Dev nD) (t : Fin grid0.N) : (dats m 0 c).leavesExact 1 t = owns (c : Thread nD τ) (ms1 (F := F) t) fullShare (iblk m c 1 t) := by
  unfold Dat.leavesExact; rw [show cfgA (F := F).idle 1 (grid0.coords t) = false from rfl, after_1]; rfl
theorem leaves_2 (c : Dev nD) (t : Fin grid0.N) : (dats m 0 c).leavesExact 2 t = owns (c : Thread nD τ) (ms2 (F := F) t) fullShare (iblk m c 2 t) := by
  unfold Dat.leavesExact; rw [show cfgA (F := F).idle 2 (grid0.coords t) = false from rfl, after_2]; rfl
/-- What a result's buffer holds before a step. -/
def bef3 (c : Dev nD) (t : Fin grid0.N) (d : ((cfgA (F := F)).win 3).block.Idx → Elt F ((cfgA (F := F)).win 3).elt) : Vec F S1024x256 .f32 := (dats m 0 c).before 3 t d

/-- A result's buffer ends at what the masked step writes, or as it was. -/
theorem leaves_3 (c : Dev nD) (t : Fin grid0.N) (d) :
    owns (c : Thread nD τ) (ms3 (F := F) t) fullShare (if kOf (t.val % 10) = qOf (t.val % 10) then oM (iblk m c 0 t) (iblk m c 1 t) (iblk m c 2 t) (st m c st0 (t.val + 1)).1 (st m c st0 (t.val + 1)).2.1 (st m c st0 (t.val + 1)).2.2 else bef3 m c t d)
      ⊢ (dats m 0 c).leavesExact 3 t := by
  by_cases h : kOf (t.val % 10) = qOf (t.val % 10)
  · rw [if_pos h]
    unfold Dat.leavesExact; rw [idle_3, (bne_eq_false_iff_eq.mpr h), after_3]
    exact .rfl
  · rw [if_neg h]
    unfold Dat.leavesExact; rw [idle_3, flush_3, bne_iff_ne.mpr h, beq_eq_false_iff_ne.mpr h]
    iintro H
    iexists d
    iexact H
/-- What a result's buffer holds before a step. -/
def bef4 (c : Dev nD) (t : Fin grid0.N) (d : ((cfgA (F := F)).win 4).block.Idx → Elt F ((cfgA (F := F)).win 4).elt) : Vec F S1024x256 .f32 := (dats m 0 c).before 4 t d

/-- A result's buffer ends at what the masked step writes, or as it was. -/
theorem leaves_4 (c : Dev nD) (t : Fin grid0.N) (d) :
    owns (c : Thread nD τ) (ms4 (F := F) t) fullShare (if kOf (t.val % 10) = qOf (t.val % 10) then lseM (iblk m c 0 t) (iblk m c 1 t) (iblk m c 2 t) (st m c st0 (t.val + 1)).1 (st m c st0 (t.val + 1)).2.1 else bef4 m c t d)
      ⊢ (dats m 0 c).leavesExact 4 t := by
  by_cases h : kOf (t.val % 10) = qOf (t.val % 10)
  · rw [if_pos h]
    unfold Dat.leavesExact; rw [idle_4, (bne_eq_false_iff_eq.mpr h), after_4]
    exact .rfl
  · rw [if_neg h]
    unfold Dat.leavesExact; rw [idle_4, flush_4, bne_iff_ne.mpr h, beq_eq_false_iff_ne.mpr h]
    iintro H
    iexists d
    iexact H

theorem Phi_castSucc (c : Dev nD) (t : Fin grid0.N) : (dats m 0 c).Φ t.castSucc = Inv m c t.val := by
  dsimp only [dats]; rfl
theorem Phi_succ (c : Dev nD) (t : Fin grid0.N) : (dats m 0 c).Φ t.succ =
    iprop(Keep c (st m c st0 (t.val + 1)) ∗ (∃ r, prngReg c r) ∗ Held c (tabs (F := F) 0) (tabs (F := F) 1)) := by
  dsimp only [dats]; rfl

set_option maxHeartbeats 1600000 in
theorem sound_body (c : Dev nD) (t : Fin grid0.N) :
    bodyPre m c t ⊢ wp frame (wpE (defs₀ (F := F)) Variants.none c none) Set.univ (bodyAt t) (fun _ => bodyPost m c t) := by
  unfold bodyPre bodyPost bodyAt
  rw [Phi_castSucc, Phi_succ, leaves_0, leaves_1, leaves_2]
  simp only [before_0, before_1, before_2]
  rw [show (dats m 0 c).owesAt () t.succ = (dats m 0 c).owesAt () t.castSucc from rfl]
  unfold Inv
  iintro ⟨⟨HS, Hg, HT⟩, Ho, ⟨%d0, H0⟩, ⟨%d1, H1⟩, ⟨%d2, H2⟩, ⟨%d3, H3⟩, ⟨%d4, H4⟩⟩
  ihave HS := (Scr_open m c t) $$ HS
  icases HS with ⟨%s, %hs, HS⟩
  rw [← hs]
  unfold Keep
  icases HS with ⟨HS0, HS1, HS2⟩
  iapply (step_run (F := F) c (grid0.coords t) _ _ _ _ _ _ _ _ _ _ _ _ _ _ _ _ (tabs (F := F) 0) (tabs (F := F) 1) (qW (F := F) (grid0.coords t)) (kW (F := F) (grid0.coords t)) rfl rfl
    (kOf (t.val % 10) = 0) (kOf (t.val % 10) < qOf (t.val % 10)) (kOf (t.val % 10) = qOf (t.val % 10)) (init_iff t) (plain_iff t) (masked_iff t)
    (iblk m c 0 t) (iblk m c 1 t) (iblk m c 2 t) (bef3 m c t d3) (bef4 m c t d4) s Set.univ _)
  isplitl [HT]; · iexact HT
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨HT, H0, H1, H2, H3, H4, HS0, HS1, HS2⟩
  isplitl [HS0 HS1 HS2 Hg HT]
  · isplitl [HS0 HS1 HS2]
    · isplitl [HS0]; · iexact HS0
      isplitl [HS1]; · iexact HS1
      iexact HS2
    isplitl [Hg]; · iexact Hg
    iexact HT
  isplitl [Ho]; · iexact Ho
  isplitl [H0]; · iexact H0
  isplitl [H1]; · iexact H1
  isplitl [H2]; · iexact H2
  rw [show plainSt (iblk m c 0 t) (iblk m c 1 t) (iblk m c 2 t) (kOf (t.val % 10) < qOf (t.val % 10)) (initSt (kOf (t.val % 10) = 0) s) = st m c st0 (t.val + 1) from hs]
  isplitl [H3]
  · iapply (leaves_3 m c t d3)
    iexact H3
  iapply (leaves_4 m c t d4)
  iexact H4

/-- The body table's row at a point is the body there. -/
theorem defs₀_row (t : Fin grid0.N) :
    defs₀ (F := F) .tc (cfgA (F := F)).body ((cfgA (F := F)).bodyArgs t ((cfgA (F := F)).slots t)) = bodyAt t := by
  unfold defs₀; rw [Defs.onTc_tc]; rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The program up to the launch: the host's operations. -/
theorem hmain : Pipeline.HMainP (Ix := Unit) (Name := ℕ) (U := UR sig nD τ) (Lvl := ℕ) (pcfgs (F := F)) 0 defs₀ Variants.none m (main (F := F)) (V m) :=
  Pipeline.hmainP_prefixes (pcfgs (F := F)) 0 defs₀ Variants.none m main (hostStretches (F := F))
    ⟨hostOps0_sub, hostOps0_1_sub, hostOps0_2_sub, hostOps0_3_sub, hostOps0_4_sub⟩
    (by refine ⟨?_, ?_, ?_, ?_, ?_⟩ <;> simp only [List.Forall] <;> trivial) (fun c => main_chain c)

/-- The tables reach the launch as the host writes them. -/
theorem V_tabs (c : Dev nD) (k : Fin 2) : V m c (pre0.ref k) = tabs (F := F) k := by
  fin_cases k
  · unfold V
    rfl
  · unfold V
    rfl

theorem hin (c : Dev nD) : iprop(Pipeline.ΦA spec0 c ∗ Pipeline.ΦT pre0 (tabs (F := F)) c) ⊢ (dats m 0 c).Φ 0 := by
  rw [show (dats m 0 c).Φ 0 = Inv m c 0 from by dsimp only [dats]; rfl]
  unfold Inv Scr Pipeline.ΦA
  rw [scopedRest0_eq]
  have hT : (Pipeline.ΦT pre0 (tabs (F := F)) c : sProp 𝕄) = Held c (tabs (F := F) 0) (tabs (F := F) 1) := by
    unfold Pipeline.ΦT Pipeline.prefHeld Held
    rw [show (Finset.univ : Finset (Fin 2)) = insert 0 {1} from by decide, bigSep_insert (by decide), bigSep_singleton]; rfl
  rw [hT]
  unfold Keep
  simp only [owns_whole]
  iintro ⟨⟨⟨⟨%d0, H0⟩, ⟨%d1, H1⟩, ⟨%d2, H2⟩⟩, Hg⟩, HT⟩
  isplitl [H0 H1 H2]
  · iexists (d0, d1, d2)
    isplitl [H0]; · iexact H0
    isplitl [H1]; · iexact H1
    iexact H2
  isplitl [Hg]; · iexact Hg
  iexact HT

theorem hout (c : Dev nD) : (dats m 0 c).Φ (Fin.last (cfgA (F := F)).N) ⊢ Pipeline.ΦA spec0 c := by
  rw [show (dats m 0 c).Φ (Fin.last (cfgA (F := F)).N) = Inv m c grid0.N from by dsimp only [dats]; rfl]
  unfold Inv Pipeline.ΦA
  rw [scopedRest0_eq]
  iintro ⟨HS, Hg, -⟩
  isplitl [HS]
  · ihave HS := (Scr_any m c grid0.N) $$ HS
    unfold Keep
    simp only [owns_whole]
    icases HS with ⟨%s, H0, H1, H2⟩
    isplitl [H0]; · iexists _; iexact H0
    isplitl [H1]; · iexists _; iexact H1
    iexists _; iexact H2
  iexact Hg

set_option backward.isDefEq.respectTransparency.types false in
theorem run_main : θ_run defs (onTc (τ := τ) (main (F := F))) (s₀ m ρ)
    (fun r => Pipeline.FramePost (Pipeline.pin (pcfgs (F := F)) adm) (dats m) 0 (V m) r ∧ r.2.sem = fun _ => 0) :=
  Pipeline.θ_run_frameP_track_shared (Q' := _) (pcfgs (F := F)) adm (dats m) (0 : Fin 1) launch0.to₀ defs₀ Variants.none m ρ main
    (hbody := fun c => (body_obligation m c).loose)
    (hq := fun c w hw => by dsimp only [dats]; exact if_neg (by rw [hw]; decide))
    (howed := fun _ _ => rfl) (V := V m) (hmain := hmain m) (hA := A_eq m) (hpf := V_tabs m) (hin := hin m) (hout := hout m)

theorem V_main_arg0 (c : Dev nD) : V m c main_arg0 = m ((c : Thread nD τ).loc main_arg0) := by unfold V; rfl
theorem V_main_arg1 (c : Dev nD) : V m c main_arg1 = m ((c : Thread nD τ).loc main_arg1) := by unfold V; rfl
theorem V_main_arg2 (c : Dev nD) : V m c main_arg2 = m ((c : Thread nD τ).loc main_arg2) := by unfold V; rfl

/-- After the run the arguments are as they were. -/
theorem post_args {r : PUnit × MemSt nD τ sig (Elt F)} (h : Pipeline.FramePost (Pipeline.pin (pcfgs (F := F)) adm) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (show main_arg0 ∈ Pipeline.restRefs sig spec0 from by decide)).trans (V_main_arg0 m c),
    ((h c).2 main_arg1 (show main_arg1 ∈ Pipeline.restRefs sig spec0 from by decide)).trans (V_main_arg1 m c),
    ((h c).2 main_arg2 (show main_arg2 ∈ Pipeline.restRefs sig spec0 from by decide)).trans (V_main_arg2 m c)⟩

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => post_args m h.1 c, h.2⟩) (run_main m ρ)

end Cert.FlashFwd

end
-- ==== Proof.FwdSame.lean ====
/- The printed kernel and its ideal form are one program: the rewriting changed nothing. So a run of the one, over any
   float values, is a run of the other. The pieces are compared one at a time: the body, the table of bodies, the
   stretches of host operations, and then the whole. -/
module

public import proofs.«01_k».proof.Proof.FwdFrame
public import proofs.«01_k».proof.Proof.Gen.Kernel20.Launch

@[expose] public section

namespace Cert.FlashFwd

open Idealize.ShloMosaic Idealize.ShloMosaic.TcCoe Idealize.SL.Sem

variable {F : FTy → Type} [FloatOps F]

theorem same_body : Cert.Kernel20.cc0_flash_fwd (F := F) = Cert.Kernel20Ideal.cc0_flash_fwd (F := F) := rfl

set_option maxHeartbeats 4000000 in
theorem same_bodies : (Cert.Kernel20.defs₀ : Defs _ _ _ (Elt F) _) = Cert.Kernel20Ideal.defs₀ (F := F) := by
  refine congrArg (Defs.onTc (nD := Cert.Kernel20Ideal.nD) (τ := Cert.Kernel20Ideal.τ) (sig := Cert.Kernel20Ideal.sig) (Val := Elt F) (Λ := Cert.Kernel20Ideal.Λ₀)) (funext fun l => ?_)
  match l with
  | 0 =>
    refine funext fun a => ?_
    show Cert.Kernel20.cc0_flash_fwd (F := F) _ _ _ _ _ _ _ _ _ _ _ _ _ _ _ _ _ _ _ _ _ = _
    rfl

set_option maxHeartbeats 1000000 in
theorem defs_eq_pipeline : Cert.Kernel20.defs (F := F) = Pipeline.defs (Cert.Kernel20Ideal.pcfgs (F := F)) Cert.Kernel20.defs₀ := rfl

set_option maxHeartbeats 1000000 in
theorem same_defs : Cert.Kernel20.defs (F := F) = Cert.Kernel20Ideal.defs (F := F) :=
  defs_eq_pipeline.trans (congrArg (Pipeline.defs (Cert.Kernel20Ideal.pcfgs (F := F))) same_bodies)

theorem same_host : (Cert.Kernel20.Gen.hostOps0 : List (HloOp _ _ (Elt F))) = Cert.Kernel20Ideal.Gen.hostOps0 (F := F) := rfl
theorem same_host_1 : (Cert.Kernel20.Gen.hostOps0_1 : List (HloOp _ _ (Elt F))) = Cert.Kernel20Ideal.Gen.hostOps0_1 (F := F) := rfl
theorem same_host_2 : (Cert.Kernel20.Gen.hostOps0_2 : List (HloOp _ _ (Elt F))) = Cert.Kernel20Ideal.Gen.hostOps0_2 (F := F) := rfl
theorem same_host_3 : (Cert.Kernel20.Gen.hostOps0_3 : List (HloOp _ _ (Elt F))) = Cert.Kernel20Ideal.Gen.hostOps0_3 (F := F) := rfl
theorem same_host_4 : (Cert.Kernel20.Gen.hostOps0_4 : List (HloOp _ _ (Elt F))) = Cert.Kernel20Ideal.Gen.hostOps0_4 (F := F) := rfl

/-- The programs of the ideal kernel's machine. -/
abbrev IdealProg (F : FTy → Type) [FloatOps F] :=
  Prog (TpuEff Cert.Kernel20Ideal.nD Cert.Kernel20Ideal.τ Cert.Kernel20Ideal.sig (Elt F) (Pipeline.Sig Cert.Kernel20Ideal.Λ₀ (Fin 1) fun p => (Cert.Kernel20Ideal.pcfgs (F := F) p).Adm) .tc) PUnit

theorem chain_congr (a0 a1 a2 a3 a4 b0 b1 b2 b3 b4 : List (HloOp Cert.Kernel20Ideal.τ Cert.Kernel20Ideal.sig (Elt F))) (x : IdealProg F)
    (h0 : a0 = b0) (h1 : a1 = b1) (h2 : a2 = b2) (h3 : a3 = b3) (h4 : a4 = b4) :
    (Pipeline.chain [StableHlo.seq a0, StableHlo.seq a1, StableHlo.seq a2, StableHlo.seq a3, StableHlo.seq a4, x] : IdealProg F)
      = Pipeline.chain [StableHlo.seq b0, StableHlo.seq b1, StableHlo.seq b2, StableHlo.seq b3, StableHlo.seq b4, x] := by
  subst_vars; rfl

set_option maxHeartbeats 1000000 in
theorem same_main (c : Dev Cert.Kernel20Ideal.nD) : Cert.Kernel20.main (F := F) c = Cert.Kernel20Ideal.main (F := F) c := by
  refine (Cert.Kernel20.Gen.main_chain c).trans (Eq.trans ?_ (Cert.Kernel20Ideal.Gen.main_chain c).symm)
  exact chain_congr _ _ _ _ _ _ _ _ _ _ _ same_host same_host_1 same_host_2 same_host_3 same_host_4

/-- A statement about the ideal kernel's runs holds of any program equal to it. -/
theorem θ_run_of_same (D : Defs Cert.Kernel20Ideal.nD Cert.Kernel20Ideal.τ Cert.Kernel20Ideal.sig (Elt F) (Pipeline.Sig Cert.Kernel20Ideal.Λ₀ (Fin 1) fun p => (Cert.Kernel20Ideal.pcfgs (F := F) p).Adm))
    (M : Dev Cert.Kernel20Ideal.nD → IdealProg F) (hD : D = Cert.Kernel20Ideal.defs (F := F)) (hM : ∀ c, M c = Cert.Kernel20Ideal.main (F := F) c) (s Q)
    (h : θ_run (Cert.Kernel20Ideal.defs (F := F)) (onTc (τ := Cert.Kernel20Ideal.τ) (Cert.Kernel20Ideal.main (F := F))) s Q) :
    θ_run D (onTc (τ := Cert.Kernel20Ideal.τ) M) s Q := by
  subst hD
  rw [show M = Cert.Kernel20Ideal.main (F := F) from funext hM]
  exact h

set_option maxHeartbeats 1000000 in
/-- The printed kernel ends with its arguments as they were and every counter at zero, as its ideal form does. -/
theorem frame_printed (m : (ℓ : Loc Cert.Kernel20.nD Cert.Kernel20.τ Cert.Kernel20.sig) → Buf (Elt F) ℓ) (ρ : Dev Cert.Kernel20.nD → PrngReg) :
    θ_run (Cert.Kernel20.defs (F := F)) (onTc (τ := Cert.Kernel20.τ) (Cert.Kernel20.main (F := F))) ⟨m, fun _ => 0, ρ⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0) :=
  θ_run_of_same (Cert.Kernel20.defs (F := F)) (Cert.Kernel20.main (F := F)) same_defs same_main _ _ (frame (F := F) m ρ)

end Cert.FlashFwd
-- ==== Proof.FwdRow.lean ====
/- One row of the forward attention kernel's running softmax, over the reals with infinities: whatever maximum the row has
   reached, its sum and its product are the plain sums of exponentials scaled down by it. -/
module

public import proofs.«01_k».proof.Proof.Spec

@[expose] public section

noncomputable section

namespace Cert.FlashFwd

open Idealize.ShloMosaic
open Cert.FlashBwd (coe_sum coe_div fold_real)

/-- The running maximum after a tile's scores `t`, -/
def stepM (t : Fin 1024 → EReal) (m : EReal) : EReal := max m (Finset.univ.fold max ⊥ t)
/-- the running sum, -/
def stepL (t : Fin 1024 → EReal) (m l : EReal) : EReal := Ideal.exp (m - stepM t m) * l + ∑ k, Ideal.exp (t k - stepM t m)
/-- and one entry of the running product. -/
def stepA (t v : Fin 1024 → EReal) (m a : EReal) : EReal := Ideal.exp (m - stepM t m) * a + ∑ k, Ideal.exp (t k - stepM t m) * v k

/-- A row of scores, some of them real and the others `-∞`, and their exponentials `w`. -/
structure Scores (t : Fin 1024 → EReal) (w : Fin 1024 → ℝ) : Prop where
  top : ∀ k, t k ≠ ⊤
  some : ∃ k, t k ≠ ⊥
  exp : ∀ k (M : ℝ), Ideal.exp (t k - (M : EReal)) = ((w k * Real.exp (-M) : ℝ) : EReal)

/-- What a row has come to: nothing yet, or `W` and `U` scaled down by its maximum. -/
def Row (m l a : EReal) (W U : ℝ) : Prop :=
  (m = ⊥ ∧ l = 0 ∧ a = 0 ∧ W = 0 ∧ U = 0)
  ∨ ∃ M : ℝ, m = (M : EReal) ∧ l = ((W * Real.exp (-M) : ℝ) : EReal) ∧ a = ((U * Real.exp (-M) : ℝ) : EReal)

theorem stepM_real {m l a : EReal} {W U : ℝ} (h : Row m l a W U) {t : Fin 1024 → EReal} {w : Fin 1024 → ℝ} (ht : Scores t w) :
    ∃ M : ℝ, stepM t m = (M : EReal) := by
  obtain ⟨k, hk⟩ := ht.some
  have hf := fold_real t k hk ht.top
  unfold stepM
  rw [hf]
  rcases h with ⟨h, -⟩ | ⟨M, h, -⟩
  · rw [h]
    exact ⟨_, max_eq_right bot_le⟩
  · rw [h]
    exact ⟨_, (EReal.coe_strictMono.monotone.map_max).symm⟩

theorem row_step {m l a : EReal} {W U : ℝ} (h : Row m l a W U) {t : Fin 1024 → EReal} {w : Fin 1024 → ℝ} (ht : Scores t w) (v : Fin 1024 → ℝ) :
    ∃ M : ℝ, stepM t m = (M : EReal) ∧ stepL t m l = (((W + ∑ k, w k) * Real.exp (-M) : ℝ) : EReal)
      ∧ stepA t (fun k => (v k : EReal)) m a = (((U + ∑ k, w k * v k) * Real.exp (-M) : ℝ) : EReal) := by
  obtain ⟨M, hM⟩ := stepM_real h ht
  refine ⟨M, hM, ?_, ?_⟩
  · unfold stepL
    rw [hM]
    simp only [ht.exp, coe_sum]
    rcases h with ⟨h, hl, -, hW, -⟩ | ⟨M0, h, hl, -⟩
    · rw [h, hl, hW, mul_zero, zero_add, zero_add, Finset.sum_mul]
    · rw [h, hl, ← EReal.coe_sub, Ideal.exp_coe, ← EReal.coe_mul, ← EReal.coe_add, add_mul, Finset.sum_mul, mul_left_comm, ← Real.exp_add]
      refine congrArg _ (congrArg (· + _) (congrArg (W * ·) (congrArg Real.exp ?_)))
      ring
  · unfold stepA
    rw [hM]
    simp only [ht.exp, ← EReal.coe_mul, coe_sum]
    have hs : ∑ k, w k * Real.exp (-M) * v k = (∑ k, w k * v k) * Real.exp (-M) := by
      rw [Finset.sum_mul]
      exact Finset.sum_congr rfl fun k _ => by ring
    rw [hs]
    rcases h with ⟨h, -, ha, -, hU⟩ | ⟨M0, h, -, ha⟩
    · rw [h, ha, hU, mul_zero, zero_add, zero_add]
    · rw [h, ha, ← EReal.coe_sub, Ideal.exp_coe, ← EReal.coe_mul, ← EReal.coe_add, add_mul, mul_left_comm, ← Real.exp_add]
      refine congrArg _ (congrArg (· + _) (congrArg (U * ·) (congrArg Real.exp ?_)))
      ring

/-- A tile more. -/
theorem Row.step {m l a : EReal} {W U : ℝ} (h : Row m l a W U) {t : Fin 1024 → EReal} {w : Fin 1024 → ℝ} (ht : Scores t w) (v : Fin 1024 → ℝ) :
    Row (stepM t m) (stepL t m l) (stepA t (fun k => (v k : EReal)) m a) (W + ∑ k, w k) (U + ∑ k, w k * v k) := Or.inr (row_step h ht v)

/-- After the last tile the quotient does not know the maximum, -/
theorem Row.quot {m l a : EReal} {W U : ℝ} (h : Row m l a W U) {t : Fin 1024 → EReal} {w : Fin 1024 → ℝ} (ht : Scores t w) (v : Fin 1024 → ℝ)
    (hp : 0 < W + ∑ k, w k) : Ideal.div (stepA t (fun k => (v k : EReal)) m a) (stepL t m l) = (((U + ∑ k, w k * v k) / (W + ∑ k, w k) : ℝ) : EReal) := by
  obtain ⟨M, -, hl, ha⟩ := row_step h ht v
  have he := Real.exp_pos (-M)
  rw [hl, ha, coe_div _ _ (mul_pos hp he).ne', mul_div_mul_right _ _ he.ne']

/-- nor does the row's log-sum. -/
theorem Row.logsum {m l a : EReal} {W U : ℝ} (h : Row m l a W U) {t : Fin 1024 → EReal} {w : Fin 1024 → ℝ} (ht : Scores t w)
    (hp : 0 < W + ∑ k, w k) : stepM t m + Ideal.log (stepL t m l) = ((Real.log (W + ∑ k, w k) : ℝ) : EReal) := by
  obtain ⟨M, hM, hl, -⟩ := row_step h ht fun _ => 0
  have he := Real.exp_pos (-M)
  rw [hM, hl, Ideal.log_coe, if_neg (not_le.2 (mul_pos hp he)), ← EReal.coe_add, Real.log_mul hp.ne' he.ne', Real.log_exp]
  refine congrArg _ ?_
  ring

section
variable (Q : Fin 4096 → Fin 8 → Fin 192 → ℝ) (K : Fin 4096 → Fin 8 → Fin 256 → ℝ) (R : Fin 4096 → Fin 64 → ℝ)
open Cert.FlashBwd (sR msk MR eR LR wR LR_pos)

/-- The exponential of a score under the causal mask. -/
def wt (h : Fin 8) (q k : Fin 4096) : ℝ := if k.val ≤ q.val then Real.exp (sR Q K R h q k) else 0

theorem eR_eq (h : Fin 8) (q k : Fin 4096) : eR Q K R h q k = wt Q K R h q k * Real.exp (-MR Q K R h q) := by
  unfold eR wt
  by_cases hk : k.val ≤ q.val
  · rw [if_pos hk, if_pos hk, ← Real.exp_add, sub_eq_add_neg]
  · rw [if_neg hk, if_neg hk, zero_mul]

theorem LR_eq (h : Fin 8) (q : Fin 4096) : LR Q K R h q = (∑ k, wt Q K R h q k) * Real.exp (-MR Q K R h q) := by
  unfold LR
  simp only [eR_eq, Finset.sum_mul]

theorem wt_pos (h : Fin 8) (q : Fin 4096) : 0 < ∑ k, wt Q K R h q k := by
  have := LR_pos Q K R h q
  rw [LR_eq] at this
  exact pos_of_mul_pos_left this (Real.exp_pos _).le

/-- The softmax average of the values, and the scores' log-sum. -/
theorem wR_sum (h : Fin 8) (q : Fin 4096) (v : Fin 4096 → ℝ) : ∑ k, v k * wR Q K R h q k = (∑ k, wt Q K R h q k * v k) / ∑ k, wt Q K R h q k := by
  have hp := (wt_pos Q K R h q).ne'
  have he := (Real.exp_pos (-MR Q K R h q)).ne'
  unfold wR
  rw [LR_eq, Finset.sum_div]
  refine Finset.sum_congr rfl fun k _ => ?_
  rw [eR_eq]
  field_simp

theorem lse_eq (h : Fin 8) (q : Fin 4096) : MR Q K R h q + Real.log (LR Q K R h q) = Real.log (∑ k, wt Q K R h q k) := by
  rw [LR_eq, Real.log_mul (wt_pos Q K R h q).ne' (Real.exp_pos _).ne', Real.log_exp]
  ring

theorem wt_upper (h : Fin 8) (q k : Fin 4096) (hk : q.val < k.val) : wt Q K R h q k = 0 := if_neg (by omega)
end

end Cert.FlashFwd

end
-- ==== Proof.FwdBlocks.lean ====
/- The forward attention launch's blocks at an entry, and in real numbers when the arguments are real. -/
module

public import proofs.«01_k».proof.Proof.FwdFrame
public import proofs.«01_k».proof.Proof.FwdRow
public import proofs.«01_k».proof.Proof.Unroll
public import Idealize.ShloMosaic.Lib.Pipeline.ValueKit

@[expose] public section

set_option maxRecDepth 16384

noncomputable section

namespace Cert.FlashFwd

open Idealize.ShloMosaic Idealize.ShloMosaic.TcCoe Idealize.ShloMosaic.Tactic Cert.Kernel20Ideal Cert.Kernel20Ideal.Gen
open Idealize.ShloMosaic.Pipeline (Dat Cfg Window)
open Cert.FlashBwd (row hQ hKV hQ2 hKr2 hKV_at hQ2_at hKr2_at Q2 R2)

theorem idx_0 : ∀ t : Fin grid0.N, (cfgA (F := Ideal).win 0).index t = ![qOf (t.val % 10), t.val / 10] := of_decide_eq_true (by sl_kernel_rfl)
theorem idx_1 : ∀ t : Fin grid0.N, (cfgA (F := Ideal).win 1).index t = ![kOf (t.val % 10), t.val / 10] := of_decide_eq_true (by sl_kernel_rfl)
theorem idx_2 : ∀ t : Fin grid0.N, (cfgA (F := Ideal).win 2).index t = ![kOf (t.val % 10), 0] := of_decide_eq_true (by sl_kernel_rfl)
theorem idx_3 : ∀ t : Fin grid0.N, (cfgA (F := Ideal).win 3).index t = ![qOf (t.val % 10), t.val / 10] := of_decide_eq_true (by sl_kernel_rfl)
theorem idx_4 : ∀ t : Fin grid0.N, (cfgA (F := Ideal).win 4).index t = ![qOf (t.val % 10), t.val / 10] := of_decide_eq_true (by sl_kernel_rfl)

/-- The query and key block of a step, and head `e` of a grid point's pair. -/
def qF (s : ℕ) : Fin 4 := ⟨qOf s % 4, Nat.mod_lt _ (by decide)⟩
def kF (s : ℕ) : Fin 4 := ⟨kOf s % 4, Nat.mod_lt _ (by decide)⟩
def hd (t : Fin grid0.N) (e : Fin 2) : Fin 8 := ⟨2 * (t.val / 10) + e.val, by have : t.val < 40 := t.isLt; omega⟩
theorem qF_val (s : ℕ) : (qF s).val = qOf s := Nat.mod_eq_of_lt (by unfold qOf; split_ifs <;> omega)
theorem kF_val {s : ℕ} (hs : s < 10) : (kF s).val = kOf s := Nat.mod_eq_of_lt (by unfold kOf; split_ifs <;> omega)

variable (m : (ℓ : Loc nD τ sig) → Buf (Elt Ideal) ℓ) (c : Dev nD)

abbrev A0 : FVec Ideal S4096x1536 .f32 := m ((c : Thread nD τ).loc main_arg0)
abbrev A1 : FVec Ideal S4096x2048 .f32 := m ((c : Thread nD τ).loc main_arg1)
abbrev A2 : FVec Ideal S4096x64 .f32 := m ((c : Thread nD τ).loc main_arg2)

theorem V_q2 : V m c main_v5 = hQ2 (hQ (A0 m c)) := by unfold V; rfl
theorem V_kr2 : V m c main_v7 = hKr2 (A2 m c) := by unfold V; rfl
theorem V_kv : V m c main_v8 = (truncf .bf16 (A1 m c) bitsLt_bf16_f32 : FVec Ideal S4096x2048 .bf16) := by unfold V; rfl

section
variable (t : Fin grid0.N)

theorem iblk_0 (r : Fin 1024) (e : Fin 2) (j : Fin 256) : iblk m c 0 t (ix2 r (⟨256 * e.val + j.val, by omega⟩ : Fin 512))
    = V m c main_v5 (ix2 (row (qF (t.val % 10)) r) (⟨(hd t e).val * 256 + j.val, by omega⟩ : Fin 2048)) := by
  have e := idx_0 t
  have hb := qF_val (t.val % 10)
  blk_ext [iblk, e, row, hd]
theorem iblk_1 (r : Fin 1024) (e : Fin 2) (j : Fin 256) : iblk m c 1 t (ix2 r (⟨256 * e.val + j.val, by omega⟩ : Fin 512))
    = V m c main_v8 (ix2 (row (kF (t.val % 10)) r) (⟨(hd t e).val * 256 + j.val, by omega⟩ : Fin 2048)) := by
  have e := idx_1 t
  have hb := kF_val (Nat.mod_lt t.val (by decide : 0 < 10))
  blk_ext [iblk, e, row, hd]
theorem iblk_2 (r : Fin 1024) (j : Fin 128) : iblk m c 2 t (ix2 r j) = V m c main_v7 (ix2 (row (kF (t.val % 10)) r) j) := by
  have e := idx_2 t
  have hb := kF_val (Nat.mod_lt t.val (by decide : 0 < 10))
  blk_ext [iblk, e, row, hd]
end

/-- The arguments on core `c` as real numbers: scaled queries, keys and values, rotated keys. -/
structure Lift (Q : Fin 4096 → Fin 8 → Fin 192 → ℝ) (K : Fin 4096 → Fin 8 → Fin 256 → ℝ) (R : Fin 4096 → Fin 64 → ℝ) : Prop where
  q : ∀ i h x, hQ (A0 m c) (ix3 i h x) = (Q i h x : EReal)
  kv : ∀ i h x, hKV (A1 m c) (ix3 i h x) = (K i h x : EReal)
  kr : ∀ i x, A2 m c (ix2 i x) = (R i x : EReal)

section
variable (t : Fin grid0.N) (Q : Fin 4096 → Fin 8 → Fin 192 → ℝ) (K : Fin 4096 → Fin 8 → Fin 256 → ℝ) (R : Fin 4096 → Fin 64 → ℝ)

theorem b0_at (H : Lift m c Q K R) (r : Fin 1024) (e : Fin 2) (j : Fin 256) : iblk m c 0 t (ix2 r (⟨256 * e.val + j.val, by omega⟩ : Fin 512))
    = (Q2 Q (row (qF (t.val % 10)) r) (hd t e) j : EReal) := by
  rw [iblk_0, V_q2]; exact hQ2_at _ Q H.q _ _ _
theorem b1_at (H : Lift m c Q K R) (r : Fin 1024) (e : Fin 2) (j : Fin 256) : iblk m c 1 t (ix2 r (⟨256 * e.val + j.val, by omega⟩ : Fin 512))
    = (K (row (kF (t.val % 10)) r) (hd t e) j : EReal) := by
  rw [iblk_1, V_kv, ← H.kv, hKV_at]; rfl
theorem b2_at (H : Lift m c Q K R) (r : Fin 1024) (j : Fin 128) : iblk m c 2 t (ix2 r j) = (R2 R (row (kF (t.val % 10)) r) j : EReal) := by
  rw [iblk_2, V_kr2]; exact hKr2_at _ R H.kr _ _
end

end Cert.FlashFwd

end
-- ==== Proof.FwdTile.lean ====
/- One step of the forward attention kernel at an entry: the tile's scores, masked or not, and the running maximum, sum and
   product of a row, as `stepM`, `stepL` and `stepA`. -/
module

public import proofs.«01_k».proof.Proof.FwdStep
public import proofs.«01_k».proof.Proof.FwdRow

@[expose] public section

set_option maxRecDepth 16384

noncomputable section

namespace Cert.FlashFwd

open Idealize.ShloMosaic Idealize.ShloMosaic.TcCoe Cert.Kernel20Ideal Cert.Kernel20Ideal.Gen
open Cert.FlashBwd (negInf addi_ofNat select_sge)

section
variable (S : FVec Ideal S1024x1024 .f32) (m l : FVec Ideal S1x1024x1 .f32) (v : FVec Ideal S1024x128 .bf16) (a : FVec Ideal S1x1024x128 .f32)

/-- The new maximum of a tile's scores, -/
def gM : FVec Ideal S1024x1 .f32 :=
  maximumf (k0_pay18 m) (shapeCast S1024x1 (multiReduction .maximumf [1] S1024 S 0xFF800000#32 reduces_S1024x1024_S1024 (.inl rfl) rfl) shapeCasts_S1024_S1024x1)
/-- the new sum, -/
def gL : FVec Ideal S1024x1 .f32 := k0_pay22 S (k0_pay18 m) (gM S m) l
/-- and the new product. -/
def gA : FVec Ideal S1024x128 .f32 :=
  addf (mulf (broadcastTo S1024x128 (k0_pay20 (k0_pay18 m) (gM S m)) broadcasts_S1024x1_S1024x128) (k0_pay28 a))
    (matmul dot_S1024x1024_S1024x128_S1024x128_1_0_0_1_n_n none (k0_pay23 S (gM S m)) (k0_pay27 v) (constant S1024x128 .f32 0x00000000#32))

theorem gM_at (r : Fin 1024) (z : Fin 1) : gM S m (ix2 r z) = stepM (fun k => S (ix2 r k)) (m (ix3 0 r 0)) := by
  pointwise [gM, k0_pay18]
  unfold stepM
  rw [negInf]
theorem gL_at (r : Fin 1024) (z : Fin 1) : gL S m l (ix2 r z) = stepL (fun k => S (ix2 r k)) (m (ix3 0 r 0)) (l (ix3 0 r 0)) := by
  pointwise [gL, k0_pay22, k0_pay20, k0_pay21, k0_pay18]
  simp only [gM_at]
  rfl
theorem gA_at (r : Fin 1024) (d : Fin 128) : gA S m v a (ix2 r d)
    = stepA (fun k => S (ix2 r k)) (fun k => v (ix2 k d)) (m (ix3 0 r 0)) (a (ix3 0 r d)) := by
  pointwise [gA, k0_pay20, k0_pay21, k0_pay23, k0_pay18, k0_pay27, k0_pay28]
  simp only [gM_at]
  rfl
end

section
variable (x4 x5 : FVec Ideal S1024x512 .bf16) (x6 : FVec Ideal S1024x128 .bf16) (m l : FVec Ideal S2x1024x1 .f32) (a : FVec Ideal S2x1024x128 .f32)

/-- The score of query row `r` and key row `k` in the pair's head `h`, -/
def sc (h : Fin 2) (r k : Fin 1024) : EReal :=
  ∑ x : Fin 128, x4 (ix2 r (⟨256 * h.val + x.val, by omega⟩ : Fin 512)) * x5 (ix2 k (⟨256 * h.val + x.val, by omega⟩ : Fin 512))
    + ∑ x : Fin 128, x4 (ix2 r (⟨256 * h.val + (128 + x.val), by omega⟩ : Fin 512)) * x6 (ix2 k x)
/-- and under the causal mask of a tile on the diagonal. -/
def scM (h : Fin 2) (r k : Fin 1024) : EReal := if k.val ≤ r.val then sc x4 x5 x6 h r k else ⊥
/-- The pair's values. -/
def vl (h : Fin 2) (d : Fin 128) (k : Fin 1024) : EReal := x5 (ix2 k (⟨256 * h.val + (128 + d.val), by omega⟩ : Fin 512))

theorem sc0_at (r k : Fin 1024) : k0_pay10 (F := Ideal) x6 (kn0 x5) (q0 x4) (ix2 r k) = sc x4 x5 x6 0 r k := by
  pointwise [k0_pay10, k0_pay9, kn0, q0]
  unfold sc
  simp
theorem sc1_at (r k : Fin 1024) : k0_pay11 (F := Ideal) x6 (kn1 x5) (q1 x4) (ix2 r k) = sc x4 x5 x6 1 r k := by
  pointwise [k0_pay11, k0_pay9, kn1, q1]
  unfold sc
  simp
theorem scM0_at (r k : Fin 1024) : k0_pay31 (F := Ideal) x6 (kn0 x5) (q0 x4) (ix2 r k) = scM x4 x5 x6 0 r k := by
  have h : k0_pay31 (F := Ideal) x6 (kn0 x5) (q0 x4) (ix2 r k) = k0_pay38 (k0_pay10 (F := Ideal) x6 (kn0 x5) (q0 x4)) (ix2 r k) := rfl
  rw [h]
  pointwise [k0_pay38]
  rw [addi_ofNat, select_sge _ _ _ _ (by omega) (by omega), negInf, sc0_at]
  rfl
theorem scM1_at (r k : Fin 1024) : k0_pay38 (F := Ideal) (k0_pay30 x6 (kn1 x5) (q1 x4)) (ix2 r k) = scM x4 x5 x6 1 r k := by
  have h : k0_pay30 (F := Ideal) x6 (kn1 x5) (q1 x4) = k0_pay11 x6 (kn1 x5) (q1 x4) := rfl
  rw [h]
  pointwise [k0_pay38]
  rw [addi_ofNat, select_sge _ _ _ _ (by omega) (by omega), negInf, sc1_at]
  rfl

theorem vv0_at (k : Fin 1024) (d : Fin 128) : vv0 (F := Ideal) x5 (ix2 k d) = vl x5 0 d k := by
  pointwise [vv0]
  unfold vl
  simp
theorem vv1_at (k : Fin 1024) (d : Fin 128) : vv1 (F := Ideal) x5 (ix2 k d) = vl x5 1 d k := by
  pointwise [vv1]
  unfold vl
  refine congrArg x5 (congrArg (ix2 k) (Fin.ext ?_))
  simp only []
  omega

theorem pay26_at (w : FVec Ideal S1024x1 .f32) (r : Fin 1024) : k0_pay26 (F := Ideal) w (ix3 0 r 0) = w (ix2 r 0) := by pointwise [k0_pay26]
theorem castA_at (w : FVec Ideal S1024x128 .f32) (r : Fin 1024) (d : Fin 128) :
    shapeCast S1x1024x128 w shapeCasts_S1024x128_S1x1024x128 (ix3 0 r d) = w (ix2 r d) := by pointwise

theorem mP_at (h : Fin 2) (r : Fin 1024) : mP (F := Ideal) x4 x5 x6 m (ix3 h r 0) = stepM (sc x4 x5 x6 h r) (m (ix3 h r 0)) := by
  match h with
  | 0 => exact (pay26_at (gM (k0_pay10 x6 (kn0 x5) (q0 x4)) (half (F := Ideal) 0 m)) r).trans ((gM_at ..).trans (by simp only [sc0_at]; rfl))
  | 1 => exact (pay26_at (gM (k0_pay11 x6 (kn1 x5) (q1 x4)) (half (F := Ideal) 1 m)) r).trans ((gM_at ..).trans (by simp only [sc1_at]; rfl))
theorem lP_at (h : Fin 2) (r : Fin 1024) : lP (F := Ideal) x4 x5 x6 m l (ix3 h r 0) = stepL (sc x4 x5 x6 h r) (m (ix3 h r 0)) (l (ix3 h r 0)) := by
  match h with
  | 0 => exact (pay26_at (gL (k0_pay10 x6 (kn0 x5) (q0 x4)) (half (F := Ideal) 0 m) (half (F := Ideal) 0 l)) r).trans ((gL_at ..).trans (by simp only [sc0_at]; rfl))
  | 1 => exact (pay26_at (gL (k0_pay11 x6 (kn1 x5) (q1 x4)) (half (F := Ideal) 1 m) (half (F := Ideal) 1 l)) r).trans ((gL_at ..).trans (by simp only [sc1_at]; rfl))
theorem aP_at (h : Fin 2) (r : Fin 1024) (d : Fin 128) : aP (F := Ideal) x4 x5 x6 m a (ix3 h r d)
    = stepA (sc x4 x5 x6 h r) (vl x5 h d) (m (ix3 h r 0)) (a (ix3 h r d)) := by
  match h with
  | 0 => exact (castA_at (gA (k0_pay10 x6 (kn0 x5) (q0 x4)) (half (F := Ideal) 0 m) (vv0 (F := Ideal) x5) (halfA (F := Ideal) 0 a)) r d).trans ((gA_at ..).trans (by simp only [sc0_at, vv0_at]; rfl))
  | 1 => exact (castA_at (gA (k0_pay11 x6 (kn1 x5) (q1 x4)) (half (F := Ideal) 1 m) (vv1 (F := Ideal) x5) (halfA (F := Ideal) 1 a)) r d).trans ((gA_at ..).trans (by simp only [sc1_at, vv1_at]; rfl))

theorem quot_at (p : FVec Ideal S1024x128 .f32) (w : FVec Ideal S1024x1 .f32) (r : Fin 1024) (d : Fin 128) :
    divf p (broadcastTo S1024x128 w broadcasts_S1024x1_S1024x128) (ix2 r d) = Ideal.div (p (ix2 r d)) (w (ix2 r 0)) := by pointwise
theorem lse_at (p w : FVec Ideal S1024x1 .f32) (r : Fin 1024) (d : Fin 128) :
    k0_pay46 (F := Ideal) p w (ix2 r d) = p (ix2 r 0) + Ideal.log (w (ix2 r 0)) := by pointwise [k0_pay46]

theorem twoO_at0 (p w : FVec Ideal S1024x128 .f32) (r : Fin 1024) (d : Fin 128) : twoO (F := Ideal) p w (ix2 r (⟨128 * (0 : Fin 2).val + d.val, by omega⟩ : Fin 256)) = p (ix2 r d) := by
  refine (dif_pos (show 128 * 0 + d.val < 128 by omega)).trans ?_
  exact congrArg p (congrArg (ix2 r) (Fin.ext (by show 128 * 0 + d.val = d.val; omega)))
theorem twoO_at1 (p w : FVec Ideal S1024x128 .f32) (r : Fin 1024) (d : Fin 128) : twoO (F := Ideal) p w (ix2 r (⟨128 * (1 : Fin 2).val + d.val, by omega⟩ : Fin 256)) = w (ix2 r d) := by
  refine (dif_neg (show ¬ 128 * 1 + d.val < 128 by omega)).trans ?_
  exact congrArg w (congrArg (ix2 r) (Fin.ext (by show 128 * 1 + d.val - 128 = d.val; omega)))

theorem oM_at (h : Fin 2) (r : Fin 1024) (d : Fin 128) : oM (F := Ideal) x4 x5 x6 m l a (ix2 r (⟨128 * h.val + d.val, by omega⟩ : Fin 256))
    = Ideal.div (stepA (scM x4 x5 x6 h r) (vl x5 h d) (m (ix3 h r 0)) (a (ix3 h r d))) (stepL (scM x4 x5 x6 h r) (m (ix3 h r 0)) (l (ix3 h r 0))) := by
  match h with
  | 0 =>
    refine (twoO_at0 _ _ r d).trans ((quot_at (gA (k0_pay31 x6 (kn0 x5) (q0 x4)) (half (F := Ideal) 0 m) (vv0 (F := Ideal) x5) (halfA (F := Ideal) 0 a)) (gL (k0_pay31 x6 (kn0 x5) (q0 x4)) (half (F := Ideal) 0 m) (half (F := Ideal) 0 l)) r d).trans ?_)
    rw [gA_at, gL_at]
    simp only [scM0_at, vv0_at]
    rfl
  | 1 =>
    refine (twoO_at1 _ _ r d).trans ((quot_at (gA (k0_pay38 (k0_pay30 x6 (kn1 x5) (q1 x4))) (half (F := Ideal) 1 m) (vv1 (F := Ideal) x5) (halfA (F := Ideal) 1 a)) (gL (k0_pay38 (k0_pay30 x6 (kn1 x5) (q1 x4))) (half (F := Ideal) 1 m) (half (F := Ideal) 1 l)) r d).trans ?_)
    rw [gA_at, gL_at]
    simp only [scM1_at, vv1_at]
    rfl
theorem lseM_at (h : Fin 2) (r : Fin 1024) (d : Fin 128) : lseM (F := Ideal) x4 x5 x6 m l (ix2 r (⟨128 * h.val + d.val, by omega⟩ : Fin 256))
    = stepM (scM x4 x5 x6 h r) (m (ix3 h r 0)) + Ideal.log (stepL (scM x4 x5 x6 h r) (m (ix3 h r 0)) (l (ix3 h r 0))) := by
  match h with
  | 0 =>
    refine (twoO_at0 _ _ r d).trans ((lse_at (gM (k0_pay31 x6 (kn0 x5) (q0 x4)) (half (F := Ideal) 0 m)) (gL (k0_pay31 x6 (kn0 x5) (q0 x4)) (half (F := Ideal) 0 m) (half (F := Ideal) 0 l)) r d).trans ?_)
    rw [gM_at, gL_at]
    simp only [scM0_at]
    rfl
  | 1 =>
    refine (twoO_at1 _ _ r d).trans ((lse_at (gM (k0_pay38 (k0_pay30 x6 (kn1 x5) (q1 x4))) (half (F := Ideal) 1 m)) (gL (k0_pay38 (k0_pay30 x6 (kn1 x5) (q1 x4))) (half (F := Ideal) 1 m) (half (F := Ideal) 1 l)) r d).trans ?_)
    rw [gM_at, gL_at]
    simp only [scM1_at]
    rfl

theorem init_m (h : Fin 2) (r : Fin 1024) : k0_pay1 (F := Ideal) (ix3 h r 0) = (⊥ : EReal) := by
  pointwise [k0_pay1]
  exact negInf
theorem init_l (h : Fin 2) (r : Fin 1024) : k0_pay2 (F := Ideal) (ix3 h r 0) = (0 : EReal) := by
  pointwise [k0_pay2]
theorem init_a (h : Fin 2) (r : Fin 1024) (d : Fin 128) : k0_pay3 (F := Ideal) (ix3 h r d) = (0 : EReal) := by
  pointwise [k0_pay3]
end

end Cert.FlashFwd

end
-- ==== Proof.FwdState.lean ====
/- The running maximum, sum and product of the forward attention before each step, by induction on the steps,
   and the two blocks of results at the last. -/
module

public import proofs.«01_k».proof.Proof.FwdBlocks
public import proofs.«01_k».proof.Proof.FwdTile

@[expose] public section

set_option maxRecDepth 16384

noncomputable section

namespace Cert.FlashFwd

open Idealize.ShloMosaic Idealize.ShloMosaic.TcCoe Idealize.ShloMosaic.Tactic Cert.Kernel20Ideal Cert.Kernel20Ideal.Gen
open Idealize.ShloMosaic.Pipeline (Dat Cfg Window)
open Cert.FlashBwd (row sR msk MR LR wR Q2 R2 score_pad sum_rows)

/-! ## The order of the steps -/

theorem order : ∀ n : Fin 39, kOf ((n.val + 1) % 10) ≠ 0 → kOf ((n.val + 1) % 10) = kOf (n.val % 10) + 1 ∧ qOf ((n.val + 1) % 10) = qOf (n.val % 10)
    ∧ kOf (n.val % 10) < qOf (n.val % 10) ∧ (n.val + 1) / 10 = n.val / 10 := by decide

/-- The blocks before the `n`-th, summed. -/
def upto (f : Fin 4 → ℝ) (n : ℕ) : ℝ := ∑ b : Fin 4, if b.val < n then f b else 0
theorem upto_zero (f : Fin 4 → ℝ) : upto f 0 = 0 := Finset.sum_eq_zero fun b _ => if_neg (Nat.not_lt_zero _)
theorem upto_succ (f : Fin 4 → ℝ) (b : Fin 4) : upto f b.val + f b = upto f (b.val + 1) := by
  have h (a : Fin 4) : (if a.val < b.val + 1 then f a else 0) = (if a.val < b.val then f a else 0) + (if a = b then f a else 0) := by
    by_cases h1 : a = b
    · subst h1; simp
    · have h2 : a.val ≠ b.val := fun h => h1 (Fin.ext h)
      rw [if_neg h1, add_zero]
      exact if_congr (by omega) rfl rfl
  unfold upto
  simp only [h, Finset.sum_add_distrib, Finset.sum_ite_eq', Finset.mem_univ, if_true]
theorem upto_all (f : Fin 4 → ℝ) (n : ℕ) (h : ∀ b : Fin 4, n ≤ b.val → f b = 0) : upto f n = ∑ b, f b :=
  Finset.sum_congr rfl fun b _ => by
    by_cases hb : b.val < n
    · rw [if_pos hb]
    · rw [if_neg hb, h b (by omega)]

section
variable (m : (ℓ : Loc nD τ sig) → Buf (Elt Ideal) ℓ) (c : Dev nD) (Q : Fin 4096 → Fin 8 → Fin 192 → ℝ)
  (K : Fin 4096 → Fin 8 → Fin 256 → ℝ) (R : Fin 4096 → Fin 64 → ℝ)

theorem scores_msk (h : Fin 8) (q : Fin 4096) (b : Fin 4) (hb : (row b 0).val ≤ q.val) :
    Scores (fun k => msk Q K R h q (row b k)) (fun k => wt Q K R h q (row b k)) where
  top k := by
    unfold msk
    split_ifs
    · exact EReal.coe_ne_top _
    · exact bot_ne_top
  some := ⟨0, by unfold msk; rw [if_pos hb]; exact EReal.coe_ne_bot _⟩
  exp k M := by
    unfold msk wt
    split_ifs
    · rw [← EReal.coe_sub, Ideal.exp_coe, sub_eq_add_neg, Real.exp_add]
    · rw [zero_mul, EReal.bot_sub]; exact Ideal.exp_bot

section
variable (t : Fin grid0.N)

theorem sc_at (H : Lift m c Q K R) (e : Fin 2) (r k : Fin 1024) : sc (iblk m c 0 t) (iblk m c 1 t) (iblk m c 2 t) e r k
    = (sR Q K R (hd t e) (row (qF (t.val % 10)) r) (row (kF (t.val % 10)) k) : EReal) := by
  rw [← score_pad, EReal.coe_add, ← Cert.FlashBwd.coe_sum, ← Cert.FlashBwd.coe_sum]
  unfold sc
  refine congrArg₂ (· + ·) (Finset.sum_congr rfl fun x _ => ?_) (Finset.sum_congr rfl fun x _ => ?_)
  · rw [EReal.coe_mul]
    exact congrArg₂ (· * ·) (b0_at m c t Q K R H r e ⟨x.val, by omega⟩) (b1_at m c t Q K R H k e ⟨x.val, by omega⟩)
  · rw [EReal.coe_mul]
    exact congrArg₂ (· * ·) (b0_at m c t Q K R H r e ⟨128 + x.val, by omega⟩) (b2_at m c t Q K R H k x)

/-- A tile before the diagonal has every score, -/
theorem plain_eq (H : Lift m c Q K R) (hlt : kOf (t.val % 10) < qOf (t.val % 10)) (e : Fin 2) (r : Fin 1024) :
    sc (iblk m c 0 t) (iblk m c 1 t) (iblk m c 2 t) e r = fun k => msk Q K R (hd t e) (row (qF (t.val % 10)) r) (row (kF (t.val % 10)) k) := by
  funext k
  have h1 := qF_val (t.val % 10)
  have h2 := kF_val (Nat.mod_lt t.val (by decide : 0 < 10))
  rw [sc_at m c Q K R t H]
  unfold msk
  rw [if_pos (by unfold row; simp only []; omega)]
/-- one on the diagonal those of the keys up to the query. -/
theorem diag_eq (H : Lift m c Q K R) (heq : kOf (t.val % 10) = qOf (t.val % 10)) (e : Fin 2) (r : Fin 1024) :
    scM (iblk m c 0 t) (iblk m c 1 t) (iblk m c 2 t) e r = fun k => msk Q K R (hd t e) (row (qF (t.val % 10)) r) (row (kF (t.val % 10)) k) := by
  funext k
  have h1 := qF_val (t.val % 10)
  have h2 := kF_val (Nat.mod_lt t.val (by decide : 0 < 10))
  unfold scM msk
  rw [sc_at m c Q K R t H]
  exact if_congr (by unfold row; simp only []; omega) rfl rfl
theorem vl_eq (H : Lift m c Q K R) (e : Fin 2) (d : Fin 128) :
    vl (iblk m c 1 t) e d = fun k => (K (row (kF (t.val % 10)) k) (hd t e) ⟨128 + d.val, by omega⟩ : EReal) := by
  funext k
  exact b1_at m c t Q K R H k e ⟨128 + d.val, by omega⟩

theorem first_le (h : kOf (t.val % 10) ≤ qOf (t.val % 10)) (r : Fin 1024) : (row (kF (t.val % 10)) 0).val ≤ (row (qF (t.val % 10)) r).val := by
  have h1 := qF_val (t.val % 10)
  have h2 := kF_val (Nat.mod_lt t.val (by decide : 0 < 10))
  unfold row
  simp only [Fin.val_zero]
  omega

/-- A key block's weights for a query row, and its weighted values. -/
def wB (h : Fin 8) (q : Fin 4096) (b : Fin 4) : ℝ := ∑ k, wt Q K R h q (row b k)
def uB (h : Fin 8) (q : Fin 4096) (d : Fin 128) (b : Fin 4) : ℝ := ∑ k, wt Q K R h q (row b k) * K (row b k) h ⟨128 + d.val, by omega⟩

/-- The state a step works on. -/
abbrev pre (t : Fin grid0.N) : St Ideal := initSt (kOf (t.val % 10) = 0) (st m c st0 t.val)
/-- Query row `r` of the step's block, in head `e` of the pair. -/
def RowAt (s : St Ideal) (n : ℕ) (e : Fin 2) (r : Fin 1024) (d : Fin 128) : Prop :=
  Row (s.1 (ix3 e r 0)) (s.2.1 (ix3 e r 0)) (s.2.2 (ix3 e r d))
    (upto (wB Q K R (hd t e) (row (qF (t.val % 10)) r)) n) (upto (uB Q K R (hd t e) (row (qF (t.val % 10)) r) d) n)

theorem row_init (s : St Ideal) (h : kOf (t.val % 10) = 0) (e : Fin 2) (r : Fin 1024) (d : Fin 128) :
    RowAt Q K R t (initSt (kOf (t.val % 10) = 0) s) (kOf (t.val % 10)) e r d := by
  unfold RowAt initSt
  rw [if_pos h, h, upto_zero, upto_zero]
  exact Or.inl ⟨init_m e r, init_l e r, init_a e r d, rfl, rfl⟩

/-- A key block before the query block is added. -/
theorem row_plain (H : Lift m c Q K R) (hlt : kOf (t.val % 10) < qOf (t.val % 10)) (s : St Ideal) (e : Fin 2) (r : Fin 1024) (d : Fin 128)
    (h : RowAt Q K R t s (kOf (t.val % 10)) e r d) :
    RowAt Q K R t (plainSt (iblk m c 0 t) (iblk m c 1 t) (iblk m c 2 t) (kOf (t.val % 10) < qOf (t.val % 10)) s) (kOf (t.val % 10) + 1) e r d := by
  have h2 := kF_val (Nat.mod_lt t.val (by decide : 0 < 10))
  unfold RowAt at h ⊢
  unfold plainSt
  rw [if_pos hlt, ← h2, ← upto_succ, ← upto_succ, h2]
  simp only [mP_at, lP_at, aP_at, plain_eq m c Q K R t H hlt, vl_eq m c Q K R t H]
  exact h.step (scores_msk Q K R (hd t e) _ _ (first_le t hlt.le r)) fun k => K (row (kF (t.val % 10)) k) (hd t e) ⟨128 + d.val, by omega⟩
end

/-- Before every step each row holds the key blocks before the step's. -/
theorem row_pre (H : Lift m c Q K R) (e : Fin 2) (r : Fin 1024) (d : Fin 128) :
    ∀ (n : ℕ) (hn : n < 40), RowAt Q K R ⟨n, hn⟩ (pre m c ⟨n, hn⟩) (kOf (n % 10)) e r d
  | 0, hn => row_init Q K R ⟨0, hn⟩ _ rfl e r d
  | n + 1, hn => by
    by_cases h0 : kOf ((n + 1) % 10) = 0
    · exact row_init Q K R ⟨n + 1, hn⟩ _ h0 e r d
    · obtain ⟨hk, hq, hlt, hp⟩ := order ⟨n, by omega⟩ h0
      have hn' : n < 40 := by omega
      have h := row_plain m c Q K R ⟨n, hn'⟩ H hlt _ e r d (row_pre H e r d n hn')
      have hs : st m c st0 (n + 1) = _ := st_succ m c st0 ⟨n, hn'⟩
      have hh : hd ⟨n + 1, hn⟩ e = hd ⟨n, hn'⟩ e := Fin.ext (by unfold hd; simp only [] at hp ⊢; rw [hp])
      unfold RowAt at h ⊢
      unfold pre initSt
      simp only [] at hk hq
      have hqF : qF ((n + 1) % 10) = qF (n % 10) := Fin.ext (by rw [qF_val, qF_val, hq])
      simp only [if_neg h0]
      rw [hs, hh, hk, hqF]
      exact h

/-! ## The last step of a query block -/

section
variable (t : Fin grid0.N) (H : Lift m c Q K R) (heq : kOf (t.val % 10) = qOf (t.val % 10)) (e : Fin 2) (r : Fin 1024) (d : Fin 128)
include heq

theorem st_last : st m c st0 (t.val + 1) = pre m c t := by
  rw [st_succ]
  unfold stepSt plainSt
  exact if_neg (by omega)

/-- No key block after the query's has weight. -/
theorem wt_after (h : Fin 8) (b : Fin 4) (hb : kOf (t.val % 10) + 1 ≤ b.val) (k : Fin 1024) : wt Q K R h (row (qF (t.val % 10)) r) (row b k) = 0 := by
  have h1 := qF_val (t.val % 10)
  exact wt_upper Q K R h _ _ (by unfold row; simp only []; omega)

theorem w_all (h : Fin 8) : upto (wB Q K R h (row (qF (t.val % 10)) r)) (kOf (t.val % 10)) + wB Q K R h (row (qF (t.val % 10)) r) (kF (t.val % 10))
    = ∑ k, wt Q K R h (row (qF (t.val % 10)) r) k := by
  have h2 := kF_val (Nat.mod_lt t.val (by decide : 0 < 10))
  rw [← h2, upto_succ, upto_all (wB Q K R h (row (qF (t.val % 10)) r)) _ fun b hb => Finset.sum_eq_zero fun k _ => wt_after Q K R t heq r h b (by omega) k]
  exact sum_rows fun k => wt Q K R h (row (qF (t.val % 10)) r) k
theorem u_all (h : Fin 8) : upto (uB Q K R h (row (qF (t.val % 10)) r) d) (kOf (t.val % 10)) + uB Q K R h (row (qF (t.val % 10)) r) d (kF (t.val % 10))
    = ∑ k, wt Q K R h (row (qF (t.val % 10)) r) k * K k h ⟨128 + d.val, by omega⟩ := by
  have h2 := kF_val (Nat.mod_lt t.val (by decide : 0 < 10))
  rw [← h2, upto_succ, upto_all (uB Q K R h (row (qF (t.val % 10)) r) d) _ fun b hb => Finset.sum_eq_zero fun k _ => by rw [wt_after Q K R t heq r h b (by omega) k, zero_mul]]
  exact sum_rows fun k => wt Q K R h (row (qF (t.val % 10)) r) k * K k h ⟨128 + d.val, by omega⟩

include H

/-- The values averaged under the row's weights, -/
theorem o_last : oM (iblk m c 0 t) (iblk m c 1 t) (iblk m c 2 t) (st m c st0 (t.val + 1)).1 (st m c st0 (t.val + 1)).2.1 (st m c st0 (t.val + 1)).2.2
      (ix2 r (⟨128 * e.val + d.val, by omega⟩ : Fin 256))
    = ((∑ k, K k (hd t e) ⟨128 + d.val, by omega⟩ * wR Q K R (hd t e) (row (qF (t.val % 10)) r) k : ℝ) : EReal) := by
  have h := row_pre m c Q K R H e r d t.val t.isLt
  unfold RowAt at h
  have hs := scores_msk Q K R (hd t e) _ _ (first_le t heq.le r)
  have hw := w_all Q K R t heq r (hd t e)
  have hu := u_all Q K R t heq r d (hd t e)
  have h3 := h.quot hs (fun k => K (row (kF (t.val % 10)) k) (hd t e) ⟨128 + d.val, by omega⟩)
    (lt_of_lt_of_eq (wt_pos Q K R (hd t e) (row (qF (t.val % 10)) r)) hw.symm)
  rw [oM_at, st_last m c t heq, diag_eq m c Q K R t H heq, vl_eq m c Q K R t H, wR_sum Q K R _ _ fun k => K k (hd t e) ⟨128 + d.val, by omega⟩, ← hw, ← hu]
  exact h3

/-- and the logarithm of their sum. -/
theorem lse_last : lseM (iblk m c 0 t) (iblk m c 1 t) (iblk m c 2 t) (st m c st0 (t.val + 1)).1 (st m c st0 (t.val + 1)).2.1
      (ix2 r (⟨128 * e.val + d.val, by omega⟩ : Fin 256))
    = ((MR Q K R (hd t e) (row (qF (t.val % 10)) r) + Real.log (LR Q K R (hd t e) (row (qF (t.val % 10)) r)) : ℝ) : EReal) := by
  have h := row_pre m c Q K R H e r d t.val t.isLt
  unfold RowAt at h
  have hs := scores_msk Q K R (hd t e) _ _ (first_le t heq.le r)
  have hw := w_all Q K R t heq r (hd t e)
  have h3 := h.logsum hs (lt_of_lt_of_eq (wt_pos Q K R (hd t e) (row (qF (t.val % 10)) r)) hw.symm)
  rw [lseM_at, st_last m c t heq, diag_eq m c Q K R t H heq, lse_eq, ← hw]
  exact h3
end
end

end Cert.FlashFwd

end
-- ==== Proof.FwdOut.lean ====
/- The two output arrays of the forward attention's launch: any arrays with the averages and the log-sums as entries. -/
module

public import proofs.«01_k».proof.Proof.FwdState

@[expose] public section

set_option maxRecDepth 16384

noncomputable section

namespace Cert.FlashFwd

open Idealize.ShloMosaic Idealize.ShloMosaic.TcCoe Idealize.ShloMosaic.Tactic Cert.Kernel20Ideal Cert.Kernel20Ideal.Gen
open Idealize.ShloMosaic.Pipeline (Dat Cfg Window)
open Cert.FlashBwd (row MR LR wR)

/-- A column of a pair's block lies in one of its two heads. -/
theorem col_eq (j : Fin 256) : ∃ (e : Fin 2) (d : Fin 128), j = ⟨128 * e.val + d.val, by omega⟩ :=
  ⟨⟨j.val / 128, by omega⟩, ⟨j.val % 128, Nat.mod_lt _ (by decide)⟩, Fin.ext (by dsimp only; omega)⟩

section
variable (m : (ℓ : Loc nD τ sig) → Buf (Elt Ideal) ℓ) (c : Dev nD) (Q : Fin 4096 → Fin 8 → Fin 192 → ℝ)
  (K : Fin 4096 → Fin 8 → Fin 256 → ℝ) (R : Fin 4096 → Fin 64 → ℝ)

theorem out3 (H : Lift m c Q K R) (G : FVec Ideal S4096x1024 .f32)
    (hG : ∀ (i : Fin 4096) (h : Fin 8) (d : Fin 128), G (ix2 i (⟨h.val * 128 + d.val, by omega⟩ : Fin 1024))
      = ((∑ k, K k h ⟨128 + d.val, by omega⟩ * wR Q K R h i k : ℝ) : EReal)) :
    (dats m 0 c).arrAt 3 (cfgA (F := Ideal)).N = G := by
  refine (dats m 0 c).arrAt_eq_of_covers 3 G (by decide +kernel) fun t hf y => ?_
  have e := idx_3 t
  have hq := qF_val (t.val % 10)
  rw [flush_3, beq_iff_eq] at hf
  blk_simp [e]
  rw [after_3]
  have hy (r : Fin 1024) (j : Fin 256) : oM (iblk m c 0 t) (iblk m c 1 t) (iblk m c 2 t) (st m c st0 (t.val + 1)).1 (st m c st0 (t.val + 1)).2.1
      (st m c st0 (t.val + 1)).2.2 (ix2 r j) = G (((cfgA (F := Ideal).win 3).blk t).view.emb (ix2 r j)) := by
    obtain ⟨a, d, rfl⟩ := col_eq j
    have h1 := o_last m c Q K R t H hf a r d
    rw [← hG] at h1
    refine h1.trans (congrArg G ?_)
    blk_ext [e, hd, row]
  rw [eq_ix2 (n0 := 1024) (n1 := 256) y]
  exact hy _ _

theorem out4 (H : Lift m c Q K R) (G : FVec Ideal S4096x1024 .f32)
    (hG : ∀ (i : Fin 4096) (h : Fin 8) (d : Fin 128), G (ix2 i (⟨h.val * 128 + d.val, by omega⟩ : Fin 1024))
      = ((MR Q K R h i + Real.log (LR Q K R h i) : ℝ) : EReal)) :
    (dats m 0 c).arrAt 4 (cfgA (F := Ideal)).N = G := by
  refine (dats m 0 c).arrAt_eq_of_covers 4 G (by decide +kernel) fun t hf y => ?_
  have e := idx_4 t
  have hq := qF_val (t.val % 10)
  rw [flush_4, beq_iff_eq] at hf
  blk_simp [e]
  rw [after_4]
  have hy (r : Fin 1024) (j : Fin 256) : lseM (iblk m c 0 t) (iblk m c 1 t) (iblk m c 2 t) (st m c st0 (t.val + 1)).1 (st m c st0 (t.val + 1)).2.1
      (ix2 r j) = G (((cfgA (F := Ideal).win 4).blk t).view.emb (ix2 r j)) := by
    obtain ⟨a, d, rfl⟩ := col_eq j
    have h1 := lse_last m c Q K R t H hf a r d
    rw [← hG _ _ d] at h1
    refine h1.trans (congrArg G ?_)
    blk_ext [e, hd, row]
  rw [eq_ix2 (n0 := 1024) (n1 := 256) y]
  exact hy _ _
end

end Cert.FlashFwd

end
-- ==== Proof.FwdPre.lean ====
/- What the forward attention's precondition says: every argument is a real number. -/
module

public import proofs.«01_k».proof.Pre_finite20
public import proofs.«01_k».proof.Proof.FwdBlocks
public import proofs.«01_k».proof.Proof.Pre

@[expose] public section

set_option maxRecDepth 16384

noncomputable section

namespace Cert.FlashFwd

open Idealize.ShloMosaic Idealize.ShloMosaic.TcCoe Cert.Kernel20Ideal Cert.Kernel20Ideal.Gen
open Cert.FlashBwd (all_real scale_real hQ_at hKV_at)

theorem preFacts : Cert.Pre_finite20.Facts where
  bcast_S_S4096x1536 := by decide
  reducesTo_S4096x1536_S_d0_1 := by decide
  h_S_ := by decide
  bcast_S_S4096x2048 := by decide
  reducesTo_S4096x2048_S_d0_1 := by decide
  bcast_S_S4096x64 := by decide
  reducesTo_S4096x64_S_d0_1 := by decide

/-- Under the precondition the arguments are real numbers. -/
theorem lift_of_pre [Cert.Pre_finite20.Facts] (m : (ℓ : Loc nD τ sig) → Buf (Elt Ideal) ℓ) (c : Dev nD)
    (h : Cert.Pre_finite20.fn (F := Ideal) (A0 m c) (A1 m c) (A2 m c) = fun _ => 1#1) : ∃ Q K R, Lift m c Q K R := by
  have h0 := congrFun h (Shape.Idx.first Cert.Pre_finite20.Facts.h_S_)
  dsimp only [Cert.Pre_finite20.fn] at h0
  obtain ⟨h1, e2⟩ := IntOp.andi_eq_one.1 h0
  obtain ⟨e0, e1⟩ := IntOp.andi_eq_one.1 h1
  refine ⟨fun i h x => (A0 m c (ix2 i (⟨h.val * 192 + x.val, by omega⟩ : Fin 1536))).toReal * (Ideal.ofBits .f32 0x3D93CD3A#32).toReal,
    fun i h x => (A1 m c (ix2 i (⟨h.val * 256 + x.val, by omega⟩ : Fin 2048))).toReal, fun i x => (A2 m c (ix2 i x)).toReal, ?_, ?_, ?_⟩
  · intro i h x
    rw [hQ_at, EReal.coe_mul, scale_real, all_real _ _ _ _ _ e0]
  · intro i h x
    rw [hKV_at, all_real _ _ _ _ _ e1]
  · intro i x
    exact (all_real _ _ _ _ _ e2 (ix2 i x)).symm

end Cert.FlashFwd

end
-- ==== Proof.FwdRef.lean ====
/- The reference's attention: its two results at an entry, met with the mathematics. -/
module

public import proofs.«01_k».proof.Proof.Host
public import proofs.«01_k».proof.Proof.Ref
public import proofs.«01_k».proof.Proof.Gen.Reference20Ideal
public import proofs.«01_k».proof.Proof.Gen.Reference20Ideal.Run

@[expose] public section

set_option maxRecDepth 16384

noncomputable section

namespace Cert.FlashFwd

open Idealize.ShloMosaic Idealize.ShloMosaic.TcCoe
open Cert.FlashBwd (hQ hKV hV hS hMx hMb hE hL hW hLse hS_at hMx_at hMb_at hE_at hL_at hW_at hLse_at MR LR wR eR msk coe_sum)

section
open Cert.KernelIdeal Cert.KernelIdeal.Gen
variable (q : FVec Ideal S4096x8x192 .f32) (kv : FVec Ideal S4096x8x256 .f32) (a2 : FVec Ideal S4096x64 .f32) (w : FVec Ideal S8x4096x4096 .f32)

/-- The values averaged under the weights, -/
def fO : FVec Ideal S4096x1024 .f32 :=
  shapeCast _ (transpose S4096x8x128 [2, 0, 1] (Host.dotGeneral dot_S4096x8x128_S8x4096x4096_S8x128x4096_0_2_2_1_1_0 none (hV kv) w) transposes_S8x128x4096_S4096x8x128_2_0_1) shapeCasts_S4096x8x128_S4096x1024
/-- the exponentials of the scores against each row's maximum, as the softmax takes them, -/
def fE : FVec Ideal S8x4096x4096 .f32 := Cert.FlashBwd.Ref.rE (hS q kv a2) (Cert.FlashBwd.Ref.rMx (hS q kv a2))
/-- and as the log-sums do. -/
def fE' : FVec Ideal S8x4096x4096 .f32 := hE (hS q kv a2) (hMb (hMx (hS q kv a2)))

variable (Q : Fin 4096 → Fin 8 → Fin 192 → ℝ) (K : Fin 4096 → Fin 8 → Fin 256 → ℝ) (R : Fin 4096 → Fin 64 → ℝ)
  (hq : ∀ i h x, q (ix3 i h x) = (Q i h x : EReal)) (hkv : ∀ i h x, kv (ix3 i h x) = (K i h x : EReal)) (hkr : ∀ i x, a2 (ix2 i x) = (R i x : EReal))

include hkv in
theorem fO_at (hw : ∀ h i k, w (ix3 h i k) = (wR Q K R h i k : EReal)) (i : Fin 4096) (h : Fin 8) (d : Fin 128) :
    fO kv w (ix2 i (⟨h.val * 128 + d.val, by omega⟩ : Fin 1024)) = ((∑ k, K k h ⟨128 + d.val, by omega⟩ * wR Q K R h i k : ℝ) : EReal) := by
  pointwise [fO, hV]
  simp only [hkv, hw, ← EReal.coe_mul, coe_sum]

include hq hkv hkr

theorem o_at (i : Fin 4096) (h : Fin 8) (d : Fin 128) : fO kv (hW (fE q kv a2) (hL (fE q kv a2))) (ix2 i (⟨h.val * 128 + d.val, by omega⟩ : Fin 1024))
    = ((∑ k, K k h ⟨128 + d.val, by omega⟩ * wR Q K R h i k : ℝ) : EReal) := by
  have hs := hS_at (hq := hq) (hkv := hkv) (hkr := hkr)
  have hm := Cert.FlashBwd.Ref.rMx_at (s := hS q kv a2) (hs := hs)
  have he : ∀ h i k, fE q kv a2 (ix3 h i k) = (eR Q K R h i k : EReal) := Cert.FlashBwd.Ref.rE_at (hs := hs) (hm := hm)
  exact (fO_at (hkv := hkv) (hw := hW_at (he := he) (hl := hL_at (he := he)))) i h d

theorem l_at (i : Fin 4096) (h : Fin 8) (d : Fin 128) : hLse (hMb (hMx (hS q kv a2))) (hL (fE' q kv a2)) (ix2 i (⟨h.val * 128 + d.val, by omega⟩ : Fin 1024))
    = ((MR Q K R h i + Real.log (LR Q K R h i) : ℝ) : EReal) := by
  have hs := hS_at (hq := hq) (hkv := hkv) (hkr := hkr)
  have hm := hMb_at (hm := hMx_at (hs := hs))
  have he : ∀ h i k, fE' q kv a2 (ix3 h i k) = (eR Q K R h i k : EReal) := hE_at (hs := hs) (hm := hm)
  exact (hLse_at (hm := hm) (hl := hL_at (he := he))) i h d
end

section
open Cert.Reference20Ideal Cert.Reference20Ideal.Gen
variable (m : (ℓ : Loc nD τ sig) → Buf (Elt Ideal) ℓ) (c : Dev nD)

set_option maxHeartbeats 1000000 in
theorem res_o : Value.res_main_v42 m c = fO (hKV (m ((c.tc : Thread nD τ).loc main_arg1)))
    (hW (fE (hQ (m ((c.tc : Thread nD τ).loc main_arg0))) (hKV (m ((c.tc : Thread nD τ).loc main_arg1))) (m ((c.tc : Thread nD τ).loc main_arg2)))
      (hL (fE (hQ (m ((c.tc : Thread nD τ).loc main_arg0))) (hKV (m ((c.tc : Thread nD τ).loc main_arg1))) (m ((c.tc : Thread nD τ).loc main_arg2))))) := by
  unfold Value.res_main_v42; rfl
set_option maxHeartbeats 1000000 in
theorem res_l : Value.res_main_v45 m c
    = hLse (hMb (hMx (hS (hQ (m ((c.tc : Thread nD τ).loc main_arg0))) (hKV (m ((c.tc : Thread nD τ).loc main_arg1))) (m ((c.tc : Thread nD τ).loc main_arg2)))))
      (hL (fE' (hQ (m ((c.tc : Thread nD τ).loc main_arg0))) (hKV (m ((c.tc : Thread nD τ).loc main_arg1))) (m ((c.tc : Thread nD τ).loc main_arg2)))) := by
  unfold Value.res_main_v45; rfl
end

end Cert.FlashFwd

end
-- ==== Proof.FwdValue.lean ====
/- The forward attention kernel and its reference end with equal results: the averaged values and the rows' log-sums. -/
module

public import proofs.«01_k».proof.Defs
public import proofs.«01_k».proof.Proof.FwdOut
public import proofs.«01_k».proof.Proof.FwdPre
public import proofs.«01_k».proof.Proof.FwdRef

@[expose] public section

set_option maxRecDepth 16384

noncomputable section

namespace Cert.FlashFwd

open Idealize.ShloMosaic Idealize.ShloMosaic.TcCoe Idealize.ShloMosaic.Tactic Idealize.SL.Sem
open Cert.Kernel20Ideal Cert.Kernel20Ideal.Gen

section
variable (m : (ℓ : Loc nD τ sig) → Buf (Elt Ideal) ℓ)
  (m' : (ℓ : Loc Cert.Reference20Ideal.nD Cert.Reference20Ideal.τ Cert.Reference20Ideal.sig) → Buf (Elt Ideal) ℓ) (c : Dev nD)

/-- The reference's results are the kernel's output arrays. -/
theorem out_eq [Cert.Pre_finite20.Facts] (h : Cert.Pre_finite20.fn (F := Ideal) (A0 m c) (A1 m c) (A2 m c) = fun _ => 1#1)
    (e0 : m' ((c.tc : Thread Cert.Reference20Ideal.nD Cert.Reference20Ideal.τ).loc Cert.Reference20Ideal.main_arg0) = A0 m c)
    (e1 : m' ((c.tc : Thread Cert.Reference20Ideal.nD Cert.Reference20Ideal.τ).loc Cert.Reference20Ideal.main_arg1) = A1 m c)
    (e2 : m' ((c.tc : Thread Cert.Reference20Ideal.nD Cert.Reference20Ideal.τ).loc Cert.Reference20Ideal.main_arg2) = A2 m c) :
    (dats m 0 c).arrAt 3 (cfgA (F := Ideal)).N = Cert.Reference20Ideal.Value.res_main_v42 m' c
    ∧ (dats m 0 c).arrAt 4 (cfgA (F := Ideal)).N = Cert.Reference20Ideal.Value.res_main_v45 m' c := by
  obtain ⟨Q, K, R, H⟩ := lift_of_pre m c h
  rw [res_o, res_l, e0, e1, e2]
  exact ⟨out3 m c Q K R H _ fun i h d => o_at _ _ _ Q K R H.q H.kv H.kr i h d, out4 m c Q K R H _ fun i h d => l_at _ _ _ Q K R H.q H.kv H.kr i h d⟩

/-- What the kernel's run leaves in its output arrays. -/
theorem post_out {r : PUnit × MemSt nD τ sig (Elt Ideal)} (h : Pipeline.FramePost (Pipeline.pin (pcfgs (F := Ideal)) adm) (dats m) 0 (V m) r) :
    r.2.mem ((c.tc : Thread nD τ).loc main_v9_0) = (dats m 0 c).arrAt 3 (cfgA (F := Ideal)).N
    ∧ r.2.mem ((c.tc : Thread nD τ).loc main_v9_1) = (dats m 0 c).arrAt 4 (cfgA (F := Ideal)).N := ⟨(h c).1 3, (h c).1 4⟩
end

theorem frame_reference : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

/-- Equal results. -/
theorem algebraic [Cert.Pre_finite20.Facts] : Cert.algebraic_Kernel20Ideal_Reference20Ideal_pre_finite20 := by
  intro m g m' g' hpre hagree
  have ho (c : Dev Cert.Kernel20Ideal.nD) := out_eq m m' c (hpre c) (hagree c).1 (hagree c).2.1 (hagree c).2.2
  refine ⟨fun c => Cert.Reference20Ideal.Value.res_main_v42 m' c, fun c => Cert.Reference20Ideal.Value.res_main_v45 m' c, ?_, Cert.Reference20Ideal.Value.run (F := Ideal) m' g'⟩
  refine (θ_run Cert.Kernel20Ideal.defs _ _).mono (fun r h c => ?_) (run_main (F := Ideal) m g)
  have hp := post_out m c h.1
  exact ⟨hp.1.trans (ho c).1, hp.2.trans (ho c).2, post_args m h.1 c⟩

end Cert.FlashFwd

end
-- ==== Proof.lean ====
/- The claims of this certificate, proved. The run of the gradient kernel is `Cert.FlashBwd.run_main`
   (Proof/Frame.lean), over any float values; the frames of the program as printed and of its idealization are that run at
   the two instances, and its output arrays meet the reference's results in `Cert.FlashBwd.out_eq` (Proof/Value.lean). The other
   launches have a module each, which holds their claims: of the feed-forward part FfnUp, FfnDown, FfnDownBwd, FfnUpBwd,
   GradWDown and GradWGate, of the products in front of and behind the mixers InProj, InProjBwd, GradWIn, OutProj, OutProjBwd
   and GradWOut, of the latent attention's projections QUp, KvUp, QUpBwd, KvUpBwd, GradWUq and GradWUkv (in Proof/). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel20
public import proofs.«01_k».proof.Proof.Gen.Kernel20.Launch
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Reference20Ideal
public import proofs.«01_k».proof.Proof.Gen.Reference20Ideal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal.Value
public import proofs.«01_k».proof.Proof.Gen.Reference7Ideal.Run
public import proofs.«01_k».proof.Proof.Gen.Kernel19
public import proofs.«01_k».proof.Proof.Gen.Kernel19Ideal.Value
public import proofs.«01_k».proof.Proof.Gen.Reference19Ideal.Run
public import proofs.«01_k».proof.Proof.Gen.Kernel18
public import proofs.«01_k».proof.Proof.Gen.Kernel18Ideal.Value
public import proofs.«01_k».proof.Proof.Gen.Reference18Ideal.Run
public import proofs.«01_k».proof.Proof.Gen.Kernel17
public import proofs.«01_k».proof.Proof.Gen.Kernel17Ideal.Value
public import proofs.«01_k».proof.Proof.Gen.Reference17Ideal.Run
public import proofs.«01_k».proof.Proof.Gen.Kernel16
public import proofs.«01_k».proof.Proof.Gen.Kernel16Ideal.Value
public import proofs.«01_k».proof.Proof.Gen.Reference16Ideal.Run
public import proofs.«01_k».proof.Proof.Gen.Kernel15
public import proofs.«01_k».proof.Proof.Gen.Kernel15Ideal.Value
public import proofs.«01_k».proof.Proof.Gen.Reference15Ideal.Run
public import proofs.«01_k».proof.Proof.Gen.Kernel14
public import proofs.«01_k».proof.Proof.Gen.Kernel14Ideal.Value
public import proofs.«01_k».proof.Proof.Gen.Reference14Ideal.Run
public import proofs.«01_k».proof.Proof.Gen.Kernel13
public import proofs.«01_k».proof.Proof.Gen.Kernel13Ideal.Value
public import proofs.«01_k».proof.Proof.Gen.Reference13Ideal.Run
public import proofs.«01_k».proof.Proof.Gen.Kernel12
public import proofs.«01_k».proof.Proof.Gen.Kernel12Ideal.Value
public import proofs.«01_k».proof.Proof.Gen.Reference12Ideal.Run
public import proofs.«01_k».proof.Proof.Gen.Kernel11
public import proofs.«01_k».proof.Proof.Gen.Kernel11Ideal.Value
public import proofs.«01_k».proof.Proof.Gen.Reference11Ideal.Run
public import proofs.«01_k».proof.Proof.Gen.Kernel10
public import proofs.«01_k».proof.Proof.Gen.Kernel10Ideal.Value
public import proofs.«01_k».proof.Proof.Gen.Reference10Ideal.Run
public import proofs.«01_k».proof.Proof.Gen.Kernel9
public import proofs.«01_k».proof.Proof.Gen.Kernel9Ideal.Value
public import proofs.«01_k».proof.Proof.Gen.Reference9Ideal.Run
public import proofs.«01_k».proof.Proof.Gen.Kernel8
public import proofs.«01_k».proof.Proof.Gen.Kernel8Ideal.Value
public import proofs.«01_k».proof.Proof.Gen.Reference8Ideal.Run
public import proofs.«01_k».proof.Proof.Frame
public import proofs.«01_k».proof.Proof.Same
public import proofs.«01_k».proof.Proof.Value
public import proofs.«01_k».proof.Proof.FfnUp
public import proofs.«01_k».proof.Proof.FfnDown
public import proofs.«01_k».proof.Proof.FfnDownBwd
public import proofs.«01_k».proof.Proof.FfnUpBwd
public import proofs.«01_k».proof.Proof.GradWDown
public import proofs.«01_k».proof.Proof.GradWGate
public import proofs.«01_k».proof.Proof.InProj
public import proofs.«01_k».proof.Proof.InProjBwd
public import proofs.«01_k».proof.Proof.GradWIn
public import proofs.«01_k».proof.Proof.OutProj
public import proofs.«01_k».proof.Proof.OutProjBwd
public import proofs.«01_k».proof.Proof.GradWOut
public import proofs.«01_k».proof.Proof.QUp
public import proofs.«01_k».proof.Proof.KvUp
public import proofs.«01_k».proof.Proof.QUpBwd
public import proofs.«01_k».proof.Proof.KvUpBwd
public import proofs.«01_k».proof.Proof.GradWUq
public import proofs.«01_k».proof.Proof.GradWUkv
public import proofs.«01_k».proof.Proof.FwdSame
public import proofs.«01_k».proof.Proof.FwdValue
public import Idealize.ShloMosaic.Lib.Claim
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.FlashBwd.frame_printed (F := Bits) m ρ

theorem frame_ideal : Cert.quiescent_KernelIdeal := fun m ρ _ => Cert.FlashBwd.frame (F := Ideal) m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel and the reference end with equal results: the padded key's and the value's gradient, the rotated key's head
    by head, and the padded query's. -/
theorem algebraic [Cert.Pre_finite.Facts] : Cert.algebraic_KernelIdeal_ReferenceIdeal_pre_finite := by
  intro m g m' g' hpre hagree
  have ho (c : Dev Cert.KernelIdeal.nD) := Cert.FlashBwd.out_eq m m' c (hpre c) (hagree c).1 (hagree c).2.1 (hagree c).2.2.1 (hagree c).2.2.2
  refine ⟨fun c => Cert.ReferenceIdeal.Value.res_main_v88 m' c, fun c => Cert.ReferenceIdeal.Value.res_main_v84 m' c,
    fun c => Cert.ReferenceIdeal.Value.res_main_v86 m' c, ?_, Cert.ReferenceIdeal.Value.run (F := Ideal) m' g'⟩
  refine (θ_run Cert.KernelIdeal.defs _ _).mono (fun r h c => ?_) (Cert.FlashBwd.run_main (F := Ideal) m g)
  have hp := Cert.FlashBwd.post_out m c h.1
  exact ⟨hp.1.trans (ho c).1, hp.2.1.trans (ho c).2.1, hp.2.2.trans (ho c).2.2, Cert.FlashBwd.post_args m h.1 c⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.FlashBwd.preFacts, Cert.FfnDownBwd.preFacts, Cert.FfnUp.preFacts, Cert.FlashFwd.preFacts,
  frame_kernel, frame_ideal, fun m ρ _ => Cert.FlashBwd.frame (F := Ideal) m ρ, frame_reference, fun m ρ _ => frame_reference m ρ trivial,
  Cert.FfnDownBwd.frame_printed, fun m ρ _ => Cert.Kernel2Ideal.Gen.frame (F := Ideal) m ρ, fun m ρ _ => Cert.Kernel2Ideal.Gen.frame (F := Ideal) m ρ,
  Cert.FfnDownBwd.frame_reference, fun m ρ _ => Cert.FfnDownBwd.frame_reference m ρ trivial,
  Cert.GradWDown.frame_printed, fun m ρ _ => Cert.Kernel3Ideal.Gen.frame (F := Ideal) m ρ, Cert.GradWDown.frame_reference,
  Cert.GradWGate.frame_printed, fun m ρ _ => Cert.Kernel4Ideal.Gen.frame (F := Ideal) m ρ, Cert.GradWGate.frame_reference,
  Cert.FfnUpBwd.frame_printed, fun m ρ _ => Cert.Kernel5Ideal.Gen.frame (F := Ideal) m ρ, Cert.FfnUpBwd.frame_reference,
  Cert.FfnUp.frame_printed, fun m ρ _ => Cert.Kernel6Ideal.Gen.frame (F := Ideal) m ρ, fun m ρ _ => Cert.Kernel6Ideal.Gen.frame (F := Ideal) m ρ,
  Cert.FfnUp.frame_reference, fun m ρ _ => Cert.FfnUp.frame_reference m ρ trivial,
  Cert.FfnDown.frame_printed, fun m ρ _ => Cert.Kernel7Ideal.Gen.frame (F := Ideal) m ρ, Cert.FfnDown.frame_reference,
  Cert.InProj.frame_printed, fun m ρ _ => Cert.Kernel8Ideal.Gen.frame (F := Ideal) m ρ, Cert.InProj.frame_reference,
  Cert.InProjBwd.frame_printed, fun m ρ _ => Cert.Kernel9Ideal.Gen.frame (F := Ideal) m ρ, Cert.InProjBwd.frame_reference,
  Cert.GradWIn.frame_printed, fun m ρ _ => Cert.Kernel10Ideal.Gen.frame (F := Ideal) m ρ, Cert.GradWIn.frame_reference,
  Cert.OutProj.frame_printed, fun m ρ _ => Cert.Kernel11Ideal.Gen.frame (F := Ideal) m ρ, Cert.OutProj.frame_reference,
  Cert.OutProjBwd.frame_printed, fun m ρ _ => Cert.Kernel12Ideal.Gen.frame (F := Ideal) m ρ, Cert.OutProjBwd.frame_reference,
  Cert.GradWOut.frame_printed, fun m ρ _ => Cert.Kernel13Ideal.Gen.frame (F := Ideal) m ρ, Cert.GradWOut.frame_reference,
  Cert.QUp.frame_printed, fun m ρ _ => Cert.Kernel14Ideal.Gen.frame (F := Ideal) m ρ, Cert.QUp.frame_reference,
  Cert.KvUp.frame_printed, fun m ρ _ => Cert.Kernel15Ideal.Gen.frame (F := Ideal) m ρ, Cert.KvUp.frame_reference,
  Cert.QUpBwd.frame_printed, fun m ρ _ => Cert.Kernel16Ideal.Gen.frame (F := Ideal) m ρ, Cert.QUpBwd.frame_reference,
  Cert.KvUpBwd.frame_printed, fun m ρ _ => Cert.Kernel17Ideal.Gen.frame (F := Ideal) m ρ, Cert.KvUpBwd.frame_reference,
  Cert.GradWUq.frame_printed, fun m ρ _ => Cert.Kernel18Ideal.Gen.frame (F := Ideal) m ρ, Cert.GradWUq.frame_reference,
  Cert.GradWUkv.frame_printed, fun m ρ _ => Cert.Kernel19Ideal.Gen.frame (F := Ideal) m ρ, Cert.GradWUkv.frame_reference,
  fun m ρ _ => Cert.FlashFwd.frame_printed (F := Bits) m ρ, fun m ρ _ => Cert.FlashFwd.frame (F := Ideal) m ρ, fun m ρ _ => Cert.FlashFwd.frame (F := Ideal) m ρ,
  Cert.FlashFwd.frame_reference, fun m ρ _ => Cert.FlashFwd.frame_reference m ρ trivial,
  trivial, @algebraic Cert.FlashBwd.preFacts,
  trivial, @Cert.FfnDownBwd.algebraic Cert.FfnDownBwd.preFacts,
  trivial, Cert.GradWDown.algebraic,
  trivial, Cert.GradWGate.algebraic,
  trivial, Cert.FfnUpBwd.algebraic,
  trivial, @Cert.FfnUp.algebraic Cert.FfnUp.preFacts,
  trivial, Cert.FfnDown.algebraic,
  trivial, Cert.InProj.algebraic,
  trivial, Cert.InProjBwd.algebraic,
  trivial, Cert.GradWIn.algebraic,
  trivial, Cert.OutProj.algebraic,
  trivial, Cert.OutProjBwd.algebraic,
  trivial, Cert.GradWOut.algebraic,
  trivial, Cert.QUp.algebraic,
  trivial, Cert.KvUp.algebraic,
  trivial, Cert.QUpBwd.algebraic,
  trivial, Cert.KvUpBwd.algebraic,
  trivial, Cert.GradWUq.algebraic,
  trivial, Cert.GradWUkv.algebraic,
  trivial, @Cert.FlashFwd.algebraic Cert.FlashFwd.preFacts⟩

end Cert.Proof

end
